-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14)
      ∧ r.2.mem ((c.tc : Thread Cert.Kernel3.nD Cert.Kernel3.τ).loc Cert.Kernel3.main_arg15) = m ((c.tc : Thread Cert.Kernel3.nD Cert.Kernel3.τ).loc Cert.Kernel3.main_arg15)
      ∧ r.2.mem ((c.tc : Thread Cert.Kernel3.nD Cert.Kernel3.τ).loc Cert.Kernel3.main_arg16) = m ((c.tc : Thread Cert.Kernel3.nD Cert.Kernel3.τ).loc Cert.Kernel3.main_arg16)
      ∧ r.2.mem ((c.tc : Thread Cert.Kernel3.nD Cert.Kernel3.τ).loc Cert.Kernel3.main_arg17) = m ((c.tc : Thread Cert.Kernel3.nD Cert.Kernel3.τ).loc Cert.Kernel3.main_arg17))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
      ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15)
      ∧ r.2.mem ((c.tc : Thread Cert.Kernel3Ideal.nD Cert.Kernel3Ideal.τ).loc Cert.Kernel3Ideal.main_arg16) = m ((c.tc : Thread Cert.Kernel3Ideal.nD Cert.Kernel3Ideal.τ).loc Cert.Kernel3Ideal.main_arg16)
      ∧ r.2.mem ((c.tc : Thread Cert.Kernel3Ideal.nD Cert.Kernel3Ideal.τ).loc Cert.Kernel3Ideal.main_arg17) = m ((c.tc : Thread Cert.Kernel3Ideal.nD Cert.Kernel3Ideal.τ).loc Cert.Kernel3Ideal.main_arg17))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14)
      ∧ r.2.mem ((c.tc : Thread Cert.Reference3Ideal.nD Cert.Reference3Ideal.τ).loc Cert.Reference3Ideal.main_arg15) = m ((c.tc : Thread Cert.Reference3Ideal.nD Cert.Reference3Ideal.τ).loc Cert.Reference3Ideal.main_arg15)
      ∧ r.2.mem ((c.tc : Thread Cert.Reference3Ideal.nD Cert.Reference3Ideal.τ).loc Cert.Reference3Ideal.main_arg16) = m ((c.tc : Thread Cert.Reference3Ideal.nD Cert.Reference3Ideal.τ).loc Cert.Reference3Ideal.main_arg16)
      ∧ r.2.mem ((c.tc : Thread Cert.Reference3Ideal.nD Cert.Reference3Ideal.τ).loc Cert.Reference3Ideal.main_arg17) = m ((c.tc : Thread Cert.Reference3Ideal.nD Cert.Reference3Ideal.τ).loc Cert.Reference3Ideal.main_arg17))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10)
      ∧ r.2.mem ((c.tc : Thread Cert.Kernel6.nD Cert.Kernel6.τ).loc Cert.Kernel6.main_arg11) = m ((c.tc : Thread Cert.Kernel6.nD Cert.Kernel6.τ).loc Cert.Kernel6.main_arg11)
      ∧ r.2.mem ((c.tc : Thread Cert.Kernel6.nD Cert.Kernel6.τ).loc Cert.Kernel6.main_arg12) = m ((c.tc : Thread Cert.Kernel6.nD Cert.Kernel6.τ).loc Cert.Kernel6.main_arg12)
      ∧ r.2.mem ((c.tc : Thread Cert.Kernel6.nD Cert.Kernel6.τ).loc Cert.Kernel6.main_arg13) = m ((c.tc : Thread Cert.Kernel6.nD Cert.Kernel6.τ).loc Cert.Kernel6.main_arg13)
      ∧ r.2.mem ((c.tc : Thread Cert.Kernel6.nD Cert.Kernel6.τ).loc Cert.Kernel6.main_arg14) = m ((c.tc : Thread Cert.Kernel6.nD Cert.Kernel6.τ).loc Cert.Kernel6.main_arg14)
      ∧ r.2.mem ((c.tc : Thread Cert.Kernel6.nD Cert.Kernel6.τ).loc Cert.Kernel6.main_arg15) = m ((c.tc : Thread Cert.Kernel6.nD Cert.Kernel6.τ).loc Cert.Kernel6.main_arg15)
      ∧ r.2.mem ((c.tc : Thread Cert.Kernel6.nD Cert.Kernel6.τ).loc Cert.Kernel6.main_arg16) = m ((c.tc : Thread Cert.Kernel6.nD Cert.Kernel6.τ).loc Cert.Kernel6.main_arg16)
      ∧ r.2.mem ((c.tc : Thread Cert.Kernel6.nD Cert.Kernel6.τ).loc Cert.Kernel6.main_arg17) = m ((c.tc : Thread Cert.Kernel6.nD Cert.Kernel6.τ).loc Cert.Kernel6.main_arg17)
      ∧ r.2.mem ((c.tc : Thread Cert.Kernel6.nD Cert.Kernel6.τ).loc Cert.Kernel6.main_arg18) = m ((c.tc : Thread Cert.Kernel6.nD Cert.Kernel6.τ).loc Cert.Kernel6.main_arg18)
      ∧ r.2.mem ((c.tc : Thread Cert.Kernel6.nD Cert.Kernel6.τ).loc Cert.Kernel6.main_arg19) = m ((c.tc : Thread Cert.Kernel6.nD Cert.Kernel6.τ).loc Cert.Kernel6.main_arg19))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
      ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12)
      ∧ r.2.mem ((c.tc : Thread Cert.Kernel6Ideal.nD Cert.Kernel6Ideal.τ).loc Cert.Kernel6Ideal.main_arg13) = m ((c.tc : Thread Cert.Kernel6Ideal.nD Cert.Kernel6Ideal.τ).loc Cert.Kernel6Ideal.main_arg13)
      ∧ r.2.mem ((c.tc : Thread Cert.Kernel6Ideal.nD Cert.Kernel6Ideal.τ).loc Cert.Kernel6Ideal.main_arg14) = m ((c.tc : Thread Cert.Kernel6Ideal.nD Cert.Kernel6Ideal.τ).loc Cert.Kernel6Ideal.main_arg14)
      ∧ r.2.mem ((c.tc : Thread Cert.Kernel6Ideal.nD Cert.Kernel6Ideal.τ).loc Cert.Kernel6Ideal.main_arg15) = m ((c.tc : Thread Cert.Kernel6Ideal.nD Cert.Kernel6Ideal.τ).loc Cert.Kernel6Ideal.main_arg15)
      ∧ r.2.mem ((c.tc : Thread Cert.Kernel6Ideal.nD Cert.Kernel6Ideal.τ).loc Cert.Kernel6Ideal.main_arg16) = m ((c.tc : Thread Cert.Kernel6Ideal.nD Cert.Kernel6Ideal.τ).loc Cert.Kernel6Ideal.main_arg16)
      ∧ r.2.mem ((c.tc : Thread Cert.Kernel6Ideal.nD Cert.Kernel6Ideal.τ).loc Cert.Kernel6Ideal.main_arg17) = m ((c.tc : Thread Cert.Kernel6Ideal.nD Cert.Kernel6Ideal.τ).loc Cert.Kernel6Ideal.main_arg17)
      ∧ r.2.mem ((c.tc : Thread Cert.Kernel6Ideal.nD Cert.Kernel6Ideal.τ).loc Cert.Kernel6Ideal.main_arg18) = m ((c.tc : Thread Cert.Kernel6Ideal.nD Cert.Kernel6Ideal.τ).loc Cert.Kernel6Ideal.main_arg18)
      ∧ r.2.mem ((c.tc : Thread Cert.Kernel6Ideal.nD Cert.Kernel6Ideal.τ).loc Cert.Kernel6Ideal.main_arg19) = m ((c.tc : Thread Cert.Kernel6Ideal.nD Cert.Kernel6Ideal.τ).loc Cert.Kernel6Ideal.main_arg19))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
      ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11)
      ∧ r.2.mem ((c.tc : Thread Cert.Reference6Ideal.nD Cert.Reference6Ideal.τ).loc Cert.Reference6Ideal.main_arg12) = m ((c.tc : Thread Cert.Reference6Ideal.nD Cert.Reference6Ideal.τ).loc Cert.Reference6Ideal.main_arg12)
      ∧ r.2.mem ((c.tc : Thread Cert.Reference6Ideal.nD Cert.Reference6Ideal.τ).loc Cert.Reference6Ideal.main_arg13) = m ((c.tc : Thread Cert.Reference6Ideal.nD Cert.Reference6Ideal.τ).loc Cert.Reference6Ideal.main_arg13)
      ∧ r.2.mem ((c.tc : Thread Cert.Reference6Ideal.nD Cert.Reference6Ideal.τ).loc Cert.Reference6Ideal.main_arg14) = m ((c.tc : Thread Cert.Reference6Ideal.nD Cert.Reference6Ideal.τ).loc Cert.Reference6Ideal.main_arg14)
      ∧ r.2.mem ((c.tc : Thread Cert.Reference6Ideal.nD Cert.Reference6Ideal.τ).loc Cert.Reference6Ideal.main_arg15) = m ((c.tc : Thread Cert.Reference6Ideal.nD Cert.Reference6Ideal.τ).loc Cert.Reference6Ideal.main_arg15)
      ∧ r.2.mem ((c.tc : Thread Cert.Reference6Ideal.nD Cert.Reference6Ideal.τ).loc Cert.Reference6Ideal.main_arg16) = m ((c.tc : Thread Cert.Reference6Ideal.nD Cert.Reference6Ideal.τ).loc Cert.Reference6Ideal.main_arg16)
      ∧ r.2.mem ((c.tc : Thread Cert.Reference6Ideal.nD Cert.Reference6Ideal.τ).loc Cert.Reference6Ideal.main_arg17) = m ((c.tc : Thread Cert.Reference6Ideal.nD Cert.Reference6Ideal.τ).loc Cert.Reference6Ideal.main_arg17)
      ∧ r.2.mem ((c.tc : Thread Cert.Reference6Ideal.nD Cert.Reference6Ideal.τ).loc Cert.Reference6Ideal.main_arg18) = m ((c.tc : Thread Cert.Reference6Ideal.nD Cert.Reference6Ideal.τ).loc Cert.Reference6Ideal.main_arg18)
      ∧ r.2.mem ((c.tc : Thread Cert.Reference6Ideal.nD Cert.Reference6Ideal.τ).loc Cert.Reference6Ideal.main_arg19) = m ((c.tc : Thread Cert.Reference6Ideal.nD Cert.Reference6Ideal.τ).loc Cert.Reference6Ideal.main_arg19))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v134_0)) (v1 : (c : Dev Cert.KernelIdeal.nD) → Buf (Elt Ideal) ((c.tc : Thread Cert.KernelIdeal.nD Cert.KernelIdeal.τ).loc Cert.KernelIdeal.main_v134_1)) (v2 : (c : Dev Cert.KernelIdeal.nD) → Buf (Elt Ideal) ((c.tc : Thread Cert.KernelIdeal.nD Cert.KernelIdeal.τ).loc Cert.KernelIdeal.main_v134_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v134_0) = v0 c
          ∧ r.2.mem ((c.tc : Thread Cert.KernelIdeal.nD Cert.KernelIdeal.τ).loc Cert.KernelIdeal.main_v134_1) = v1 c
          ∧ r.2.mem ((c.tc : Thread Cert.KernelIdeal.nD Cert.KernelIdeal.τ).loc Cert.KernelIdeal.main_v134_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_v106) = v1 c
          ∧ r.2.mem ((c.tc : Thread Cert.ReferenceIdeal.nD Cert.ReferenceIdeal.τ).loc Cert.ReferenceIdeal.main_v107) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v75) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)
      ∧ m' ((c.tc : Thread Cert.Reference3Ideal.nD Cert.Reference3Ideal.τ).loc Cert.Reference3Ideal.main_arg15) = m ((c.tc : Thread Cert.Kernel3Ideal.nD Cert.Kernel3Ideal.τ).loc Cert.Kernel3Ideal.main_arg15)
      ∧ m' ((c.tc : Thread Cert.Reference3Ideal.nD Cert.Reference3Ideal.τ).loc Cert.Reference3Ideal.main_arg16) = m ((c.tc : Thread Cert.Kernel3Ideal.nD Cert.Kernel3Ideal.τ).loc Cert.Kernel3Ideal.main_arg16)
      ∧ m' ((c.tc : Thread Cert.Reference3Ideal.nD Cert.Reference3Ideal.τ).loc Cert.Reference3Ideal.main_arg17) = m ((c.tc : Thread Cert.Kernel3Ideal.nD Cert.Kernel3Ideal.τ).loc Cert.Kernel3Ideal.main_arg17)) →
    ∃ (v0 : (c : Dev Cert.Kernel3Ideal.nD) → Buf (Elt Ideal) ((c.tc : Thread Cert.Kernel3Ideal.nD Cert.Kernel3Ideal.τ).loc Cert.Kernel3Ideal.main_v10)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v10) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
          ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
          ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15)
          ∧ r.2.mem ((c.tc : Thread Cert.Kernel3Ideal.nD Cert.Kernel3Ideal.τ).loc Cert.Kernel3Ideal.main_arg16) = m ((c.tc : Thread Cert.Kernel3Ideal.nD Cert.Kernel3Ideal.τ).loc Cert.Kernel3Ideal.main_arg16)
          ∧ r.2.mem ((c.tc : Thread Cert.Kernel3Ideal.nD Cert.Kernel3Ideal.τ).loc Cert.Kernel3Ideal.main_arg17) = m ((c.tc : Thread Cert.Kernel3Ideal.nD Cert.Kernel3Ideal.τ).loc Cert.Kernel3Ideal.main_arg17))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v162) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13)
          ∧ r.2.mem ((c.tc : Thread Cert.Reference3Ideal.nD Cert.Reference3Ideal.τ).loc Cert.Reference3Ideal.main_arg14) = m' ((c.tc : Thread Cert.Reference3Ideal.nD Cert.Reference3Ideal.τ).loc Cert.Reference3Ideal.main_arg14)
          ∧ r.2.mem ((c.tc : Thread Cert.Reference3Ideal.nD Cert.Reference3Ideal.τ).loc Cert.Reference3Ideal.main_arg15) = m' ((c.tc : Thread Cert.Reference3Ideal.nD Cert.Reference3Ideal.τ).loc Cert.Reference3Ideal.main_arg15)
          ∧ r.2.mem ((c.tc : Thread Cert.Reference3Ideal.nD Cert.Reference3Ideal.τ).loc Cert.Reference3Ideal.main_arg16) = m' ((c.tc : Thread Cert.Reference3Ideal.nD Cert.Reference3Ideal.τ).loc Cert.Reference3Ideal.main_arg16)
          ∧ r.2.mem ((c.tc : Thread Cert.Reference3Ideal.nD Cert.Reference3Ideal.τ).loc Cert.Reference3Ideal.main_arg17) = m' ((c.tc : Thread Cert.Reference3Ideal.nD Cert.Reference3Ideal.τ).loc Cert.Reference3Ideal.main_arg17))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v8) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v6)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v6) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v62) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)
      ∧ m' ((c.tc : Thread Cert.Reference6Ideal.nD Cert.Reference6Ideal.τ).loc Cert.Reference6Ideal.main_arg11) = m ((c.tc : Thread Cert.Kernel6Ideal.nD Cert.Kernel6Ideal.τ).loc Cert.Kernel6Ideal.main_arg11)
      ∧ m' ((c.tc : Thread Cert.Reference6Ideal.nD Cert.Reference6Ideal.τ).loc Cert.Reference6Ideal.main_arg12) = m ((c.tc : Thread Cert.Kernel6Ideal.nD Cert.Kernel6Ideal.τ).loc Cert.Kernel6Ideal.main_arg12)
      ∧ m' ((c.tc : Thread Cert.Reference6Ideal.nD Cert.Reference6Ideal.τ).loc Cert.Reference6Ideal.main_arg13) = m ((c.tc : Thread Cert.Kernel6Ideal.nD Cert.Kernel6Ideal.τ).loc Cert.Kernel6Ideal.main_arg13)
      ∧ m' ((c.tc : Thread Cert.Reference6Ideal.nD Cert.Reference6Ideal.τ).loc Cert.Reference6Ideal.main_arg14) = m ((c.tc : Thread Cert.Kernel6Ideal.nD Cert.Kernel6Ideal.τ).loc Cert.Kernel6Ideal.main_arg14)
      ∧ m' ((c.tc : Thread Cert.Reference6Ideal.nD Cert.Reference6Ideal.τ).loc Cert.Reference6Ideal.main_arg15) = m ((c.tc : Thread Cert.Kernel6Ideal.nD Cert.Kernel6Ideal.τ).loc Cert.Kernel6Ideal.main_arg15)
      ∧ m' ((c.tc : Thread Cert.Reference6Ideal.nD Cert.Reference6Ideal.τ).loc Cert.Reference6Ideal.main_arg16) = m ((c.tc : Thread Cert.Kernel6Ideal.nD Cert.Kernel6Ideal.τ).loc Cert.Kernel6Ideal.main_arg16)
      ∧ m' ((c.tc : Thread Cert.Reference6Ideal.nD Cert.Reference6Ideal.τ).loc Cert.Reference6Ideal.main_arg17) = m ((c.tc : Thread Cert.Kernel6Ideal.nD Cert.Kernel6Ideal.τ).loc Cert.Kernel6Ideal.main_arg17)
      ∧ m' ((c.tc : Thread Cert.Reference6Ideal.nD Cert.Reference6Ideal.τ).loc Cert.Reference6Ideal.main_arg18) = m ((c.tc : Thread Cert.Kernel6Ideal.nD Cert.Kernel6Ideal.τ).loc Cert.Kernel6Ideal.main_arg18)
      ∧ m' ((c.tc : Thread Cert.Reference6Ideal.nD Cert.Reference6Ideal.τ).loc Cert.Reference6Ideal.main_arg19) = m ((c.tc : Thread Cert.Kernel6Ideal.nD Cert.Kernel6Ideal.τ).loc Cert.Kernel6Ideal.main_arg19)) →
    ∃ (v0 : (c : Dev Cert.Kernel6Ideal.nD) → Buf (Elt Ideal) ((c.tc : Thread Cert.Kernel6Ideal.nD Cert.Kernel6Ideal.τ).loc Cert.Kernel6Ideal.main_v143)) (v1 : (c : Dev Cert.Kernel6Ideal.nD) → Buf (Elt Ideal) ((c.tc : Thread Cert.Kernel6Ideal.nD Cert.Kernel6Ideal.τ).loc Cert.Kernel6Ideal.main_v142_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v143) = v0 c
          ∧ r.2.mem ((c.tc : Thread Cert.Kernel6Ideal.nD Cert.Kernel6Ideal.τ).loc Cert.Kernel6Ideal.main_v142_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
          ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
          ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12)
          ∧ r.2.mem ((c.tc : Thread Cert.Kernel6Ideal.nD Cert.Kernel6Ideal.τ).loc Cert.Kernel6Ideal.main_arg13) = m ((c.tc : Thread Cert.Kernel6Ideal.nD Cert.Kernel6Ideal.τ).loc Cert.Kernel6Ideal.main_arg13)
          ∧ r.2.mem ((c.tc : Thread Cert.Kernel6Ideal.nD Cert.Kernel6Ideal.τ).loc Cert.Kernel6Ideal.main_arg14) = m ((c.tc : Thread Cert.Kernel6Ideal.nD Cert.Kernel6Ideal.τ).loc Cert.Kernel6Ideal.main_arg14)
          ∧ r.2.mem ((c.tc : Thread Cert.Kernel6Ideal.nD Cert.Kernel6Ideal.τ).loc Cert.Kernel6Ideal.main_arg15) = m ((c.tc : Thread Cert.Kernel6Ideal.nD Cert.Kernel6Ideal.τ).loc Cert.Kernel6Ideal.main_arg15)
          ∧ r.2.mem ((c.tc : Thread Cert.Kernel6Ideal.nD Cert.Kernel6Ideal.τ).loc Cert.Kernel6Ideal.main_arg16) = m ((c.tc : Thread Cert.Kernel6Ideal.nD Cert.Kernel6Ideal.τ).loc Cert.Kernel6Ideal.main_arg16)
          ∧ r.2.mem ((c.tc : Thread Cert.Kernel6Ideal.nD Cert.Kernel6Ideal.τ).loc Cert.Kernel6Ideal.main_arg17) = m ((c.tc : Thread Cert.Kernel6Ideal.nD Cert.Kernel6Ideal.τ).loc Cert.Kernel6Ideal.main_arg17)
          ∧ r.2.mem ((c.tc : Thread Cert.Kernel6Ideal.nD Cert.Kernel6Ideal.τ).loc Cert.Kernel6Ideal.main_arg18) = m ((c.tc : Thread Cert.Kernel6Ideal.nD Cert.Kernel6Ideal.τ).loc Cert.Kernel6Ideal.main_arg18)
          ∧ r.2.mem ((c.tc : Thread Cert.Kernel6Ideal.nD Cert.Kernel6Ideal.τ).loc Cert.Kernel6Ideal.main_arg19) = m ((c.tc : Thread Cert.Kernel6Ideal.nD Cert.Kernel6Ideal.τ).loc Cert.Kernel6Ideal.main_arg19))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v153) = v0 c
          ∧ r.2.mem ((c.tc : Thread Cert.Reference6Ideal.nD Cert.Reference6Ideal.τ).loc Cert.Reference6Ideal.main_v154) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10)
          ∧ r.2.mem ((c.tc : Thread Cert.Reference6Ideal.nD Cert.Reference6Ideal.τ).loc Cert.Reference6Ideal.main_arg11) = m' ((c.tc : Thread Cert.Reference6Ideal.nD Cert.Reference6Ideal.τ).loc Cert.Reference6Ideal.main_arg11)
          ∧ r.2.mem ((c.tc : Thread Cert.Reference6Ideal.nD Cert.Reference6Ideal.τ).loc Cert.Reference6Ideal.main_arg12) = m' ((c.tc : Thread Cert.Reference6Ideal.nD Cert.Reference6Ideal.τ).loc Cert.Reference6Ideal.main_arg12)
          ∧ r.2.mem ((c.tc : Thread Cert.Reference6Ideal.nD Cert.Reference6Ideal.τ).loc Cert.Reference6Ideal.main_arg13) = m' ((c.tc : Thread Cert.Reference6Ideal.nD Cert.Reference6Ideal.τ).loc Cert.Reference6Ideal.main_arg13)
          ∧ r.2.mem ((c.tc : Thread Cert.Reference6Ideal.nD Cert.Reference6Ideal.τ).loc Cert.Reference6Ideal.main_arg14) = m' ((c.tc : Thread Cert.Reference6Ideal.nD Cert.Reference6Ideal.τ).loc Cert.Reference6Ideal.main_arg14)
          ∧ r.2.mem ((c.tc : Thread Cert.Reference6Ideal.nD Cert.Reference6Ideal.τ).loc Cert.Reference6Ideal.main_arg15) = m' ((c.tc : Thread Cert.Reference6Ideal.nD Cert.Reference6Ideal.τ).loc Cert.Reference6Ideal.main_arg15)
          ∧ r.2.mem ((c.tc : Thread Cert.Reference6Ideal.nD Cert.Reference6Ideal.τ).loc Cert.Reference6Ideal.main_arg16) = m' ((c.tc : Thread Cert.Reference6Ideal.nD Cert.Reference6Ideal.τ).loc Cert.Reference6Ideal.main_arg16)
          ∧ r.2.mem ((c.tc : Thread Cert.Reference6Ideal.nD Cert.Reference6Ideal.τ).loc Cert.Reference6Ideal.main_arg17) = m' ((c.tc : Thread Cert.Reference6Ideal.nD Cert.Reference6Ideal.τ).loc Cert.Reference6Ideal.main_arg17)
          ∧ r.2.mem ((c.tc : Thread Cert.Reference6Ideal.nD Cert.Reference6Ideal.τ).loc Cert.Reference6Ideal.main_arg18) = m' ((c.tc : Thread Cert.Reference6Ideal.nD Cert.Reference6Ideal.τ).loc Cert.Reference6Ideal.main_arg18)
          ∧ r.2.mem ((c.tc : Thread Cert.Reference6Ideal.nD Cert.Reference6Ideal.τ).loc Cert.Reference6Ideal.main_arg19) = m' ((c.tc : Thread Cert.Reference6Ideal.nD Cert.Reference6Ideal.τ).loc Cert.Reference6Ideal.main_arg19))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite.lean ====
abbrev S8x4096x5376 : Shape := ⟨3, ![8, 4096, 5376]⟩
abbrev S2x8x4x64x64 : Shape := ⟨5, ![2, 8, 4, 64, 64]⟩
abbrev S8x4096x768 : Shape := ⟨3, ![8, 4096, 768]⟩
abbrev S_ : Shape := ⟨0, ![]⟩

class Facts : Prop where
  slices_S8x4096x5376_S8x4096x768_0_0_1024 : S8x4096x5376.Slices ![0, 0, 1024] S8x4096x768
  bcast_S_S8x4096x768 : S_.BroadcastsInDim S8x4096x768 (![] : Fin 0 → Fin S8x4096x768.rank)
  reducesTo_S8x4096x768_S_d0_1_2 : S8x4096x768.ReducesTo [0, 1, 2] S_
  h_S_ : 0 < S_.numel
  bcast_S_S2x8x4x64x64 : S_.BroadcastsInDim S2x8x4x64x64 (![] : Fin 0 → Fin S2x8x4x64x64.rank)
  reducesTo_S2x8x4x64x64_S_d0_1_2_3_4 : S2x8x4x64x64.ReducesTo [0, 1, 2, 3, 4] S_

variable [Facts]

def fn {F : FTy → Type} [FloatOps F] (main_arg0 : FVec F S8x4096x5376 .f32) (main_arg1 : FVec F S2x8x4x64x64 .f32) : IVec S_ 1 :=
  let main_v0 : FVec F S8x4096x768 .f32 := (extractStridedSlice S8x4096x768 ![0, 0, 1024] · slices_S8x4096x5376_S8x4096x768_0_0_1024) main_arg0
  let main_v1 : FVec F S8x4096x768 .f32 := Host.absf main_v0
  let main_cst : FVec F S_ .f32 := constant S_ .f32 0x7F800000#32
  let main_v2 : FVec F S8x4096x768 .f32 := broadcastInDim S8x4096x768 ![] bcast_S_S8x4096x768 main_cst
  let main_v3 : IVec S8x4096x768 1 := cmpf .olt main_v1 main_v2
  let main_c : IVec S_ 1 := constantI S_ 1 1#1
  let main_v4 : IVec S_ 1 := (fun x v => Host.reduce IntOp.andi x v reducesTo_S8x4096x768_S_d0_1_2 h_S_) main_v3 main_c
  let main_v5 : FVec F S2x8x4x64x64 .f32 := Host.absf main_arg1
  let main_cst_0 : FVec F S_ .f32 := constant S_ .f32 0x7F800000#32
  let main_v6 : FVec F S2x8x4x64x64 .f32 := broadcastInDim S2x8x4x64x64 ![] bcast_S_S2x8x4x64x64 main_cst_0
  let main_v7 : IVec S2x8x4x64x64 1 := cmpf .olt main_v5 main_v6
  let main_c_1 : IVec S_ 1 := constantI S_ 1 1#1
  let main_v8 : IVec S_ 1 := (fun x v => Host.reduce IntOp.andi x v reducesTo_S2x8x4x64x64_S_d0_1_2_3_4 h_S_) main_v7 main_c_1
  let main_v9 : IVec S_ 1 := andi main_v4 main_v8
  main_v9
-- ==== Kernel.lean ====
abbrev S8x4096x5376 : Shape := ⟨3, ![8, 4096, 5376]⟩
abbrev S2x8x4x64x64 : Shape := ⟨5, ![2, 8, 4, 64, 64]⟩
abbrev S256 : Shape := ⟨1, ![256]⟩
abbrev S256x1 : Shape := ⟨2, ![256, 1]⟩
abbrev S_ : Shape := ⟨0, ![]⟩
abbrev S1x256 : Shape := ⟨2, ![1, 256]⟩
abbrev S256x256 : Shape := ⟨2, ![256, 256]⟩
abbrev S2x8x256x64 : Shape := ⟨4, ![2, 8, 256, 64]⟩
abbrev S2x8x256x256 : Shape := ⟨4, ![2, 8, 256, 256]⟩
abbrev S128 : Shape := ⟨1, ![128]⟩
abbrev S4 : Shape := ⟨1, ![4]⟩
abbrev S4x64 : Shape := ⟨2, ![4, 64]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S4x1x1 : Shape := ⟨3, ![4, 1, 1]⟩
abbrev S4x128x128 : Shape := ⟨3, ![4, 128, 128]⟩
abbrev S128x512 : Shape := ⟨2, ![128, 512]⟩
abbrev S128x256 : Shape := ⟨2, ![128, 256]⟩
abbrev S1x128x512 : Shape := ⟨3, ![1, 128, 512]⟩
abbrev S2x128x512 : Shape := ⟨3, ![2, 128, 512]⟩
abbrev S1x128x256 : Shape := ⟨3, ![1, 128, 256]⟩
abbrev S2x128x256 : Shape := ⟨3, ![2, 128, 256]⟩
abbrev S1x1x256 : Shape := ⟨3, ![1, 1, 256]⟩
abbrev S2x1x256 : Shape := ⟨3, ![2, 1, 256]⟩
abbrev S8x4096x256 : Shape := ⟨3, ![8, 4096, 256]⟩
abbrev S8x128x256 : Shape := ⟨3, ![8, 128, 256]⟩
abbrev S1x1x256x256 : Shape := ⟨4, ![1, 1, 256, 256]⟩
abbrev S512x256 : Shape := ⟨2, ![512, 256]⟩

abbrev nBuf : Space → Nat
  | .hbm => 202
  | .vmem => 23
  | .smem => 0
  | _ => 0

abbrev hbmTy0_0 (i : Nat) : BufTy := match i % 128 with
  | 0 => ⟨S8x4096x5376, .f32⟩
  | 1 => ⟨S2x8x4x64x64, .f32⟩
  | 2 => ⟨S256, .i32⟩
  | 3 => ⟨S256x1, .i32⟩
  | 4 => ⟨S_, .i32⟩
  | 5 => ⟨S_, .i32⟩
  | 6 => ⟨S256x1, .i32⟩
  | 7 => ⟨S256x1, .i32⟩
  | 8 => ⟨S256x1, .i32⟩
  | 9 => ⟨S_, .i32⟩
  | 10 => ⟨S256x1, .i32⟩
  | 11 => ⟨S256x1, .i1⟩
  | 12 => ⟨S256x1, .i32⟩
  | 13 => ⟨S256x1, .i32⟩
  | 14 => ⟨S_, .i32⟩
  | 15 => ⟨S256x1, .i32⟩
  | 16 => ⟨S256x1, .i1⟩
  | 17 => ⟨S256x1, .i1⟩
  | 18 => ⟨S_, .i32⟩
  | 19 => ⟨S256x1, .i32⟩
  | 20 => ⟨S256x1, .i32⟩
  | 21 => ⟨S256x1, .i32⟩
  | 22 => ⟨S256, .i32⟩
  | 23 => ⟨S1x256, .i32⟩
  | 24 => ⟨S_, .i32⟩
  | 25 => ⟨S_, .i32⟩
  | 26 => ⟨S1x256, .i32⟩
  | 27 => ⟨S1x256, .i32⟩
  | 28 => ⟨S1x256, .i32⟩
  | 29 => ⟨S_, .i32⟩
  | 30 => ⟨S1x256, .i32⟩
  | 31 => ⟨S1x256, .i1⟩
  | 32 => ⟨S1x256, .i32⟩
  | 33 => ⟨S1x256, .i32⟩
  | 34 => ⟨S_, .i32⟩
  | 35 => ⟨S1x256, .i32⟩
  | 36 => ⟨S1x256, .i1⟩
  | 37 => ⟨S1x256, .i1⟩
  | 38 => ⟨S_, .i32⟩
  | 39 => ⟨S1x256, .i32⟩
  | 40 => ⟨S1x256, .i32⟩
  | 41 => ⟨S1x256, .i32⟩
  | 42 => ⟨S256x256, .i32⟩
  | 43 => ⟨S256x256, .i32⟩
  | 44 => ⟨S256x256, .i1⟩
  | 45 => ⟨S2x8x256x64, .f32⟩
  | 46 => ⟨S2x8x256x256, .f32⟩
  | 47 => ⟨S_, .f32⟩
  | 48 => ⟨S_, .f32⟩
  | 49 => ⟨S2x8x256x256, .i1⟩
  | 50 => ⟨S2x8x256x256, .f32⟩
  | 51 => ⟨S2x8x256x256, .f32⟩
  | 52 => ⟨S128, .f32⟩
  | 53 => ⟨S4, .f32⟩
  | 54 => ⟨S_, .f32⟩
  | 55 => ⟨S4, .f32⟩
  | 56 => ⟨S4, .f32⟩
  | 57 => ⟨S_, .f32⟩
  | 58 => ⟨S4, .f32⟩
  | 59 => ⟨S4, .f32⟩
  | 60 => ⟨S4, .f32⟩
  | 61 => ⟨S4, .f32⟩
  | 62 => ⟨S4, .f32⟩
  | 63 => ⟨S4x64, .f32⟩
  | 64 => ⟨S256, .f32⟩
  | 65 => ⟨S128x1, .f32⟩
  | 66 => ⟨S1x128, .f32⟩
  | 67 => ⟨S128x128, .f32⟩
  | 68 => ⟨S128x128, .f32⟩
  | 69 => ⟨S128x128, .f32⟩
  | 70 => ⟨S_, .f32⟩
  | 71 => ⟨S128, .f32⟩
  | 72 => ⟨S128, .f32⟩
  | 73 => ⟨S_, .f32⟩
  | 74 => ⟨S128, .f32⟩
  | 75 => ⟨S128, .f32⟩
  | 76 => ⟨S_, .f32⟩
  | 77 => ⟨S128x128, .f32⟩
  | 78 => ⟨S128x128, .i1⟩
  | 79 => ⟨S1x128x128, .i1⟩
  | 80 => ⟨S_, .f32⟩
  | 81 => ⟨S_, .f32⟩
  | 82 => ⟨S128x128, .f32⟩
  | 83 => ⟨S128x128, .f32⟩
  | 84 => ⟨S1x128x128, .f32⟩
  | 85 => ⟨S4x1x1, .f32⟩
  | 86 => ⟨S4x128x128, .f32⟩
  | 87 => ⟨S4x128x128, .f32⟩
  | 88 => ⟨S4x128x128, .f32⟩
  | 89 => ⟨S4x128x128, .f32⟩
  | 90 => ⟨S_, .f32⟩
  | 91 => ⟨S_, .f32⟩
  | 92 => ⟨S4x128x128, .i1⟩
  | 93 => ⟨S4x128x128, .f32⟩
  | 94 => ⟨S4x128x128, .f32⟩
  | 95 => ⟨S1x128x128, .f32⟩
  | 96 => ⟨S128x128, .f32⟩
  | 97 => ⟨S1x128x128, .f32⟩
  | 98 => ⟨S128x128, .f32⟩
  | 99 => ⟨S1x128x128, .f32⟩
  | 100 => ⟨S128x128, .f32⟩
  | 101 => ⟨S1x128x128, .f32⟩
  | 102 => ⟨S128x128, .f32⟩
  | 103 => ⟨S128x512, .f32⟩
  | 104 => ⟨S128x1, .f32⟩
  | 105 => ⟨S1x256, .f32⟩
  | 106 => ⟨S128x256, .f32⟩
  | 107 => ⟨S128x256, .f32⟩
  | 108 => ⟨S128x256, .f32⟩
  | 109 => ⟨S128x256, .f32⟩
  | 110 => ⟨S128x1, .f32⟩
  | 111 => ⟨S1x256, .f32⟩
  | 112 => ⟨S128x256, .f32⟩
  | 113 => ⟨S128x256, .f32⟩
  | 114 => ⟨S128x256, .f32⟩
  | 115 => ⟨S128x256, .f32⟩
  | 116 => ⟨S_, .f32⟩
  | 117 => ⟨S256, .f32⟩
  | 118 => ⟨S256, .f32⟩
  | 119 => ⟨S256, .f32⟩
  | 120 => ⟨S1x256, .f32⟩
  | 121 => ⟨S4, .f32⟩
  | 122 => ⟨S_, .f32⟩
  | 123 => ⟨S4, .f32⟩
  | 124 => ⟨S4, .f32⟩
  | 125 => ⟨S4, .f32⟩
  | 126 => ⟨S_, .f32⟩
  | 127 => ⟨S4, .f32⟩
  | _ => ⟨S8x4096x5376, .f32⟩

abbrev hbmTy0_1 (i : Nat) : BufTy := match i % 128 with
  | 0 => ⟨S4, .f32⟩
  | 1 => ⟨S4, .f32⟩
  | 2 => ⟨S4, .f32⟩
  | 3 => ⟨S4, .f32⟩
  | 4 => ⟨S4x64, .f32⟩
  | 5 => ⟨S256, .f32⟩
  | 6 => ⟨S1x128, .f32⟩
  | 7 => ⟨S128x1, .f32⟩
  | 8 => ⟨S128x128, .f32⟩
  | 9 => ⟨S128x128, .f32⟩
  | 10 => ⟨S128x128, .f32⟩
  | 11 => ⟨S_, .f32⟩
  | 12 => ⟨S128, .f32⟩
  | 13 => ⟨S128, .f32⟩
  | 14 => ⟨S_, .f32⟩
  | 15 => ⟨S128x128, .f32⟩
  | 16 => ⟨S128x128, .i1⟩
  | 17 => ⟨S1x128x128, .i1⟩
  | 18 => ⟨S_, .f32⟩
  | 19 => ⟨S_, .f32⟩
  | 20 => ⟨S128x128, .f32⟩
  | 21 => ⟨S128x128, .f32⟩
  | 22 => ⟨S1x128x128, .f32⟩
  | 23 => ⟨S4x1x1, .f32⟩
  | 24 => ⟨S4x128x128, .f32⟩
  | 25 => ⟨S4x128x128, .f32⟩
  | 26 => ⟨S4x128x128, .f32⟩
  | 27 => ⟨S4x128x128, .f32⟩
  | 28 => ⟨S_, .f32⟩
  | 29 => ⟨S_, .f32⟩
  | 30 => ⟨S4x128x128, .i1⟩
  | 31 => ⟨S4x128x128, .f32⟩
  | 32 => ⟨S4x128x128, .f32⟩
  | 33 => ⟨S1x128x128, .f32⟩
  | 34 => ⟨S128x128, .f32⟩
  | 35 => ⟨S1x128x128, .f32⟩
  | 36 => ⟨S128x128, .f32⟩
  | 37 => ⟨S1x128x128, .f32⟩
  | 38 => ⟨S128x128, .f32⟩
  | 39 => ⟨S1x128x128, .f32⟩
  | 40 => ⟨S128x128, .f32⟩
  | 41 => ⟨S128x512, .f32⟩
  | 42 => ⟨S128x1, .f32⟩
  | 43 => ⟨S1x256, .f32⟩
  | 44 => ⟨S128x256, .f32⟩
  | 45 => ⟨S128x256, .f32⟩
  | 46 => ⟨S128x256, .f32⟩
  | 47 => ⟨S128x256, .f32⟩
  | 48 => ⟨S128x1, .f32⟩
  | 49 => ⟨S1x256, .f32⟩
  | 50 => ⟨S128x256, .f32⟩
  | 51 => ⟨S128x256, .f32⟩
  | 52 => ⟨S128x256, .f32⟩
  | 53 => ⟨S128x256, .f32⟩
  | 54 => ⟨S_, .f32⟩
  | 55 => ⟨S256, .f32⟩
  | 56 => ⟨S256, .f32⟩
  | 57 => ⟨S256, .f32⟩
  | 58 => ⟨S1x256, .f32⟩
  | 59 => ⟨S1x128x512, .f32⟩
  | 60 => ⟨S1x128x512, .f32⟩
  | 61 => ⟨S2x128x512, .f32⟩
  | 62 => ⟨S1x128x256, .f32⟩
  | 63 => ⟨S1x128x256, .f32⟩
  | 64 => ⟨S2x128x256, .f32⟩
  | 65 => ⟨S1x128x256, .f32⟩
  | 66 => ⟨S1x128x256, .f32⟩
  | 67 => ⟨S2x128x256, .f32⟩
  | 68 => ⟨S1x1x256, .f32⟩
  | 69 => ⟨S1x1x256, .f32⟩
  | 70 => ⟨S2x1x256, .f32⟩
  | 71 => ⟨S8x4096x256, .f32⟩
  | 72 => ⟨S8x4096x256, .f32⟩
  | 73 => ⟨S2x8x256x256, .f32⟩
  | _ => ⟨S8x4096x5376, .f32⟩

abbrev hbmTy (i : Nat) : BufTy := match i / 128 with
  | 0 => hbmTy0_0 i
  | 1 => hbmTy0_1 i
  | _ => ⟨S8x4096x5376, .f32⟩

abbrev bufTy : (tb : Table) → Fin (tcTables nBuf tb) → BufTy
  | .hbm, ⟨i, _⟩ => hbmTy i
  | .local _ .vmem, ⟨0, _⟩ => ⟨S8x128x256, .f32⟩
  | .local _ .vmem, ⟨1, _⟩ => ⟨S8x128x256, .f32⟩
  | .local _ .vmem, ⟨2, _⟩ => ⟨S8x128x256, .f32⟩
  | .local _ .vmem, ⟨3, _⟩ => ⟨S8x128x256, .f32⟩
  | .local _ .vmem, ⟨4, _⟩ => ⟨S8x128x256, .f32⟩
  | .local _ .vmem, ⟨5, _⟩ => ⟨S8x128x256, .f32⟩
  | .local _ .vmem, ⟨6, _⟩ => ⟨S8x128x256, .f32⟩
  | .local _ .vmem, ⟨7, _⟩ => ⟨S8x128x256, .f32⟩
  | .local _ .vmem, ⟨8, _⟩ => ⟨S8x128x256, .f32⟩
  | .local _ .vmem, ⟨9, _⟩ => ⟨S8x128x256, .f32⟩
  | .local _ .vmem, ⟨10, _⟩ => ⟨S8x128x256, .f32⟩
  | .local _ .vmem, ⟨11, _⟩ => ⟨S8x128x256, .f32⟩
  | .local _ .vmem, ⟨12, _⟩ => ⟨S2x128x512, .f32⟩
  | .local _ .vmem, ⟨13, _⟩ => ⟨S2x128x256, .f32⟩
  | .local _ .vmem, ⟨14, _⟩ => ⟨S2x128x256, .f32⟩
  | .local _ .vmem, ⟨15, _⟩ => ⟨S2x1x256, .f32⟩
  | .local _ .vmem, ⟨16, _⟩ => ⟨S2x8x256x256, .f32⟩
  | .local _ .vmem, ⟨17, _⟩ => ⟨S8x128x256, .f32⟩
  | .local _ .vmem, ⟨18, _⟩ => ⟨S8x128x256, .f32⟩
  | .local _ .vmem, ⟨19, _⟩ => ⟨S8x128x256, .f32⟩
  | .local _ .vmem, ⟨20, _⟩ => ⟨S8x128x256, .f32⟩
  | .local _ .vmem, ⟨21, _⟩ => ⟨S2x8x256x256, .f32⟩
  | .local _ .vmem, ⟨22, _⟩ => ⟨S2x8x256x256, .f32⟩
  | _, _ => ⟨S8x4096x5376, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_c : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_0 : Ref sig .tc := ⟨.hbm, 18, rfl⟩
abbrev main_call0_v12 : Ref sig .tc := ⟨.hbm, 19, rfl⟩
abbrev main_call0_v13 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_c_0 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_call1_v5 : Ref sig .tc := ⟨.hbm, 30, rfl⟩
abbrev main_call1_v6 : Ref sig .tc := ⟨.hbm, 31, rfl⟩
abbrev main_call1_v7 : Ref sig .tc := ⟨.hbm, 32, rfl⟩
abbrev main_call1_v8 : Ref sig .tc := ⟨.hbm, 33, rfl⟩
abbrev main_call1_c : Ref sig .tc := ⟨.hbm, 34, rfl⟩
abbrev main_call1_v9 : Ref sig .tc := ⟨.hbm, 35, rfl⟩
abbrev main_call1_v10 : Ref sig .tc := ⟨.hbm, 36, rfl⟩
abbrev main_call1_v11 : Ref sig .tc := ⟨.hbm, 37, rfl⟩
abbrev main_call1_c_0 : Ref sig .tc := ⟨.hbm, 38, rfl⟩
abbrev main_call1_v12 : Ref sig .tc := ⟨.hbm, 39, rfl⟩
abbrev main_call1_v13 : Ref sig .tc := ⟨.hbm, 40, rfl⟩
abbrev main_v5 : Ref sig .tc := ⟨.hbm, 41, rfl⟩
abbrev main_v6 : Ref sig .tc := ⟨.hbm, 42, rfl⟩
abbrev main_v7 : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_cst : Ref sig .tc := ⟨.hbm, 47, rfl⟩
abbrev main_call2_v0 : Ref sig .tc := ⟨.hbm, 48, rfl⟩
abbrev main_call2_v1 : Ref sig .tc := ⟨.hbm, 49, rfl⟩
abbrev main_call2_v2 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_cst_1 : Ref sig .tc := ⟨.hbm, 54, rfl⟩
abbrev main_v14 : Ref sig .tc := ⟨.hbm, 55, rfl⟩
abbrev main_v15 : Ref sig .tc := ⟨.hbm, 56, rfl⟩
abbrev main_cst_2 : Ref sig .tc := ⟨.hbm, 57, rfl⟩
abbrev main_v16 : Ref sig .tc := ⟨.hbm, 58, rfl⟩
abbrev main_v17 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_cst_3 : Ref sig .tc := ⟨.hbm, 70, rfl⟩
abbrev main_v28 : Ref sig .tc := ⟨.hbm, 71, rfl⟩
abbrev main_v29 : Ref sig .tc := ⟨.hbm, 72, rfl⟩
abbrev main_cst_4 : Ref sig .tc := ⟨.hbm, 73, rfl⟩
abbrev main_v30 : Ref sig .tc := ⟨.hbm, 74, rfl⟩
abbrev main_v31 : Ref sig .tc := ⟨.hbm, 75, rfl⟩
abbrev main_cst_5 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_cst_6 : Ref sig .tc := ⟨.hbm, 80, rfl⟩
abbrev main_call3_v0 : Ref sig .tc := ⟨.hbm, 81, rfl⟩
abbrev main_call3_v1 : Ref sig .tc := ⟨.hbm, 82, rfl⟩
abbrev main_v35 : Ref sig .tc := ⟨.hbm, 83, rfl⟩
abbrev main_v36 : Ref sig .tc := ⟨.hbm, 84, rfl⟩
abbrev main_v37 : Ref sig .tc := ⟨.hbm, 85, rfl⟩
abbrev main_v38 : Ref sig .tc := ⟨.hbm, 86, rfl⟩
abbrev main_v39 : Ref sig .tc := ⟨.hbm, 87, rfl⟩
abbrev main_v40 : Ref sig .tc := ⟨.hbm, 88, rfl⟩
abbrev main_v41 : Ref sig .tc := ⟨.hbm, 89, rfl⟩
abbrev main_cst_7 : Ref sig .tc := ⟨.hbm, 90, rfl⟩
abbrev main_call4_v0 : Ref sig .tc := ⟨.hbm, 91, rfl⟩
abbrev main_call4_v1 : Ref sig .tc := ⟨.hbm, 92, rfl⟩
abbrev main_call4_v2 : Ref sig .tc := ⟨.hbm, 93, rfl⟩
abbrev main_v42 : Ref sig .tc := ⟨.hbm, 94, rfl⟩
abbrev main_v43 : Ref sig .tc := ⟨.hbm, 95, rfl⟩
abbrev main_v44 : Ref sig .tc := ⟨.hbm, 96, rfl⟩
abbrev main_v45 : Ref sig .tc := ⟨.hbm, 97, rfl⟩
abbrev main_v46 : Ref sig .tc := ⟨.hbm, 98, rfl⟩
abbrev main_v47 : Ref sig .tc := ⟨.hbm, 99, rfl⟩
abbrev main_v48 : Ref sig .tc := ⟨.hbm, 100, rfl⟩
abbrev main_v49 : Ref sig .tc := ⟨.hbm, 101, rfl⟩
abbrev main_v50 : Ref sig .tc := ⟨.hbm, 102, rfl⟩
abbrev main_v51 : Ref sig .tc := ⟨.hbm, 103, rfl⟩
abbrev main_v52 : Ref sig .tc := ⟨.hbm, 104, rfl⟩
abbrev main_v53 : Ref sig .tc := ⟨.hbm, 105, rfl⟩
abbrev main_v54 : Ref sig .tc := ⟨.hbm, 106, rfl⟩
abbrev main_v55 : Ref sig .tc := ⟨.hbm, 107, rfl⟩
abbrev main_v56 : Ref sig .tc := ⟨.hbm, 108, rfl⟩
abbrev main_v57 : Ref sig .tc := ⟨.hbm, 109, rfl⟩
abbrev main_v58 : Ref sig .tc := ⟨.hbm, 110, rfl⟩
abbrev main_v59 : Ref sig .tc := ⟨.hbm, 111, rfl⟩
abbrev main_v60 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_cst_8 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_v67 : Ref sig .tc := ⟨.hbm, 120, rfl⟩
abbrev main_v68 : Ref sig .tc := ⟨.hbm, 121, rfl⟩
abbrev main_cst_9 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev main_cst_10 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_v83 : Ref sig .tc := ⟨.hbm, 138, rfl⟩
abbrev main_cst_11 : Ref sig .tc := ⟨.hbm, 139, rfl⟩
abbrev main_v84 : Ref sig .tc := ⟨.hbm, 140, rfl⟩
abbrev main_v85 : Ref sig .tc := ⟨.hbm, 141, rfl⟩
abbrev main_cst_12 : Ref sig .tc := ⟨.hbm, 142, rfl⟩
abbrev main_v86 : Ref sig .tc := ⟨.hbm, 143, rfl⟩
abbrev main_v87 : Ref sig .tc := ⟨.hbm, 144, rfl⟩
abbrev main_v88 : Ref sig .tc := ⟨.hbm, 145, rfl⟩
abbrev main_cst_13 : Ref sig .tc := ⟨.hbm, 146, rfl⟩
abbrev main_call5_v0 : Ref sig .tc := ⟨.hbm, 147, rfl⟩
abbrev main_call5_v1 : Ref sig .tc := ⟨.hbm, 148, rfl⟩
abbrev main_v89 : Ref sig .tc := ⟨.hbm, 149, rfl⟩
abbrev main_v90 : Ref sig .tc := ⟨.hbm, 150, rfl⟩
abbrev main_v91 : Ref sig .tc := ⟨.hbm, 151, rfl⟩
abbrev main_v92 : Ref sig .tc := ⟨.hbm, 152, rfl⟩
abbrev main_v93 : Ref sig .tc := ⟨.hbm, 153, rfl⟩
abbrev main_v94 : Ref sig .tc := ⟨.hbm, 154, rfl⟩
abbrev main_v95 : Ref sig .tc := ⟨.hbm, 155, rfl⟩
abbrev main_cst_14 : Ref sig .tc := ⟨.hbm, 156, rfl⟩
abbrev main_call6_v0 : Ref sig .tc := ⟨.hbm, 157, rfl⟩
abbrev main_call6_v1 : Ref sig .tc := ⟨.hbm, 158, rfl⟩
abbrev main_call6_v2 : Ref sig .tc := ⟨.hbm, 159, rfl⟩
abbrev main_v96 : Ref sig .tc := ⟨.hbm, 160, rfl⟩
abbrev main_v97 : Ref sig .tc := ⟨.hbm, 161, rfl⟩
abbrev main_v98 : Ref sig .tc := ⟨.hbm, 162, rfl⟩
abbrev main_v99 : Ref sig .tc := ⟨.hbm, 163, rfl⟩
abbrev main_v100 : Ref sig .tc := ⟨.hbm, 164, rfl⟩
abbrev main_v101 : Ref sig .tc := ⟨.hbm, 165, rfl⟩
abbrev main_v102 : Ref sig .tc := ⟨.hbm, 166, rfl⟩
abbrev main_v103 : Ref sig .tc := ⟨.hbm, 167, rfl⟩
abbrev main_v104 : Ref sig .tc := ⟨.hbm, 168, rfl⟩
abbrev main_v105 : Ref sig .tc := ⟨.hbm, 169, rfl⟩
abbrev main_v106 : Ref sig .tc := ⟨.hbm, 170, rfl⟩
abbrev main_v107 : Ref sig .tc := ⟨.hbm, 171, rfl⟩
abbrev main_v108 : Ref sig .tc := ⟨.hbm, 172, rfl⟩
abbrev main_v109 : Ref sig .tc := ⟨.hbm, 173, rfl⟩
abbrev main_v110 : Ref sig .tc := ⟨.hbm, 174, rfl⟩
abbrev main_v111 : Ref sig .tc := ⟨.hbm, 175, rfl⟩
abbrev main_v112 : Ref sig .tc := ⟨.hbm, 176, rfl⟩
abbrev main_v113 : Ref sig .tc := ⟨.hbm, 177, rfl⟩
abbrev main_v114 : Ref sig .tc := ⟨.hbm, 178, rfl⟩
abbrev main_v115 : Ref sig .tc := ⟨.hbm, 179, rfl⟩
abbrev main_v116 : Ref sig .tc := ⟨.hbm, 180, rfl⟩
abbrev main_v117 : Ref sig .tc := ⟨.hbm, 181, rfl⟩
abbrev main_cst_15 : Ref sig .tc := ⟨.hbm, 182, rfl⟩
abbrev main_v118 : Ref sig .tc := ⟨.hbm, 183, rfl⟩
abbrev main_v119 : Ref sig .tc := ⟨.hbm, 184, rfl⟩
abbrev main_v120 : Ref sig .tc := ⟨.hbm, 185, rfl⟩
abbrev main_v121 : Ref sig .tc := ⟨.hbm, 186, rfl⟩
abbrev main_v122 : Ref sig .tc := ⟨.hbm, 187, rfl⟩
abbrev main_v123 : Ref sig .tc := ⟨.hbm, 188, rfl⟩
abbrev main_v124 : Ref sig .tc := ⟨.hbm, 189, rfl⟩
abbrev main_v125 : Ref sig .tc := ⟨.hbm, 190, rfl⟩
abbrev main_v126 : Ref sig .tc := ⟨.hbm, 191, rfl⟩
abbrev main_v127 : Ref sig .tc := ⟨.hbm, 192, rfl⟩
abbrev main_v128 : Ref sig .tc := ⟨.hbm, 193, rfl⟩
abbrev main_v129 : Ref sig .tc := ⟨.hbm, 194, rfl⟩
abbrev main_v130 : Ref sig .tc := ⟨.hbm, 195, rfl⟩
abbrev main_v131 : Ref sig .tc := ⟨.hbm, 196, rfl⟩
abbrev main_v132 : Ref sig .tc := ⟨.hbm, 197, rfl⟩
abbrev main_v133 : Ref sig .tc := ⟨.hbm, 198, rfl⟩
abbrev main_v134_0 : Ref sig .tc := ⟨.hbm, 199, rfl⟩
abbrev main_v134_1 : Ref sig .tc := ⟨.hbm, 200, rfl⟩
abbrev main_v134_2 : Ref sig .tc := ⟨.hbm, 201, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21

abbrev nD : Nat := 1
abbrev τ : Topo := Topo.v7x

variable {F : FTy → Type} [FloatOps F]

abbrev grid0 : Pipeline.Grid := ⟨2, ![1, 32], ![false, false]⟩

def k0_cond2 (i : grid0.Coords) : BitVec 1 :=
  let arg1 : BitVec 32 := BitVec.ofNat 32 (i 1).val
  let c31_i32 : BitVec 32 := 31#32
  let v2470 : BitVec 1 := Scalar.cmpi .eq arg1 c31_i32
  let v2471 : BitVec 32 := Scalar.extui v2470
  let c0_i32_1075 : BitVec 32 := 0#32
  let v2472 : BitVec 1 := Scalar.cmpi .ne v2471 c0_i32_1075
  v2472

def cc0_transform_0 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_1 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, arg1.toNat, c5_i32.toNat]

def cc0_transform_2 (i : grid0.Coords) : Fin 3 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, arg1.toNat, c6_i32.toNat]

def cc0_transform_3 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c4_i32 : BitVec 32 := 4#32
  let c0_i32 : BitVec 32 := 0#32
  ![arg0.toNat, v0.toNat, c4_i32.toNat]

def cc0_transform_4 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c5_i32 : BitVec 32 := 5#32
  let c0_i32 : BitVec 32 := 0#32
  ![arg0.toNat, v0.toNat, c5_i32.toNat]

def cc0_transform_5 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c6_i32 : BitVec 32 := 6#32
  let c0_i32 : BitVec 32 := 0#32
  ![arg0.toNat, v0.toNat, c6_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![arg0.toNat, v0.toNat, c0_i32.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S8x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S2x128x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2x128x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2x128x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S2x1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S2x8x256x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, false]

abbrev stage0_11 : Fin 2 → Memref sig .tc .vmem S8x128x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S8x128x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 1 → Memref sig .tc .vmem S2x8x256x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true, false]
-- ==== ReferenceIdeal.lean ====
abbrev S8x4096x5376 : Shape := ⟨3, ![8, 4096, 5376]⟩
abbrev S2x8x4x64x64 : Shape := ⟨5, ![2, 8, 4, 64, 64]⟩
abbrev S8x4096x256 : Shape := ⟨3, ![8, 4096, 256]⟩
abbrev S8x4096x4x64 : Shape := ⟨4, ![8, 4096, 4, 64]⟩
abbrev S8x4x4096x64 : Shape := ⟨4, ![8, 4, 4096, 64]⟩
abbrev S1x8x4x4096x64 : Shape := ⟨5, ![1, 8, 4, 4096, 64]⟩
abbrev S2x8x4x4096x64 : Shape := ⟨5, ![2, 8, 4, 4096, 64]⟩
abbrev S4 : Shape := ⟨1, ![4]⟩
abbrev S_ : Shape := ⟨0, ![]⟩
abbrev S1x4 : Shape := ⟨2, ![1, 4]⟩
abbrev S2x4 : Shape := ⟨2, ![2, 4]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S2x4x1x1 : Shape := ⟨4, ![2, 4, 1, 1]⟩
abbrev S1x1x64x64 : Shape := ⟨4, ![1, 1, 64, 64]⟩
abbrev S2x4x64x64 : Shape := ⟨4, ![2, 4, 64, 64]⟩
abbrev S2x4x1 : Shape := ⟨3, ![2, 4, 1]⟩
abbrev S1x1x64 : Shape := ⟨3, ![1, 1, 64]⟩
abbrev S2x4x64 : Shape := ⟨3, ![2, 4, 64]⟩
abbrev S2x4x64x1 : Shape := ⟨4, ![2, 4, 64, 1]⟩
abbrev S2x8x4x64x64x64 : Shape := ⟨6, ![2, 8, 4, 64, 64, 64]⟩
abbrev S64x2x8x4x64x64 : Shape := ⟨6, ![64, 2, 8, 4, 64, 64]⟩
abbrev S1x2x8x4x64x64 : Shape := ⟨6, ![1, 2, 8, 4, 64, 64]⟩
abbrev S2x1x4x64x64 : Shape := ⟨5, ![2, 1, 4, 64, 64]⟩
abbrev S2x1x4x64x1 : Shape := ⟨5, ![2, 1, 4, 64, 1]⟩
abbrev S2x1x4x1x1 : Shape := ⟨5, ![2, 1, 4, 1, 1]⟩
abbrev S4x1x1x1 : Shape := ⟨4, ![4, 1, 1, 1]⟩
abbrev S1x1x4x1 : Shape := ⟨4, ![1, 1, 4, 1]⟩
abbrev S4x1x4x1 : Shape := ⟨4, ![4, 1, 4, 1]⟩
abbrev S2x8x4x64x1x64 : Shape := ⟨6, ![2, 8, 4, 64, 1, 64]⟩
abbrev S2x8x4x64x4x64 : Shape := ⟨6, ![2, 8, 4, 64, 4, 64]⟩
abbrev S2x8x256x256 : Shape := ⟨4, ![2, 8, 256, 256]⟩

abbrev nBuf : Space → Nat
  | .hbm => 191
  | .vmem => 0
  | .smem => 0
  | _ => 0

abbrev hbmTy0_0 (i : Nat) : BufTy := match i % 128 with
  | 0 => ⟨S8x4096x5376, .f32⟩
  | 1 => ⟨S2x8x4x64x64, .f32⟩
  | 2 => ⟨S8x4096x256, .f32⟩
  | 3 => ⟨S8x4096x4x64, .f32⟩
  | 4 => ⟨S8x4x4096x64, .f32⟩
  | 5 => ⟨S8x4x4096x64, .f32⟩
  | 6 => ⟨S1x8x4x4096x64, .f32⟩
  | 7 => ⟨S1x8x4x4096x64, .f32⟩
  | 8 => ⟨S2x8x4x4096x64, .f32⟩
  | 9 => ⟨S8x4096x256, .f32⟩
  | 10 => ⟨S8x4096x4x64, .f32⟩
  | 11 => ⟨S8x4x4096x64, .f32⟩
  | 12 => ⟨S8x4x4096x64, .f32⟩
  | 13 => ⟨S1x8x4x4096x64, .f32⟩
  | 14 => ⟨S1x8x4x4096x64, .f32⟩
  | 15 => ⟨S2x8x4x4096x64, .f32⟩
  | 16 => ⟨S8x4096x256, .f32⟩
  | 17 => ⟨S8x4096x4x64, .f32⟩
  | 18 => ⟨S8x4x4096x64, .f32⟩
  | 19 => ⟨S8x4x4096x64, .f32⟩
  | 20 => ⟨S1x8x4x4096x64, .f32⟩
  | 21 => ⟨S1x8x4x4096x64, .f32⟩
  | 22 => ⟨S2x8x4x4096x64, .f32⟩
  | 23 => ⟨S4, .f32⟩
  | 24 => ⟨S_, .f32⟩
  | 25 => ⟨S4, .f32⟩
  | 26 => ⟨S4, .f32⟩
  | 27 => ⟨S_, .f32⟩
  | 28 => ⟨S4, .f32⟩
  | 29 => ⟨S4, .f32⟩
  | 30 => ⟨S4, .f32⟩
  | 31 => ⟨S4, .f32⟩
  | 32 => ⟨S4, .f32⟩
  | 33 => ⟨S4, .f32⟩
  | 34 => ⟨S_, .f32⟩
  | 35 => ⟨S4, .f32⟩
  | 36 => ⟨S4, .f32⟩
  | 37 => ⟨S4, .f32⟩
  | 38 => ⟨S_, .f32⟩
  | 39 => ⟨S4, .f32⟩
  | 40 => ⟨S4, .f32⟩
  | 41 => ⟨S4, .f32⟩
  | 42 => ⟨S4, .f32⟩
  | 43 => ⟨S4, .f32⟩
  | 44 => ⟨S1x4, .f32⟩
  | 45 => ⟨S1x4, .f32⟩
  | 46 => ⟨S2x4, .f32⟩
  | 47 => ⟨S64, .f32⟩
  | 48 => ⟨S64x1, .f32⟩
  | 49 => ⟨S1x64, .f32⟩
  | 50 => ⟨S64x64, .f32⟩
  | 51 => ⟨S64x64, .f32⟩
  | 52 => ⟨S64x64, .f32⟩
  | 53 => ⟨S_, .f32⟩
  | 54 => ⟨S64x64, .f32⟩
  | 55 => ⟨S64x64, .i1⟩
  | 56 => ⟨S_, .f32⟩
  | 57 => ⟨S_, .f32⟩
  | 58 => ⟨S64x64, .f32⟩
  | 59 => ⟨S64x64, .f32⟩
  | 60 => ⟨S2x4x1x1, .f32⟩
  | 61 => ⟨S1x1x64x64, .f32⟩
  | 62 => ⟨S2x4x64x64, .f32⟩
  | 63 => ⟨S2x4x64x64, .f32⟩
  | 64 => ⟨S2x4x64x64, .f32⟩
  | 65 => ⟨S2x4x64x64, .f32⟩
  | 66 => ⟨S_, .f32⟩
  | 67 => ⟨S_, .f32⟩
  | 68 => ⟨S2x4x64x64, .i1⟩
  | 69 => ⟨S2x4x64x64, .f32⟩
  | 70 => ⟨S2x4x64x64, .f32⟩
  | 71 => ⟨S_, .f32⟩
  | 72 => ⟨S64, .f32⟩
  | 73 => ⟨S64, .f32⟩
  | 74 => ⟨S2x4x1, .f32⟩
  | 75 => ⟨S1x1x64, .f32⟩
  | 76 => ⟨S2x4x64, .f32⟩
  | 77 => ⟨S2x4x64, .f32⟩
  | 78 => ⟨S2x4x64, .f32⟩
  | 79 => ⟨S2x4x64, .f32⟩
  | 80 => ⟨S2x4x64x1, .f32⟩
  | 81 => ⟨S_, .f32⟩
  | 82 => ⟨S64, .f32⟩
  | 83 => ⟨S64, .f32⟩
  | 84 => ⟨S2x4x1, .f32⟩
  | 85 => ⟨S1x1x64, .f32⟩
  | 86 => ⟨S2x4x64, .f32⟩
  | 87 => ⟨S2x4x64, .f32⟩
  | 88 => ⟨S2x4x64, .f32⟩
  | 89 => ⟨S2x4x64, .f32⟩
  | 90 => ⟨S2x4x64x1, .f32⟩
  | 91 => ⟨S_, .f32⟩
  | 92 => ⟨S2x4, .f32⟩
  | 93 => ⟨S2x4, .f32⟩
  | 94 => ⟨S2x4, .f32⟩
  | 95 => ⟨S2x4x1x1, .f32⟩
  | 96 => ⟨S2x8x4x64x64x64, .f32⟩
  | 97 => ⟨S64x2x8x4x64x64, .f32⟩
  | 98 => ⟨S2x8x4x64x64x64, .f32⟩
  | 99 => ⟨S64x2x8x4x64x64, .f32⟩
  | 100 => ⟨S2x8x4x64x64x64, .f32⟩
  | 101 => ⟨S64x2x8x4x64x64, .f32⟩
  | 102 => ⟨S_, .f32⟩
  | 103 => ⟨S64x2x8x4x64x64, .f32⟩
  | 104 => ⟨S_, .i32⟩
  | 105 => ⟨S64x2x8x4x64x64, .f32⟩
  | 106 => ⟨S64x2x8x4x64x64, .f32⟩
  | 107 => ⟨S64x2x8x4x64x64, .f32⟩
  | 108 => ⟨S2x4x64x64, .f32⟩
  | 109 => ⟨S2x4x64x1, .f32⟩
  | 110 => ⟨S2x4x1x1, .f32⟩
  | 111 => ⟨S2x4x64x1, .f32⟩
  | 112 => ⟨S_, .i32⟩
  | 113 => ⟨S2x8x4x64x64, .f32⟩
  | 114 => ⟨S64x2x8x4x64x64, .f32⟩
  | 115 => ⟨S_, .i32⟩
  | 116 => ⟨S_, .i1⟩
  | 117 => ⟨S_, .i32⟩
  | 118 => ⟨S_, .i32⟩
  | 119 => ⟨S_, .i32⟩
  | 120 => ⟨S_, .i32⟩
  | 121 => ⟨S_, .i32⟩
  | 122 => ⟨S1x2x8x4x64x64, .f32⟩
  | 123 => ⟨S2x8x4x64x64, .f32⟩
  | 124 => ⟨S_, .i32⟩
  | 125 => ⟨S_, .i32⟩
  | 126 => ⟨S_, .i32⟩
  | 127 => ⟨S_, .i32⟩
  | _ => ⟨S8x4096x5376, .f32⟩

abbrev hbmTy0_1 (i : Nat) : BufTy := match i % 128 with
  | 0 => ⟨S_, .i32⟩
  | 1 => ⟨S1x2x8x4x64x64, .f32⟩
  | 2 => ⟨S2x8x4x64x64, .f32⟩
  | 3 => ⟨S_, .i32⟩
  | 4 => ⟨S_, .i32⟩
  | 5 => ⟨S_, .i32⟩
  | 6 => ⟨S_, .i32⟩
  | 7 => ⟨S_, .i32⟩
  | 8 => ⟨S1x2x8x4x64x64, .f32⟩
  | 9 => ⟨S2x8x4x64x64, .f32⟩
  | 10 => ⟨S2x8x4x64x64, .f32⟩
  | 11 => ⟨S2x1x4x64x64, .f32⟩
  | 12 => ⟨S2x8x4x64x64, .f32⟩
  | 13 => ⟨S2x8x4x64x64, .f32⟩
  | 14 => ⟨S2x8x4x64x64, .f32⟩
  | 15 => ⟨S2x1x4x64x1, .f32⟩
  | 16 => ⟨S2x8x4x64x64, .f32⟩
  | 17 => ⟨S2x8x4x64x64, .f32⟩
  | 18 => ⟨S2x8x4x64x64, .f32⟩
  | 19 => ⟨S2x8x4x64x64, .f32⟩
  | 20 => ⟨S2x1x4x1x1, .f32⟩
  | 21 => ⟨S2x8x4x64x64, .f32⟩
  | 22 => ⟨S2x8x4x64x64, .f32⟩
  | 23 => ⟨S2x1x4x64x1, .f32⟩
  | 24 => ⟨S2x8x4x64x64, .f32⟩
  | 25 => ⟨S2x8x4x64x64, .f32⟩
  | 26 => ⟨S2x8x4x64x64, .f32⟩
  | 27 => ⟨S2x8x4x64x64, .f32⟩
  | 28 => ⟨S1x2x8x4x64x64, .f32⟩
  | 29 => ⟨S_, .i32⟩
  | 30 => ⟨S_, .i32⟩
  | 31 => ⟨S_, .i32⟩
  | 32 => ⟨S_, .i32⟩
  | 33 => ⟨S_, .i32⟩
  | 34 => ⟨S64x2x8x4x64x64, .f32⟩
  | 35 => ⟨S_, .i32⟩
  | 36 => ⟨S_, .i32⟩
  | 37 => ⟨S2x8x4x64x64x64, .f32⟩
  | 38 => ⟨S2x8x4x4096x64, .f32⟩
  | 39 => ⟨S4, .i32⟩
  | 40 => ⟨S4x1x1x1, .i32⟩
  | 41 => ⟨S4, .i32⟩
  | 42 => ⟨S1x1x4x1, .i32⟩
  | 43 => ⟨S4x1x4x1, .i32⟩
  | 44 => ⟨S4x1x4x1, .i32⟩
  | 45 => ⟨S4x1x4x1, .i1⟩
  | 46 => ⟨S2x8x4x64x1x64, .f32⟩
  | 47 => ⟨S_, .f32⟩
  | 48 => ⟨S_, .f32⟩
  | 49 => ⟨S2x8x4x64x4x64, .i1⟩
  | 50 => ⟨S2x8x4x64x4x64, .f32⟩
  | 51 => ⟨S2x8x4x64x4x64, .f32⟩
  | 52 => ⟨S2x8x4x64x4x64, .f32⟩
  | 53 => ⟨S1x8x4x4096x64, .f32⟩
  | 54 => ⟨S8x4x4096x64, .f32⟩
  | 55 => ⟨S8x4096x4x64, .f32⟩
  | 56 => ⟨S8x4096x256, .f32⟩
  | 57 => ⟨S1x8x4x4096x64, .f32⟩
  | 58 => ⟨S8x4x4096x64, .f32⟩
  | 59 => ⟨S8x4x4096x64, .f32⟩
  | 60 => ⟨S8x4096x4x64, .f32⟩
  | 61 => ⟨S8x4096x256, .f32⟩
  | 62 => ⟨S2x8x256x256, .f32⟩
  | _ => ⟨S8x4096x5376, .f32⟩

abbrev hbmTy (i : Nat) : BufTy := match i / 128 with
  | 0 => hbmTy0_0 i
  | 1 => hbmTy0_1 i
  | _ => ⟨S8x4096x5376, .f32⟩

abbrev bufTy : (tb : Table) → Fin (tcTables nBuf tb) → BufTy
  | .hbm, ⟨i, _⟩ => hbmTy i
  | _, _ => ⟨S8x4096x5376, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_cst : Ref sig .tc := ⟨.hbm, 24, rfl⟩
abbrev main_v22 : Ref sig .tc := ⟨.hbm, 25, rfl⟩
abbrev main_v23 : Ref sig .tc := ⟨.hbm, 26, rfl⟩
abbrev main_cst_0 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_cst_1 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_cst_2 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_cst_3 : Ref sig .tc := ⟨.hbm, 53, rfl⟩
abbrev main_v47 : Ref sig .tc := ⟨.hbm, 54, rfl⟩
abbrev main_v48 : Ref sig .tc := ⟨.hbm, 55, rfl⟩
abbrev main_cst_4 : Ref sig .tc := ⟨.hbm, 56, rfl⟩
abbrev main_call3_v0 : Ref sig .tc := ⟨.hbm, 57, rfl⟩
abbrev main_call3_v1 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_cst_5 : Ref sig .tc := ⟨.hbm, 66, rfl⟩
abbrev main_call4_v0 : Ref sig .tc := ⟨.hbm, 67, rfl⟩
abbrev main_call4_v1 : Ref sig .tc := ⟨.hbm, 68, rfl⟩
abbrev main_call4_v2 : Ref sig .tc := ⟨.hbm, 69, rfl⟩
abbrev main_v56 : Ref sig .tc := ⟨.hbm, 70, rfl⟩
abbrev main_cst_6 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_cst_7 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_cst_8 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_cst_9 : Ref sig .tc := ⟨.hbm, 102, rfl⟩
abbrev main_v85 : Ref sig .tc := ⟨.hbm, 103, rfl⟩
abbrev main_c : Ref sig .tc := ⟨.hbm, 104, rfl⟩
abbrev main_v86_0 : Ref sig .tc := ⟨.hbm, 105, rfl⟩
abbrev main_v86_1 : Ref sig .tc := ⟨.hbm, 106, rfl⟩
abbrev main_v86_2 : Ref sig .tc := ⟨.hbm, 107, rfl⟩
abbrev main_v86_3 : Ref sig .tc := ⟨.hbm, 108, rfl⟩
abbrev main_v86_4 : Ref sig .tc := ⟨.hbm, 109, rfl⟩
abbrev main_v86_5 : Ref sig .tc := ⟨.hbm, 110, rfl⟩
abbrev main_v86_6 : Ref sig .tc := ⟨.hbm, 111, rfl⟩
abbrev main_v86_7 : Ref sig .tc := ⟨.hbm, 112, rfl⟩
abbrev main_v86_8 : Ref sig .tc := ⟨.hbm, 113, rfl⟩
abbrev main_v86_9 : Ref sig .tc := ⟨.hbm, 114, rfl⟩
abbrev main_while0c_c_20 : Ref sig .tc := ⟨.hbm, 115, rfl⟩
abbrev main_while0c_v108 : Ref sig .tc := ⟨.hbm, 116, rfl⟩
abbrev main_while0b_call5_c : Ref sig .tc := ⟨.hbm, 117, rfl⟩
abbrev main_while0b_call5_c_0 : Ref sig .tc := ⟨.hbm, 118, rfl⟩
abbrev main_while0b_call5_c_1 : Ref sig .tc := ⟨.hbm, 119, rfl⟩
abbrev main_while0b_call5_c_2 : Ref sig .tc := ⟨.hbm, 120, rfl⟩
abbrev main_while0b_call5_c_3 : Ref sig .tc := ⟨.hbm, 121, rfl⟩
abbrev main_while0b_call5_v0 : Ref sig .tc := ⟨.hbm, 122, rfl⟩
abbrev main_while0b_v108 : Ref sig .tc := ⟨.hbm, 123, rfl⟩
abbrev main_while0b_call6_c : Ref sig .tc := ⟨.hbm, 124, rfl⟩
abbrev main_while0b_call6_c_0 : Ref sig .tc := ⟨.hbm, 125, rfl⟩
abbrev main_while0b_call6_c_1 : Ref sig .tc := ⟨.hbm, 126, rfl⟩
abbrev main_while0b_call6_c_2 : Ref sig .tc := ⟨.hbm, 127, rfl⟩
abbrev main_while0b_call6_c_3 : Ref sig .tc := ⟨.hbm, 128, rfl⟩
abbrev main_while0b_call6_v0 : Ref sig .tc := ⟨.hbm, 129, rfl⟩
abbrev main_while0b_v109 : Ref sig .tc := ⟨.hbm, 130, rfl⟩
abbrev main_while0b_call7_c : Ref sig .tc := ⟨.hbm, 131, rfl⟩
abbrev main_while0b_call7_c_0 : Ref sig .tc := ⟨.hbm, 132, rfl⟩
abbrev main_while0b_call7_c_1 : Ref sig .tc := ⟨.hbm, 133, rfl⟩
abbrev main_while0b_call7_c_2 : Ref sig .tc := ⟨.hbm, 134, rfl⟩
abbrev main_while0b_call7_c_3 : Ref sig .tc := ⟨.hbm, 135, rfl⟩
abbrev main_while0b_call7_v0 : Ref sig .tc := ⟨.hbm, 136, rfl⟩
abbrev main_while0b_v110 : Ref sig .tc := ⟨.hbm, 137, rfl⟩
abbrev main_while0b_v111 : Ref sig .tc := ⟨.hbm, 138, rfl⟩
abbrev main_while0b_v112 : Ref sig .tc := ⟨.hbm, 139, rfl⟩
abbrev main_while0b_v113 : Ref sig .tc := ⟨.hbm, 140, rfl⟩
abbrev main_while0b_v114 : Ref sig .tc := ⟨.hbm, 141, rfl⟩
abbrev main_while0b_v115 : Ref sig .tc := ⟨.hbm, 142, rfl⟩
abbrev main_while0b_v116 : Ref sig .tc := ⟨.hbm, 143, rfl⟩
abbrev main_while0b_v117 : Ref sig .tc := ⟨.hbm, 144, rfl⟩
abbrev main_while0b_v118 : Ref sig .tc := ⟨.hbm, 145, rfl⟩
abbrev main_while0b_v119 : Ref sig .tc := ⟨.hbm, 146, rfl⟩
abbrev main_while0b_v120 : Ref sig .tc := ⟨.hbm, 147, rfl⟩
abbrev main_while0b_v121 : Ref sig .tc := ⟨.hbm, 148, rfl⟩
abbrev main_while0b_v122 : Ref sig .tc := ⟨.hbm, 149, rfl⟩
abbrev main_while0b_v123 : Ref sig .tc := ⟨.hbm, 150, rfl⟩
abbrev main_while0b_v124 : Ref sig .tc := ⟨.hbm, 151, rfl⟩
abbrev main_while0b_v125 : Ref sig .tc := ⟨.hbm, 152, rfl⟩
abbrev main_while0b_v126 : Ref sig .tc := ⟨.hbm, 153, rfl⟩
abbrev main_while0b_v127 : Ref sig .tc := ⟨.hbm, 154, rfl⟩
abbrev main_while0b_v128 : Ref sig .tc := ⟨.hbm, 155, rfl⟩
abbrev main_while0b_call8_v0 : Ref sig .tc := ⟨.hbm, 156, rfl⟩
abbrev main_while0b_call8_c : Ref sig .tc := ⟨.hbm, 157, rfl⟩
abbrev main_while0b_call8_c_0 : Ref sig .tc := ⟨.hbm, 158, rfl⟩
abbrev main_while0b_call8_c_1 : Ref sig .tc := ⟨.hbm, 159, rfl⟩
abbrev main_while0b_call8_c_2 : Ref sig .tc := ⟨.hbm, 160, rfl⟩
abbrev main_while0b_call8_c_3 : Ref sig .tc := ⟨.hbm, 161, rfl⟩
abbrev main_while0b_v129 : Ref sig .tc := ⟨.hbm, 162, rfl⟩
abbrev main_while0b_c_20 : Ref sig .tc := ⟨.hbm, 163, rfl⟩
abbrev main_while0b_v130 : Ref sig .tc := ⟨.hbm, 164, rfl⟩
abbrev main_v87 : Ref sig .tc := ⟨.hbm, 165, rfl⟩
abbrev main_v88 : Ref sig .tc := ⟨.hbm, 166, rfl⟩
abbrev main_v89 : Ref sig .tc := ⟨.hbm, 167, rfl⟩
abbrev main_v90 : Ref sig .tc := ⟨.hbm, 168, rfl⟩
abbrev main_v91 : Ref sig .tc := ⟨.hbm, 169, rfl⟩
abbrev main_v92 : Ref sig .tc := ⟨.hbm, 170, rfl⟩
abbrev main_v93 : Ref sig .tc := ⟨.hbm, 171, rfl⟩
abbrev main_v94 : Ref sig .tc := ⟨.hbm, 172, rfl⟩
abbrev main_v95 : Ref sig .tc := ⟨.hbm, 173, rfl⟩
abbrev main_v96 : Ref sig .tc := ⟨.hbm, 174, rfl⟩
abbrev main_cst_10 : Ref sig .tc := ⟨.hbm, 175, rfl⟩
abbrev main_call9_v0 : Ref sig .tc := ⟨.hbm, 176, rfl⟩
abbrev main_call9_v1 : Ref sig .tc := ⟨.hbm, 177, rfl⟩
abbrev main_call9_v2 : Ref sig .tc := ⟨.hbm, 178, rfl⟩
abbrev main_call9_v3 : Ref sig .tc := ⟨.hbm, 179, rfl⟩
abbrev main_v97 : Ref sig .tc := ⟨.hbm, 180, rfl⟩
abbrev main_v98 : Ref sig .tc := ⟨.hbm, 181, rfl⟩
abbrev main_v99 : Ref sig .tc := ⟨.hbm, 182, rfl⟩
abbrev main_v100 : Ref sig .tc := ⟨.hbm, 183, rfl⟩
abbrev main_v101 : Ref sig .tc := ⟨.hbm, 184, rfl⟩
abbrev main_v102 : Ref sig .tc := ⟨.hbm, 185, rfl⟩
abbrev main_v103 : Ref sig .tc := ⟨.hbm, 186, rfl⟩
abbrev main_v104 : Ref sig .tc := ⟨.hbm, 187, rfl⟩
abbrev main_v105 : Ref sig .tc := ⟨.hbm, 188, rfl⟩
abbrev main_v106 : Ref sig .tc := ⟨.hbm, 189, rfl⟩
abbrev main_v107 : Ref sig .tc := ⟨.hbm, 190, rfl⟩

abbrev nD : Nat := 1
abbrev τ : Topo := Topo.v7x

variable {F : FTy → Type} [FloatOps F]

abbrev main_while0_count : Scf.Loop 32 := ⟨0#32, 64#32, 1#32⟩
-- ==== Kernel2.lean ====
abbrev S8x4096x1024 : Shape := ⟨3, ![8, 4096, 1024]⟩
abbrev S8x6144 : Shape := ⟨2, ![8, 6144]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S1x1024 : Shape := ⟨2, ![1, 1024]⟩
abbrev S1x2816 : Shape := ⟨2, ![1, 2816]⟩
abbrev S8x1x6144 : Shape := ⟨3, ![8, 1, 6144]⟩
abbrev S1x512x1024 : Shape := ⟨3, ![1, 512, 1024]⟩
abbrev S1x8x1024 : Shape := ⟨3, ![1, 8, 1024]⟩
abbrev S1x1x6144 : Shape := ⟨3, ![1, 1, 6144]⟩
abbrev S512x2816 : Shape := ⟨2, ![512, 2816]⟩
abbrev S8x1024 : Shape := ⟨2, ![8, 1024]⟩
abbrev S512x1024 : Shape := ⟨2, ![512, 1024]⟩
abbrev S528x1024 : Shape := ⟨2, ![528, 1024]⟩
abbrev S1x6144 : Shape := ⟨2, ![1, 6144]⟩
abbrev S528 : Shape := ⟨1, ![528]⟩
abbrev S528x1 : Shape := ⟨2, ![528, 1]⟩
abbrev S1024x1024 : Shape := ⟨2, ![1024, 1024]⟩
abbrev S1024x768 : Shape := ⟨2, ![1024, 768]⟩
abbrev S528x768 : Shape := ⟨2, ![528, 768]⟩
abbrev S512x768 : Shape := ⟨2, ![512, 768]⟩
abbrev S1x768 : Shape := ⟨2, ![1, 768]⟩
abbrev S512 : Shape := ⟨1, ![512]⟩
abbrev S512x1 : Shape := ⟨2, ![512, 1]⟩

abbrev nBuf : Space → Nat
  | .hbm => 15
  | .vmem => 17
  | .smem => 0
  | _ => 0

abbrev bufTy : (tb : Table) → Fin (tcTables nBuf tb) → BufTy
  | .hbm, ⟨0, _⟩ => ⟨S8x4096x1024, .f32⟩
  | .hbm, ⟨1, _⟩ => ⟨S8x6144, .f32⟩
  | .hbm, ⟨2, _⟩ => ⟨S1024, .f32⟩
  | .hbm, ⟨3, _⟩ => ⟨S1024x5632, .f32⟩
  | .hbm, ⟨4, _⟩ => ⟨S3x2816, .f32⟩
  | .hbm, ⟨5, _⟩ => ⟨S2816, .f32⟩
  | .hbm, ⟨6, _⟩ => ⟨S2816x1024, .f32⟩
  | .hbm, ⟨7, _⟩ => ⟨S1024, .f32⟩
  | .hbm, ⟨8, _⟩ => ⟨S1x1024, .f32⟩
  | .hbm, ⟨9, _⟩ => ⟨S1024x5632, .bf16⟩
  | .hbm, ⟨10, _⟩ => ⟨S1x2816, .f32⟩
  | .hbm, ⟨11, _⟩ => ⟨S2816x1024, .bf16⟩
  | .hbm, ⟨12, _⟩ => ⟨S8x1x6144, .f32⟩
  | .hbm, ⟨13, _⟩ => ⟨S1x1024, .f32⟩
  | .hbm, ⟨14, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x1x6144, .f32⟩
  | .local _ .vmem, ⟨7, _⟩ => ⟨S1x1x6144, .f32⟩
  | .local _ .vmem, ⟨8, _⟩ => ⟨S1x1024, .f32⟩
  | .local _ .vmem, ⟨9, _⟩ => ⟨S1024x5632, .bf16⟩
  | .local _ .vmem, ⟨10, _⟩ => ⟨S3x2816, .f32⟩
  | .local _ .vmem, ⟨11, _⟩ => ⟨S1x2816, .f32⟩
  | .local _ .vmem, ⟨12, _⟩ => ⟨S2816x1024, .bf16⟩
  | .local _ .vmem, ⟨13, _⟩ => ⟨S1x1024, .f32⟩
  | .local _ .vmem, ⟨14, _⟩ => ⟨S1x512x1024, .f32⟩
  | .local _ .vmem, ⟨15, _⟩ => ⟨S1x512x1024, .f32⟩
  | .local _ .vmem, ⟨16, _⟩ => ⟨S512x2816, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x6144 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S3x2816 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2816 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference2Ideal.lean ====
abbrev S8x4096x1024 : Shape := ⟨3, ![8, 4096, 1024]⟩
abbrev S8x6144 : Shape := ⟨2, ![8, 6144]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S8x1024 : Shape := ⟨2, ![8, 1024]⟩
abbrev S8x1x1024 : Shape := ⟨3, ![8, 1, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x5632 : Shape := ⟨3, ![8, 4096, 5632]⟩
abbrev S8x4096x2816 : Shape := ⟨3, ![8, 4096, 2816]⟩
abbrev S8x4098x2816 : Shape := ⟨3, ![8, 4098, 2816]⟩
abbrev S1x2816 : Shape := ⟨2, ![1, 2816]⟩
abbrev S1x1x2816 : Shape := ⟨3, ![1, 1, 2816]⟩

abbrev nBuf : Space → Nat
  | .hbm => 101
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x6144, .f32⟩
  | .hbm, ⟨2, _⟩ => ⟨S1024, .f32⟩
  | .hbm, ⟨3, _⟩ => ⟨S1024x5632, .f32⟩
  | .hbm, ⟨4, _⟩ => ⟨S3x2816, .f32⟩
  | .hbm, ⟨5, _⟩ => ⟨S2816, .f32⟩
  | .hbm, ⟨6, _⟩ => ⟨S2816x1024, .f32⟩
  | .hbm, ⟨7, _⟩ => ⟨S1024, .f32⟩
  | .hbm, ⟨8, _⟩ => ⟨S8x1024, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S8x1024, .f32⟩
  | .hbm, ⟨13, _⟩ => ⟨S8x1024, .f32⟩
  | .hbm, ⟨14, _⟩ => ⟨S8x1x1024, .f32⟩
  | .hbm, ⟨15, _⟩ => ⟨S8x1x1024, .f32⟩
  | .hbm, ⟨16, _⟩ => ⟨S8x1x1024, .f32⟩
  | .hbm, ⟨17, _⟩ => ⟨S8x1x1024, .f32⟩
  | .hbm, ⟨18, _⟩ => ⟨S8x1x1024, .f32⟩
  | .hbm, ⟨19, _⟩ => ⟨S8x1x1024, .f32⟩
  | .hbm, ⟨20, _⟩ => ⟨S8x4096x1024, .f32⟩
  | .hbm, ⟨21, _⟩ => ⟨S_, .f32⟩
  | .hbm, ⟨22, _⟩ => ⟨S8x4096, .f32⟩
  | .hbm, ⟨23, _⟩ => ⟨S8x4096x1, .f32⟩
  | .hbm, ⟨24, _⟩ => ⟨S_, .f32⟩
  | .hbm, ⟨25, _⟩ => ⟨S8x4096x1, .f32⟩
  | .hbm, ⟨26, _⟩ => ⟨S8x4096x1, .f32⟩
  | .hbm, ⟨27, _⟩ => ⟨S_, .f32⟩
  | .hbm, ⟨28, _⟩ => ⟨S8x4096x1, .f32⟩
  | .hbm, ⟨29, _⟩ => ⟨S8x4096x1, .f32⟩
  | .hbm, ⟨30, _⟩ => ⟨S8x4096x1, .f32⟩
  | .hbm, ⟨31, _⟩ => ⟨S8x4096x1024, .f32⟩
  | .hbm, ⟨32, _⟩ => ⟨S8x4096x1024, .f32⟩
  | .hbm, ⟨33, _⟩ => ⟨S1x1x1024, .f32⟩
  | .hbm, ⟨34, _⟩ => ⟨S8x4096x1024, .f32⟩
  | .hbm, ⟨35, _⟩ => ⟨S8x4096x1024, .f32⟩
  | .hbm, ⟨36, _⟩ => ⟨S_, .f32⟩
  | .hbm, ⟨37, _⟩ => ⟨S8x1x1024, .f32⟩
  | .hbm, ⟨38, _⟩ => ⟨S8x1x1024, .f32⟩
  | .hbm, ⟨39, _⟩ => ⟨S8x4096x1024, .f32⟩
  | .hbm, ⟨40, _⟩ => ⟨S8x4096x1024, .f32⟩
  | .hbm, ⟨41, _⟩ => ⟨S8x4096x1024, .f32⟩
  | .hbm, ⟨42, _⟩ => ⟨S8x4096x1024, .f32⟩
  | .hbm, ⟨43, _⟩ => ⟨S8x4096x5632, .f32⟩
  | .hbm, ⟨44, _⟩ => ⟨S8x4096x2816, .f32⟩
  | .hbm, ⟨45, _⟩ => ⟨S8x4096x2816, .f32⟩
  | .hbm, ⟨46, _⟩ => ⟨S_, .i32⟩
  | .hbm, ⟨47, _⟩ => ⟨S_, .f32⟩
  | .hbm, ⟨48, _⟩ => ⟨S8x4098x2816, .f32⟩
  | .hbm, ⟨49, _⟩ => ⟨S8x4096x2816, .f32⟩
  | .hbm, ⟨50, _⟩ => ⟨S8x4096x2816, .f32⟩
  | .hbm, ⟨51, _⟩ => ⟨S1x2816, .f32⟩
  | .hbm, ⟨52, _⟩ => ⟨S2816, .f32⟩
  | .hbm, ⟨53, _⟩ => ⟨S1x1x2816, .f32⟩
  | .hbm, ⟨54, _⟩ => ⟨S8x4096x2816, .f32⟩
  | .hbm, ⟨55, _⟩ => ⟨S8x4096x2816, .f32⟩
  | .hbm, ⟨56, _⟩ => ⟨S1x2816, .f32⟩
  | .hbm, ⟨57, _⟩ => ⟨S2816, .f32⟩
  | .hbm, ⟨58, _⟩ => ⟨S1x1x2816, .f32⟩
  | .hbm, ⟨59, _⟩ => ⟨S8x4096x2816, .f32⟩
  | .hbm, ⟨60, _⟩ => ⟨S8x4096x2816, .f32⟩
  | .hbm, ⟨61, _⟩ => ⟨S8x4096x2816, .f32⟩
  | .hbm, ⟨62, _⟩ => ⟨S1x2816, .f32⟩
  | .hbm, ⟨63, _⟩ => ⟨S2816, .f32⟩
  | .hbm, ⟨64, _⟩ => ⟨S1x1x2816, .f32⟩
  | .hbm, ⟨65, _⟩ => ⟨S8x4096x2816, .f32⟩
  | .hbm, ⟨66, _⟩ => ⟨S8x4096x2816, .f32⟩
  | .hbm, ⟨67, _⟩ => ⟨S8x4096x2816, .f32⟩
  | .hbm, ⟨68, _⟩ => ⟨S1x1x2816, .f32⟩
  | .hbm, ⟨69, _⟩ => ⟨S8x4096x2816, .f32⟩
  | .hbm, ⟨70, _⟩ => ⟨S8x4096x2816, .f32⟩
  | .hbm, ⟨71, _⟩ => ⟨S8x4096x2816, .f32⟩
  | .hbm, ⟨72, _⟩ => ⟨S8x4096x2816, .f32⟩
  | .hbm, ⟨73, _⟩ => ⟨S_, .f32⟩
  | .hbm, ⟨74, _⟩ => ⟨S8x4096x2816, .f32⟩
  | .hbm, ⟨75, _⟩ => ⟨S8x4096x2816, .f32⟩
  | .hbm, ⟨76, _⟩ => ⟨S_, .f32⟩
  | .hbm, ⟨77, _⟩ => ⟨S8x4096x2816, .f32⟩
  | .hbm, ⟨78, _⟩ => ⟨S8x4096x2816, .f32⟩
  | .hbm, ⟨79, _⟩ => ⟨S8x4096x2816, .f32⟩
  | .hbm, ⟨80, _⟩ => ⟨S8x4096x2816, .f32⟩
  | .hbm, ⟨81, _⟩ => ⟨S8x4096x1024, .f32⟩
  | .hbm, ⟨82, _⟩ => ⟨S8x4096x1024, .f32⟩
  | .hbm, ⟨83, _⟩ => ⟨S8x4096x1024, .f32⟩
  | .hbm, ⟨84, _⟩ => ⟨S8x4096x1024, .f32⟩
  | .hbm, ⟨85, _⟩ => ⟨S8x4096x1024, .f32⟩
  | .hbm, ⟨86, _⟩ => ⟨S_, .f32⟩
  | .hbm, ⟨87, _⟩ => ⟨S8x4096, .f32⟩
  | .hbm, ⟨88, _⟩ => ⟨S8x4096x1, .f32⟩
  | .hbm, ⟨89, _⟩ => ⟨S_, .f32⟩
  | .hbm, ⟨90, _⟩ => ⟨S8x4096x1, .f32⟩
  | .hbm, ⟨91, _⟩ => ⟨S8x4096x1, .f32⟩
  | .hbm, ⟨92, _⟩ => ⟨S_, .f32⟩
  | .hbm, ⟨93, _⟩ => ⟨S8x4096x1, .f32⟩
  | .hbm, ⟨94, _⟩ => ⟨S8x4096x1, .f32⟩
  | .hbm, ⟨95, _⟩ => ⟨S8x4096x1, .f32⟩
  | .hbm, ⟨96, _⟩ => ⟨S8x4096x1024, .f32⟩
  | .hbm, ⟨97, _⟩ => ⟨S8x4096x1024, .f32⟩
  | .hbm, ⟨98, _⟩ => ⟨S1x1x1024, .f32⟩
  | .hbm, ⟨99, _⟩ => ⟨S8x4096x1024, .f32⟩
  | .hbm, ⟨100, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c : Ref sig .tc := ⟨.hbm, 46, rfl⟩
abbrev main_call0_v0 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_call1_v0 : Ref sig .tc := ⟨.hbm, 71, rfl⟩
abbrev main_call1_v1 : Ref sig .tc := ⟨.hbm, 72, rfl⟩
abbrev main_call1_cst : Ref sig .tc := ⟨.hbm, 73, rfl⟩
abbrev main_call1_v2 : Ref sig .tc := ⟨.hbm, 74, rfl⟩
abbrev main_call1_v3 : Ref sig .tc := ⟨.hbm, 75, rfl⟩
abbrev main_call1_cst_0 : Ref sig .tc := ⟨.hbm, 76, rfl⟩
abbrev main_call1_v4 : Ref sig .tc := ⟨.hbm, 77, rfl⟩
abbrev main_call1_v5 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_3 : Ref sig .tc := ⟨.hbm, 86, rfl⟩
abbrev main_v64 : Ref sig .tc := ⟨.hbm, 87, rfl⟩
abbrev main_v65 : Ref sig .tc := ⟨.hbm, 88, rfl⟩
abbrev main_cst_4 : Ref sig .tc := ⟨.hbm, 89, rfl⟩
abbrev main_v66 : Ref sig .tc := ⟨.hbm, 90, rfl⟩
abbrev main_v67 : Ref sig .tc := ⟨.hbm, 91, rfl⟩
abbrev main_cst_5 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩

abbrev nD : Nat := 1
abbrev τ : Topo := Topo.v7x

variable {F : FTy → Type} [FloatOps F]
-- ==== Kernel3.lean ====
abbrev S8x4096x1024 : Shape := ⟨3, ![8, 4096, 1024]⟩
abbrev S8x6144 : Shape := ⟨2, ![8, 6144]⟩
abbrev S8x4096x5376 : Shape := ⟨3, ![8, 4096, 5376]⟩
abbrev S8x4096x256 : Shape := ⟨3, ![8, 4096, 256]⟩
abbrev S256 : Shape := ⟨1, ![256]⟩
abbrev S4x1024x1024 : Shape := ⟨3, ![4, 1024, 1024]⟩
abbrev S4x1024 : Shape := ⟨2, ![4, 1024]⟩
abbrev S4x256x1024 : Shape := ⟨3, ![4, 256, 1024]⟩
abbrev S1024x1024 : Shape := ⟨2, ![1024, 1024]⟩
abbrev S1x256 : Shape := ⟨2, ![1, 256]⟩
abbrev S3x256 : Shape := ⟨2, ![3, 256]⟩
abbrev S4x1x1024 : Shape := ⟨3, ![4, 1, 1024]⟩
abbrev S8x1x6144 : Shape := ⟨3, ![8, 1, 6144]⟩
abbrev S1x512x1024 : Shape := ⟨3, ![1, 512, 1024]⟩
abbrev S1x1x6144 : Shape := ⟨3, ![1, 1, 6144]⟩
abbrev S1x512x256 : Shape := ⟨3, ![1, 512, 256]⟩
abbrev S256x256 : Shape := ⟨2, ![256, 256]⟩
abbrev S512x256 : Shape := ⟨2, ![512, 256]⟩
abbrev S512x1024 : Shape := ⟨2, ![512, 1024]⟩
abbrev S1x1024x1024 : Shape := ⟨3, ![1, 1024, 1024]⟩
abbrev S1x1x1024 : Shape := ⟨3, ![1, 1, 1024]⟩
abbrev S1x1024 : Shape := ⟨2, ![1, 1024]⟩
abbrev S1x256x1024 : Shape := ⟨3, ![1, 256, 1024]⟩
abbrev S256x1024 : Shape := ⟨2, ![256, 1024]⟩
abbrev S1x6144 : Shape := ⟨2, ![1, 6144]⟩

abbrev nBuf : Space → Nat
  | .hbm => 29
  | .vmem => 35
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .f32⟩
  | .hbm, ⟨2, _⟩ => ⟨S8x6144, .f32⟩
  | .hbm, ⟨3, _⟩ => ⟨S8x4096x5376, .f32⟩
  | .hbm, ⟨4, _⟩ => ⟨S8x4096x256, .f32⟩
  | .hbm, ⟨5, _⟩ => ⟨S8x4096x256, .f32⟩
  | .hbm, ⟨6, _⟩ => ⟨S8x4096x256, .f32⟩
  | .hbm, ⟨7, _⟩ => ⟨S8x4096x256, .f32⟩
  | .hbm, ⟨8, _⟩ => ⟨S8x4096x256, .f32⟩
  | .hbm, ⟨9, _⟩ => ⟨S8x4096x256, .f32⟩
  | .hbm, ⟨10, _⟩ => ⟨S8x4096x256, .f32⟩
  | .hbm, ⟨11, _⟩ => ⟨S256, .f32⟩
  | .hbm, ⟨12, _⟩ => ⟨S256, .f32⟩
  | .hbm, ⟨13, _⟩ => ⟨S256, .f32⟩
  | .hbm, ⟨14, _⟩ => ⟨S4x1024x1024, .f32⟩
  | .hbm, ⟨15, _⟩ => ⟨S4x1024, .f32⟩
  | .hbm, ⟨16, _⟩ => ⟨S4x256x1024, .f32⟩
  | .hbm, ⟨17, _⟩ => ⟨S1024x1024, .f32⟩
  | .hbm, ⟨18, _⟩ => ⟨S1x256, .f32⟩
  | .hbm, ⟨19, _⟩ => ⟨S1x256, .f32⟩
  | .hbm, ⟨20, _⟩ => ⟨S1x256, .f32⟩
  | .hbm, ⟨21, _⟩ => ⟨S3x256, .f32⟩
  | .hbm, ⟨22, _⟩ => ⟨S4x1024x1024, .bf16⟩
  | .hbm, ⟨23, _⟩ => ⟨S4x1x1024, .f32⟩
  | .hbm, ⟨24, _⟩ => ⟨S4x256x1024, .bf16⟩
  | .hbm, ⟨25, _⟩ => ⟨S1024x1024, .bf16⟩
  | .hbm, ⟨26, _⟩ => ⟨S8x4096x1024, .bf16⟩
  | .hbm, ⟨27, _⟩ => ⟨S8x1x6144, .f32⟩
  | .hbm, ⟨28, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .bf16⟩
  | .local _ .vmem, ⟨3, _⟩ => ⟨S1x512x1024, .bf16⟩
  | .local _ .vmem, ⟨4, _⟩ => ⟨S1x1x6144, .f32⟩
  | .local _ .vmem, ⟨5, _⟩ => ⟨S1x1x6144, .f32⟩
  | .local _ .vmem, ⟨6, _⟩ => ⟨S1x512x256, .f32⟩
  | .local _ .vmem, ⟨7, _⟩ => ⟨S1x512x256, .f32⟩
  | .local _ .vmem, ⟨8, _⟩ => ⟨S1x512x256, .f32⟩
  | .local _ .vmem, ⟨9, _⟩ => ⟨S1x512x256, .f32⟩
  | .local _ .vmem, ⟨10, _⟩ => ⟨S1x512x256, .f32⟩
  | .local _ .vmem, ⟨11, _⟩ => ⟨S1x512x256, .f32⟩
  | .local _ .vmem, ⟨12, _⟩ => ⟨S1x512x256, .f32⟩
  | .local _ .vmem, ⟨13, _⟩ => ⟨S1x512x256, .f32⟩
  | .local _ .vmem, ⟨14, _⟩ => ⟨S1x512x256, .f32⟩
  | .local _ .vmem, ⟨15, _⟩ => ⟨S1x512x256, .f32⟩
  | .local _ .vmem, ⟨16, _⟩ => ⟨S1x512x256, .f32⟩
  | .local _ .vmem, ⟨17, _⟩ => ⟨S1x512x256, .f32⟩
  | .local _ .vmem, ⟨18, _⟩ => ⟨S1x512x256, .f32⟩
  | .local _ .vmem, ⟨19, _⟩ => ⟨S1x512x256, .f32⟩
  | .local _ .vmem, ⟨20, _⟩ => ⟨S1x512x256, .f32⟩
  | .local _ .vmem, ⟨21, _⟩ => ⟨S1x512x256, .f32⟩
  | .local _ .vmem, ⟨22, _⟩ => ⟨S1x512x256, .f32⟩
  | .local _ .vmem, ⟨23, _⟩ => ⟨S1x512x256, .f32⟩
  | .local _ .vmem, ⟨24, _⟩ => ⟨S1x512x256, .f32⟩
  | .local _ .vmem, ⟨25, _⟩ => ⟨S1x512x256, .f32⟩
  | .local _ .vmem, ⟨26, _⟩ => ⟨S1x512x256, .f32⟩
  | .local _ .vmem, ⟨27, _⟩ => ⟨S1x512x256, .f32⟩
  | .local _ .vmem, ⟨28, _⟩ => ⟨S3x256, .f32⟩
  | .local _ .vmem, ⟨29, _⟩ => ⟨S4x1024x1024, .bf16⟩
  | .local _ .vmem, ⟨30, _⟩ => ⟨S4x1x1024, .f32⟩
  | .local _ .vmem, ⟨31, _⟩ => ⟨S4x256x1024, .bf16⟩
  | .local _ .vmem, ⟨32, _⟩ => ⟨S1024x1024, .bf16⟩
  | .local _ .vmem, ⟨33, _⟩ => ⟨S1x512x1024, .f32⟩
  | .local _ .vmem, ⟨34, _⟩ => ⟨S1x512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg15_0 : Ref sig .tc := ⟨.vmem, 29, rfl⟩
abbrev cc0_stg16_0 : Ref sig .tc := ⟨.vmem, 30, rfl⟩
abbrev cc0_stg17_0 : Ref sig .tc := ⟨.vmem, 31, rfl⟩
abbrev cc0_stg18_0 : Ref sig .tc := ⟨.vmem, 32, rfl⟩
abbrev cc0_stg19_0 : Ref sig .tc := ⟨.vmem, 33, rfl⟩
abbrev cc0_stg19_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem15_0 : DmaSem sig := 29
abbrev cc0_sem16_0 : DmaSem sig := 30
abbrev cc0_sem17_0 : DmaSem sig := 31
abbrev cc0_sem18_0 : DmaSem sig := 32
abbrev cc0_sem19_0 : DmaSem sig := 33
abbrev cc0_sem19_1 : DmaSem sig := 34

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_4 (i : grid0.Coords) : Fin 3 → Nat :=
  let arg0 : BitVec 32 := BitVec.ofNat 32 (i 0).val
  let arg1 : BitVec 32 := BitVec.ofNat 32 (i 1).val
  let c7_i32 : BitVec 32 := 7#32
  let c0_i32 : BitVec 32 := 0#32
  ![arg0.toNat, arg1.toNat, c7_i32.toNat]

def cc0_transform_5 (i : grid0.Coords) : Fin 3 → Nat :=
  let arg0 : BitVec 32 := BitVec.ofNat 32 (i 0).val
  let arg1 : BitVec 32 := BitVec.ofNat 32 (i 1).val
  let c11_i32 : BitVec 32 := 11#32
  let c0_i32 : BitVec 32 := 0#32
  ![arg0.toNat, arg1.toNat, c11_i32.toNat]

def cc0_transform_6 (i : grid0.Coords) : Fin 3 → Nat :=
  let arg0 : BitVec 32 := BitVec.ofNat 32 (i 0).val
  let arg1 : BitVec 32 := BitVec.ofNat 32 (i 1).val
  let c12_i32 : BitVec 32 := 12#32
  let c0_i32 : BitVec 32 := 0#32
  ![arg0.toNat, arg1.toNat, c12_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x6144 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 1 → Memref sig .tc .vmem S3x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S4x1024x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S4x1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S4x256x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S1024x1024 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 2 → Memref sig .tc .vmem S1x512x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]
-- ==== Reference3Ideal.lean ====
abbrev S8x4096x1024 : Shape := ⟨3, ![8, 4096, 1024]⟩
abbrev S8x6144 : Shape := ⟨2, ![8, 6144]⟩
abbrev S8x4096x5376 : Shape := ⟨3, ![8, 4096, 5376]⟩
abbrev S8x4096x256 : Shape := ⟨3, ![8, 4096, 256]⟩
abbrev S256 : Shape := ⟨1, ![256]⟩
abbrev S4x1024x1024 : Shape := ⟨3, ![4, 1024, 1024]⟩
abbrev S4x1024 : Shape := ⟨2, ![4, 1024]⟩
abbrev S4x256x1024 : Shape := ⟨3, ![4, 256, 1024]⟩
abbrev S1024x1024 : Shape := ⟨2, ![1024, 1024]⟩
abbrev S8x1024 : Shape := ⟨2, ![8, 1024]⟩
abbrev S8x1x1024 : Shape := ⟨3, ![8, 1, 1024]⟩
abbrev S8x4096x4x64 : Shape := ⟨4, ![8, 4096, 4, 64]⟩
abbrev S_ : Shape := ⟨0, ![]⟩
abbrev S8x4096x4 : Shape := ⟨3, ![8, 4096, 4]⟩
abbrev S8x4096x4x1 : Shape := ⟨4, ![8, 4096, 4, 1]⟩
abbrev S1x1x256 : Shape := ⟨3, ![1, 1, 256]⟩
abbrev S1x1024x1024 : Shape := ⟨3, ![1, 1024, 1024]⟩
abbrev S1x1024 : Shape := ⟨2, ![1, 1024]⟩
abbrev S1024 : Shape := ⟨1, ![1024]⟩
abbrev S1x1x1024 : Shape := ⟨3, ![1, 1, 1024]⟩
abbrev S1x256x1024 : Shape := ⟨3, ![1, 256, 1024]⟩
abbrev S256x1024 : Shape := ⟨2, ![256, 1024]⟩

abbrev nBuf : Space → Nat
  | .hbm => 219
  | .vmem => 0
  | .smem => 0
  | _ => 0

abbrev hbmTy0_0 (i : Nat) : BufTy := match i % 128 with
  | 0 => ⟨S8x4096x1024, .f32⟩
  | 1 => ⟨S8x4096x1024, .f32⟩
  | 2 => ⟨S8x6144, .f32⟩
  | 3 => ⟨S8x4096x5376, .f32⟩
  | 4 => ⟨S8x4096x256, .f32⟩
  | 5 => ⟨S8x4096x256, .f32⟩
  | 6 => ⟨S8x4096x256, .f32⟩
  | 7 => ⟨S8x4096x256, .f32⟩
  | 8 => ⟨S8x4096x256, .f32⟩
  | 9 => ⟨S8x4096x256, .f32⟩
  | 10 => ⟨S8x4096x256, .f32⟩
  | 11 => ⟨S256, .f32⟩
  | 12 => ⟨S256, .f32⟩
  | 13 => ⟨S256, .f32⟩
  | 14 => ⟨S4x1024x1024, .f32⟩
  | 15 => ⟨S4x1024, .f32⟩
  | 16 => ⟨S4x256x1024, .f32⟩
  | 17 => ⟨S1024x1024, .f32⟩
  | 18 => ⟨S8x1024, .f32⟩
  | 19 => ⟨S8x1024, .f32⟩
  | 20 => ⟨S8x1024, .f32⟩
  | 21 => ⟨S8x1024, .f32⟩
  | 22 => ⟨S8x1024, .f32⟩
  | 23 => ⟨S8x1024, .f32⟩
  | 24 => ⟨S8x1x1024, .f32⟩
  | 25 => ⟨S8x1x1024, .f32⟩
  | 26 => ⟨S8x1x1024, .f32⟩
  | 27 => ⟨S8x1x1024, .f32⟩
  | 28 => ⟨S8x1x1024, .f32⟩
  | 29 => ⟨S8x1x1024, .f32⟩
  | 30 => ⟨S8x4096x256, .f32⟩
  | 31 => ⟨S8x4096x256, .f32⟩
  | 32 => ⟨S8x4096x256, .f32⟩
  | 33 => ⟨S8x4096x256, .f32⟩
  | 34 => ⟨S8x4096x256, .f32⟩
  | 35 => ⟨S8x4096x4x64, .f32⟩
  | 36 => ⟨S8x4096x4x64, .f32⟩
  | 37 => ⟨S_, .f32⟩
  | 38 => ⟨S8x4096x4, .f32⟩
  | 39 => ⟨S8x4096x4x1, .f32⟩
  | 40 => ⟨S_, .f32⟩
  | 41 => ⟨S8x4096x4x1, .f32⟩
  | 42 => ⟨S8x4096x4x1, .f32⟩
  | 43 => ⟨S_, .f32⟩
  | 44 => ⟨S8x4096x4x1, .f32⟩
  | 45 => ⟨S8x4096x4x1, .f32⟩
  | 46 => ⟨S8x4096x4x1, .f32⟩
  | 47 => ⟨S8x4096x4x64, .f32⟩
  | 48 => ⟨S8x4096x4x64, .f32⟩
  | 49 => ⟨S8x4096x256, .f32⟩
  | 50 => ⟨S1x1x256, .f32⟩
  | 51 => ⟨S8x4096x256, .f32⟩
  | 52 => ⟨S8x4096x256, .f32⟩
  | 53 => ⟨S8x4096x256, .f32⟩
  | 54 => ⟨S8x4096x256, .f32⟩
  | 55 => ⟨S_, .f32⟩
  | 56 => ⟨S8x4096x256, .f32⟩
  | 57 => ⟨S8x4096x256, .f32⟩
  | 58 => ⟨S_, .f32⟩
  | 59 => ⟨S8x4096x256, .f32⟩
  | 60 => ⟨S8x4096x256, .f32⟩
  | 61 => ⟨S8x4096x256, .f32⟩
  | 62 => ⟨S8x4096x256, .f32⟩
  | 63 => ⟨S8x4096x256, .f32⟩
  | 64 => ⟨S8x4096x4x64, .f32⟩
  | 65 => ⟨S_, .f32⟩
  | 66 => ⟨S8x4096x4, .f32⟩
  | 67 => ⟨S8x4096x4x1, .f32⟩
  | 68 => ⟨S_, .f32⟩
  | 69 => ⟨S8x4096x4x1, .f32⟩
  | 70 => ⟨S8x4096x4x1, .f32⟩
  | 71 => ⟨S8x4096x4x64, .f32⟩
  | 72 => ⟨S8x4096x4x64, .f32⟩
  | 73 => ⟨S8x4096x4x64, .f32⟩
  | 74 => ⟨S_, .f32⟩
  | 75 => ⟨S8x4096x4, .f32⟩
  | 76 => ⟨S8x4096x4x1, .f32⟩
  | 77 => ⟨S_, .f32⟩
  | 78 => ⟨S8x4096x4x1, .f32⟩
  | 79 => ⟨S8x4096x4x1, .f32⟩
  | 80 => ⟨S_, .f32⟩
  | 81 => ⟨S8x4096x4x1, .f32⟩
  | 82 => ⟨S8x4096x4x1, .f32⟩
  | 83 => ⟨S8x4096x4x1, .f32⟩
  | 84 => ⟨S8x4096x4x64, .f32⟩
  | 85 => ⟨S8x4096x4x64, .f32⟩
  | 86 => ⟨S8x4096x256, .f32⟩
  | 87 => ⟨S1x1x256, .f32⟩
  | 88 => ⟨S8x4096x256, .f32⟩
  | 89 => ⟨S8x4096x256, .f32⟩
  | 90 => ⟨S8x4096x256, .f32⟩
  | 91 => ⟨S8x4096x256, .f32⟩
  | 92 => ⟨S_, .f32⟩
  | 93 => ⟨S8x4096x256, .f32⟩
  | 94 => ⟨S8x4096x256, .f32⟩
  | 95 => ⟨S_, .f32⟩
  | 96 => ⟨S8x4096x256, .f32⟩
  | 97 => ⟨S8x4096x256, .f32⟩
  | 98 => ⟨S8x4096x256, .f32⟩
  | 99 => ⟨S8x4096x256, .f32⟩
  | 100 => ⟨S8x4096x256, .f32⟩
  | 101 => ⟨S8x4096x4x64, .f32⟩
  | 102 => ⟨S_, .f32⟩
  | 103 => ⟨S8x4096x4, .f32⟩
  | 104 => ⟨S8x4096x4x1, .f32⟩
  | 105 => ⟨S_, .f32⟩
  | 106 => ⟨S8x4096x4x1, .f32⟩
  | 107 => ⟨S8x4096x4x1, .f32⟩
  | 108 => ⟨S8x4096x4x64, .f32⟩
  | 109 => ⟨S8x4096x4x64, .f32⟩
  | 110 => ⟨S8x4096x4x64, .f32⟩
  | 111 => ⟨S_, .f32⟩
  | 112 => ⟨S8x4096x4, .f32⟩
  | 113 => ⟨S8x4096x4x1, .f32⟩
  | 114 => ⟨S_, .f32⟩
  | 115 => ⟨S8x4096x4x1, .f32⟩
  | 116 => ⟨S8x4096x4x1, .f32⟩
  | 117 => ⟨S_, .f32⟩
  | 118 => ⟨S8x4096x4x1, .f32⟩
  | 119 => ⟨S8x4096x4x1, .f32⟩
  | 120 => ⟨S8x4096x4x1, .f32⟩
  | 121 => ⟨S8x4096x4x64, .f32⟩
  | 122 => ⟨S8x4096x4x64, .f32⟩
  | 123 => ⟨S8x4096x256, .f32⟩
  | 124 => ⟨S1x1x256, .f32⟩
  | 125 => ⟨S8x4096x256, .f32⟩
  | 126 => ⟨S8x4096x256, .f32⟩
  | 127 => ⟨S8x4096x256, .f32⟩
  | _ => ⟨S8x4096x1024, .f32⟩

abbrev hbmTy0_1 (i : Nat) : BufTy := match i % 128 with
  | 0 => ⟨S8x4096x256, .f32⟩
  | 1 => ⟨S1x1024x1024, .f32⟩
  | 2 => ⟨S1024x1024, .f32⟩
  | 3 => ⟨S8x4096x1024, .f32⟩
  | 4 => ⟨S1x1024, .f32⟩
  | 5 => ⟨S1024, .f32⟩
  | 6 => ⟨S1x1x1024, .f32⟩
  | 7 => ⟨S8x4096x1024, .f32⟩
  | 8 => ⟨S8x4096x1024, .f32⟩
  | 9 => ⟨S8x4096x1024, .f32⟩
  | 10 => ⟨S8x4096x1024, .f32⟩
  | 11 => ⟨S_, .f32⟩
  | 12 => ⟨S8x4096x1024, .f32⟩
  | 13 => ⟨S8x4096x1024, .f32⟩
  | 14 => ⟨S_, .f32⟩
  | 15 => ⟨S8x4096x1024, .f32⟩
  | 16 => ⟨S8x4096x1024, .f32⟩
  | 17 => ⟨S1x256x1024, .f32⟩
  | 18 => ⟨S256x1024, .f32⟩
  | 19 => ⟨S8x4096x1024, .f32⟩
  | 20 => ⟨S8x4096x1024, .f32⟩
  | 21 => ⟨S_, .f32⟩
  | 22 => ⟨S8x4096x1024, .f32⟩
  | 23 => ⟨S8x4096x1024, .f32⟩
  | 24 => ⟨S1x1024x1024, .f32⟩
  | 25 => ⟨S1024x1024, .f32⟩
  | 26 => ⟨S8x4096x1024, .f32⟩
  | 27 => ⟨S1x1024, .f32⟩
  | 28 => ⟨S1024, .f32⟩
  | 29 => ⟨S1x1x1024, .f32⟩
  | 30 => ⟨S8x4096x1024, .f32⟩
  | 31 => ⟨S8x4096x1024, .f32⟩
  | 32 => ⟨S8x4096x1024, .f32⟩
  | 33 => ⟨S8x4096x1024, .f32⟩
  | 34 => ⟨S_, .f32⟩
  | 35 => ⟨S8x4096x1024, .f32⟩
  | 36 => ⟨S8x4096x1024, .f32⟩
  | 37 => ⟨S_, .f32⟩
  | 38 => ⟨S8x4096x1024, .f32⟩
  | 39 => ⟨S8x4096x1024, .f32⟩
  | 40 => ⟨S1x256x1024, .f32⟩
  | 41 => ⟨S256x1024, .f32⟩
  | 42 => ⟨S8x4096x1024, .f32⟩
  | 43 => ⟨S8x4096x1024, .f32⟩
  | 44 => ⟨S8x4096x1024, .f32⟩
  | 45 => ⟨S1x1024x1024, .f32⟩
  | 46 => ⟨S1024x1024, .f32⟩
  | 47 => ⟨S8x4096x1024, .f32⟩
  | 48 => ⟨S1x1024, .f32⟩
  | 49 => ⟨S1024, .f32⟩
  | 50 => ⟨S1x1x1024, .f32⟩
  | 51 => ⟨S8x4096x1024, .f32⟩
  | 52 => ⟨S8x4096x1024, .f32⟩
  | 53 => ⟨S8x4096x1024, .f32⟩
  | 54 => ⟨S8x4096x1024, .f32⟩
  | 55 => ⟨S_, .f32⟩
  | 56 => ⟨S8x4096x1024, .f32⟩
  | 57 => ⟨S8x4096x1024, .f32⟩
  | 58 => ⟨S_, .f32⟩
  | 59 => ⟨S8x4096x1024, .f32⟩
  | 60 => ⟨S8x4096x1024, .f32⟩
  | 61 => ⟨S1x256x1024, .f32⟩
  | 62 => ⟨S256x1024, .f32⟩
  | 63 => ⟨S8x4096x1024, .f32⟩
  | 64 => ⟨S8x4096x1024, .f32⟩
  | 65 => ⟨S8x4096x1024, .f32⟩
  | 66 => ⟨S1x1024x1024, .f32⟩
  | 67 => ⟨S1024x1024, .f32⟩
  | 68 => ⟨S8x4096x1024, .f32⟩
  | 69 => ⟨S1x1024, .f32⟩
  | 70 => ⟨S1024, .f32⟩
  | 71 => ⟨S1x1x1024, .f32⟩
  | 72 => ⟨S8x4096x1024, .f32⟩
  | 73 => ⟨S8x4096x1024, .f32⟩
  | 74 => ⟨S8x4096x1024, .f32⟩
  | 75 => ⟨S8x4096x1024, .f32⟩
  | 76 => ⟨S_, .f32⟩
  | 77 => ⟨S8x4096x1024, .f32⟩
  | 78 => ⟨S8x4096x1024, .f32⟩
  | 79 => ⟨S_, .f32⟩
  | 80 => ⟨S8x4096x1024, .f32⟩
  | 81 => ⟨S8x4096x1024, .f32⟩
  | 82 => ⟨S1x256x1024, .f32⟩
  | 83 => ⟨S256x1024, .f32⟩
  | 84 => ⟨S8x4096x1024, .f32⟩
  | 85 => ⟨S8x4096x1024, .f32⟩
  | 86 => ⟨S8x4096x1024, .f32⟩
  | 87 => ⟨S8x4096x1024, .f32⟩
  | 88 => ⟨S8x4096x1024, .f32⟩
  | 89 => ⟨S8x4096x1024, .f32⟩
  | 90 => ⟨S8x4096x1024, .f32⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst : Ref sig .tc := ⟨.hbm, 37, rfl⟩
abbrev main_v19 : Ref sig .tc := ⟨.hbm, 38, rfl⟩
abbrev main_v20 : Ref sig .tc := ⟨.hbm, 39, rfl⟩
abbrev main_cst_0 : Ref sig .tc := ⟨.hbm, 40, rfl⟩
abbrev main_v21 : Ref sig .tc := ⟨.hbm, 41, rfl⟩
abbrev main_v22 : Ref sig .tc := ⟨.hbm, 42, rfl⟩
abbrev main_cst_1 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_call0_v0 : Ref sig .tc := ⟨.hbm, 53, rfl⟩
abbrev main_call0_v1 : Ref sig .tc := ⟨.hbm, 54, rfl⟩
abbrev main_call0_cst : Ref sig .tc := ⟨.hbm, 55, rfl⟩
abbrev main_call0_v2 : Ref sig .tc := ⟨.hbm, 56, rfl⟩
abbrev main_call0_v3 : Ref sig .tc := ⟨.hbm, 57, rfl⟩
abbrev main_call0_cst_0 : Ref sig .tc := ⟨.hbm, 58, rfl⟩
abbrev main_call0_v4 : Ref sig .tc := ⟨.hbm, 59, rfl⟩
abbrev main_call0_v5 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_cst_2 : Ref sig .tc := ⟨.hbm, 65, rfl⟩
abbrev main_v36 : Ref sig .tc := ⟨.hbm, 66, rfl⟩
abbrev main_v37 : Ref sig .tc := ⟨.hbm, 67, rfl⟩
abbrev main_cst_3 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_cst_4 : Ref sig .tc := ⟨.hbm, 74, rfl⟩
abbrev main_v43 : Ref sig .tc := ⟨.hbm, 75, rfl⟩
abbrev main_v44 : Ref sig .tc := ⟨.hbm, 76, rfl⟩
abbrev main_cst_5 : Ref sig .tc := ⟨.hbm, 77, rfl⟩
abbrev main_v45 : Ref sig .tc := ⟨.hbm, 78, rfl⟩
abbrev main_v46 : Ref sig .tc := ⟨.hbm, 79, rfl⟩
abbrev main_cst_6 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_call1_v0 : Ref sig .tc := ⟨.hbm, 90, rfl⟩
abbrev main_call1_v1 : Ref sig .tc := ⟨.hbm, 91, rfl⟩
abbrev main_call1_cst : Ref sig .tc := ⟨.hbm, 92, rfl⟩
abbrev main_call1_v2 : Ref sig .tc := ⟨.hbm, 93, rfl⟩
abbrev main_call1_v3 : Ref sig .tc := ⟨.hbm, 94, rfl⟩
abbrev main_call1_cst_0 : Ref sig .tc := ⟨.hbm, 95, rfl⟩
abbrev main_call1_v4 : Ref sig .tc := ⟨.hbm, 96, rfl⟩
abbrev main_call1_v5 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_cst_7 : Ref sig .tc := ⟨.hbm, 102, rfl⟩
abbrev main_v60 : Ref sig .tc := ⟨.hbm, 103, rfl⟩
abbrev main_v61 : Ref sig .tc := ⟨.hbm, 104, rfl⟩
abbrev main_cst_8 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_cst_9 : Ref sig .tc := ⟨.hbm, 111, rfl⟩
abbrev main_v67 : Ref sig .tc := ⟨.hbm, 112, rfl⟩
abbrev main_v68 : Ref sig .tc := ⟨.hbm, 113, rfl⟩
abbrev main_cst_10 : Ref sig .tc := ⟨.hbm, 114, rfl⟩
abbrev main_v69 : Ref sig .tc := ⟨.hbm, 115, rfl⟩
abbrev main_v70 : Ref sig .tc := ⟨.hbm, 116, rfl⟩
abbrev main_cst_11 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_cst_12 : Ref sig .tc := ⟨.hbm, 139, rfl⟩
abbrev main_v92 : Ref sig .tc := ⟨.hbm, 140, rfl⟩
abbrev main_v93 : Ref sig .tc := ⟨.hbm, 141, rfl⟩
abbrev main_cst_13 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_cst_14 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_cst_15 : Ref sig .tc := ⟨.hbm, 162, rfl⟩
abbrev main_v112 : Ref sig .tc := ⟨.hbm, 163, rfl⟩
abbrev main_v113 : Ref sig .tc := ⟨.hbm, 164, rfl⟩
abbrev main_cst_16 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_cst_17 : Ref sig .tc := ⟨.hbm, 183, rfl⟩
abbrev main_v131 : Ref sig .tc := ⟨.hbm, 184, rfl⟩
abbrev main_v132 : Ref sig .tc := ⟨.hbm, 185, rfl⟩
abbrev main_cst_18 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev main_v142 : Ref sig .tc := ⟨.hbm, 196, rfl⟩
abbrev main_v143 : Ref sig .tc := ⟨.hbm, 197, rfl⟩
abbrev main_v144 : Ref sig .tc := ⟨.hbm, 198, rfl⟩
abbrev main_v145 : Ref sig .tc := ⟨.hbm, 199, rfl⟩
abbrev main_v146 : Ref sig .tc := ⟨.hbm, 200, rfl⟩
abbrev main_v147 : Ref sig .tc := ⟨.hbm, 201, rfl⟩
abbrev main_v148 : Ref sig .tc := ⟨.hbm, 202, rfl⟩
abbrev main_v149 : Ref sig .tc := ⟨.hbm, 203, rfl⟩
abbrev main_cst_19 : Ref sig .tc := ⟨.hbm, 204, rfl⟩
abbrev main_v150 : Ref sig .tc := ⟨.hbm, 205, rfl⟩
abbrev main_v151 : Ref sig .tc := ⟨.hbm, 206, rfl⟩
abbrev main_cst_20 : Ref sig .tc := ⟨.hbm, 207, rfl⟩
abbrev main_v152 : Ref sig .tc := ⟨.hbm, 208, rfl⟩
abbrev main_v153 : Ref sig .tc := ⟨.hbm, 209, rfl⟩
abbrev main_v154 : Ref sig .tc := ⟨.hbm, 210, rfl⟩
abbrev main_v155 : Ref sig .tc := ⟨.hbm, 211, rfl⟩
abbrev main_v156 : Ref sig .tc := ⟨.hbm, 212, rfl⟩
abbrev main_v157 : Ref sig .tc := ⟨.hbm, 213, rfl⟩
abbrev main_v158 : Ref sig .tc := ⟨.hbm, 214, rfl⟩
abbrev main_v159 : Ref sig .tc := ⟨.hbm, 215, rfl⟩
abbrev main_v160 : Ref sig .tc := ⟨.hbm, 216, rfl⟩
abbrev main_v161 : Ref sig .tc := ⟨.hbm, 217, rfl⟩
abbrev main_v162 : Ref sig .tc := ⟨.hbm, 218, rfl⟩

abbrev nD : Nat := 1
abbrev τ : Topo := Topo.v7x

variable {F : FTy → Type} [FloatOps F]
-- ==== Kernel4.lean ====
abbrev S8x1024 : Shape := ⟨2, ![8, 1024]⟩
abbrev S1024 : Shape := ⟨1, ![1024]⟩
abbrev S2x1024x6144 : Shape := ⟨3, ![2, 1024, 6144]⟩
abbrev S2x6144 : Shape := ⟨2, ![2, 6144]⟩
abbrev S1x1024 : Shape := ⟨2, ![1, 1024]⟩
abbrev S_ : Shape := ⟨0, ![]⟩
abbrev S7x1024 : Shape := ⟨2, ![7, 1024]⟩
abbrev S16x1024 : Shape := ⟨2, ![16, 1024]⟩
abbrev S2x1x6144 : Shape := ⟨3, ![2, 1, 6144]⟩
abbrev S2x16x6144 : Shape := ⟨3, ![2, 16, 6144]⟩
abbrev S1x1024x1536 : Shape := ⟨3, ![1, 1024, 1536]⟩
abbrev S1x1x1536 : Shape := ⟨3, ![1, 1, 1536]⟩
abbrev S1x16x1536 : Shape := ⟨3, ![1, 16, 1536]⟩
abbrev S1024x1536 : Shape := ⟨2, ![1024, 1536]⟩
abbrev S16x1536 : Shape := ⟨2, ![16, 1536]⟩
abbrev S1x1536 : Shape := ⟨2, ![1, 1536]⟩

abbrev nBuf : Space → Nat
  | .hbm => 10
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S2x1024x6144, .f32⟩
  | .hbm, ⟨3, _⟩ => ⟨S2x6144, .f32⟩
  | .hbm, ⟨4, _⟩ => ⟨S1x1024, .f32⟩
  | .hbm, ⟨5, _⟩ => ⟨S_, .f32⟩
  | .hbm, ⟨6, _⟩ => ⟨S7x1024, .f32⟩
  | .hbm, ⟨7, _⟩ => ⟨S16x1024, .f32⟩
  | .hbm, ⟨8, _⟩ => ⟨S2x1x6144, .f32⟩
  | .hbm, ⟨9, _⟩ => ⟨S2x16x6144, .f32⟩
  | .local _ .vmem, ⟨0, _⟩ => ⟨S16x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x16x1536, .f32⟩
  | .local _ .vmem, ⟨6, _⟩ => ⟨S1x16x1536, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S8x1024 : Shape := ⟨2, ![8, 1024]⟩
abbrev S1024 : Shape := ⟨1, ![1024]⟩
abbrev S2x1024x6144 : Shape := ⟨3, ![2, 1024, 6144]⟩
abbrev S2x6144 : Shape := ⟨2, ![2, 6144]⟩
abbrev S1x1024 : Shape := ⟨2, ![1, 1024]⟩
abbrev S_ : Shape := ⟨0, ![]⟩
abbrev S7x1024 : Shape := ⟨2, ![7, 1024]⟩
abbrev S16x1024 : Shape := ⟨2, ![16, 1024]⟩
abbrev S2x6144x16 : Shape := ⟨3, ![2, 6144, 16]⟩
abbrev S2x16x6144 : Shape := ⟨3, ![2, 16, 6144]⟩
abbrev S2x1x6144 : Shape := ⟨3, ![2, 1, 6144]⟩

abbrev nBuf : Space → Nat
  | .hbm => 22
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S2x1024x6144, .f32⟩
  | .hbm, ⟨3, _⟩ => ⟨S2x6144, .f32⟩
  | .hbm, ⟨4, _⟩ => ⟨S1x1024, .f32⟩
  | .hbm, ⟨5, _⟩ => ⟨S_, .f32⟩
  | .hbm, ⟨6, _⟩ => ⟨S7x1024, .f32⟩
  | .hbm, ⟨7, _⟩ => ⟨S16x1024, .f32⟩
  | .hbm, ⟨8, _⟩ => ⟨S16x1024, .f32⟩
  | .hbm, ⟨9, _⟩ => ⟨S16x1024, .f32⟩
  | .hbm, ⟨10, _⟩ => ⟨S_, .f32⟩
  | .hbm, ⟨11, _⟩ => ⟨S16x1024, .f32⟩
  | .hbm, ⟨12, _⟩ => ⟨S16x1024, .f32⟩
  | .hbm, ⟨13, _⟩ => ⟨S_, .f32⟩
  | .hbm, ⟨14, _⟩ => ⟨S16x1024, .f32⟩
  | .hbm, ⟨15, _⟩ => ⟨S16x1024, .f32⟩
  | .hbm, ⟨16, _⟩ => ⟨S16x1024, .f32⟩
  | .hbm, ⟨17, _⟩ => ⟨S2x6144x16, .f32⟩
  | .hbm, ⟨18, _⟩ => ⟨S2x16x6144, .f32⟩
  | .hbm, ⟨19, _⟩ => ⟨S2x1x6144, .f32⟩
  | .hbm, ⟨20, _⟩ => ⟨S2x16x6144, .f32⟩
  | .hbm, ⟨21, _⟩ => ⟨S2x16x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩

abbrev nD : Nat := 1
abbrev τ : Topo := Topo.v7x

variable {F : FTy → Type} [FloatOps F]
-- ==== Kernel5.lean ====
abbrev S8x4096x1024 : Shape := ⟨3, ![8, 4096, 1024]⟩
abbrev S8x6144 : Shape := ⟨2, ![8, 6144]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S1x1024 : Shape := ⟨2, ![1, 1024]⟩
abbrev S1x2816 : Shape := ⟨2, ![1, 2816]⟩
abbrev S8x1x6144 : Shape := ⟨3, ![8, 1, 6144]⟩
abbrev S1x512x1024 : Shape := ⟨3, ![1, 512, 1024]⟩
abbrev S1x8x1024 : Shape := ⟨3, ![1, 8, 1024]⟩
abbrev S1x1x6144 : Shape := ⟨3, ![1, 1, 6144]⟩
abbrev S512x2816 : Shape := ⟨2, ![512, 2816]⟩
abbrev S8x1024 : Shape := ⟨2, ![8, 1024]⟩
abbrev S512x1024 : Shape := ⟨2, ![512, 1024]⟩
abbrev S528x1024 : Shape := ⟨2, ![528, 1024]⟩
abbrev S1x6144 : Shape := ⟨2, ![1, 6144]⟩
abbrev S528 : Shape := ⟨1, ![528]⟩
abbrev S528x1 : Shape := ⟨2, ![528, 1]⟩
abbrev S1024x1024 : Shape := ⟨2, ![1024, 1024]⟩
abbrev S1024x768 : Shape := ⟨2, ![1024, 768]⟩
abbrev S528x768 : Shape := ⟨2, ![528, 768]⟩
abbrev S512x768 : Shape := ⟨2, ![512, 768]⟩
abbrev S1x768 : Shape := ⟨2, ![1, 768]⟩

abbrev nBuf : Space → Nat
  | .hbm => 15
  | .vmem => 17
  | .smem => 0
  | _ => 0

abbrev bufTy : (tb : Table) → Fin (tcTables nBuf tb) → BufTy
  | .hbm, ⟨0, _⟩ => ⟨S8x4096x1024, .f32⟩
  | .hbm, ⟨1, _⟩ => ⟨S8x6144, .f32⟩
  | .hbm, ⟨2, _⟩ => ⟨S1024, .f32⟩
  | .hbm, ⟨3, _⟩ => ⟨S1024x5632, .f32⟩
  | .hbm, ⟨4, _⟩ => ⟨S3x2816, .f32⟩
  | .hbm, ⟨5, _⟩ => ⟨S2816, .f32⟩
  | .hbm, ⟨6, _⟩ => ⟨S2816x1024, .f32⟩
  | .hbm, ⟨7, _⟩ => ⟨S1024, .f32⟩
  | .hbm, ⟨8, _⟩ => ⟨S1x1024, .f32⟩
  | .hbm, ⟨9, _⟩ => ⟨S1024x5632, .bf16⟩
  | .hbm, ⟨10, _⟩ => ⟨S1x2816, .f32⟩
  | .hbm, ⟨11, _⟩ => ⟨S2816x1024, .bf16⟩
  | .hbm, ⟨12, _⟩ => ⟨S8x1x6144, .f32⟩
  | .hbm, ⟨13, _⟩ => ⟨S1x1024, .f32⟩
  | .hbm, ⟨14, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x1x6144, .f32⟩
  | .local _ .vmem, ⟨7, _⟩ => ⟨S1x1x6144, .f32⟩
  | .local _ .vmem, ⟨8, _⟩ => ⟨S1x1024, .f32⟩
  | .local _ .vmem, ⟨9, _⟩ => ⟨S1024x5632, .bf16⟩
  | .local _ .vmem, ⟨10, _⟩ => ⟨S3x2816, .f32⟩
  | .local _ .vmem, ⟨11, _⟩ => ⟨S1x2816, .f32⟩
  | .local _ .vmem, ⟨12, _⟩ => ⟨S2816x1024, .bf16⟩
  | .local _ .vmem, ⟨13, _⟩ => ⟨S1x1024, .f32⟩
  | .local _ .vmem, ⟨14, _⟩ => ⟨S1x512x1024, .f32⟩
  | .local _ .vmem, ⟨15, _⟩ => ⟨S1x512x1024, .f32⟩
  | .local _ .vmem, ⟨16, _⟩ => ⟨S512x2816, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x6144 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S3x2816 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2816 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference5Ideal.lean ====
abbrev S8x4096x1024 : Shape := ⟨3, ![8, 4096, 1024]⟩
abbrev S8x6144 : Shape := ⟨2, ![8, 6144]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S8x1024 : Shape := ⟨2, ![8, 1024]⟩
abbrev S8x1x1024 : Shape := ⟨3, ![8, 1, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x5632 : Shape := ⟨3, ![8, 4096, 5632]⟩
abbrev S8x4096x2816 : Shape := ⟨3, ![8, 4096, 2816]⟩
abbrev S8x4098x2816 : Shape := ⟨3, ![8, 4098, 2816]⟩
abbrev S1x2816 : Shape := ⟨2, ![1, 2816]⟩
abbrev S1x1x2816 : Shape := ⟨3, ![1, 1, 2816]⟩

abbrev nBuf : Space → Nat
  | .hbm => 85
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x6144, .f32⟩
  | .hbm, ⟨2, _⟩ => ⟨S1024, .f32⟩
  | .hbm, ⟨3, _⟩ => ⟨S1024x5632, .f32⟩
  | .hbm, ⟨4, _⟩ => ⟨S3x2816, .f32⟩
  | .hbm, ⟨5, _⟩ => ⟨S2816, .f32⟩
  | .hbm, ⟨6, _⟩ => ⟨S2816x1024, .f32⟩
  | .hbm, ⟨7, _⟩ => ⟨S1024, .f32⟩
  | .hbm, ⟨8, _⟩ => ⟨S8x1024, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S8x1024, .f32⟩
  | .hbm, ⟨13, _⟩ => ⟨S8x1024, .f32⟩
  | .hbm, ⟨14, _⟩ => ⟨S8x1x1024, .f32⟩
  | .hbm, ⟨15, _⟩ => ⟨S8x1x1024, .f32⟩
  | .hbm, ⟨16, _⟩ => ⟨S8x1x1024, .f32⟩
  | .hbm, ⟨17, _⟩ => ⟨S8x1x1024, .f32⟩
  | .hbm, ⟨18, _⟩ => ⟨S8x1x1024, .f32⟩
  | .hbm, ⟨19, _⟩ => ⟨S8x1x1024, .f32⟩
  | .hbm, ⟨20, _⟩ => ⟨S8x4096x1024, .f32⟩
  | .hbm, ⟨21, _⟩ => ⟨S_, .f32⟩
  | .hbm, ⟨22, _⟩ => ⟨S8x4096, .f32⟩
  | .hbm, ⟨23, _⟩ => ⟨S8x4096x1, .f32⟩
  | .hbm, ⟨24, _⟩ => ⟨S_, .f32⟩
  | .hbm, ⟨25, _⟩ => ⟨S8x4096x1, .f32⟩
  | .hbm, ⟨26, _⟩ => ⟨S8x4096x1, .f32⟩
  | .hbm, ⟨27, _⟩ => ⟨S_, .f32⟩
  | .hbm, ⟨28, _⟩ => ⟨S8x4096x1, .f32⟩
  | .hbm, ⟨29, _⟩ => ⟨S8x4096x1, .f32⟩
  | .hbm, ⟨30, _⟩ => ⟨S8x4096x1, .f32⟩
  | .hbm, ⟨31, _⟩ => ⟨S8x4096x1024, .f32⟩
  | .hbm, ⟨32, _⟩ => ⟨S8x4096x1024, .f32⟩
  | .hbm, ⟨33, _⟩ => ⟨S1x1x1024, .f32⟩
  | .hbm, ⟨34, _⟩ => ⟨S8x4096x1024, .f32⟩
  | .hbm, ⟨35, _⟩ => ⟨S8x4096x1024, .f32⟩
  | .hbm, ⟨36, _⟩ => ⟨S_, .f32⟩
  | .hbm, ⟨37, _⟩ => ⟨S8x1x1024, .f32⟩
  | .hbm, ⟨38, _⟩ => ⟨S8x1x1024, .f32⟩
  | .hbm, ⟨39, _⟩ => ⟨S8x4096x1024, .f32⟩
  | .hbm, ⟨40, _⟩ => ⟨S8x4096x1024, .f32⟩
  | .hbm, ⟨41, _⟩ => ⟨S8x4096x1024, .f32⟩
  | .hbm, ⟨42, _⟩ => ⟨S8x4096x1024, .f32⟩
  | .hbm, ⟨43, _⟩ => ⟨S8x4096x5632, .f32⟩
  | .hbm, ⟨44, _⟩ => ⟨S8x4096x2816, .f32⟩
  | .hbm, ⟨45, _⟩ => ⟨S8x4096x2816, .f32⟩
  | .hbm, ⟨46, _⟩ => ⟨S_, .i32⟩
  | .hbm, ⟨47, _⟩ => ⟨S_, .f32⟩
  | .hbm, ⟨48, _⟩ => ⟨S8x4098x2816, .f32⟩
  | .hbm, ⟨49, _⟩ => ⟨S8x4096x2816, .f32⟩
  | .hbm, ⟨50, _⟩ => ⟨S8x4096x2816, .f32⟩
  | .hbm, ⟨51, _⟩ => ⟨S1x2816, .f32⟩
  | .hbm, ⟨52, _⟩ => ⟨S2816, .f32⟩
  | .hbm, ⟨53, _⟩ => ⟨S1x1x2816, .f32⟩
  | .hbm, ⟨54, _⟩ => ⟨S8x4096x2816, .f32⟩
  | .hbm, ⟨55, _⟩ => ⟨S8x4096x2816, .f32⟩
  | .hbm, ⟨56, _⟩ => ⟨S1x2816, .f32⟩
  | .hbm, ⟨57, _⟩ => ⟨S2816, .f32⟩
  | .hbm, ⟨58, _⟩ => ⟨S1x1x2816, .f32⟩
  | .hbm, ⟨59, _⟩ => ⟨S8x4096x2816, .f32⟩
  | .hbm, ⟨60, _⟩ => ⟨S8x4096x2816, .f32⟩
  | .hbm, ⟨61, _⟩ => ⟨S8x4096x2816, .f32⟩
  | .hbm, ⟨62, _⟩ => ⟨S1x2816, .f32⟩
  | .hbm, ⟨63, _⟩ => ⟨S2816, .f32⟩
  | .hbm, ⟨64, _⟩ => ⟨S1x1x2816, .f32⟩
  | .hbm, ⟨65, _⟩ => ⟨S8x4096x2816, .f32⟩
  | .hbm, ⟨66, _⟩ => ⟨S8x4096x2816, .f32⟩
  | .hbm, ⟨67, _⟩ => ⟨S8x4096x2816, .f32⟩
  | .hbm, ⟨68, _⟩ => ⟨S1x1x2816, .f32⟩
  | .hbm, ⟨69, _⟩ => ⟨S8x4096x2816, .f32⟩
  | .hbm, ⟨70, _⟩ => ⟨S8x4096x2816, .f32⟩
  | .hbm, ⟨71, _⟩ => ⟨S8x4096x2816, .f32⟩
  | .hbm, ⟨72, _⟩ => ⟨S8x4096x2816, .f32⟩
  | .hbm, ⟨73, _⟩ => ⟨S_, .f32⟩
  | .hbm, ⟨74, _⟩ => ⟨S8x4096x2816, .f32⟩
  | .hbm, ⟨75, _⟩ => ⟨S8x4096x2816, .f32⟩
  | .hbm, ⟨76, _⟩ => ⟨S_, .f32⟩
  | .hbm, ⟨77, _⟩ => ⟨S8x4096x2816, .f32⟩
  | .hbm, ⟨78, _⟩ => ⟨S8x4096x2816, .f32⟩
  | .hbm, ⟨79, _⟩ => ⟨S8x4096x2816, .f32⟩
  | .hbm, ⟨80, _⟩ => ⟨S8x4096x2816, .f32⟩
  | .hbm, ⟨81, _⟩ => ⟨S8x4096x1024, .f32⟩
  | .hbm, ⟨82, _⟩ => ⟨S8x4096x1024, .f32⟩
  | .hbm, ⟨83, _⟩ => ⟨S8x4096x1024, .f32⟩
  | .hbm, ⟨84, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c : Ref sig .tc := ⟨.hbm, 46, rfl⟩
abbrev main_call0_v0 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_call1_v0 : Ref sig .tc := ⟨.hbm, 71, rfl⟩
abbrev main_call1_v1 : Ref sig .tc := ⟨.hbm, 72, rfl⟩
abbrev main_call1_cst : Ref sig .tc := ⟨.hbm, 73, rfl⟩
abbrev main_call1_v2 : Ref sig .tc := ⟨.hbm, 74, rfl⟩
abbrev main_call1_v3 : Ref sig .tc := ⟨.hbm, 75, rfl⟩
abbrev main_call1_cst_0 : Ref sig .tc := ⟨.hbm, 76, rfl⟩
abbrev main_call1_v4 : Ref sig .tc := ⟨.hbm, 77, rfl⟩
abbrev main_call1_v5 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩

abbrev nD : Nat := 1
abbrev τ : Topo := Topo.v7x

variable {F : FTy → Type} [FloatOps F]
-- ==== Kernel6.lean ====
abbrev S8x4096x1024 : Shape := ⟨3, ![8, 4096, 1024]⟩
abbrev S8x6144 : Shape := ⟨2, ![8, 6144]⟩
abbrev S1024 : Shape := ⟨1, ![1024]⟩
abbrev S1024x3072 : Shape := ⟨2, ![1024, 3072]⟩
abbrev S2x1024x16 : Shape := ⟨3, ![2, 1024, 16]⟩
abbrev S2x16x256 : Shape := ⟨3, ![2, 16, 256]⟩
abbrev S2x256 : Shape := ⟨2, ![2, 256]⟩
abbrev S3x768 : Shape := ⟨2, ![3, 768]⟩
abbrev S3x1024 : Shape := ⟨2, ![3, 1024]⟩
abbrev S2x1024x64 : Shape := ⟨3, ![2, 1024, 64]⟩
abbrev S2x64x256 : Shape := ⟨3, ![2, 64, 256]⟩
abbrev S1024x160 : Shape := ⟨2, ![1024, 160]⟩
abbrev S160x256 : Shape := ⟨2, ![160, 256]⟩
abbrev S256 : Shape := ⟨1, ![256]⟩
abbrev S2x256x256 : Shape := ⟨3, ![2, 256, 256]⟩
abbrev S1x1024x16 : Shape := ⟨3, ![1, 1024, 16]⟩
abbrev S1024x16 : Shape := ⟨2, ![1024, 16]⟩
abbrev S1024x32 : Shape := ⟨2, ![1024, 32]⟩
abbrev S_ : Shape := ⟨0, ![]⟩
abbrev S1024x96 : Shape := ⟨2, ![1024, 96]⟩
abbrev S1024x128 : Shape := ⟨2, ![1024, 128]⟩
abbrev S1x1024x64 : Shape := ⟨3, ![1, 1024, 64]⟩
abbrev S1024x64 : Shape := ⟨2, ![1024, 64]⟩
abbrev S1024x256 : Shape := ⟨2, ![1024, 256]⟩
abbrev S1x1024 : Shape := ⟨2, ![1, 1024]⟩
abbrev S1024x1 : Shape := ⟨2, ![1024, 1]⟩
abbrev S1024x1280 : Shape := ⟨2, ![1024, 1280]⟩
abbrev S1x16x256 : Shape := ⟨3, ![1, 16, 256]⟩
abbrev S16x256 : Shape := ⟨2, ![16, 256]⟩
abbrev S256x256 : Shape := ⟨2, ![256, 256]⟩
abbrev S1 : Shape := ⟨1, ![1]⟩
abbrev S1x64x256 : Shape := ⟨3, ![1, 64, 256]⟩
abbrev S64x256 : Shape := ⟨2, ![64, 256]⟩
abbrev S1x256x256 : Shape := ⟨3, ![1, 256, 256]⟩
abbrev S7x256x256 : Shape := ⟨3, ![7, 256, 256]⟩
abbrev S1x256 : Shape := ⟨2, ![1, 256]⟩
abbrev S9x256 : Shape := ⟨2, ![9, 256]⟩
abbrev S7x256 : Shape := ⟨2, ![7, 256]⟩
abbrev S8x1x6144 : Shape := ⟨3, ![8, 1, 6144]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S4096x32 : Shape := ⟨2, ![4096, 32]⟩
abbrev S4096x64 : Shape := ⟨2, ![4096, 64]⟩
abbrev S1x4096x1x64 : Shape := ⟨4, ![1, 4096, 1, 64]⟩
abbrev S1x4096x4x64 : Shape := ⟨4, ![1, 4096, 4, 64]⟩
abbrev S4096x256 : Shape := ⟨2, ![4096, 256]⟩
abbrev S8x4096x5376 : Shape := ⟨3, ![8, 4096, 5376]⟩
abbrev S8x4096x256 : Shape := ⟨3, ![8, 4096, 256]⟩
abbrev S1x512x1024 : Shape := ⟨3, ![1, 512, 1024]⟩
abbrev S1x8x1024 : Shape := ⟨3, ![1, 8, 1024]⟩
abbrev S1x1x6144 : Shape := ⟨3, ![1, 1, 6144]⟩
abbrev S512x256 : Shape := ⟨2, ![512, 256]⟩
abbrev S1x512x5376 : Shape := ⟨3, ![1, 512, 5376]⟩
abbrev S1x512x256 : Shape := ⟨3, ![1, 512, 256]⟩
abbrev S528x1280 : Shape := ⟨2, ![528, 1280]⟩
abbrev S528x768 : Shape := ⟨2, ![528, 768]⟩
abbrev S8x1024 : Shape := ⟨2, ![8, 1024]⟩
abbrev S512x1024 : Shape := ⟨2, ![512, 1024]⟩
abbrev S528x1024 : Shape := ⟨2, ![528, 1024]⟩
abbrev S1x6144 : Shape := ⟨2, ![1, 6144]⟩
abbrev S528 : Shape := ⟨1, ![528]⟩
abbrev S528x1 : Shape := ⟨2, ![528, 1]⟩
abbrev S1024x768 : Shape := ⟨2, ![1024, 768]⟩
abbrev S512x128 : Shape := ⟨2, ![512, 128]⟩
abbrev S1024x1024 : Shape := ⟨2, ![1024, 1024]⟩
abbrev S1x128x256 : Shape := ⟨3, ![1, 128, 256]⟩
abbrev S128x256 : Shape := ⟨2, ![128, 256]⟩
abbrev S3x256 : Shape := ⟨2, ![3, 256]⟩
abbrev S8x4096x2816 : Shape := ⟨3, ![8, 4096, 2816]⟩

abbrev nBuf : Space → Nat
  | .hbm => 188
  | .vmem => 29
  | .smem => 0
  | _ => 0

abbrev hbmTy0_0 (i : Nat) : BufTy := match i % 128 with
  | 0 => ⟨S8x4096x1024, .f32⟩
  | 1 => ⟨S8x6144, .f32⟩
  | 2 => ⟨S1024, .f32⟩
  | 3 => ⟨S1024x3072, .f32⟩
  | 4 => ⟨S2x1024x16, .f32⟩
  | 5 => ⟨S2x16x256, .f32⟩
  | 6 => ⟨S2x256, .f32⟩
  | 7 => ⟨S3x768, .f32⟩
  | 8 => ⟨S3x1024, .f32⟩
  | 9 => ⟨S2x256, .f32⟩
  | 10 => ⟨S2x1024x64, .f32⟩
  | 11 => ⟨S2x64x256, .f32⟩
  | 12 => ⟨S2x256, .f32⟩
  | 13 => ⟨S2x1024x64, .f32⟩
  | 14 => ⟨S2x64x256, .f32⟩
  | 15 => ⟨S1024x160, .f32⟩
  | 16 => ⟨S160x256, .f32⟩
  | 17 => ⟨S256, .f32⟩
  | 18 => ⟨S256, .f32⟩
  | 19 => ⟨S256, .f32⟩
  | 20 => ⟨S2x256x256, .f32⟩
  | 21 => ⟨S1x1024x16, .f32⟩
  | 22 => ⟨S1024x16, .f32⟩
  | 23 => ⟨S1x1024x16, .f32⟩
  | 24 => ⟨S1024x16, .f32⟩
  | 25 => ⟨S1024x32, .f32⟩
  | 26 => ⟨S_, .f32⟩
  | 27 => ⟨S1024x96, .f32⟩
  | 28 => ⟨S1024x128, .f32⟩
  | 29 => ⟨S1x1024x64, .f32⟩
  | 30 => ⟨S1024x64, .f32⟩
  | 31 => ⟨S1x1024x64, .f32⟩
  | 32 => ⟨S1024x64, .f32⟩
  | 33 => ⟨S1024x128, .f32⟩
  | 34 => ⟨S1x1024x64, .f32⟩
  | 35 => ⟨S1024x64, .f32⟩
  | 36 => ⟨S1x1024x64, .f32⟩
  | 37 => ⟨S1024x64, .f32⟩
  | 38 => ⟨S1024x128, .f32⟩
  | 39 => ⟨S_, .f32⟩
  | 40 => ⟨S1024x96, .f32⟩
  | 41 => ⟨S1024x256, .f32⟩
  | 42 => ⟨S1x1024, .f32⟩
  | 43 => ⟨S1024, .f32⟩
  | 44 => ⟨S1024x1, .f32⟩
  | 45 => ⟨S1024x256, .f32⟩
  | 46 => ⟨S1024x256, .f32⟩
  | 47 => ⟨S1x1024, .f32⟩
  | 48 => ⟨S1024, .f32⟩
  | 49 => ⟨S1024x1, .f32⟩
  | 50 => ⟨S1024x128, .f32⟩
  | 51 => ⟨S1024x128, .f32⟩
  | 52 => ⟨S1x1024, .f32⟩
  | 53 => ⟨S1024, .f32⟩
  | 54 => ⟨S1024x1, .f32⟩
  | 55 => ⟨S1024x128, .f32⟩
  | 56 => ⟨S1024x128, .f32⟩
  | 57 => ⟨S_, .f32⟩
  | 58 => ⟨S1024x128, .f32⟩
  | 59 => ⟨S1024x1280, .f32⟩
  | 60 => ⟨S1x16x256, .f32⟩
  | 61 => ⟨S16x256, .f32⟩
  | 62 => ⟨S_, .f32⟩
  | 63 => ⟨S256x256, .f32⟩
  | 64 => ⟨S_, .i32⟩
  | 65 => ⟨S1, .i32⟩
  | 66 => ⟨S256x256, .f32⟩
  | 67 => ⟨S1x16x256, .f32⟩
  | 68 => ⟨S16x256, .f32⟩
  | 69 => ⟨S_, .f32⟩
  | 70 => ⟨S256x256, .f32⟩
  | 71 => ⟨S_, .i32⟩
  | 72 => ⟨S1, .i32⟩
  | 73 => ⟨S256x256, .f32⟩
  | 74 => ⟨S1x64x256, .f32⟩
  | 75 => ⟨S64x256, .f32⟩
  | 76 => ⟨S_, .f32⟩
  | 77 => ⟨S256x256, .f32⟩
  | 78 => ⟨S_, .i32⟩
  | 79 => ⟨S1, .i32⟩
  | 80 => ⟨S256x256, .f32⟩
  | 81 => ⟨S1x64x256, .f32⟩
  | 82 => ⟨S64x256, .f32⟩
  | 83 => ⟨S_, .f32⟩
  | 84 => ⟨S256x256, .f32⟩
  | 85 => ⟨S_, .i32⟩
  | 86 => ⟨S1, .i32⟩
  | 87 => ⟨S256x256, .f32⟩
  | 88 => ⟨S1x64x256, .f32⟩
  | 89 => ⟨S64x256, .f32⟩
  | 90 => ⟨S_, .f32⟩
  | 91 => ⟨S256x256, .f32⟩
  | 92 => ⟨S_, .i32⟩
  | 93 => ⟨S1, .i32⟩
  | 94 => ⟨S256x256, .f32⟩
  | 95 => ⟨S1x64x256, .f32⟩
  | 96 => ⟨S64x256, .f32⟩
  | 97 => ⟨S_, .f32⟩
  | 98 => ⟨S256x256, .f32⟩
  | 99 => ⟨S_, .i32⟩
  | 100 => ⟨S1, .i32⟩
  | 101 => ⟨S256x256, .f32⟩
  | 102 => ⟨S_, .f32⟩
  | 103 => ⟨S256x256, .f32⟩
  | 104 => ⟨S_, .i32⟩
  | 105 => ⟨S1, .i32⟩
  | 106 => ⟨S256x256, .f32⟩
  | 107 => ⟨S1x256x256, .f32⟩
  | 108 => ⟨S1x256x256, .f32⟩
  | 109 => ⟨S1x256x256, .f32⟩
  | 110 => ⟨S1x256x256, .f32⟩
  | 111 => ⟨S1x256x256, .f32⟩
  | 112 => ⟨S1x256x256, .f32⟩
  | 113 => ⟨S1x256x256, .f32⟩
  | 114 => ⟨S7x256x256, .f32⟩
  | 115 => ⟨S1x256, .f32⟩
  | 116 => ⟨S256, .f32⟩
  | 117 => ⟨S1x256, .f32⟩
  | 118 => ⟨S256, .f32⟩
  | 119 => ⟨S1x256, .f32⟩
  | 120 => ⟨S256, .f32⟩
  | 121 => ⟨S1x256, .f32⟩
  | 122 => ⟨S256, .f32⟩
  | 123 => ⟨S1x256, .f32⟩
  | 124 => ⟨S256, .f32⟩
  | 125 => ⟨S1x256, .f32⟩
  | 126 => ⟨S256, .f32⟩
  | 127 => ⟨S1x256, .f32⟩
  | _ => ⟨S8x4096x1024, .f32⟩

abbrev hbmTy0_1 (i : Nat) : BufTy := match i % 128 with
  | 0 => ⟨S1x256, .f32⟩
  | 1 => ⟨S1x256, .f32⟩
  | 2 => ⟨S1x256, .f32⟩
  | 3 => ⟨S1x256, .f32⟩
  | 4 => ⟨S1x256, .f32⟩
  | 5 => ⟨S1x256, .f32⟩
  | 6 => ⟨S1x256, .f32⟩
  | 7 => ⟨S1x256, .f32⟩
  | 8 => ⟨S9x256, .f32⟩
  | 9 => ⟨S_, .f32⟩
  | 10 => ⟨S7x256, .f32⟩
  | 11 => ⟨S16x256, .f32⟩
  | 12 => ⟨S1x1024, .f32⟩
  | 13 => ⟨S1024x3072, .bf16⟩
  | 14 => ⟨S1024x1280, .bf16⟩
  | 15 => ⟨S7x256x256, .bf16⟩
  | 16 => ⟨S8x1x6144, .f32⟩
  | 17 => ⟨S64, .f32⟩
  | 18 => ⟨S64x64, .f32⟩
  | 19 => ⟨S4096, .f32⟩
  | 20 => ⟨S64, .f32⟩
  | 21 => ⟨S1x64, .f32⟩
  | 22 => ⟨S64x64, .f32⟩
  | 23 => ⟨S4096, .f32⟩
  | 24 => ⟨S16, .f32⟩
  | 25 => ⟨S16, .f32⟩
  | 26 => ⟨S_, .f32⟩
  | 27 => ⟨S16, .f32⟩
  | 28 => ⟨S16, .f32⟩
  | 29 => ⟨S_, .f32⟩
  | 30 => ⟨S16, .f32⟩
  | 31 => ⟨S16, .f32⟩
  | 32 => ⟨S4096x1, .f32⟩
  | 33 => ⟨S1x16, .f32⟩
  | 34 => ⟨S4096x16, .f32⟩
  | 35 => ⟨S4096x16, .f32⟩
  | 36 => ⟨S4096x16, .f32⟩
  | 37 => ⟨S4096x1, .f32⟩
  | 38 => ⟨S1x16, .f32⟩
  | 39 => ⟨S4096x16, .f32⟩
  | 40 => ⟨S4096x16, .f32⟩
  | 41 => ⟨S4096x16, .f32⟩
  | 42 => ⟨S4096x32, .f32⟩
  | 43 => ⟨S4096x32, .f32⟩
  | 44 => ⟨S4096x32, .f32⟩
  | 45 => ⟨S4096x64, .f32⟩
  | 46 => ⟨S4096x32, .f32⟩
  | 47 => ⟨S4096x64, .f32⟩
  | 48 => ⟨S1x4096x1x64, .f32⟩
  | 49 => ⟨S1x4096x4x64, .f32⟩
  | 50 => ⟨S4096x256, .f32⟩
  | 51 => ⟨S1x4096x1x64, .f32⟩
  | 52 => ⟨S1x4096x4x64, .f32⟩
  | 53 => ⟨S4096x256, .f32⟩
  | 54 => ⟨S2x256x256, .bf16⟩
  | 55 => ⟨S8x4096x5376, .f32⟩
  | 56 => ⟨S8x4096x1024, .bf16⟩
  | 57 => ⟨S8x4096x256, .f32⟩
  | 58 => ⟨S8x4096x256, .f32⟩
  | 59 => ⟨S8x4096x2816, .f32⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | .local _ .vmem, ⟨0, _⟩ => ⟨S1x512x1024, .f32⟩
  | .local _ .vmem, ⟨1, _⟩ => ⟨S1x512x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x1x6144, .f32⟩
  | .local _ .vmem, ⟨7, _⟩ => ⟨S1x1x6144, .f32⟩
  | .local _ .vmem, ⟨8, _⟩ => ⟨S1x1024, .f32⟩
  | .local _ .vmem, ⟨9, _⟩ => ⟨S1024x3072, .bf16⟩
  | .local _ .vmem, ⟨10, _⟩ => ⟨S1024x1280, .bf16⟩
  | .local _ .vmem, ⟨11, _⟩ => ⟨S7x256x256, .bf16⟩
  | .local _ .vmem, ⟨12, _⟩ => ⟨S16x256, .f32⟩
  | .local _ .vmem, ⟨13, _⟩ => ⟨S3x768, .f32⟩
  | .local _ .vmem, ⟨14, _⟩ => ⟨S2x256x256, .bf16⟩
  | .local _ .vmem, ⟨15, _⟩ => ⟨S512x256, .f32⟩
  | .local _ .vmem, ⟨16, _⟩ => ⟨S512x256, .f32⟩
  | .local _ .vmem, ⟨17, _⟩ => ⟨S512x256, .f32⟩
  | .local _ .vmem, ⟨18, _⟩ => ⟨S512x256, .f32⟩
  | .local _ .vmem, ⟨19, _⟩ => ⟨S1x512x5376, .f32⟩
  | .local _ .vmem, ⟨20, _⟩ => ⟨S1x512x5376, .f32⟩
  | .local _ .vmem, ⟨21, _⟩ => ⟨S1x512x1024, .bf16⟩
  | .local _ .vmem, ⟨22, _⟩ => ⟨S1x512x1024, .bf16⟩
  | .local _ .vmem, ⟨23, _⟩ => ⟨S1x512x256, .f32⟩
  | .local _ .vmem, ⟨24, _⟩ => ⟨S1x512x256, .f32⟩
  | .local _ .vmem, ⟨25, _⟩ => ⟨S1x512x256, .f32⟩
  | .local _ .vmem, ⟨26, _⟩ => ⟨S1x512x256, .f32⟩
  | .local _ .vmem, ⟨27, _⟩ => ⟨S528x1280, .f32⟩
  | .local _ .vmem, ⟨28, _⟩ => ⟨S528x768, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_cst : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_cst_0 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_cst_1 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_2 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_3 : Ref sig .tc := ⟨.hbm, 62, rfl⟩
abbrev main_v38 : Ref sig .tc := ⟨.hbm, 63, rfl⟩
abbrev main_c : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_4 : Ref sig .tc := ⟨.hbm, 69, rfl⟩
abbrev main_v43 : Ref sig .tc := ⟨.hbm, 70, rfl⟩
abbrev main_c_5 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_cst_6 : Ref sig .tc := ⟨.hbm, 76, rfl⟩
abbrev main_v48 : Ref sig .tc := ⟨.hbm, 77, rfl⟩
abbrev main_c_7 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_cst_8 : Ref sig .tc := ⟨.hbm, 83, rfl⟩
abbrev main_v53 : Ref sig .tc := ⟨.hbm, 84, rfl⟩
abbrev main_c_9 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_cst_10 : Ref sig .tc := ⟨.hbm, 90, rfl⟩
abbrev main_v58 : Ref sig .tc := ⟨.hbm, 91, rfl⟩
abbrev main_c_11 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_cst_12 : Ref sig .tc := ⟨.hbm, 97, rfl⟩
abbrev main_v63 : Ref sig .tc := ⟨.hbm, 98, rfl⟩
abbrev main_c_13 : Ref sig .tc := ⟨.hbm, 99, rfl⟩
abbrev main_v64 : Ref sig .tc := ⟨.hbm, 100, rfl⟩
abbrev main_v65 : Ref sig .tc := ⟨.hbm, 101, rfl⟩
abbrev main_cst_14 : Ref sig .tc := ⟨.hbm, 102, rfl⟩
abbrev main_v66 : Ref sig .tc := ⟨.hbm, 103, rfl⟩
abbrev main_c_15 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_cst_16 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_cst_17 : Ref sig .tc := ⟨.hbm, 154, rfl⟩
abbrev main_v115 : Ref sig .tc := ⟨.hbm, 155, rfl⟩
abbrev main_v116 : Ref sig .tc := ⟨.hbm, 156, rfl⟩
abbrev main_cst_18 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_v142_0 : Ref sig .tc := ⟨.hbm, 183, rfl⟩
abbrev main_v142_1 : Ref sig .tc := ⟨.hbm, 184, rfl⟩
abbrev main_v142_2 : Ref sig .tc := ⟨.hbm, 185, rfl⟩
abbrev main_v142_3 : Ref sig .tc := ⟨.hbm, 186, rfl⟩
abbrev main_v143 : Ref sig .tc := ⟨.hbm, 187, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_scratch0 : Ref sig .tc := ⟨.vmem, 27, rfl⟩
abbrev cc0_scratch1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x6144 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x3072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1280 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S7x256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S16x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S3x768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S2x256x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S512x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S1x512x5376 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== Reference6Ideal.lean ====
abbrev S8x4096x1024 : Shape := ⟨3, ![8, 4096, 1024]⟩
abbrev S8x6144 : Shape := ⟨2, ![8, 6144]⟩
abbrev S1024 : Shape := ⟨1, ![1024]⟩
abbrev S1024x3072 : Shape := ⟨2, ![1024, 3072]⟩
abbrev S2x1024x16 : Shape := ⟨3, ![2, 1024, 16]⟩
abbrev S2x16x256 : Shape := ⟨3, ![2, 16, 256]⟩
abbrev S2x256 : Shape := ⟨2, ![2, 256]⟩
abbrev S3x768 : Shape := ⟨2, ![3, 768]⟩
abbrev S3x1024 : Shape := ⟨2, ![3, 1024]⟩
abbrev S2x1024x64 : Shape := ⟨3, ![2, 1024, 64]⟩
abbrev S2x64x256 : Shape := ⟨3, ![2, 64, 256]⟩
abbrev S1024x160 : Shape := ⟨2, ![1024, 160]⟩
abbrev S160x256 : Shape := ⟨2, ![160, 256]⟩
abbrev S256 : Shape := ⟨1, ![256]⟩
abbrev S8x1024 : Shape := ⟨2, ![8, 1024]⟩
abbrev S8x1x1024 : Shape := ⟨3, ![8, 1, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x3072 : Shape := ⟨3, ![8, 4096, 3072]⟩
abbrev S8x4096x256 : Shape := ⟨3, ![8, 4096, 256]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S4096x32 : Shape := ⟨2, ![4096, 32]⟩
abbrev S8x4096x4x64 : Shape := ⟨4, ![8, 4096, 4, 64]⟩
abbrev S8x4x4096x64 : Shape := ⟨4, ![8, 4, 4096, 64]⟩
abbrev S8x4x4096x32 : Shape := ⟨4, ![8, 4, 4096, 32]⟩
abbrev S1x1x4096x32 : Shape := ⟨4, ![1, 1, 4096, 32]⟩
abbrev S8x4096x768 : Shape := ⟨3, ![8, 4096, 768]⟩
abbrev S8x4098x768 : Shape := ⟨3, ![8, 4098, 768]⟩
abbrev S1x768 : Shape := ⟨2, ![1, 768]⟩
abbrev S768 : Shape := ⟨1, ![768]⟩
abbrev S1x1x768 : Shape := ⟨3, ![1, 1, 768]⟩
abbrev S1x1x256 : Shape := ⟨3, ![1, 1, 256]⟩
abbrev S8x4096x4 : Shape := ⟨3, ![8, 4096, 4]⟩
abbrev S8x4096x4x1 : Shape := ⟨4, ![8, 4096, 4, 1]⟩
abbrev S8x4096x2816 : Shape := ⟨3, ![8, 4096, 2816]⟩

abbrev nBuf : Space → Nat
  | .hbm => 187
  | .vmem => 0
  | .smem => 0
  | _ => 0

abbrev hbmTy0_0 (i : Nat) : BufTy := match i % 128 with
  | 0 => ⟨S8x4096x1024, .f32⟩
  | 1 => ⟨S8x6144, .f32⟩
  | 2 => ⟨S1024, .f32⟩
  | 3 => ⟨S1024x3072, .f32⟩
  | 4 => ⟨S2x1024x16, .f32⟩
  | 5 => ⟨S2x16x256, .f32⟩
  | 6 => ⟨S2x256, .f32⟩
  | 7 => ⟨S3x768, .f32⟩
  | 8 => ⟨S3x1024, .f32⟩
  | 9 => ⟨S2x256, .f32⟩
  | 10 => ⟨S2x1024x64, .f32⟩
  | 11 => ⟨S2x64x256, .f32⟩
  | 12 => ⟨S2x256, .f32⟩
  | 13 => ⟨S2x1024x64, .f32⟩
  | 14 => ⟨S2x64x256, .f32⟩
  | 15 => ⟨S1024x160, .f32⟩
  | 16 => ⟨S160x256, .f32⟩
  | 17 => ⟨S256, .f32⟩
  | 18 => ⟨S256, .f32⟩
  | 19 => ⟨S256, .f32⟩
  | 20 => ⟨S8x1024, .f32⟩
  | 21 => ⟨S8x1024, .f32⟩
  | 22 => ⟨S8x1024, .f32⟩
  | 23 => ⟨S8x1024, .f32⟩
  | 24 => ⟨S8x1024, .f32⟩
  | 25 => ⟨S8x1024, .f32⟩
  | 26 => ⟨S8x1x1024, .f32⟩
  | 27 => ⟨S8x1x1024, .f32⟩
  | 28 => ⟨S8x1x1024, .f32⟩
  | 29 => ⟨S8x1x1024, .f32⟩
  | 30 => ⟨S8x1x1024, .f32⟩
  | 31 => ⟨S8x1x1024, .f32⟩
  | 32 => ⟨S8x4096x1024, .f32⟩
  | 33 => ⟨S_, .f32⟩
  | 34 => ⟨S8x4096, .f32⟩
  | 35 => ⟨S8x4096x1, .f32⟩
  | 36 => ⟨S_, .f32⟩
  | 37 => ⟨S8x4096x1, .f32⟩
  | 38 => ⟨S8x4096x1, .f32⟩
  | 39 => ⟨S_, .f32⟩
  | 40 => ⟨S8x4096x1, .f32⟩
  | 41 => ⟨S8x4096x1, .f32⟩
  | 42 => ⟨S8x4096x1, .f32⟩
  | 43 => ⟨S8x4096x1024, .f32⟩
  | 44 => ⟨S8x4096x1024, .f32⟩
  | 45 => ⟨S1x1x1024, .f32⟩
  | 46 => ⟨S8x4096x1024, .f32⟩
  | 47 => ⟨S8x4096x1024, .f32⟩
  | 48 => ⟨S_, .f32⟩
  | 49 => ⟨S8x1x1024, .f32⟩
  | 50 => ⟨S8x1x1024, .f32⟩
  | 51 => ⟨S8x4096x1024, .f32⟩
  | 52 => ⟨S8x4096x1024, .f32⟩
  | 53 => ⟨S8x4096x1024, .f32⟩
  | 54 => ⟨S8x4096x1024, .f32⟩
  | 55 => ⟨S8x4096x3072, .f32⟩
  | 56 => ⟨S8x4096x256, .f32⟩
  | 57 => ⟨S8x4096x256, .f32⟩
  | 58 => ⟨S8x4096x256, .f32⟩
  | 59 => ⟨S8x4096x256, .f32⟩
  | 60 => ⟨S8x4096x256, .f32⟩
  | 61 => ⟨S8x4096x256, .f32⟩
  | 62 => ⟨S8x4096x256, .f32⟩
  | 63 => ⟨S8x4096x256, .f32⟩
  | 64 => ⟨S8x4096x256, .f32⟩
  | 65 => ⟨S8x4096x256, .f32⟩
  | 66 => ⟨S8x4096x256, .f32⟩
  | 67 => ⟨S8x4096x256, .f32⟩
  | 68 => ⟨S64, .f32⟩
  | 69 => ⟨S64x64, .f32⟩
  | 70 => ⟨S4096, .f32⟩
  | 71 => ⟨S64, .f32⟩
  | 72 => ⟨S1x64, .f32⟩
  | 73 => ⟨S64x64, .f32⟩
  | 74 => ⟨S4096, .f32⟩
  | 75 => ⟨S16, .f32⟩
  | 76 => ⟨S16, .f32⟩
  | 77 => ⟨S_, .f32⟩
  | 78 => ⟨S16, .f32⟩
  | 79 => ⟨S16, .f32⟩
  | 80 => ⟨S_, .f32⟩
  | 81 => ⟨S16, .f32⟩
  | 82 => ⟨S16, .f32⟩
  | 83 => ⟨S4096x1, .f32⟩
  | 84 => ⟨S1x16, .f32⟩
  | 85 => ⟨S4096x16, .f32⟩
  | 86 => ⟨S4096x16, .f32⟩
  | 87 => ⟨S4096x16, .f32⟩
  | 88 => ⟨S4096x1, .f32⟩
  | 89 => ⟨S1x16, .f32⟩
  | 90 => ⟨S4096x16, .f32⟩
  | 91 => ⟨S4096x16, .f32⟩
  | 92 => ⟨S4096x16, .f32⟩
  | 93 => ⟨S4096x32, .f32⟩
  | 94 => ⟨S4096x32, .f32⟩
  | 95 => ⟨S4096x32, .f32⟩
  | 96 => ⟨S8x4096x4x64, .f32⟩
  | 97 => ⟨S8x4x4096x64, .f32⟩
  | 98 => ⟨S8x4x4096x32, .f32⟩
  | 99 => ⟨S8x4x4096x32, .f32⟩
  | 100 => ⟨S1x1x4096x32, .f32⟩
  | 101 => ⟨S8x4x4096x32, .f32⟩
  | 102 => ⟨S8x4x4096x32, .f32⟩
  | 103 => ⟨S1x1x4096x32, .f32⟩
  | 104 => ⟨S8x4x4096x32, .f32⟩
  | 105 => ⟨S8x4x4096x32, .f32⟩
  | 106 => ⟨S8x4x4096x32, .f32⟩
  | 107 => ⟨S1x1x4096x32, .f32⟩
  | 108 => ⟨S8x4x4096x32, .f32⟩
  | 109 => ⟨S8x4x4096x32, .f32⟩
  | 110 => ⟨S1x1x4096x32, .f32⟩
  | 111 => ⟨S8x4x4096x32, .f32⟩
  | 112 => ⟨S8x4x4096x32, .f32⟩
  | 113 => ⟨S8x4x4096x32, .f32⟩
  | 114 => ⟨S8x4x4096x64, .f32⟩
  | 115 => ⟨S8x4096x4x64, .f32⟩
  | 116 => ⟨S8x4x4096x64, .f32⟩
  | 117 => ⟨S_, .f32⟩
  | 118 => ⟨S8x4x4096x64, .f32⟩
  | 119 => ⟨S8x4x4096x64, .f32⟩
  | 120 => ⟨S8x4x4096x32, .f32⟩
  | 121 => ⟨S8x4x4096x32, .f32⟩
  | 122 => ⟨S1x1x4096x32, .f32⟩
  | 123 => ⟨S8x4x4096x32, .f32⟩
  | 124 => ⟨S8x4x4096x32, .f32⟩
  | 125 => ⟨S1x1x4096x32, .f32⟩
  | 126 => ⟨S8x4x4096x32, .f32⟩
  | 127 => ⟨S8x4x4096x32, .f32⟩
  | _ => ⟨S8x4096x1024, .f32⟩

abbrev hbmTy0_1 (i : Nat) : BufTy := match i % 128 with
  | 0 => ⟨S8x4x4096x32, .f32⟩
  | 1 => ⟨S1x1x4096x32, .f32⟩
  | 2 => ⟨S8x4x4096x32, .f32⟩
  | 3 => ⟨S8x4x4096x32, .f32⟩
  | 4 => ⟨S1x1x4096x32, .f32⟩
  | 5 => ⟨S8x4x4096x32, .f32⟩
  | 6 => ⟨S8x4x4096x32, .f32⟩
  | 7 => ⟨S8x4x4096x32, .f32⟩
  | 8 => ⟨S8x4x4096x64, .f32⟩
  | 9 => ⟨S8x4096x768, .f32⟩
  | 10 => ⟨S_, .i32⟩
  | 11 => ⟨S_, .f32⟩
  | 12 => ⟨S8x4098x768, .f32⟩
  | 13 => ⟨S8x4096x768, .f32⟩
  | 14 => ⟨S8x4096x768, .f32⟩
  | 15 => ⟨S1x768, .f32⟩
  | 16 => ⟨S768, .f32⟩
  | 17 => ⟨S1x1x768, .f32⟩
  | 18 => ⟨S8x4096x768, .f32⟩
  | 19 => ⟨S8x4096x768, .f32⟩
  | 20 => ⟨S1x768, .f32⟩
  | 21 => ⟨S768, .f32⟩
  | 22 => ⟨S1x1x768, .f32⟩
  | 23 => ⟨S8x4096x768, .f32⟩
  | 24 => ⟨S8x4096x768, .f32⟩
  | 25 => ⟨S8x4096x768, .f32⟩
  | 26 => ⟨S1x768, .f32⟩
  | 27 => ⟨S768, .f32⟩
  | 28 => ⟨S1x1x768, .f32⟩
  | 29 => ⟨S8x4096x768, .f32⟩
  | 30 => ⟨S8x4096x768, .f32⟩
  | 31 => ⟨S8x4096x768, .f32⟩
  | 32 => ⟨S8x4096x256, .f32⟩
  | 33 => ⟨S8x4096x256, .f32⟩
  | 34 => ⟨S8x4096x256, .f32⟩
  | 35 => ⟨S1x1x256, .f32⟩
  | 36 => ⟨S8x4096x256, .f32⟩
  | 37 => ⟨S8x4096x256, .f32⟩
  | 38 => ⟨S8x4096x4x64, .f32⟩
  | 39 => ⟨S8x4096x4x64, .f32⟩
  | 40 => ⟨S_, .f32⟩
  | 41 => ⟨S8x4096x4, .f32⟩
  | 42 => ⟨S8x4096x4x1, .f32⟩
  | 43 => ⟨S_, .f32⟩
  | 44 => ⟨S8x4096x4x1, .f32⟩
  | 45 => ⟨S8x4096x4x1, .f32⟩
  | 46 => ⟨S8x4096x4x1, .f32⟩
  | 47 => ⟨S8x4096x4x64, .f32⟩
  | 48 => ⟨S8x4096x4x64, .f32⟩
  | 49 => ⟨S_, .f32⟩
  | 50 => ⟨S8x4096x256, .f32⟩
  | 51 => ⟨S8x4096x256, .f32⟩
  | 52 => ⟨S8x4096x4x64, .f32⟩
  | 53 => ⟨S8x4096x256, .f32⟩
  | 54 => ⟨S8x4096x4x64, .f32⟩
  | 55 => ⟨S8x4096x256, .f32⟩
  | 56 => ⟨S8x4096x256, .f32⟩
  | 57 => ⟨S8x4096x2816, .f32⟩
  | 58 => ⟨S8x4096x1024, .bf16⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_cst : Ref sig .tc := ⟨.hbm, 33, rfl⟩
abbrev main_v13 : Ref sig .tc := ⟨.hbm, 34, rfl⟩
abbrev main_v14 : Ref sig .tc := ⟨.hbm, 35, rfl⟩
abbrev main_cst_0 : Ref sig .tc := ⟨.hbm, 36, rfl⟩
abbrev main_v15 : Ref sig .tc := ⟨.hbm, 37, rfl⟩
abbrev main_v16 : Ref sig .tc := ⟨.hbm, 38, rfl⟩
abbrev main_cst_1 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_cst_2 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_3 : Ref sig .tc := ⟨.hbm, 77, rfl⟩
abbrev main_v53 : Ref sig .tc := ⟨.hbm, 78, rfl⟩
abbrev main_v54 : Ref sig .tc := ⟨.hbm, 79, rfl⟩
abbrev main_cst_4 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_cst_5 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_c : Ref sig .tc := ⟨.hbm, 138, rfl⟩
abbrev main_call0_v0 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_cst_6 : Ref sig .tc := ⟨.hbm, 168, rfl⟩
abbrev main_v139 : Ref sig .tc := ⟨.hbm, 169, rfl⟩
abbrev main_v140 : Ref sig .tc := ⟨.hbm, 170, rfl⟩
abbrev main_cst_7 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_cst_8 : Ref sig .tc := ⟨.hbm, 177, rfl⟩
abbrev main_v146 : Ref sig .tc := ⟨.hbm, 178, rfl⟩
abbrev main_v147 : Ref sig .tc := ⟨.hbm, 179, rfl⟩
abbrev main_v148 : Ref sig .tc := ⟨.hbm, 180, rfl⟩
abbrev main_v149 : Ref sig .tc := ⟨.hbm, 181, rfl⟩
abbrev main_v150 : Ref sig .tc := ⟨.hbm, 182, rfl⟩
abbrev main_v151 : Ref sig .tc := ⟨.hbm, 183, rfl⟩
abbrev main_v152 : Ref sig .tc := ⟨.hbm, 184, rfl⟩
abbrev main_v153 : Ref sig .tc := ⟨.hbm, 185, rfl⟩
abbrev main_v154 : Ref sig .tc := ⟨.hbm, 186, rfl⟩

abbrev nD : Nat := 1
abbrev τ : Topo := Topo.v7x

variable {F : FTy → Type} [FloatOps F]
-- ==== Proof.RetMath.lean ====
/- The retention recurrence over the real numbers: the state after any number of tokens, what a token reads
   from it, and the block forms both programs compute. -/
module

public import Idealize.ShloMosaic.Lib.Pipeline.ValueKit

@[expose] public section

noncomputable section

namespace Cert.Retention

/-- The state after `n` tokens: each token decays it by `exp L` and adds its key times its value. -/
def state (L : ℝ) (k v : ℕ → Fin 64 → ℝ) (S0 : Fin 64 → Fin 64 → ℝ) : ℕ → Fin 64 → Fin 64 → ℝ
  | 0 => S0
  | n + 1 => fun d e => Real.exp L * state L k v S0 n d e + k n d * v n e

/-- What token `n` reads: its query against the state that already holds the token. -/
def out (L : ℝ) (q k v : ℕ → Fin 64 → ℝ) (S0 : Fin 64 → Fin 64 → ℝ) (n : ℕ) (e : Fin 64) : ℝ :=
  ∑ d : Fin 64, q n d * state L k v S0 (n + 1) d e

variable (L : ℝ) (q k v : ℕ → Fin 64 → ℝ) (S0 : Fin 64 → Fin 64 → ℝ)

/-- The state `C` tokens on: the old one decayed, and each new token's product decayed by the tokens after it. -/
theorem state_add (n C : ℕ) (d e : Fin 64) :
    state L k v S0 (n + C) d e = Real.exp (C * L) * state L k v S0 n d e
      + ∑ j : Fin C, (k (n + j) d * Real.exp (((C : ℝ) - 1 - (j : ℕ)) * L)) * v (n + j) e := by
  induction C with
  | zero => simp
  | succ C ih =>
    rw [← Nat.add_assoc]
    show Real.exp L * state L k v S0 (n + C) d e + k (n + C) d * v (n + C) e = _
    rw [ih, Fin.sum_univ_castSucc, mul_add, Finset.mul_sum]
    have h1 : Real.exp L * (Real.exp (C * L) * state L k v S0 n d e)
        = Real.exp (((C + 1 : ℕ) : ℝ) * L) * state L k v S0 n d e := by
      rw [← mul_assoc, ← Real.exp_add]; push_cast; ring_nf
    have h2 : ∀ j : Fin C, Real.exp L * ((k (n + j) d * Real.exp (((C : ℝ) - 1 - (j : ℕ)) * L)) * v (n + j) e)
        = (k (n + (j.castSucc : Fin (C + 1))) d
            * Real.exp ((((C + 1 : ℕ) : ℝ) - 1 - ((j.castSucc : Fin (C + 1)) : ℕ)) * L)) * v (n + (j.castSucc : Fin (C + 1))) e := by
      intro j
      have : Real.exp ((((C + 1 : ℕ) : ℝ) - 1 - (j : ℕ)) * L)
          = Real.exp L * Real.exp (((C : ℝ) - 1 - (j : ℕ)) * L) := by
        rw [← Real.exp_add]; push_cast; ring_nf
      rw [Fin.val_castSucc, this]; ring
    rw [h1, Finset.sum_congr rfl fun j _ => h2 j, add_assoc]
    congr 2
    simp

/-- A sum over the first `i + 1` places of a block is the sum over the whole block of what a mask keeps. -/
theorem sum_prefix (C : ℕ) (i : Fin C) (f : ℕ → ℝ) :
    ∑ j : Fin (i + 1), f j = ∑ j : Fin C, if (j : ℕ) ≤ i then f j else 0 := by
  rw [Fin.sum_univ_eq_sum_range (fun j => f j) (i + 1),
    Fin.sum_univ_eq_sum_range (fun j => if j ≤ (i : ℕ) then f j else 0) C, ← Finset.sum_filter]
  refine Finset.sum_congr ?_ fun _ _ => rfl
  ext j
  simp only [Finset.mem_range, Finset.mem_filter]
  have := i.isLt
  omega

/-- The `i`-th token of a block of `C` starting after `n` tokens: the masked, decayed scores of the block against
    its values, and the query, decayed, against the state before the block. -/
theorem out_add (n C : ℕ) (i : Fin C) (e : Fin 64) :
    out L q k v S0 (n + i) e
      = (∑ j : Fin C, ((∑ d : Fin 64, q (n + i) d * k (n + j) d)
            * (if (j : ℕ) ≤ i then Real.exp ((((i : ℕ) : ℝ) - (j : ℕ)) * L) else 0)) * v (n + j) e)
        + ∑ d : Fin 64, (q (n + i) d * Real.exp ((((i : ℕ) : ℝ) + 1) * L)) * state L k v S0 n d e := by
  have hs : ∀ d : Fin 64, q (n + i) d * state L k v S0 (n + i + 1) d e
      = (∑ j : Fin C, (q (n + i) d * k (n + j) d)
            * ((if (j : ℕ) ≤ i then Real.exp ((((i : ℕ) : ℝ) - (j : ℕ)) * L) else 0) * v (n + j) e))
        + (q (n + i) d * Real.exp ((((i : ℕ) : ℝ) + 1) * L)) * state L k v S0 n d e := by
    intro d
    have hp := sum_prefix C i fun j =>
      (k (n + j) d * Real.exp ((((i + 1 : ℕ) : ℝ) - 1 - j) * L)) * v (n + j) e
    rw [Nat.add_assoc, state_add, hp, mul_add, Finset.mul_sum, add_comm]
    congr 1
    · refine Finset.sum_congr rfl fun j _ => ?_
      split
      · push_cast; rw [add_sub_cancel_right]; ring
      · ring
    · push_cast; ring
  rw [out, Finset.sum_congr rfl fun d _ => hs d, Finset.sum_add_distrib, Finset.sum_comm]
  congr 1
  refine Finset.sum_congr rfl fun j _ => ?_
  rw [← Finset.sum_mul, mul_assoc]

end Cert.Retention

end
-- ==== Proof.RetSpec.lean ====
/- What the retention claim is stated with: a head's decay rate and a head's lanes read in a direction's own order, and
   the facts that carry extended reals to real numbers. -/
module

public import proofs.«01_k».proof.Proof.RetMath

@[expose] public section

set_option maxRecDepth 16384

noncomputable section

open Idealize.ShloMosaic Idealize.ShloMosaic.TcCoe

namespace Cert.Retention

/-- A sum of real numbers, taken among the extended reals, is the real sum. -/
theorem sum_coe {ι : Type} [Fintype ι] (f : ι → ℝ) : ∑ i, ((f i : ℝ) : EReal) = ((∑ i, f i : ℝ) : EReal) :=
  (map_sum (⟨⟨fun x : ℝ => (x : EReal), rfl⟩, EReal.coe_add⟩ : ℝ →+ EReal) f Finset.univ).symm

/-- A word holding a number below `2 ^ 31`, as a float, is that number. -/
theorem sitofp_ofNat (n : ℕ) (hn : n < 2 ^ 31) :
    FloatOps.sitofp (F := Ideal) .f32 (BitVec.ofNat 32 n) = (((n : ℕ) : ℝ) : EReal) := by
  have : (BitVec.ofNat 32 n).toInt = n := by
    rw [BitVec.toInt_eq_toNat_cond, BitVec.toNat_ofNat, Nat.mod_eq_of_lt (by omega)]
    split <;> omega
  show (((BitVec.ofNat 32 n).toInt : ℝ) : EReal) = _
  rw [this]; simp

/-- A choice by the equality of two small words is a choice by the equality of their numbers. -/
theorem select_eq {α : Type} (a b : ℕ) (ha : a < 2 ^ 32) (hb : b < 2 ^ 32) (x y : α) :
    Scalar.select (IntOp.cmpi .eq (BitVec.ofNat 32 a) (BitVec.ofNat 32 b)) x y = if a = b then x else y := by
  by_cases e : a = b
  · subst e
    simp [Scalar.select, IntOp.cmpi]
  · have hne : BitVec.ofNat 32 a ≠ BitVec.ofNat 32 b := fun h => e (by
      have := congrArg BitVec.toNat h
      rwa [BitVec.toNat_ofNat, BitVec.toNat_ofNat, Nat.mod_eq_of_lt ha, Nat.mod_eq_of_lt hb] at this)
    have hb : (BitVec.ofNat 32 a == BitVec.ofNat 32 b) = false := beq_false_of_ne hne
    simp only [Scalar.select, IntOp.cmpi, hb, if_neg e]
    rfl

/-- Arrays of three axes are equal when they agree at every coordinate. -/
theorem ext3 {n0 n1 n2 : ℕ} {α : Type} {f g : (⟨3, ![n0, n1, n2]⟩ : Shape).Idx → α}
    (h : ∀ a b c, f (ix3 a b c) = g (ix3 a b c)) : f = g :=
  funext fun y => by rw [eq_ix3 y]; exact h _ _ _

/-- Arrays of four axes are equal when they agree at every coordinate. -/
theorem ext4 {n0 n1 n2 n3 : ℕ} {α : Type} {f g : (⟨4, ![n0, n1, n2, n3]⟩ : Shape).Idx → α}
    (h : ∀ a b c d, f (ix4 a b c d) = g (ix4 a b c d)) : f = g :=
  funext fun y => by rw [eq_ix4 y]; exact h _ _ _ _

/-- The literal that turns a power of two into an exponential. -/
def lnTwo : ℝ := 11629080 * 2 ^ (-24 : ℤ)

theorem lnTwo_pos : 0 < lnTwo := by unfold lnTwo; positivity

theorem ofBits_lnTwo : Ideal.ofBits .f32 0x3F317218#32 = ((lnTwo : ℝ) : EReal) := by
  unfold lnTwo
  simp [Ideal.ofBits, Ideal.ieee]

theorem ofBits_neg5 : Ideal.ofBits .f32 0xC0A00000#32 = (((-5 : ℝ)) : EReal) := by
  simp [Ideal.ofBits, Ideal.ieee]
  norm_cast
  norm_num

theorem ofBits_63 : Ideal.ofBits .f32 0x427C0000#32 = (((63 : ℝ)) : EReal) := by
  simp [Ideal.ofBits, Ideal.ieee]
  norm_cast
  norm_num

theorem ofBits_64 : Ideal.ofBits .f32 0x42800000#32 = (((64 : ℝ)) : EReal) := by
  simp [Ideal.ofBits, Ideal.ieee]
  norm_cast
  norm_num

theorem ofBits_127 : Ideal.ofBits .f32 0x42FE0000#32 = (((127 : ℝ)) : EReal) := by
  simp [Ideal.ofBits, Ideal.ieee]
  norm_cast
  norm_num

theorem ofBits_128 : Ideal.ofBits .f32 0x43000000#32 = (((128 : ℝ)) : EReal) := by
  simp [Ideal.ofBits, Ideal.ieee]
  norm_cast
  norm_num

/-- The logarithm of the decay `1 - 2 ^ (-5 - h)`, the power written as the programs write it. -/
def dec (h : ℕ) : ℝ := Real.log (1 - Real.exp (lnTwo * (-5 - h)))

/-- The programs' logarithm of a decay is a real number, `dec`. -/
theorem dec_eq (h : ℕ) (hh : h < 2 ^ 31) :
    Ideal.log1p (-Ideal.exp (Ideal.ofBits .f32 0x3F317218#32
      * (Ideal.ofBits .f32 0xC0A00000#32 - FloatOps.sitofp (F := Ideal) .f32 (BitVec.ofNat 32 h)))) = ((dec h : ℝ) : EReal) := by
  have hlt : Real.exp (lnTwo * (-5 - h)) < 1 := by
    rw [Real.exp_lt_one_iff]
    have : (0 : ℝ) ≤ h := Nat.cast_nonneg h
    nlinarith [lnTwo_pos]
  rw [sitofp_ofNat h hh, ofBits_lnTwo, ofBits_neg5, ← EReal.coe_sub, ← EReal.coe_mul, Ideal.exp_coe, ← EReal.coe_neg]
  unfold Ideal.log1p
  rw [← EReal.coe_one, ← EReal.coe_add, Ideal.log_coe, if_neg (by linarith), dec]
  simp only [sub_eq_add_neg]

/-- The decay of head `h` in direction `r`: the second direction takes the heads in the other order. -/
def decay (r : Fin 2) (h : Fin 4) : ℝ := if r = 0 then dec h else dec h.rev

/-- The place in the sequence of the `n`-th token of direction `r`. -/
def tok (r : Fin 2) (n : ℕ) : ℕ := if r = 0 then n else 4095 - n

/-- Coordinate `d` of the `n`-th token of direction `r`, in head `h` of the lane group `j` (queries, keys, values). -/
def lane (X : FVec Ideal ⟨3, ![8, 4096, 5376]⟩ .f32) (j : Fin 3) (r : Fin 2) (b : Fin 8) (h : Fin 4) (n : ℕ) (d : Fin 64) : ℝ :=
  EReal.toReal (X (ix3 b (Fin.ofNat 4096 (tok r n)) ⟨1024 + (256 * j + (64 * h + d)), by omega⟩))

/-- Every lane the retention reads is a real number. -/
def RealLanes (X : FVec Ideal ⟨3, ![8, 4096, 5376]⟩ .f32) : Prop :=
  ∀ (b : Fin 8) (t : Fin 4096) (c : Fin 5376), 1024 ≤ (c : ℕ) → (c : ℕ) < 1792 →
    X (ix3 b t c) = ((EReal.toReal (X (ix3 b t c)) : ℝ) : EReal)

/-- A lane, read where it sits in the array. -/
theorem lane_eq (X : FVec Ideal ⟨3, ![8, 4096, 5376]⟩ .f32) (hX : RealLanes X) (j : Fin 3) (r : Fin 2) (b : Fin 8) (h : Fin 4)
    (n : ℕ) (d : Fin 64) (t : Fin 4096) (c : Fin 5376) (ht : (t : ℕ) = tok r n) (hc : (c : ℕ) = 1024 + (256 * j + (64 * h + d))) :
    X (ix3 b t c) = ((lane X j r b h n d : ℝ) : EReal) := by
  rw [hX b t c (by omega) (by omega), lane]
  have e1 : Fin.ofNat 4096 (tok r n) = t := Fin.ext (by simp [Fin.ofNat, ← ht, Nat.mod_eq_of_lt t.isLt])
  have e2 : (⟨1024 + (256 * j + (64 * h + d)), by omega⟩ : Fin 5376) = c := Fin.ext hc.symm
  rw [e1, e2]

/-- The state of head `h` before any token. -/
def start (S : FVec Ideal ⟨5, ![2, 8, 4, 64, 64]⟩ .f32) (r : Fin 2) (b : Fin 8) (h : Fin 4) (d e : Fin 64) : ℝ :=
  EReal.toReal (S (ix5 r b h d e))

/-- The state of head `h` in direction `r` after `n` tokens. -/
def stateAt (X : FVec Ideal ⟨3, ![8, 4096, 5376]⟩ .f32) (S : FVec Ideal ⟨5, ![2, 8, 4, 64, 64]⟩ .f32)
    (r : Fin 2) (b : Fin 8) (h : Fin 4) : ℕ → Fin 64 → Fin 64 → ℝ :=
  state (decay r h) (lane X 1 r b h) (lane X 2 r b h) (start S r b h)

/-- What the `n`-th token of direction `r` reads in head `h`. -/
def outAt (X : FVec Ideal ⟨3, ![8, 4096, 5376]⟩ .f32) (S : FVec Ideal ⟨5, ![2, 8, 4, 64, 64]⟩ .f32)
    (r : Fin 2) (b : Fin 8) (h : Fin 4) : ℕ → Fin 64 → ℝ :=
  out (decay r h) (lane X 0 r b h) (lane X 1 r b h) (lane X 2 r b h) (start S r b h)

/-- The token outputs of direction `r` over the whole sequence, heads side by side. -/
def outs (X : FVec Ideal ⟨3, ![8, 4096, 5376]⟩ .f32) (S : FVec Ideal ⟨5, ![2, 8, 4, 64, 64]⟩ .f32) (r : Fin 2) :
    FVec Ideal ⟨3, ![8, 4096, 256]⟩ .f32 := fun y =>
  ((outAt X S r (y 0) ⟨(y 2 : ℕ) / 64, by have := (y 2).isLt; exact Nat.div_lt_of_lt_mul this⟩ (tok r (y 1))
    ⟨(y 2 : ℕ) % 64, Nat.mod_lt _ (by decide)⟩ : ℝ) : EReal)

/-- The final states, each head's a diagonal block. -/
def states (X : FVec Ideal ⟨3, ![8, 4096, 5376]⟩ .f32) (S : FVec Ideal ⟨5, ![2, 8, 4, 64, 64]⟩ .f32) (n : ℕ) :
    FVec Ideal ⟨4, ![2, 8, 256, 256]⟩ .f32 := fun y =>
  if (y 2 : ℕ) / 64 = (y 3 : ℕ) / 64 then
    ((stateAt X S (y 0) (y 1) ⟨(y 2 : ℕ) / 64, by have := (y 2).isLt; exact Nat.div_lt_of_lt_mul this⟩ n
      ⟨(y 2 : ℕ) % 64, Nat.mod_lt _ (by decide)⟩ ⟨(y 3 : ℕ) % 64, Nat.mod_lt _ (by decide)⟩ : ℝ) : EReal)
  else 0

end Cert.Retention

end
-- ==== Proof.RetChain.lean ====
/- One chain of the kernel's retention, a direction of a batch: what it outputs of a chunk of 128 tokens and the state it
   leaves, each at an index. -/
module

public import proofs.«01_k».proof.Proof.RetSpec
public import proofs.«01_k».proof.Proof.Gen.KernelIdeal

@[expose] public section

set_option maxRecDepth 16384

noncomputable section

open Idealize.ShloMosaic Idealize.ShloMosaic.TcCoe Idealize.SL.Sem

namespace Cert.KernelIdeal.Ret

open Cert.KernelIdeal Cert.KernelIdeal.Gen Cert.Retention

/-- A word vector divided by a positive word, rounding down. -/
def floorDiv (s : Shape) (x : IVec s 32) (w : BitVec 32) : IVec s 32 :=
  select (andi (cmpi .ne (subi (extui 32 (cmpi .sgt x (broadcast s 0#32)) natLt_1_32) (extui 32 (cmpi .slt x (broadcast s 0#32)) natLt_1_32))
      (broadcast s 1#32)) (cmpi .ne (remsi x (broadcast s w)) (broadcast s 0#32)))
    (subi (divsi x (broadcast s w)) (broadcast s 1#32)) (divsi x (broadcast s w))

/-- Which entries of a head-stacked array belong to the lane's head. -/
def stackMask : IVec S512x256 1 :=
  cmpi .eq (floorDiv S512x256 (iota .tc S512x256 32 [0] iota_S512x256_d0_w32) 128#32)
    (floorDiv S512x256 (iota .tc S512x256 32 [1] iota_S512x256_d1_w32) 64#32)

/-- Which entries of a state pair two lanes of one head. -/
def blockMask : IVec S256x256 1 :=
  cmpi .eq (floorDiv S256x256 (iota .tc S256x256 32 [0] iota_S256x256_d0_w32) 64#32)
    (floorDiv S256x256 (iota .tc S256x256 32 [1] iota_S256x256_d1_w32) 64#32)

/-- An array stacked once per head, each copy masked to its head's lanes. -/
def stack (x : FVec Ideal S128x256 .f32) : FVec Ideal S512x256 .f32 :=
  select stackMask (concatenate S512x256 0 [⟨S128x256, x⟩, ⟨S128x256, x⟩, ⟨S128x256, x⟩, ⟨S128x256, x⟩]
    concatenates_S128x256_S128x256_S128x256_S128x256_S512x256_d0) (broadcast S512x256 (FloatOps.ofBits .f32 0#32))

/-- A chain's outputs of a chunk. -/
def chainOut (q k v qd : FVec Ideal S128x256 .f32) (dm : FVec Ideal S128x512 .f32) (s : FVec Ideal S256x256 .f32) :
    FVec Ideal S128x256 .f32 :=
  addf (matmul dot_S128x512_S512x256_S128x256_1_0_0_1_n_n none
      (truncf .bf16 (mulf (matmul dot_S128x256_S512x256_S128x512_1_1_0_0_n_n none (truncf .bf16 q bitsLt_bf16_f32)
        (truncf .bf16 (stack k) bitsLt_bf16_f32) (constant S128x512 .f32 0#32)) dm) bitsLt_bf16_f32)
      (truncf .bf16 (stack v) bitsLt_bf16_f32) (constant S128x256 .f32 0#32))
    (matmul dot_S128x256_S256x256_S128x256_1_0_0_1_n_n none (truncf .bf16 (mulf q qd) bitsLt_bf16_f32)
      (truncf .bf16 s bitsLt_bf16_f32) (constant S128x256 .f32 0#32))

/-- A chain's state after a chunk. -/
def chainState (k v kd : FVec Ideal S128x256 .f32) (cd : FVec Ideal S1x256 .f32) (s : FVec Ideal S256x256 .f32) :
    FVec Ideal S256x256 .f32 :=
  addf (mulf s (broadcastTo S256x256 cd broadcasts_S1x256_S256x256))
    (select blockMask (matmul dot_S128x256_S128x256_S256x256_0_0_1_1_n_n none (truncf .bf16 (mulf k kd) bitsLt_bf16_f32)
      (truncf .bf16 v bitsLt_bf16_f32) (constant S256x256 .f32 0#32)) (broadcast S256x256 (FloatOps.ofBits .f32 0#32)))

/-- Rounding-down division of one word, as the program spells it. -/
def floorDivWord (w x : BitVec 32) : BitVec 32 :=
  Scalar.select (IntOp.andi (IntOp.cmpi .ne (IntOp.subi (BitVec.setWidth 32 (IntOp.cmpi .sgt x 0#32))
      (BitVec.setWidth 32 (IntOp.cmpi .slt x 0#32))) 1#32) (IntOp.cmpi .ne (IntOp.remsi .vector x w) 0#32))
    (IntOp.subi (IntOp.divsi .vector x w) 1#32) (IntOp.divsi .vector x w)

theorem floorDivWord_64 : ∀ n : Fin 512, floorDivWord 64#32 (BitVec.ofNat 32 n) = BitVec.ofNat 32 ((n : ℕ) / 64) := by
  decide +kernel

theorem floorDivWord_128 : ∀ n : Fin 512, floorDivWord 128#32 (BitVec.ofNat 32 n) = BitVec.ofNat 32 ((n : ℕ) / 128) := by
  decide +kernel

/-- A choice by the state's mask is a choice by the heads of the two lanes. -/
theorem blockMask_at {α : Type} (a c : Fin 256) (x y : α) :
    Scalar.select (blockMask (ix2 a c)) x y = if (a : ℕ) / 64 = (c : ℕ) / 64 then x else y := by
  have e : blockMask (ix2 a c) = IntOp.cmpi .eq (floorDivWord 64#32 (BitVec.ofNat 32 a)) (floorDivWord 64#32 (BitVec.ofNat 32 c)) := by
    pointwise [blockMask, floorDiv, floorDivWord]
  rw [e, floorDivWord_64 ⟨a, by omega⟩, floorDivWord_64 ⟨c, by omega⟩, select_eq _ _ (by omega) (by omega)]

/-- A choice by the stacking's mask is a choice by the copy and the lane's head. -/
theorem stackMask_at {α : Type} (a : Fin 512) (c : Fin 256) (x y : α) :
    Scalar.select (stackMask (ix2 a c)) x y = if (a : ℕ) / 128 = (c : ℕ) / 64 then x else y := by
  have e : stackMask (ix2 a c) = IntOp.cmpi .eq (floorDivWord 128#32 (BitVec.ofNat 32 a)) (floorDivWord 64#32 (BitVec.ofNat 32 c)) := by
    pointwise [stackMask, floorDiv, floorDivWord]
  rw [e, floorDivWord_128 a, floorDivWord_64 ⟨c, by omega⟩, select_eq _ _ (by omega) (by omega)]

/-- A stacked array at an index. -/
theorem stack_at (x : FVec Ideal S128x256 .f32) (a : Fin 512) (c : Fin 256) :
    stack x (ix2 a c) = if (a : ℕ) / 128 = (c : ℕ) / 64 then x (ix2 ⟨(a : ℕ) % 128, by omega⟩ c) else 0 := by
  unfold stack
  pointwise
  rw [stackMask_at]
  refine if_congr Iff.rfl ?_ rfl
  blk_point []

/-- A sum over lanes that vanishes outside one head is the sum over the head. -/
theorem sum_block {K B N : ℕ} (hN : N = K * B) (h : Fin K) (f : Fin N → EReal) (g : Fin B → EReal)
    (hg : ∀ (j : Fin B) (a : Fin N), (a : ℕ) = h * B + j → f a = g j) (hz : ∀ a : Fin N, (a : ℕ) / B ≠ h → f a = 0) :
    ∑ a, f a = ∑ j, g j := by
  have lt : ∀ j : Fin B, (h : ℕ) * B + j < N := fun j => by
    have h1 := h.isLt
    have h2 := j.isLt
    rw [hN]
    calc (h : ℕ) * B + j < h * B + B := by omega
      _ = (h + 1) * B := by ring
      _ ≤ K * B := Nat.mul_le_mul_right _ h1
  refine (Finset.sum_of_injOn (fun j : Fin B => (⟨h * B + j, lt j⟩ : Fin N)) ?_ (fun _ _ => Finset.mem_coe.mpr (Finset.mem_univ _)) ?_ ?_).symm
  · intro x _ y _ e
    have := congrArg Fin.val e
    simp only at this
    exact Fin.ext (by omega)
  · intro a _ hna
    refine hz a fun e => hna ?_
    have hB : 0 < B := by
      rcases Nat.eq_zero_or_pos B with h0 | h0
      · exfalso; have := a.isLt; simp [hN, h0] at this
      · exact h0
    refine ⟨⟨(a : ℕ) % B, Nat.mod_lt _ hB⟩, Finset.mem_coe.mpr (Finset.mem_univ _), Fin.ext ?_⟩
    simp only [← e]
    rw [Nat.mul_comm]
    exact Nat.div_add_mod _ _
  · intro j _
    exact (hg j _ rfl).symm

/-- A chain's outputs: per head the chunk's causal part over its lanes, and the state's part. -/
theorem chainOut_at (q k v qd : FVec Ideal S128x256 .f32) (dm : FVec Ideal S128x512 .f32) (s : FVec Ideal S256x256 .f32)
    (i : Fin 128) (h : Fin 4) (e : Fin 64)
    (hs : ∀ a c : Fin 256, (a : ℕ) / 64 ≠ (c : ℕ) / 64 → s (ix2 a c) = 0) :
    chainOut q k v qd dm s (ix2 i ⟨h * 64 + e, by omega⟩)
      = (∑ j : Fin 128, (∑ d : Fin 64, q (ix2 i ⟨h * 64 + d, by omega⟩) * k (ix2 j ⟨h * 64 + d, by omega⟩))
          * dm (ix2 i ⟨h * 128 + j, by omega⟩) * v (ix2 j ⟨h * 64 + e, by omega⟩))
        + ∑ d : Fin 64, q (ix2 i ⟨h * 64 + d, by omega⟩) * qd (ix2 i ⟨h * 64 + d, by omega⟩)
          * s (ix2 ⟨h * 64 + d, by omega⟩ ⟨h * 64 + e, by omega⟩) := by
  pointwise [chainOut, stack_at]
  congr 1
  · refine sum_block (K := 4) (B := 128) rfl h _ _ (fun j a ha => ?_) (fun a ha => ?_)
    · rw [if_pos (by omega)]
      have e1 : a = ⟨h * 128 + j, by omega⟩ := Fin.ext ha
      have e2 : (⟨(a : ℕ) % 128, by omega⟩ : Fin 128) = j := Fin.ext (by simp only; omega)
      rw [e2, e1]
      congr 2
      refine sum_block (K := 4) (B := 64) rfl h _ _ (fun d a' ha' => ?_) (fun a' ha' => ?_)
      · rw [if_pos (by simp only; omega)]
        have e3 : a' = ⟨h * 64 + d, by omega⟩ := Fin.ext ha'
        rw [e3]
      · rw [if_neg (by simp only; omega), mul_zero]
    · rw [if_neg (by omega), mul_zero]
  · refine sum_block (K := 4) (B := 64) rfl h _ _ (fun d a ha => ?_) (fun a ha => ?_)
    · have e3 : a = ⟨h * 64 + d, by omega⟩ := Fin.ext ha
      rw [e3]
    · rw [hs a _ (by simp only; omega), mul_zero]

/-- A chain's state after a chunk: the old one decayed, and on the heads' blocks the chunk's decayed products. -/
theorem chainState_at (k v kd : FVec Ideal S128x256 .f32) (cd : FVec Ideal S1x256 .f32) (s : FVec Ideal S256x256 .f32) (a c : Fin 256) :
    chainState k v kd cd s (ix2 a c) = s (ix2 a c) * cd (ix2 0 c)
      + if (a : ℕ) / 64 = (c : ℕ) / 64 then ∑ j, k (ix2 j a) * kd (ix2 j a) * v (ix2 j c) else 0 := by
  unfold chainState
  pointwise
  rw [blockMask_at]

end Cert.KernelIdeal.Ret

end
-- ==== Proof.RetStep.lean ====
/- What one point of the kernel's grid does: every chain's outputs and new state are the chain functions of the point's
   blocks and of the state the point before left. -/
module

public import proofs.«01_k».proof.Proof.RetChain
public import proofs.«01_k».proof.Proof.Gen.KernelIdeal.Value
public import Idealize.ShloMosaic.Lib.Pipeline.ReadBack

@[expose] public section

set_option maxRecDepth 16384
set_option maxHeartbeats 200000

noncomputable section

open Idealize.ShloMosaic Idealize.ShloMosaic.TcCoe Idealize.SL.Sem

namespace Cert.KernelIdeal.Ret

open Cert.KernelIdeal Cert.KernelIdeal.Gen

/-! ## Parts of a block -/

/-- One slab of a three-axis array. -/
def slab {n a b : ℕ} (B : FVec Ideal ⟨3, ![n, a, b]⟩ .f32) (r : Fin n) : FVec Ideal ⟨2, ![a, b]⟩ .f32 :=
  fun y => B (ix3 r (y 0) (y 1))

/-- One chain's state among all. -/
def chainOf (B : FVec Ideal S2x8x256x256 .f32) (r : Fin 2) (b : Fin 8) : FVec Ideal S256x256 .f32 :=
  fun y => B (ix4 r b (y 0) (y 1))

theorem slab_at {n a b : ℕ} (B : FVec Ideal ⟨3, ![n, a, b]⟩ .f32) (r : Fin n) (i : Fin a) (j : Fin b) :
    slab B r (ix2 i j) = B (ix3 r i j) := rfl

theorem chainOf_at (B : FVec Ideal S2x8x256x256 .f32) (r : Fin 2) (b : Fin 8) (i j : Fin 256) :
    chainOf B r b (ix2 i j) = B (ix4 r b i j) := rfl

theorem ext2 {n0 n1 : ℕ} {α : Type} {f g : (⟨2, ![n0, n1]⟩ : Shape).Idx → α} (h : ∀ a b, f (ix2 a b) = g (ix2 a b)) : f = g :=
  funext fun y => by rw [eq_ix2 y]; exact h _ _

/-- A slab's element, in the array. -/
theorem slab_idx {n a b : ℕ} (r : ℕ) (hr : r < n) (h) (i : Fin a) (j : Fin b) :
    (Rect.unit (s := ⟨3, ![n, a, b]⟩) ![r, 0, 0] ![1, a, b] h).idx (ix3 0 i j) = ix3 ⟨r, hr⟩ i j :=
  funext fun x => Fin.ext (by fin_cases x <;> simp)

theorem drop_128_256 (Y : FVec Ideal S1x128x256 .f32) (i : Fin 128) (j : Fin 256) :
    shapeCast S128x256 Y shapeCasts_S1x128x256_S128x256 (ix2 i j) = Y (ix3 0 i j) := by
  pointwise

theorem drop_128_512 (Y : FVec Ideal S1x128x512 .f32) (i : Fin 128) (j : Fin 512) :
    shapeCast S128x512 Y shapeCasts_S1x128x512_S128x512 (ix2 i j) = Y (ix3 0 i j) := by
  pointwise

theorem drop_1_256 (Y : FVec Ideal S1x1x256 .f32) (i : Fin 1) (j : Fin 256) :
    shapeCast S1x256 Y shapeCasts_S1x1x256_S1x256 (ix2 i j) = Y (ix3 0 i j) := by
  obtain rfl : i = 0 := Fin.ext (by omega)
  pointwise

/-- A load of one batch's rows. -/
theorem load_rows (B : FVec Ideal S8x128x256 .f32) (r : ℕ) (hr : r < 8) (h) :
    (shapeCast S128x256 (View.ld (Val := Elt Ideal) (e' := .f32) B (Rect.unit ![r, 0, 0] ![1, 128, 256] h)) shapeCasts_S1x128x256_S128x256
      : FVec Ideal S128x256 .f32) = slab B ⟨r, hr⟩ :=
  ext2 fun i j => (drop_128_256 _ i j).trans (congrArg B (slab_idx r hr h i j))

/-- A load of one direction's decays. -/
theorem load_decay (B : FVec Ideal S2x128x256 .f32) (r : ℕ) (hr : r < 2) (h) :
    (shapeCast S128x256 (View.ld (Val := Elt Ideal) (e' := .f32) B (Rect.unit ![r, 0, 0] ![1, 128, 256] h)) shapeCasts_S1x128x256_S128x256
      : FVec Ideal S128x256 .f32) = slab B ⟨r, hr⟩ :=
  ext2 fun i j => (drop_128_256 _ i j).trans (congrArg B (slab_idx r hr h i j))

/-- A load of one direction's causal decays. -/
theorem load_causal (B : FVec Ideal S2x128x512 .f32) (r : ℕ) (hr : r < 2) (h) :
    (shapeCast S128x512 (View.ld (Val := Elt Ideal) (e' := .f32) B (Rect.unit ![r, 0, 0] ![1, 128, 512] h)) shapeCasts_S1x128x512_S128x512
      : FVec Ideal S128x512 .f32) = slab B ⟨r, hr⟩ :=
  ext2 fun i j => (drop_128_512 _ i j).trans (congrArg B (slab_idx r hr h i j))

/-- A load of one direction's chunk decay. -/
theorem load_whole (B : FVec Ideal S2x1x256 .f32) (r : ℕ) (hr : r < 2) (h) :
    (shapeCast S1x256 (View.ld (Val := Elt Ideal) (e' := .f32) B (Rect.unit ![r, 0, 0] ![1, 1, 256] h)) shapeCasts_S1x1x256_S1x256
      : FVec Ideal S1x256 .f32) = slab B ⟨r, hr⟩ :=
  ext2 fun i j => (drop_1_256 _ i j).trans (congrArg B (slab_idx r hr h i j))

theorem drop_state (Y : FVec Ideal S1x1x256x256 .f32) (i j : Fin 256) :
    shapeCast S256x256 Y shapeCasts_S1x1x256x256_S256x256 (ix2 i j) = Y (ix4 0 0 i j) := by
  pointwise

/-- A load of one chain's state. -/
theorem load_chain (B : FVec Ideal S2x8x256x256 .f32) (r b : ℕ) (hr : r < 2) (hb : b < 8) (h) :
    (shapeCast S256x256 (View.ld (Val := Elt Ideal) (e' := .f32) B (Rect.unit ![r, b, 0, 0] ![1, 1, 256, 256] h)) shapeCasts_S1x1x256x256_S256x256
      : FVec Ideal S256x256 .f32) = chainOf B ⟨r, hr⟩ ⟨b, hb⟩ :=
  ext2 fun i j => (drop_state _ i j).trans (congrArg B (funext fun x => Fin.ext (by fin_cases x <;> simp)))

/-! ## A point's outputs and states -/

/-- All chains' states after a point, of the point's blocks and the states before. -/
def newState (kf vf kb vb : FVec Ideal S8x128x256 .f32) (kd : FVec Ideal S2x128x256 .f32) (cd : FVec Ideal S2x1x256 .f32)
    (old : FVec Ideal S2x8x256x256 .f32) : FVec Ideal S2x8x256x256 .f32 := fun y =>
  chainState (slab (if (y 0 : ℕ) = 0 then kf else kb) (y 1)) (slab (if (y 0 : ℕ) = 0 then vf else vb) (y 1)) (slab kd (y 0))
    (slab cd (y 0)) (chainOf old (y 0) (y 1)) (ix2 (y 2) (y 3))

/-- One direction's outputs at a point. -/
def newOut (r : Fin 2) (q k v : FVec Ideal S8x128x256 .f32) (qd : FVec Ideal S2x128x256 .f32) (dm : FVec Ideal S2x128x512 .f32)
    (old : FVec Ideal S2x8x256x256 .f32) : FVec Ideal S8x128x256 .f32 := fun y =>
  chainOut (slab q (y 0)) (slab k (y 0)) (slab v (y 0)) (slab qd r) (slab dm r) (chainOf old r (y 0)) (ix2 (y 1) (y 2))

/-- One chain's store of its new state. -/
theorem store_state (kf vf kb vb : FVec Ideal S8x128x256 .f32) (kd : FVec Ideal S2x128x256 .f32) (cd : FVec Ideal S2x1x256 .f32)
    (old : FVec Ideal S2x8x256x256 .f32) (K V : FVec Ideal S8x128x256 .f32) (r b : ℕ) (hr : r < 2) (hb : b < 8)
    (hK : K = if r = 0 then kf else kb) (hV : V = if r = 0 then vf else vb) (x : S1x1x256x256.Idx) (y : S2x8x256x256.Idx)
    (h0 : (y 0 : ℕ) = r) (h1 : (y 1 : ℕ) = b) (h2 : (y 2 : ℕ) = x 2) (h3 : (y 3 : ℕ) = x 3) (p1) (p2) (p3) (p4) (p5) :
    (shapeCast S1x1x256x256 (chainState
      (shapeCast S128x256 (View.ld (Val := Elt Ideal) (e' := .f32) K (Rect.unit ![b, 0, 0] ![1, 128, 256] p1)) shapeCasts_S1x128x256_S128x256)
      (shapeCast S128x256 (View.ld (Val := Elt Ideal) (e' := .f32) V (Rect.unit ![b, 0, 0] ![1, 128, 256] p2)) shapeCasts_S1x128x256_S128x256)
      (shapeCast S128x256 (View.ld (Val := Elt Ideal) (e' := .f32) kd (Rect.unit ![r, 0, 0] ![1, 128, 256] p3)) shapeCasts_S1x128x256_S128x256)
      (shapeCast S1x256 (View.ld (Val := Elt Ideal) (e' := .f32) cd (Rect.unit ![r, 0, 0] ![1, 1, 256] p4)) shapeCasts_S1x1x256_S1x256)
      (shapeCast S256x256 (View.ld (Val := Elt Ideal) (e' := .f32) old (Rect.unit ![r, b, 0, 0] ![1, 1, 256, 256] p5)) shapeCasts_S1x1x256x256_S256x256))
      shapeCasts_S256x256_S1x1x256x256 : FVec Ideal S1x1x256x256 .f32) x = newState kf vf kb vb kd cd old y := by
  rw [load_rows K b hb, load_rows V b hb, load_decay kd r hr, load_whole cd r hr, load_chain old r b hr hb]
  have e0 : y 0 = (⟨r, hr⟩ : Fin 2) := Fin.ext h0
  have e1 : y 1 = (⟨b, hb⟩ : Fin 8) := Fin.ext h1
  have e2 : y 2 = x 2 := Fin.ext h2
  have e3 : y 3 = x 3 := Fin.ext h3
  unfold newState
  rw [e0, e1, e2, e3, ← hK, ← hV]
  idx_vars x
  pointwise

/-- One chain's store of its outputs. -/
theorem store_out (r : ℕ) (hr : r < 2) (q k v : FVec Ideal S8x128x256 .f32) (qd : FVec Ideal S2x128x256 .f32) (dm : FVec Ideal S2x128x512 .f32)
    (old : FVec Ideal S2x8x256x256 .f32) (b : ℕ) (hb : b < 8) (x : S1x128x256.Idx) (y : S8x128x256.Idx)
    (h0 : (y 0 : ℕ) = b) (h1 : (y 1 : ℕ) = x 1) (h2 : (y 2 : ℕ) = x 2) (p1) (p2) (p3) (p4) (p5) (p6) :
    (shapeCast S1x128x256 (chainOut
      (shapeCast S128x256 (View.ld (Val := Elt Ideal) (e' := .f32) q (Rect.unit ![b, 0, 0] ![1, 128, 256] p1)) shapeCasts_S1x128x256_S128x256)
      (shapeCast S128x256 (View.ld (Val := Elt Ideal) (e' := .f32) k (Rect.unit ![b, 0, 0] ![1, 128, 256] p2)) shapeCasts_S1x128x256_S128x256)
      (shapeCast S128x256 (View.ld (Val := Elt Ideal) (e' := .f32) v (Rect.unit ![b, 0, 0] ![1, 128, 256] p3)) shapeCasts_S1x128x256_S128x256)
      (shapeCast S128x256 (View.ld (Val := Elt Ideal) (e' := .f32) qd (Rect.unit ![r, 0, 0] ![1, 128, 256] p4)) shapeCasts_S1x128x256_S128x256)
      (shapeCast S128x512 (View.ld (Val := Elt Ideal) (e' := .f32) dm (Rect.unit ![r, 0, 0] ![1, 128, 512] p5)) shapeCasts_S1x128x512_S128x512)
      (shapeCast S256x256 (View.ld (Val := Elt Ideal) (e' := .f32) old (Rect.unit ![r, b, 0, 0] ![1, 1, 256, 256] p6)) shapeCasts_S1x1x256x256_S256x256))
      shapeCasts_S128x256_S1x128x256 : FVec Ideal S1x128x256 .f32) x = newOut ⟨r, hr⟩ q k v qd dm old y := by
  rw [load_rows q b hb, load_rows k b hb, load_rows v b hb, load_decay qd r hr, load_causal dm r hr, load_chain old r b hr hb]
  have e0 : y 0 = (⟨b, hb⟩ : Fin 8) := Fin.ext h0
  have e1 : y 1 = x 1 := Fin.ext h1
  have e2 : y 2 = x 2 := Fin.ext h2
  unfold newOut
  rw [e0, e1, e2]
  idx_vars x
  pointwise

/-- A load from the states right after the given states were copied in whole reads the given states. -/
theorem load_start (v : View sig .tc .vmem S2x8x256x256 .f32) (inb) (Z : FVec Ideal S2x8x256x256 .f32) (r : Rect S2x8x256x256) :
    View.readCov (Val := Elt Ideal) v [⟨Rect.unit ![0, 0, 0, 0] ![2, 8, 256, 256] inb, Z⟩] r.toLoadRect
      = View.ld (Val := Elt Ideal) (e' := .f32) Z r := by
  have h := View.readCov_fill (Val := Elt Ideal) (e := .f32) (off := ![0, 0, 0, 0]) v inb Z [] r (by decide)
  exact h

/-- A load of all the states reads what the stores left. -/
theorem load_states (v : View sig .tc .vmem S2x8x256x256 .f32) (inb) (L : List (View.Piece (Elt Ideal) S2x8x256x256 .f32)) :
    View.readCov (Val := Elt Ideal) v L (Rect.unit ![0, 0, 0, 0] ![2, 8, 256, 256] inb).toLoadRect = View.canon L := by
  have h := View.readCov_eq_canon' v L (Rect.unit ![0, 0, 0, 0] ![2, 8, 256, 256] inb).toLoadRect
  refine h.trans (funext fun j => congrArg (View.canon L) (funext fun a => Fin.ext ?_))
  fin_cases a
  · exact (Nat.zero_add _).trans (Nat.one_mul (j 0).val)
  · exact (Nat.zero_add _).trans (Nat.one_mul (j 1).val)
  · exact (Nat.zero_add _).trans (Nat.one_mul (j 2).val)
  · exact (Nat.zero_add _).trans (Nat.one_mul (j 3).val)

/-- Under the later stores, an earlier one is not read. -/
theorem canon_init (p : View.Piece (Elt Ideal) S2x8x256x256 .f32) : ∀ (L : List (View.Piece (Elt Ideal) S2x8x256x256 .f32))
    (y : S2x8x256x256.Idx), (∃ q ∈ L, y ∈ q.1.set) → View.canon (L ++ [p]) y = View.canon L y
  | [], _, h => by obtain ⟨q, hq, _⟩ := h; exact absurd hq List.not_mem_nil
  | q :: L, y, h => by
    by_cases hm : y ∈ q.1.set
    · obtain ⟨x, rfl⟩ := q.1.exists_idx_of_mem hm
      exact (View.canon_cons_emb q.1 q.2 (L ++ [p]) x).trans (View.canon_cons_emb q.1 q.2 L x).symm
    · refine (View.canon_cons_of_not_mem q (L ++ [p]) hm).trans ((canon_init p L y ?_).trans (View.canon_cons_of_not_mem q L hm).symm)
      obtain ⟨q', hq, hy⟩ := h
      rcases List.mem_cons.mp hq with rfl | hq'
      · exact absurd hy hm
      · exact ⟨q', hq', hy⟩

/-- The first of a list of stores is not read when the others cover the buffer. -/
theorem canon_dropLast (L : List (View.Piece (Elt Ideal) S2x8x256x256 .f32)) (y : S2x8x256x256.Idx)
    (h : ∃ q ∈ L.dropLast, y ∈ q.1.set) : View.canon L y = View.canon L.dropLast y := by
  have hne : L ≠ [] := by rintro rfl; simp at h
  conv_lhs => rw [← List.dropLast_append_getLast hne]
  exact canon_init _ _ y h

variable (m : (ℓ : Loc nD τ sig) → Buf (Elt Ideal) ℓ)

/-- The states before a point after the first. -/
abbrev before (c : Dev nD) (t : Fin cfg0.N) : FVec Ideal S2x8x256x256 .f32 :=
  (outsAt0 m c (t.val - 1) (Nat.lt_of_le_of_lt (Nat.sub_le _ _) t.isLt)).2.2.2

/-- The states a first point leaves. -/
theorem state_A (c : Dev nD) (t : Fin cfg0.N) (h0 : t.val % 32 = 0) (h1 : ¬t.val % 32 = 31) :
    (outsAt0 m c t.val t.isLt).2.2.2 = newState (iblk m c 1 t) (iblk m c 2 t) (iblk m c 4 t) (iblk m c 5 t) (iblk m c 8 t)
      (iblk m c 9 t) (iblk m c 10 t) := by
  funext y
  rw [outsAt0_A m c t h0 h1]
  frame_out
  simp only [read_unread_whole, shapeCast_self, load_start]
  refine (canon_dropLast _ y (View.cover_of_tiledL _ ![1, 1, 256, 256] (by rfl) y)).trans ?_
  simp only [List.dropLast]
  canon_tiles x h
  case piece0 => exact store_state _ _ _ _ _ _ _ _ _ 1 7 (by decide) (by decide) rfl rfl x y (by omega) (by omega) h2 h3 _ _ _ _ _
  case piece1 => exact store_state _ _ _ _ _ _ _ _ _ 0 7 (by decide) (by decide) rfl rfl x y (by omega) (by omega) h2 h3 _ _ _ _ _
  case piece2 => exact store_state _ _ _ _ _ _ _ _ _ 1 6 (by decide) (by decide) rfl rfl x y (by omega) (by omega) h2 h3 _ _ _ _ _
  case piece3 => exact store_state _ _ _ _ _ _ _ _ _ 0 6 (by decide) (by decide) rfl rfl x y (by omega) (by omega) h2 h3 _ _ _ _ _
  case piece4 => exact store_state _ _ _ _ _ _ _ _ _ 1 5 (by decide) (by decide) rfl rfl x y (by omega) (by omega) h2 h3 _ _ _ _ _
  case piece5 => exact store_state _ _ _ _ _ _ _ _ _ 0 5 (by decide) (by decide) rfl rfl x y (by omega) (by omega) h2 h3 _ _ _ _ _
  case piece6 => exact store_state _ _ _ _ _ _ _ _ _ 1 4 (by decide) (by decide) rfl rfl x y (by omega) (by omega) h2 h3 _ _ _ _ _
  case piece7 => exact store_state _ _ _ _ _ _ _ _ _ 0 4 (by decide) (by decide) rfl rfl x y (by omega) (by omega) h2 h3 _ _ _ _ _
  case piece8 => exact store_state _ _ _ _ _ _ _ _ _ 1 3 (by decide) (by decide) rfl rfl x y (by omega) (by omega) h2 h3 _ _ _ _ _
  case piece9 => exact store_state _ _ _ _ _ _ _ _ _ 0 3 (by decide) (by decide) rfl rfl x y (by omega) (by omega) h2 h3 _ _ _ _ _
  case piece10 => exact store_state _ _ _ _ _ _ _ _ _ 1 2 (by decide) (by decide) rfl rfl x y (by omega) (by omega) h2 h3 _ _ _ _ _
  case piece11 => exact store_state _ _ _ _ _ _ _ _ _ 0 2 (by decide) (by decide) rfl rfl x y (by omega) (by omega) h2 h3 _ _ _ _ _
  case piece12 => exact store_state _ _ _ _ _ _ _ _ _ 1 1 (by decide) (by decide) rfl rfl x y (by omega) (by omega) h2 h3 _ _ _ _ _
  case piece13 => exact store_state _ _ _ _ _ _ _ _ _ 0 1 (by decide) (by decide) rfl rfl x y (by omega) (by omega) h2 h3 _ _ _ _ _
  case piece14 => exact store_state _ _ _ _ _ _ _ _ _ 1 0 (by decide) (by decide) rfl rfl x y (by omega) (by omega) h2 h3 _ _ _ _ _
  case piece15 => exact store_state _ _ _ _ _ _ _ _ _ 0 0 (by decide) (by decide) rfl rfl x y (by omega) (by omega) h2 h3 _ _ _ _ _

/-- The forward outputs of a first point. -/
theorem forward_A (c : Dev nD) (t : Fin cfg0.N) (h0 : t.val % 32 = 0) (h1 : ¬t.val % 32 = 31) :
    (outsAt0 m c t.val t.isLt).1 = newOut 0 (iblk m c 0 t) (iblk m c 1 t) (iblk m c 2 t) (iblk m c 7 t) (iblk m c 6 t) (iblk m c 10 t) := by
  funext y
  rw [outsAt0_A m c t h0 h1]
  frame_out
  simp only [read_unread_whole, shapeCast_self, load_start]
  canon_tiles x h
  case piece0 => exact store_out 0 (by decide) _ _ _ _ _ _ 7 (by decide) x y (by omega) h1 h2 _ _ _ _ _ _
  case piece1 => exact store_out 0 (by decide) _ _ _ _ _ _ 6 (by decide) x y (by omega) h1 h2 _ _ _ _ _ _
  case piece2 => exact store_out 0 (by decide) _ _ _ _ _ _ 5 (by decide) x y (by omega) h1 h2 _ _ _ _ _ _
  case piece3 => exact store_out 0 (by decide) _ _ _ _ _ _ 4 (by decide) x y (by omega) h1 h2 _ _ _ _ _ _
  case piece4 => exact store_out 0 (by decide) _ _ _ _ _ _ 3 (by decide) x y (by omega) h1 h2 _ _ _ _ _ _
  case piece5 => exact store_out 0 (by decide) _ _ _ _ _ _ 2 (by decide) x y (by omega) h1 h2 _ _ _ _ _ _
  case piece6 => exact store_out 0 (by decide) _ _ _ _ _ _ 1 (by decide) x y (by omega) h1 h2 _ _ _ _ _ _
  case piece7 =>
    refine (store_out 0 (by decide) _ (View.read (Elt Ideal) (ms0_1 t).view ((hs0_1 t).unread (iblk m c 1 t))) _ _ _ _ 0 (by decide) x y (by omega) h1 h2 _ _ _ _ _ _).trans ?_
    rw [(hs0_1 t).read_unread]
    rfl

/-- The backward outputs of a first point. -/
theorem backward_A (c : Dev nD) (t : Fin cfg0.N) (h0 : t.val % 32 = 0) (h1 : ¬t.val % 32 = 31) :
    (outsAt0 m c t.val t.isLt).2.1 = newOut 1 (iblk m c 3 t) (iblk m c 4 t) (iblk m c 5 t) (iblk m c 7 t) (iblk m c 6 t) (iblk m c 10 t) := by
  funext y
  rw [outsAt0_A m c t h0 h1]
  frame_out
  simp only [read_unread_whole, shapeCast_self, load_start]
  canon_tiles x h
  case piece0 => exact store_out 1 (by decide) _ _ _ _ _ _ 7 (by decide) x y (by omega) h1 h2 _ _ _ _ _ _
  case piece1 => exact store_out 1 (by decide) _ _ _ _ _ _ 6 (by decide) x y (by omega) h1 h2 _ _ _ _ _ _
  case piece2 => exact store_out 1 (by decide) _ _ _ _ _ _ 5 (by decide) x y (by omega) h1 h2 _ _ _ _ _ _
  case piece3 => exact store_out 1 (by decide) _ _ _ _ _ _ 4 (by decide) x y (by omega) h1 h2 _ _ _ _ _ _
  case piece4 => exact store_out 1 (by decide) _ _ _ _ _ _ 3 (by decide) x y (by omega) h1 h2 _ _ _ _ _ _
  case piece5 => exact store_out 1 (by decide) _ _ _ _ _ _ 2 (by decide) x y (by omega) h1 h2 _ _ _ _ _ _
  case piece6 => exact store_out 1 (by decide) _ _ _ _ _ _ 1 (by decide) x y (by omega) h1 h2 _ _ _ _ _ _
  case piece7 => exact store_out 1 (by decide) _ _ _ _ _ _ 0 (by decide) x y (by omega) h1 h2 _ _ _ _ _ _

/-- The states a middle point leaves. -/
theorem state_B (c : Dev nD) (t : Fin cfg0.N) (h0 : ¬t.val % 32 = 0) (h1 : ¬t.val % 32 = 31) :
    (outsAt0 m c t.val t.isLt).2.2.2 = newState (iblk m c 1 t) (iblk m c 2 t) (iblk m c 4 t) (iblk m c 5 t) (iblk m c 8 t)
      (iblk m c 9 t) (before m c t) := by
  funext y
  rw [outsAt0_B m c t h0 h1]
  frame_out
  simp only [read_unread_whole]
  canon_tiles x h
  case piece0 => exact store_state _ _ _ _ _ _ _ _ _ 1 7 (by decide) (by decide) rfl rfl x y (by omega) (by omega) h2 h3 _ _ _ _ _
  case piece1 => exact store_state _ _ _ _ _ _ _ _ _ 0 7 (by decide) (by decide) rfl rfl x y (by omega) (by omega) h2 h3 _ _ _ _ _
  case piece2 => exact store_state _ _ _ _ _ _ _ _ _ 1 6 (by decide) (by decide) rfl rfl x y (by omega) (by omega) h2 h3 _ _ _ _ _
  case piece3 => exact store_state _ _ _ _ _ _ _ _ _ 0 6 (by decide) (by decide) rfl rfl x y (by omega) (by omega) h2 h3 _ _ _ _ _
  case piece4 => exact store_state _ _ _ _ _ _ _ _ _ 1 5 (by decide) (by decide) rfl rfl x y (by omega) (by omega) h2 h3 _ _ _ _ _
  case piece5 => exact store_state _ _ _ _ _ _ _ _ _ 0 5 (by decide) (by decide) rfl rfl x y (by omega) (by omega) h2 h3 _ _ _ _ _
  case piece6 => exact store_state _ _ _ _ _ _ _ _ _ 1 4 (by decide) (by decide) rfl rfl x y (by omega) (by omega) h2 h3 _ _ _ _ _
  case piece7 => exact store_state _ _ _ _ _ _ _ _ _ 0 4 (by decide) (by decide) rfl rfl x y (by omega) (by omega) h2 h3 _ _ _ _ _
  case piece8 => exact store_state _ _ _ _ _ _ _ _ _ 1 3 (by decide) (by decide) rfl rfl x y (by omega) (by omega) h2 h3 _ _ _ _ _
  case piece9 => exact store_state _ _ _ _ _ _ _ _ _ 0 3 (by decide) (by decide) rfl rfl x y (by omega) (by omega) h2 h3 _ _ _ _ _
  case piece10 => exact store_state _ _ _ _ _ _ _ _ _ 1 2 (by decide) (by decide) rfl rfl x y (by omega) (by omega) h2 h3 _ _ _ _ _
  case piece11 => exact store_state _ _ _ _ _ _ _ _ _ 0 2 (by decide) (by decide) rfl rfl x y (by omega) (by omega) h2 h3 _ _ _ _ _
  case piece12 => exact store_state _ _ _ _ _ _ _ _ _ 1 1 (by decide) (by decide) rfl rfl x y (by omega) (by omega) h2 h3 _ _ _ _ _
  case piece13 => exact store_state _ _ _ _ _ _ _ _ _ 0 1 (by decide) (by decide) rfl rfl x y (by omega) (by omega) h2 h3 _ _ _ _ _
  case piece14 => exact store_state _ _ _ _ _ _ _ _ _ 1 0 (by decide) (by decide) rfl rfl x y (by omega) (by omega) h2 h3 _ _ _ _ _
  case piece15 => exact store_state _ _ _ _ _ _ _ _ _ 0 0 (by decide) (by decide) rfl rfl x y (by omega) (by omega) h2 h3 _ _ _ _ _

/-- The forward outputs of a middle point. -/
theorem forward_B (c : Dev nD) (t : Fin cfg0.N) (h0 : ¬t.val % 32 = 0) (h1 : ¬t.val % 32 = 31) :
    (outsAt0 m c t.val t.isLt).1 = newOut 0 (iblk m c 0 t) (iblk m c 1 t) (iblk m c 2 t) (iblk m c 7 t) (iblk m c 6 t) (before m c t) := by
  funext y
  rw [outsAt0_B m c t h0 h1]
  frame_out
  simp only [read_unread_whole]
  canon_tiles x h
  case piece0 => exact store_out 0 (by decide) _ _ _ _ _ _ 7 (by decide) x y (by omega) h1 h2 _ _ _ _ _ _
  case piece1 => exact store_out 0 (by decide) _ _ _ _ _ _ 6 (by decide) x y (by omega) h1 h2 _ _ _ _ _ _
  case piece2 => exact store_out 0 (by decide) _ _ _ _ _ _ 5 (by decide) x y (by omega) h1 h2 _ _ _ _ _ _
  case piece3 => exact store_out 0 (by decide) _ _ _ _ _ _ 4 (by decide) x y (by omega) h1 h2 _ _ _ _ _ _
  case piece4 => exact store_out 0 (by decide) _ _ _ _ _ _ 3 (by decide) x y (by omega) h1 h2 _ _ _ _ _ _
  case piece5 => exact store_out 0 (by decide) _ _ _ _ _ _ 2 (by decide) x y (by omega) h1 h2 _ _ _ _ _ _
  case piece6 => exact store_out 0 (by decide) _ _ _ _ _ _ 1 (by decide) x y (by omega) h1 h2 _ _ _ _ _ _
  case piece7 =>
    refine (store_out 0 (by decide) _ (View.read (Elt Ideal) (ms0_1 t).view ((hs0_1 t).unread (iblk m c 1 t))) _ _ _ _ 0 (by decide) x y (by omega) h1 h2 _ _ _ _ _ _).trans ?_
    rw [(hs0_1 t).read_unread]
    rfl

/-- The backward outputs of a middle point. -/
theorem backward_B (c : Dev nD) (t : Fin cfg0.N) (h0 : ¬t.val % 32 = 0) (h1 : ¬t.val % 32 = 31) :
    (outsAt0 m c t.val t.isLt).2.1 = newOut 1 (iblk m c 3 t) (iblk m c 4 t) (iblk m c 5 t) (iblk m c 7 t) (iblk m c 6 t) (before m c t) := by
  funext y
  rw [outsAt0_B m c t h0 h1]
  frame_out
  simp only [read_unread_whole]
  canon_tiles x h
  case piece0 => exact store_out 1 (by decide) _ _ _ _ _ _ 7 (by decide) x y (by omega) h1 h2 _ _ _ _ _ _
  case piece1 => exact store_out 1 (by decide) _ _ _ _ _ _ 6 (by decide) x y (by omega) h1 h2 _ _ _ _ _ _
  case piece2 => exact store_out 1 (by decide) _ _ _ _ _ _ 5 (by decide) x y (by omega) h1 h2 _ _ _ _ _ _
  case piece3 => exact store_out 1 (by decide) _ _ _ _ _ _ 4 (by decide) x y (by omega) h1 h2 _ _ _ _ _ _
  case piece4 => exact store_out 1 (by decide) _ _ _ _ _ _ 3 (by decide) x y (by omega) h1 h2 _ _ _ _ _ _
  case piece5 => exact store_out 1 (by decide) _ _ _ _ _ _ 2 (by decide) x y (by omega) h1 h2 _ _ _ _ _ _
  case piece6 => exact store_out 1 (by decide) _ _ _ _ _ _ 1 (by decide) x y (by omega) h1 h2 _ _ _ _ _ _
  case piece7 => exact store_out 1 (by decide) _ _ _ _ _ _ 0 (by decide) x y (by omega) h1 h2 _ _ _ _ _ _

/-- The states a last point leaves. -/
theorem state_C (c : Dev nD) (t : Fin cfg0.N) (h0 : ¬t.val % 32 = 0) (h1 : t.val % 32 = 31) :
    (outsAt0 m c t.val t.isLt).2.2.2 = newState (iblk m c 1 t) (iblk m c 2 t) (iblk m c 4 t) (iblk m c 5 t) (iblk m c 8 t)
      (iblk m c 9 t) (before m c t) := by
  funext y
  rw [outsAt0_C m c t h0 h1]
  frame_out
  simp only [read_unread_whole]
  canon_tiles x h
  case piece0 => exact store_state _ _ _ _ _ _ _ _ _ 1 7 (by decide) (by decide) rfl rfl x y (by omega) (by omega) h2 h3 _ _ _ _ _
  case piece1 => exact store_state _ _ _ _ _ _ _ _ _ 0 7 (by decide) (by decide) rfl rfl x y (by omega) (by omega) h2 h3 _ _ _ _ _
  case piece2 => exact store_state _ _ _ _ _ _ _ _ _ 1 6 (by decide) (by decide) rfl rfl x y (by omega) (by omega) h2 h3 _ _ _ _ _
  case piece3 => exact store_state _ _ _ _ _ _ _ _ _ 0 6 (by decide) (by decide) rfl rfl x y (by omega) (by omega) h2 h3 _ _ _ _ _
  case piece4 => exact store_state _ _ _ _ _ _ _ _ _ 1 5 (by decide) (by decide) rfl rfl x y (by omega) (by omega) h2 h3 _ _ _ _ _
  case piece5 => exact store_state _ _ _ _ _ _ _ _ _ 0 5 (by decide) (by decide) rfl rfl x y (by omega) (by omega) h2 h3 _ _ _ _ _
  case piece6 => exact store_state _ _ _ _ _ _ _ _ _ 1 4 (by decide) (by decide) rfl rfl x y (by omega) (by omega) h2 h3 _ _ _ _ _
  case piece7 => exact store_state _ _ _ _ _ _ _ _ _ 0 4 (by decide) (by decide) rfl rfl x y (by omega) (by omega) h2 h3 _ _ _ _ _
  case piece8 => exact store_state _ _ _ _ _ _ _ _ _ 1 3 (by decide) (by decide) rfl rfl x y (by omega) (by omega) h2 h3 _ _ _ _ _
  case piece9 => exact store_state _ _ _ _ _ _ _ _ _ 0 3 (by decide) (by decide) rfl rfl x y (by omega) (by omega) h2 h3 _ _ _ _ _
  case piece10 => exact store_state _ _ _ _ _ _ _ _ _ 1 2 (by decide) (by decide) rfl rfl x y (by omega) (by omega) h2 h3 _ _ _ _ _
  case piece11 => exact store_state _ _ _ _ _ _ _ _ _ 0 2 (by decide) (by decide) rfl rfl x y (by omega) (by omega) h2 h3 _ _ _ _ _
  case piece12 => exact store_state _ _ _ _ _ _ _ _ _ 1 1 (by decide) (by decide) rfl rfl x y (by omega) (by omega) h2 h3 _ _ _ _ _
  case piece13 => exact store_state _ _ _ _ _ _ _ _ _ 0 1 (by decide) (by decide) rfl rfl x y (by omega) (by omega) h2 h3 _ _ _ _ _
  case piece14 => exact store_state _ _ _ _ _ _ _ _ _ 1 0 (by decide) (by decide) rfl rfl x y (by omega) (by omega) h2 h3 _ _ _ _ _
  case piece15 => exact store_state _ _ _ _ _ _ _ _ _ 0 0 (by decide) (by decide) rfl rfl x y (by omega) (by omega) h2 h3 _ _ _ _ _

/-- The forward outputs of a last point. -/
theorem forward_C (c : Dev nD) (t : Fin cfg0.N) (h0 : ¬t.val % 32 = 0) (h1 : t.val % 32 = 31) :
    (outsAt0 m c t.val t.isLt).1 = newOut 0 (iblk m c 0 t) (iblk m c 1 t) (iblk m c 2 t) (iblk m c 7 t) (iblk m c 6 t) (before m c t) := by
  funext y
  rw [outsAt0_C m c t h0 h1]
  frame_out
  simp only [read_unread_whole]
  canon_tiles x h
  case piece0 => exact store_out 0 (by decide) _ _ _ _ _ _ 7 (by decide) x y (by omega) h1 h2 _ _ _ _ _ _
  case piece1 => exact store_out 0 (by decide) _ _ _ _ _ _ 6 (by decide) x y (by omega) h1 h2 _ _ _ _ _ _
  case piece2 => exact store_out 0 (by decide) _ _ _ _ _ _ 5 (by decide) x y (by omega) h1 h2 _ _ _ _ _ _
  case piece3 => exact store_out 0 (by decide) _ _ _ _ _ _ 4 (by decide) x y (by omega) h1 h2 _ _ _ _ _ _
  case piece4 => exact store_out 0 (by decide) _ _ _ _ _ _ 3 (by decide) x y (by omega) h1 h2 _ _ _ _ _ _
  case piece5 => exact store_out 0 (by decide) _ _ _ _ _ _ 2 (by decide) x y (by omega) h1 h2 _ _ _ _ _ _
  case piece6 => exact store_out 0 (by decide) _ _ _ _ _ _ 1 (by decide) x y (by omega) h1 h2 _ _ _ _ _ _
  case piece7 =>
    refine (store_out 0 (by decide) _ (View.read (Elt Ideal) (ms0_1 t).view ((hs0_1 t).unread (iblk m c 1 t))) _ _ _ _ 0 (by decide) x y (by omega) h1 h2 _ _ _ _ _ _).trans ?_
    rw [(hs0_1 t).read_unread]
    rfl

/-- The backward outputs of a last point. -/
theorem backward_C (c : Dev nD) (t : Fin cfg0.N) (h0 : ¬t.val % 32 = 0) (h1 : t.val % 32 = 31) :
    (outsAt0 m c t.val t.isLt).2.1 = newOut 1 (iblk m c 3 t) (iblk m c 4 t) (iblk m c 5 t) (iblk m c 7 t) (iblk m c 6 t) (before m c t) := by
  funext y
  rw [outsAt0_C m c t h0 h1]
  frame_out
  simp only [read_unread_whole]
  canon_tiles x h
  case piece0 => exact store_out 1 (by decide) _ _ _ _ _ _ 7 (by decide) x y (by omega) h1 h2 _ _ _ _ _ _
  case piece1 => exact store_out 1 (by decide) _ _ _ _ _ _ 6 (by decide) x y (by omega) h1 h2 _ _ _ _ _ _
  case piece2 => exact store_out 1 (by decide) _ _ _ _ _ _ 5 (by decide) x y (by omega) h1 h2 _ _ _ _ _ _
  case piece3 => exact store_out 1 (by decide) _ _ _ _ _ _ 4 (by decide) x y (by omega) h1 h2 _ _ _ _ _ _
  case piece4 => exact store_out 1 (by decide) _ _ _ _ _ _ 3 (by decide) x y (by omega) h1 h2 _ _ _ _ _ _
  case piece5 => exact store_out 1 (by decide) _ _ _ _ _ _ 2 (by decide) x y (by omega) h1 h2 _ _ _ _ _ _
  case piece6 => exact store_out 1 (by decide) _ _ _ _ _ _ 1 (by decide) x y (by omega) h1 h2 _ _ _ _ _ _
  case piece7 => exact store_out 1 (by decide) _ _ _ _ _ _ 0 (by decide) x y (by omega) h1 h2 _ _ _ _ _ _

/-- The last point stores the states it leaves. -/
theorem final_C (c : Dev nD) (t : Fin cfg0.N) (h0 : ¬t.val % 32 = 0) (h1 : t.val % 32 = 31) :
    (outsAt0 m c t.val t.isLt).2.2.1 = (outsAt0 m c t.val t.isLt).2.2.2 := by
  rw [state_C m c t h0 h1]
  funext y
  rw [outsAt0_C m c t h0 h1]
  frame_out
  simp only [read_unread_whole, shapeCast_self]
  refine (congrFun (load_states _ _ _) y).trans ?_
  canon_tiles x h
  case piece0 => exact store_state _ _ _ _ _ _ _ _ _ 1 7 (by decide) (by decide) rfl rfl x y (by omega) (by omega) h2 h3 _ _ _ _ _
  case piece1 => exact store_state _ _ _ _ _ _ _ _ _ 0 7 (by decide) (by decide) rfl rfl x y (by omega) (by omega) h2 h3 _ _ _ _ _
  case piece2 => exact store_state _ _ _ _ _ _ _ _ _ 1 6 (by decide) (by decide) rfl rfl x y (by omega) (by omega) h2 h3 _ _ _ _ _
  case piece3 => exact store_state _ _ _ _ _ _ _ _ _ 0 6 (by decide) (by decide) rfl rfl x y (by omega) (by omega) h2 h3 _ _ _ _ _
  case piece4 => exact store_state _ _ _ _ _ _ _ _ _ 1 5 (by decide) (by decide) rfl rfl x y (by omega) (by omega) h2 h3 _ _ _ _ _
  case piece5 => exact store_state _ _ _ _ _ _ _ _ _ 0 5 (by decide) (by decide) rfl rfl x y (by omega) (by omega) h2 h3 _ _ _ _ _
  case piece6 => exact store_state _ _ _ _ _ _ _ _ _ 1 4 (by decide) (by decide) rfl rfl x y (by omega) (by omega) h2 h3 _ _ _ _ _
  case piece7 => exact store_state _ _ _ _ _ _ _ _ _ 0 4 (by decide) (by decide) rfl rfl x y (by omega) (by omega) h2 h3 _ _ _ _ _
  case piece8 => exact store_state _ _ _ _ _ _ _ _ _ 1 3 (by decide) (by decide) rfl rfl x y (by omega) (by omega) h2 h3 _ _ _ _ _
  case piece9 => exact store_state _ _ _ _ _ _ _ _ _ 0 3 (by decide) (by decide) rfl rfl x y (by omega) (by omega) h2 h3 _ _ _ _ _
  case piece10 => exact store_state _ _ _ _ _ _ _ _ _ 1 2 (by decide) (by decide) rfl rfl x y (by omega) (by omega) h2 h3 _ _ _ _ _
  case piece11 => exact store_state _ _ _ _ _ _ _ _ _ 0 2 (by decide) (by decide) rfl rfl x y (by omega) (by omega) h2 h3 _ _ _ _ _
  case piece12 => exact store_state _ _ _ _ _ _ _ _ _ 1 1 (by decide) (by decide) rfl rfl x y (by omega) (by omega) h2 h3 _ _ _ _ _
  case piece13 => exact store_state _ _ _ _ _ _ _ _ _ 0 1 (by decide) (by decide) rfl rfl x y (by omega) (by omega) h2 h3 _ _ _ _ _
  case piece14 => exact store_state _ _ _ _ _ _ _ _ _ 1 0 (by decide) (by decide) rfl rfl x y (by omega) (by omega) h2 h3 _ _ _ _ _
  case piece15 => exact store_state _ _ _ _ _ _ _ _ _ 0 0 (by decide) (by decide) rfl rfl x y (by omega) (by omega) h2 h3 _ _ _ _ _

end Cert.KernelIdeal.Ret

end
-- ==== Proof.RetTables.lean ====
/- The tables and the first states that the host prepares for the kernel, entry by entry. -/
module

public import proofs.«01_k».proof.Proof.RetStep
public import Idealize.ShloMosaic.Lib.StableHlo.ReadAt

@[expose] public section

set_option maxRecDepth 16384

noncomputable section

open Idealize.ShloMosaic Idealize.ShloMosaic.TcCoe Idealize.SL.Sem

namespace Cert.KernelIdeal.Ret

open Cert.KernelIdeal Cert.KernelIdeal.Gen Cert.Retention

/-- The place of a block's row in its direction's own order. -/
def ord (r : Fin 2) (i : Fin 128) : Fin 128 := if r = 0 then i else i.rev

theorem ord_zero (i : Fin 128) : ord 0 i = i := rfl

theorem ord_one (i : Fin 128) : ((ord 1 i : Fin 128) : ℕ) = 127 - i := by
  show ((i.rev : Fin 128) : ℕ) = _
  rw [Fin.val_rev]; omega

theorem ord_one_cast (i : Fin 128) : (((ord 1 i : Fin 128) : ℕ) : ℝ) = 127 - ((i : ℕ) : ℝ) := by
  rw [ord_one, Nat.cast_sub (by omega)]; norm_num

theorem decay_zero (h : Fin 4) : decay 0 h = dec h := rfl

theorem decay_one (h : Fin 4) : decay 1 h = dec (3 - h : ℕ) := by
  show dec (h.rev : Fin 4) = _
  rw [Fin.val_rev]; congr 1; omega

theorem dir_cases (r : Fin 2) : r = 0 ∨ r = 1 := by revert r; decide

/-- The exponential of a product of real numbers. -/
theorem exp_mul (P l : EReal) (p L : ℝ) (hP : P = (p : EReal)) (hl : l = (L : EReal)) :
    Ideal.exp (P * l) = ((Real.exp (p * L) : ℝ) : EReal) := by
  rw [hP, hl, ← EReal.coe_mul, Ideal.exp_coe]

/-- The constant whose word is zero. -/
theorem constant_zero : id (constant (F := Ideal) S_ FTy.f32 0#32) ix0 = 0 := by
  show Ideal.ofBits .f32 0#32 = 0
  exact Ideal.ofBits_zero .f32

theorem ext5 {n0 n1 n2 n3 n4 : ℕ} {a a' : Fin n0} {b b' : Fin n1} {c c' : Fin n2} {d d' : Fin n3} {e e' : Fin n4}
    (h0 : a = a') (h1 : b = b') (h2 : c = c') (h3 : d = d') (h4 : e = e') : ix5 a b c d e = ix5 a' b' c' d' e' := by
  subst h0 h1 h2 h3 h4; rfl

/-- A causal entry: the decay between two places, and zero where the second comes later. -/
theorem mask_eq (a b a' b' : ℕ) (ha : a = a') (hb : b = b') (h1 : a < 2 ^ 31) (h2 : b < 2 ^ 31) (l : EReal) (L : ℝ)
    (hl : l = (L : EReal)) (z : EReal) (hz : z = 0) :
    (if 0 ≤ FloatOps.sitofp (F := Ideal) .f32 (BitVec.ofNat 32 a) - FloatOps.sitofp (F := Ideal) .f32 (BitVec.ofNat 32 b) then
      Ideal.exp ((if 0 ≤ FloatOps.sitofp (F := Ideal) .f32 (BitVec.ofNat 32 a) - FloatOps.sitofp (F := Ideal) .f32 (BitVec.ofNat 32 b) then
        FloatOps.sitofp (F := Ideal) .f32 (BitVec.ofNat 32 a) - FloatOps.sitofp (F := Ideal) .f32 (BitVec.ofNat 32 b) else z) * l)
      else z) = ((if b' ≤ a' then Real.exp (((a' : ℝ) - (b' : ℝ)) * L) else 0 : ℝ) : EReal) := by
  subst ha hb hl hz
  rw [sitofp_ofNat _ h1, sitofp_ofNat _ h2, ← EReal.coe_sub]
  by_cases hij : b ≤ a
  · have h0 : (0 : EReal) ≤ ((((a : ℝ) - (b : ℝ)) : ℝ) : EReal) := by
      rw [← EReal.coe_zero, EReal.coe_le_coe_iff, sub_nonneg]; exact_mod_cast hij
    rw [if_pos h0, if_pos h0, if_pos hij, ← EReal.coe_mul, Ideal.exp_coe]
  · have h0 : ¬ (0 : EReal) ≤ ((((a : ℝ) - (b : ℝ)) : ℝ) : EReal) := by
      rw [← EReal.coe_zero, EReal.coe_le_coe_iff, sub_nonneg]; exact_mod_cast hij
    rw [if_neg h0, if_neg hij, EReal.coe_zero]

/-- The host's quotient of a lane by 64. -/
theorem hostDiv (n : ℕ) (hn : n < 256) :
    Scalar.select
      (IntOp.andi
        (IntOp.cmpi CmpIPredicate.ne
          (if BitVec.ofNat 32 n = 0 then (0 : BitVec 32) else if (BitVec.ofNat 32 n).msb = true then -1 else 1)
          (if id (constantI S_ 32 64#32) ix0 = 0 then 0
            else if BitVec.msb (id (constantI S_ 32 64#32) ix0) = true then -1 else 1))
        (IntOp.cmpi CmpIPredicate.ne
          (IntOp.remsi ArithUnit.host (BitVec.ofNat 32 n) (id (constantI S_ 32 64#32) ix0)) 0#32))
      (IntOp.subi (IntOp.divsi ArithUnit.host (BitVec.ofNat 32 n) (id (constantI S_ 32 64#32) ix0)) 1#32)
      (IntOp.divsi ArithUnit.host (BitVec.ofNat 32 n) (id (constantI S_ 32 64#32) ix0)) = BitVec.ofNat 32 (n / 64) := by
  have h : ∀ k : Fin 256, Scalar.select
      (IntOp.andi
        (IntOp.cmpi CmpIPredicate.ne
          (if BitVec.ofNat 32 k = 0 then (0 : BitVec 32) else if (BitVec.ofNat 32 k).msb = true then -1 else 1)
          (if 64#32 = 0 then 0 else if BitVec.msb 64#32 = true then -1 else 1))
        (IntOp.cmpi CmpIPredicate.ne (IntOp.remsi ArithUnit.host (BitVec.ofNat 32 k) 64#32) 0#32))
      (IntOp.subi (IntOp.divsi ArithUnit.host (BitVec.ofNat 32 k) 64#32) 1#32)
      (IntOp.divsi ArithUnit.host (BitVec.ofNat 32 k) 64#32) = BitVec.ofNat 32 (k / 64) := by
    decide +kernel
  exact h ⟨n, hn⟩

variable (m : (ℓ : Loc nD τ sig) → Buf (Elt Ideal) ℓ)

/-- The decay of a block's queries against the state before the block. -/
theorem qdec_at (c : Dev nD) (r : Fin 2) (i : Fin 128) (h : Fin 4) (x : Fin 256) (hx : (x : ℕ) / 64 = h) :
    (V m c main_v127 : FVec Ideal ⟨3, ![2, 128, 256]⟩ .f32) (ix3 r i x)
      = ((Real.exp ((((ord r i : Fin 128) : ℕ) + 1) * decay r h) : ℝ) : EReal) := by
  rcases dir_cases r with rfl | rfl
  · unfold V
    after_reads_at
    refine exp_mul _ _ _ _ ?_ ?_
    · rw [sitofp_ofNat _ (by omega), ← EReal.coe_one, ← EReal.coe_add, ord_zero]
    · rw [decay_zero, ← hx]
      exact dec_eq _ (by omega)
  · unfold V
    after_reads_at
    refine exp_mul _ _ _ _ ?_ ?_
    · rw [sitofp_ofNat _ (by omega), ofBits_128, ← EReal.coe_sub, ord_one_cast]
      congr 1; ring
    · rw [decay_one, ← hx]
      simp only [List.mem_singleton, ↓reduceIte, Fin.val_rev]
      rw [show 4 - ((x : ℕ) / 64 + 1) = 3 - (x : ℕ) / 64 by omega]
      exact dec_eq (3 - (x : ℕ) / 64) (by omega)

/-- The decay of a block's keys up to the block's end. -/
theorem kdec_at (c : Dev nD) (r : Fin 2) (i : Fin 128) (h : Fin 4) (x : Fin 256) (hx : (x : ℕ) / 64 = h) :
    (V m c main_v130 : FVec Ideal ⟨3, ![2, 128, 256]⟩ .f32) (ix3 r i x)
      = ((Real.exp ((((128 : ℕ) : ℝ) - 1 - ((ord r i : Fin 128) : ℕ)) * decay r h) : ℝ) : EReal) := by
  rcases dir_cases r with rfl | rfl
  · unfold V
    after_reads_at
    refine exp_mul _ _ _ _ ?_ ?_
    · rw [sitofp_ofNat _ (by omega), ofBits_127, ← EReal.coe_sub, ord_zero]
      congr 1; norm_num
    · rw [decay_zero, ← hx]
      exact dec_eq _ (by omega)
  · unfold V
    after_reads_at
    refine exp_mul _ _ _ _ ?_ ?_
    · rw [sitofp_ofNat _ (by omega), ord_one_cast]
      congr 1; norm_num
    · rw [decay_one, ← hx]
      simp only [List.mem_singleton, ↓reduceIte, Fin.val_rev]
      rw [show 4 - ((x : ℕ) / 64 + 1) = 3 - (x : ℕ) / 64 by omega]
      exact dec_eq (3 - (x : ℕ) / 64) (by omega)

/-- The decay of a whole block. -/
theorem cdec_at (c : Dev nD) (r : Fin 2) (h : Fin 4) (x : Fin 256) (hx : (x : ℕ) / 64 = h) :
    (V m c main_v133 : FVec Ideal ⟨3, ![2, 1, 256]⟩ .f32) (ix3 r 0 x)
      = ((Real.exp (((128 : ℕ) : ℝ) * decay r h) : ℝ) : EReal) := by
  rcases dir_cases r with rfl | rfl
  · unfold V
    after_reads_at
    refine exp_mul _ _ _ _ ?_ ?_
    · rw [ofBits_128]; norm_num
    · rw [decay_zero, ← hx]
      exact dec_eq _ (by omega)
  · unfold V
    after_reads_at
    refine exp_mul _ _ _ _ ?_ ?_
    · rw [ofBits_128]; norm_num
    · rw [decay_one, ← hx]
      simp only [List.mem_singleton, ↓reduceIte, Fin.val_rev]
      rw [show 4 - ((x : ℕ) / 64 + 1) = 3 - (x : ℕ) / 64 by omega]
      exact dec_eq (3 - (x : ℕ) / 64) (by omega)

/-- The causal decays of a block in the sequence's order. -/
theorem dmat_forward (c : Dev nD) (i j : Fin 128) (h : Fin 4) (x : Fin 512) (hx : (x : ℕ) = h * 128 + j) :
    (V m c main_v124 : FVec Ideal ⟨3, ![2, 128, 512]⟩ .f32) (ix3 0 i x)
      = ((if (j : ℕ) ≤ i then Real.exp ((((i : ℕ) : ℝ) - ((j : ℕ) : ℝ)) * dec h) else 0 : ℝ) : EReal) := by
  unfold V
  after_reads_at
  obtain ⟨h, hh⟩ := h
  dsimp only at hx ⊢
  interval_cases h
  · rw [dif_pos (by omega)]
    after_reads_at
    exact mask_eq _ _ _ _ rfl (by omega) (by omega) (by omega) _ _ (dec_eq 0 (by omega)) _ constant_zero
  · rw [dif_neg (by omega), dif_pos (by omega)]
    after_reads_at
    exact mask_eq _ _ _ _ rfl (by omega) (by omega) (by omega) _ _ (dec_eq 1 (by omega)) _ constant_zero
  · rw [dif_neg (by omega), dif_neg (by omega), dif_pos (by omega)]
    after_reads_at
    exact mask_eq _ _ _ _ rfl (by omega) (by omega) (by omega) _ _ (dec_eq 2 (by omega)) _ constant_zero
  · rw [dif_neg (by omega), dif_neg (by omega), dif_neg (by omega)]
    after_reads_at
    exact mask_eq _ _ _ _ rfl (by omega) (by omega) (by omega) _ _ (dec_eq 3 (by omega)) _ constant_zero

/-- The causal decays of a block in the reversed order. -/
theorem dmat_backward (c : Dev nD) (i j : Fin 128) (h : Fin 4) (x : Fin 512) (hx : (x : ℕ) = h * 128 + j) :
    (V m c main_v124 : FVec Ideal ⟨3, ![2, 128, 512]⟩ .f32) (ix3 1 i x)
      = ((if (i : ℕ) ≤ j then Real.exp ((((j : ℕ) : ℝ) - ((i : ℕ) : ℝ)) * dec (3 - h : ℕ)) else 0 : ℝ) : EReal) := by
  unfold V
  after_reads_at
  obtain ⟨h, hh⟩ := h
  dsimp only at hx ⊢
  interval_cases h
  · rw [dif_pos (by omega)]
    after_reads_at
    exact mask_eq _ _ _ _ (by omega) rfl (by omega) (by omega) _ _ (dec_eq 3 (by omega)) _ constant_zero
  · rw [dif_neg (by omega), dif_pos (by omega)]
    after_reads_at
    exact mask_eq _ _ _ _ (by omega) rfl (by omega) (by omega) _ _ (dec_eq 2 (by omega)) _ constant_zero
  · rw [dif_neg (by omega), dif_neg (by omega), dif_pos (by omega)]
    after_reads_at
    exact mask_eq _ _ _ _ (by omega) rfl (by omega) (by omega) _ _ (dec_eq 1 (by omega)) _ constant_zero
  · rw [dif_neg (by omega), dif_neg (by omega), dif_neg (by omega)]
    after_reads_at
    exact mask_eq _ _ _ _ (by omega) rfl (by omega) (by omega) _ _ (dec_eq 0 (by omega)) _ constant_zero

/-- The causal decays of a block, in either direction's own order. -/
theorem dmat_at (c : Dev nD) (r : Fin 2) (i j : Fin 128) (h : Fin 4) (x : Fin 512) (hx : (x : ℕ) = h * 128 + j) :
    (V m c main_v124 : FVec Ideal ⟨3, ![2, 128, 512]⟩ .f32) (ix3 r i x)
      = ((if ((ord r j : Fin 128) : ℕ) ≤ (ord r i : Fin 128) then
          Real.exp (((((ord r i : Fin 128) : ℕ) : ℝ) - (((ord r j : Fin 128) : ℕ) : ℝ)) * decay r h) else 0 : ℝ) : EReal) := by
  rcases dir_cases r with rfl | rfl
  · exact dmat_forward m c i j h x hx
  · rw [dmat_backward m c i j h x hx, decay_one, ord_one_cast, ord_one_cast, ord_one, ord_one]
    have e : (127 - ((i : ℕ) : ℝ)) - (127 - ((j : ℕ) : ℝ)) = ((j : ℕ) : ℝ) - ((i : ℕ) : ℝ) := by ring
    rw [e]
    by_cases hij : (i : ℕ) ≤ j
    · rw [if_pos hij, if_pos (by omega)]
    · rw [if_neg hij, if_neg (by omega)]

/-- The states before the first block: each head's given state is a diagonal block. -/
theorem start_at (c : Dev nD) (r : Fin 2) (b : Fin 8) (i j : Fin 256) :
    (V m c main_v11 : FVec Ideal ⟨4, ![2, 8, 256, 256]⟩ .f32) (ix4 r b i j)
      = if (i : ℕ) / 64 = (j : ℕ) / 64 then
          (m ((c : Thread nD τ).loc main_arg1) : FVec Ideal ⟨5, ![2, 8, 4, 64, 64]⟩ .f32) (ix5 r b ⟨(i : ℕ) / 64, by omega⟩
            ⟨(i : ℕ) % 64, Nat.mod_lt _ (by decide)⟩ ⟨(j : ℕ) % 64, Nat.mod_lt _ (by decide)⟩)
        else (0 : EReal) := by
  unfold V
  after_reads_at
  rw [hostDiv i i.isLt, hostDiv j j.isLt, select_eq _ _ (by omega) (by omega)]
  rcases (by omega : (j : ℕ) < 64 ∨ (64 ≤ (j : ℕ) ∧ (j : ℕ) < 128) ∨ (128 ≤ (j : ℕ) ∧ (j : ℕ) < 192) ∨ 192 ≤ (j : ℕ))
    with h | ⟨h, h'⟩ | ⟨h, h'⟩ | h
  · rw [dif_pos (show (j : ℕ) < 64 from h)]
    after_reads_at
    refine if_congr Iff.rfl (congrArg _ ?_) constant_zero
    exact ext5 rfl rfl rfl rfl (Fin.ext (by simp only; omega))
  · rw [dif_neg (show ¬ (j : ℕ) < 64 by omega), dif_pos (show (j : ℕ) - 64 < 64 by omega)]
    after_reads_at
    refine if_congr Iff.rfl (congrArg _ ?_) constant_zero
    exact ext5 rfl rfl rfl rfl (Fin.ext (by simp only; omega))
  · rw [dif_neg (show ¬ (j : ℕ) < 64 by omega), dif_neg (show ¬ (j : ℕ) - 64 < 64 by omega),
      dif_pos (show (j : ℕ) - 64 - 64 < 64 by omega)]
    after_reads_at
    refine if_congr Iff.rfl (congrArg _ ?_) constant_zero
    exact ext5 rfl rfl rfl rfl (Fin.ext (by simp only; omega))
  · rw [dif_neg (show ¬ (j : ℕ) < 64 by omega), dif_neg (show ¬ (j : ℕ) - 64 < 64 by omega),
      dif_neg (show ¬ (j : ℕ) - 64 - 64 < 64 by omega)]
    after_reads_at
    refine if_congr Iff.rfl (congrArg _ ?_) constant_zero
    exact ext5 rfl rfl rfl rfl (Fin.ext (by simp only; omega))

/-! ## The windows' blocks -/

/-- Which block each input window takes at a point. -/
theorem idx : ∀ t : Fin cfg0.N, (win0_0.index t = ![0, t.val, 4] ∧ win0_1.index t = ![0, t.val, 5] ∧ win0_2.index t = ![0, t.val, 6])
    ∧ (win0_3.index t = ![0, 31 - t.val, 4] ∧ win0_4.index t = ![0, 31 - t.val, 5] ∧ win0_5.index t = ![0, 31 - t.val, 6])
    ∧ win0_6.index t = ![0, 0, 0] ∧ win0_7.index t = ![0, 0, 0] ∧ win0_8.index t = ![0, 0, 0] ∧ win0_9.index t = ![0, 0, 0]
    ∧ win0_10.index t = ![0, 0, 0, 0] :=
  (by decide +kernel : ∀ t : Fin grid0.N, _)

theorem iblk6 (c : Dev nD) (t : Fin cfg0.N) : iblk m c 6 t = V m c main_v124 := by
  have e := (idx t).2.2.1
  blk_ext! [iblk, e]

theorem iblk7 (c : Dev nD) (t : Fin cfg0.N) : iblk m c 7 t = V m c main_v127 := by
  have e := (idx t).2.2.2.1
  blk_ext! [iblk, e]

theorem iblk8 (c : Dev nD) (t : Fin cfg0.N) : iblk m c 8 t = V m c main_v130 := by
  have e := (idx t).2.2.2.2.1
  blk_ext! [iblk, e]

theorem iblk9 (c : Dev nD) (t : Fin cfg0.N) : iblk m c 9 t = V m c main_v133 := by
  have e := (idx t).2.2.2.2.2.1
  blk_ext! [iblk, e]

theorem iblk10_at (c : Dev nD) (t : Fin cfg0.N) (r : Fin 2) (b : Fin 8) (i j : Fin 256) :
    (iblk m c 10 t : FVec Ideal ⟨4, ![2, 8, 256, 256]⟩ .f32) (ix4 r b i j)
      = (V m c main_v11 : FVec Ideal ⟨4, ![2, 8, 256, 256]⟩ .f32) (ix4 r b i j) := by
  have e := (idx t).2.2.2.2.2.2
  blk_ext [iblk, e]

theorem point_lt (t : Fin cfg0.N) : t.val < 32 := t.isLt

/-- The lanes the kernel reads. -/
abbrev feats (c : Dev nD) : FVec Ideal ⟨3, ![8, 4096, 5376]⟩ .f32 := m ((c : Thread nD τ).loc main_arg0)

theorem iblk0 (c : Dev nD) (t : Fin cfg0.N) (b : Fin 8) (i : Fin 128) (x : Fin 256) :
    (iblk m c 0 t : FVec Ideal ⟨3, ![8, 128, 256]⟩ .f32) (ix3 b i x)
      = feats m c (ix3 b ⟨t.val * 128 + i, by have := point_lt t; omega⟩ ⟨1024 + x, by omega⟩) := by
  have e := (idx t).1.1
  unfold feats
  rw [← V_main_arg0 m c]
  blk_ext [iblk, e]

theorem iblk1 (c : Dev nD) (t : Fin cfg0.N) (b : Fin 8) (i : Fin 128) (x : Fin 256) :
    (iblk m c 1 t : FVec Ideal ⟨3, ![8, 128, 256]⟩ .f32) (ix3 b i x)
      = feats m c (ix3 b ⟨t.val * 128 + i, by have := point_lt t; omega⟩ ⟨1024 + (256 + x), by omega⟩) := by
  have e := (idx t).1.2.1
  unfold feats
  rw [← V_main_arg0 m c]
  blk_ext [iblk, e]

theorem iblk2 (c : Dev nD) (t : Fin cfg0.N) (b : Fin 8) (i : Fin 128) (x : Fin 256) :
    (iblk m c 2 t : FVec Ideal ⟨3, ![8, 128, 256]⟩ .f32) (ix3 b i x)
      = feats m c (ix3 b ⟨t.val * 128 + i, by have := point_lt t; omega⟩ ⟨1024 + (512 + x), by omega⟩) := by
  have e := (idx t).1.2.2
  unfold feats
  rw [← V_main_arg0 m c]
  blk_ext [iblk, e]

theorem iblk3 (c : Dev nD) (t : Fin cfg0.N) (b : Fin 8) (i : Fin 128) (x : Fin 256) :
    (iblk m c 3 t : FVec Ideal ⟨3, ![8, 128, 256]⟩ .f32) (ix3 b i x)
      = feats m c (ix3 b ⟨(31 - t.val) * 128 + i, by have := point_lt t; omega⟩ ⟨1024 + x, by omega⟩) := by
  have e := (idx t).2.1.1
  unfold feats
  rw [← V_main_arg0 m c]
  blk_ext [iblk, e]

theorem iblk4 (c : Dev nD) (t : Fin cfg0.N) (b : Fin 8) (i : Fin 128) (x : Fin 256) :
    (iblk m c 4 t : FVec Ideal ⟨3, ![8, 128, 256]⟩ .f32) (ix3 b i x)
      = feats m c (ix3 b ⟨(31 - t.val) * 128 + i, by have := point_lt t; omega⟩ ⟨1024 + (256 + x), by omega⟩) := by
  have e := (idx t).2.1.2.1
  unfold feats
  rw [← V_main_arg0 m c]
  blk_ext [iblk, e]

theorem iblk5 (c : Dev nD) (t : Fin cfg0.N) (b : Fin 8) (i : Fin 128) (x : Fin 256) :
    (iblk m c 5 t : FVec Ideal ⟨3, ![8, 128, 256]⟩ .f32) (ix3 b i x)
      = feats m c (ix3 b ⟨(31 - t.val) * 128 + i, by have := point_lt t; omega⟩ ⟨1024 + (512 + x), by omega⟩) := by
  have e := (idx t).2.1.2.2
  unfold feats
  rw [← V_main_arg0 m c]
  blk_ext [iblk, e]

end Cert.KernelIdeal.Ret

end
-- ==== Proof.RetKernel.lean ====
/- The kernel's states and outputs over the whole sequence. -/
module

public import proofs.«01_k».proof.Proof.RetTables
public import proofs.«01_k».proof.Proof.RetChain

@[expose] public section

set_option maxRecDepth 16384

noncomputable section

open Idealize.ShloMosaic Idealize.ShloMosaic.TcCoe Idealize.SL.Sem

namespace Cert.KernelIdeal.Ret

open Cert.KernelIdeal Cert.KernelIdeal.Gen Cert.Retention

/-- Going over a block in either order gives the same sum. -/
theorem sum_ord (r : Fin 2) (f : Fin 128 → ℝ) : ∑ j, f (ord r j) = ∑ j, f j := by
  refine Function.Bijective.sum_comp (Function.Involutive.bijective fun i => ?_) f
  rcases dir_cases r with rfl | rfl
  · rfl
  · exact Fin.rev_rev i

/-- A block of lanes holds the tokens from the `n`-th on, in the direction's own order. -/
def Holds (X : FVec Ideal ⟨3, ![8, 4096, 5376]⟩ .f32) (B : FVec Ideal S8x128x256 .f32) (g : Fin 3) (r : Fin 2) (n : ℕ) : Prop :=
  ∀ (b : Fin 8) (i : Fin 128) (h : Fin 4) (d : Fin 64) (x : Fin 256), (x : ℕ) = h * 64 + d →
    B (ix3 b i x) = ((lane X g r b h (n + ord r i) d : ℝ) : EReal)

variable (X : FVec Ideal ⟨3, ![8, 4096, 5376]⟩ .f32) (S : FVec Ideal ⟨5, ![2, 8, 4, 64, 64]⟩ .f32)

/-- A chain's states `n` tokens on, at an element of a head's diagonal block. -/
theorem states_diag (n : ℕ) (r : Fin 2) (b : Fin 8) (h : Fin 4) (d e : Fin 64) (x y : Fin 256) (hx : (x : ℕ) = h * 64 + d)
    (hy : (y : ℕ) = h * 64 + e) : states X S n (ix4 r b x y) = ((stateAt X S r b h n d e : ℝ) : EReal) := by
  have e1 : (x : ℕ) / 64 = h := by omega
  have e2 : (y : ℕ) / 64 = h := by omega
  show (if (x : ℕ) / 64 = (y : ℕ) / 64 then _ else _) = _
  rw [if_pos (e1.trans e2.symm)]
  have e3 : (⟨(x : ℕ) / 64, by omega⟩ : Fin 4) = h := Fin.ext e1
  have e4 : (⟨(x : ℕ) % 64, Nat.mod_lt _ (by decide)⟩ : Fin 64) = d := Fin.ext (by simp only; omega)
  have e5 : (⟨(y : ℕ) % 64, Nat.mod_lt _ (by decide)⟩ : Fin 64) = e := Fin.ext (by simp only; omega)
  show ((stateAt X S r b ⟨(x : ℕ) / 64, _⟩ n ⟨(x : ℕ) % 64, _⟩ ⟨(y : ℕ) % 64, _⟩ : ℝ) : EReal) = _
  rw [e3, e4, e5]

theorem states_off (n : ℕ) (r : Fin 2) (b : Fin 8) (x y : Fin 256) (h : (x : ℕ) / 64 ≠ (y : ℕ) / 64) :
    states X S n (ix4 r b x y) = 0 := if_neg h

/-- One chain's states after a block. -/
theorem chainState_states (n : ℕ) (r : Fin 2) (b : Fin 8) (K W : FVec Ideal S8x128x256 .f32) (kd : FVec Ideal S2x128x256 .f32)
    (cd : FVec Ideal S2x1x256 .f32) (old : FVec Ideal S2x8x256x256 .f32) (hK : Holds X K 1 r n) (hW : Holds X W 2 r n)
    (hkd : ∀ (i : Fin 128) (h : Fin 4) (x : Fin 256), (x : ℕ) / 64 = h →
      kd (ix3 r i x) = ((Real.exp ((((128 : ℕ) : ℝ) - 1 - ((ord r i : Fin 128) : ℕ)) * decay r h) : ℝ) : EReal))
    (hcd : ∀ (h : Fin 4) (x : Fin 256), (x : ℕ) / 64 = h → cd (ix3 r 0 x) = ((Real.exp (((128 : ℕ) : ℝ) * decay r h) : ℝ) : EReal))
    (hold : old = states X S n) (x y : Fin 256) :
    chainState (slab K b) (slab W b) (slab kd r) (slab cd r) (chainOf old r b) (ix2 x y) = states X S (n + 128) (ix4 r b x y) := by
  rw [chainState_at]
  by_cases hxy : (x : ℕ) / 64 = (y : ℕ) / 64
  · rw [if_pos hxy]
    have hh : (x : ℕ) / 64 < 4 := by omega
    have hd : (x : ℕ) % 64 < 64 := by omega
    have he : (y : ℕ) % 64 < 64 := by omega
    have hx' : (x : ℕ) = ((⟨(x : ℕ) / 64, hh⟩ : Fin 4) : ℕ) * 64 + ((⟨(x : ℕ) % 64, hd⟩ : Fin 64) : ℕ) := by simp only; omega
    have hy' : (y : ℕ) = ((⟨(x : ℕ) / 64, hh⟩ : Fin 4) : ℕ) * 64 + ((⟨(y : ℕ) % 64, he⟩ : Fin 64) : ℕ) := by simp only; omega
    generalize (⟨(x : ℕ) / 64, hh⟩ : Fin 4) = h at hx' hy'
    generalize (⟨(x : ℕ) % 64, hd⟩ : Fin 64) = d at hx' hy'
    generalize (⟨(y : ℕ) % 64, he⟩ : Fin 64) = e at hx' hy'
    rw [states_diag X S (n + 128) r b h d e x y hx' hy', chainOf_at, hold, states_diag X S n r b h d e x y hx' hy', slab_at,
      hcd h y (by omega)]
    simp only [slab_at]
    rw [Finset.sum_congr rfl fun j _ => by
      rw [hK b j h d x hx', hW b j h e y hy', hkd j h x (by omega), ← EReal.coe_mul, ← EReal.coe_mul]]
    rw [sum_coe, ← EReal.coe_mul, ← EReal.coe_add]
    congr 1
    unfold stateAt
    rw [state_add, sum_ord r (fun j => (lane X 1 r b h (n + j) d * Real.exp ((((128 : ℕ) : ℝ) - 1 - (j : ℕ)) * decay r h))
      * lane X 2 r b h (n + j) e), mul_comm]
  · rw [if_neg hxy, states_off X S _ r b x y hxy, chainOf_at, hold, states_off X S _ r b x y hxy, zero_mul, add_zero]

/-- One chain's outputs at a block. -/
theorem chainOut_outs (n : ℕ) (r : Fin 2) (b : Fin 8) (Q K W : FVec Ideal S8x128x256 .f32) (qd : FVec Ideal S2x128x256 .f32)
    (dm : FVec Ideal S2x128x512 .f32) (old : FVec Ideal S2x8x256x256 .f32) (hQ : Holds X Q 0 r n) (hK : Holds X K 1 r n)
    (hW : Holds X W 2 r n)
    (hqd : ∀ (i : Fin 128) (h : Fin 4) (x : Fin 256), (x : ℕ) / 64 = h →
      qd (ix3 r i x) = ((Real.exp ((((ord r i : Fin 128) : ℕ) + 1) * decay r h) : ℝ) : EReal))
    (hdm : ∀ (i j : Fin 128) (h : Fin 4) (x : Fin 512), (x : ℕ) = h * 128 + j →
      dm (ix3 r i x) = ((if ((ord r j : Fin 128) : ℕ) ≤ (ord r i : Fin 128) then
          Real.exp (((((ord r i : Fin 128) : ℕ) : ℝ) - (((ord r j : Fin 128) : ℕ) : ℝ)) * decay r h) else 0 : ℝ) : EReal))
    (hold : old = states X S n) (i : Fin 128) (h : Fin 4) (e : Fin 64) :
    chainOut (slab Q b) (slab K b) (slab W b) (slab qd r) (slab dm r) (chainOf old r b) (ix2 i ⟨h * 64 + e, by omega⟩)
      = ((outAt X S r b h (n + ord r i) e : ℝ) : EReal) := by
  rw [chainOut_at _ _ _ _ _ _ i h e (fun a c hac => by rw [chainOf_at, hold, states_off X S n r b a c hac])]
  simp only [slab_at, chainOf_at]
  have e1 : ∀ j : Fin 128, (∑ d : Fin 64, Q (ix3 b i ⟨h * 64 + d, by omega⟩) * K (ix3 b j ⟨h * 64 + d, by omega⟩))
      * dm (ix3 r i ⟨h * 128 + j, by omega⟩) * W (ix3 b j ⟨h * 64 + e, by omega⟩)
      = (((∑ d : Fin 64, lane X 0 r b h (n + ord r i) d * lane X 1 r b h (n + ord r j) d)
        * (if ((ord r j : Fin 128) : ℕ) ≤ (ord r i : Fin 128) then
          Real.exp (((((ord r i : Fin 128) : ℕ) : ℝ) - (((ord r j : Fin 128) : ℕ) : ℝ)) * decay r h) else 0)
        * lane X 2 r b h (n + ord r j) e : ℝ) : EReal) := fun j => by
    rw [Finset.sum_congr rfl fun (d : Fin 64) _ => by rw [hQ b i h d _ rfl, hK b j h d _ rfl, ← EReal.coe_mul],
      sum_coe, hdm i j h _ rfl, hW b j h e _ rfl, ← EReal.coe_mul, ← EReal.coe_mul]
  have e2 : ∀ d : Fin 64, Q (ix3 b i ⟨h * 64 + d, by omega⟩) * qd (ix3 r i ⟨h * 64 + d, by omega⟩)
      * old (ix4 r b ⟨h * 64 + d, by omega⟩ ⟨h * 64 + e, by omega⟩)
      = ((lane X 0 r b h (n + ord r i) d * Real.exp ((((ord r i : Fin 128) : ℕ) + 1) * decay r h) * stateAt X S r b h n d e : ℝ)
        : EReal) := fun d => by
    rw [hQ b i h d _ rfl, hqd i h _ (by simp only; omega), hold, states_diag X S n r b h d e _ _ rfl rfl, ← EReal.coe_mul,
      ← EReal.coe_mul]
  rw [Finset.sum_congr rfl fun j _ => e1 j, sum_coe, Finset.sum_congr rfl fun d _ => e2 d, sum_coe, ← EReal.coe_add]
  congr 1
  unfold outAt
  rw [out_add]
  congr 1
  exact sum_ord r fun j => (∑ d : Fin 64, lane X 0 r b h (n + ord r i) d * lane X 1 r b h (n + j) d)
    * (if (j : ℕ) ≤ (ord r i : Fin 128) then Real.exp (((((ord r i : Fin 128) : ℕ) : ℝ) - ((j : ℕ) : ℝ)) * decay r h) else 0)
    * lane X 2 r b h (n + j) e

variable (m : (ℓ : Loc nD τ sig) → Buf (Elt Ideal) ℓ)

/-- The states given to the kernel. -/
abbrev given (c : Dev nD) : FVec Ideal ⟨5, ![2, 8, 4, 64, 64]⟩ .f32 := m ((c : Thread nD τ).loc main_arg1)

section Blocks

variable (c : Dev nD) (hX : RealLanes (feats m c)) (t : Fin cfg0.N)
include hX

theorem holds0 : Holds (feats m c) (iblk m c 0 t) 0 0 (t.val * 128) := fun b i h d x hx =>
  (iblk0 m c t b i x).trans (lane_eq (feats m c) hX 0 0 b h _ d _ _ rfl (by simp; omega))

theorem holds1 : Holds (feats m c) (iblk m c 1 t) 1 0 (t.val * 128) := fun b i h d x hx =>
  (iblk1 m c t b i x).trans (lane_eq (feats m c) hX 1 0 b h _ d _ _ rfl (by simp; omega))

theorem holds2 : Holds (feats m c) (iblk m c 2 t) 2 0 (t.val * 128) := fun b i h d x hx =>
  (iblk2 m c t b i x).trans (lane_eq (feats m c) hX 2 0 b h _ d _ _ rfl (by simp; omega))

omit hX in
/-- Where a reversed block's row sits in the sequence. -/
theorem tok_back (i : Fin 128) : (31 - t.val) * 128 + (i : ℕ) = tok 1 (t.val * 128 + ord 1 i) := by
  have := point_lt t
  rw [ord_one]
  show _ = 4095 - _
  omega

theorem holds3 : Holds (feats m c) (iblk m c 3 t) 0 1 (t.val * 128) := fun b i h d x hx =>
  (iblk3 m c t b i x).trans (lane_eq (feats m c) hX 0 1 b h _ d _ _ (tok_back t i) (by simp; omega))

theorem holds4 : Holds (feats m c) (iblk m c 4 t) 1 1 (t.val * 128) := fun b i h d x hx =>
  (iblk4 m c t b i x).trans (lane_eq (feats m c) hX 1 1 b h _ d _ _ (tok_back t i) (by simp; omega))

theorem holds5 : Holds (feats m c) (iblk m c 5 t) 2 1 (t.val * 128) := fun b i h d x hx =>
  (iblk5 m c t b i x).trans (lane_eq (feats m c) hX 2 1 b h _ d _ _ (tok_back t i) (by simp; omega))

/-- A point takes the states on by one block. -/
theorem newState_states (old : FVec Ideal S2x8x256x256 .f32) (hold : old = states (feats m c) (given m c) (t.val * 128)) :
    newState (iblk m c 1 t) (iblk m c 2 t) (iblk m c 4 t) (iblk m c 5 t) (iblk m c 8 t) (iblk m c 9 t) old
      = states (feats m c) (given m c) (t.val * 128 + 128) := by
  funext y
  rw [eq_ix4 y]
  generalize y 0 = r
  rw [iblk8, iblk9]
  rcases dir_cases r with rfl | rfl
  · exact chainState_states (feats m c) (given m c) _ 0 _ _ _ _ _ _ (holds1 m c hX t) (holds2 m c hX t)
      (fun i h x => kdec_at m c 0 i h x) (fun h x => cdec_at m c 0 h x) hold _ _
  · exact chainState_states (feats m c) (given m c) _ 1 _ _ _ _ _ _ (holds4 m c hX t) (holds5 m c hX t)
      (fun i h x => kdec_at m c 1 i h x) (fun h x => cdec_at m c 1 h x) hold _ _

/-- What a point writes going forward. -/
theorem newOut_forward (old : FVec Ideal S2x8x256x256 .f32) (hold : old = states (feats m c) (given m c) (t.val * 128))
    (b : Fin 8) (i : Fin 128) (x : Fin 256) :
    newOut 0 (iblk m c 0 t) (iblk m c 1 t) (iblk m c 2 t) (iblk m c 7 t) (iblk m c 6 t) old (ix3 b i x)
      = outs (feats m c) (given m c) 0 (ix3 b ⟨t.val * 128 + i, by have := point_lt t; omega⟩ x) := by
  rw [iblk7, iblk6]
  have e := chainOut_outs (feats m c) (given m c) _ 0 b _ _ _ _ _ _ (holds0 m c hX t) (holds1 m c hX t) (holds2 m c hX t)
    (fun i h x => qdec_at m c 0 i h x) (fun i j h x => dmat_at m c 0 i j h x) hold i ⟨(x : ℕ) / 64, by omega⟩
    ⟨(x : ℕ) % 64, Nat.mod_lt _ (by decide)⟩
  have ex : (⟨((⟨(x : ℕ) / 64, by omega⟩ : Fin 4) : ℕ) * 64 + ((⟨(x : ℕ) % 64, Nat.mod_lt _ (by decide)⟩ : Fin 64) : ℕ),
    by simp only; omega⟩ : Fin 256) = x := Fin.ext (by simp only; omega)
  rw [ex] at e
  exact e

/-- What a point writes going backward. -/
theorem newOut_backward (old : FVec Ideal S2x8x256x256 .f32) (hold : old = states (feats m c) (given m c) (t.val * 128))
    (b : Fin 8) (i : Fin 128) (x : Fin 256) :
    newOut 1 (iblk m c 3 t) (iblk m c 4 t) (iblk m c 5 t) (iblk m c 7 t) (iblk m c 6 t) old (ix3 b i x)
      = outs (feats m c) (given m c) 1 (ix3 b ⟨(31 - t.val) * 128 + i, by have := point_lt t; omega⟩ x) := by
  rw [iblk7, iblk6]
  have e := chainOut_outs (feats m c) (given m c) _ 1 b _ _ _ _ _ _ (holds3 m c hX t) (holds4 m c hX t) (holds5 m c hX t)
    (fun i h x => qdec_at m c 1 i h x) (fun i j h x => dmat_at m c 1 i j h x) hold i ⟨(x : ℕ) / 64, by omega⟩
    ⟨(x : ℕ) % 64, Nat.mod_lt _ (by decide)⟩
  have ex : (⟨((⟨(x : ℕ) / 64, by omega⟩ : Fin 4) : ℕ) * 64 + ((⟨(x : ℕ) % 64, Nat.mod_lt _ (by decide)⟩ : Fin 64) : ℕ),
    by simp only; omega⟩ : Fin 256) = x := Fin.ext (by simp only; omega)
  rw [ex] at e
  refine e.trans ?_
  have en : t.val * 128 + ((ord 1 i : Fin 128) : ℕ) = tok 1 ((31 - t.val) * 128 + i) := by
    have := point_lt t
    rw [ord_one]
    show _ = 4095 - _
    omega
  rw [en]
  rfl

end Blocks

/-- The states before the first point are the given ones. -/
theorem first_states (c : Dev nD) (hS : ∀ r b h d e, given m c (ix5 r b h d e) = ((start (given m c) r b h d e : ℝ) : EReal))
    (t : Fin cfg0.N) : (iblk m c 10 t : FVec Ideal S2x8x256x256 .f32) = states (feats m c) (given m c) 0 := by
  refine ext4 fun r b i j => ?_
  rw [iblk10_at, start_at]
  show _ = (if (i : ℕ) / 64 = (j : ℕ) / 64 then _ else _)
  split
  · exact hS _ _ _ _ _
  · rfl

/-- Which block each output window writes at a point. -/
theorem idx_out : ∀ t : Fin cfg0.N, win0_11.index t = ![0, t.val, 0] ∧ win0_12.index t = ![0, 31 - t.val, 0]
    ∧ win0_13.index t = ![0, 0, 0, 0] :=
  (by decide +kernel : ∀ t : Fin grid0.N, _)

section Run

variable (c : Dev nD) (hX : RealLanes (feats m c))
  (hS : ∀ r b h d e, given m c (ix5 r b h d e) = ((start (given m c) r b h d e : ℝ) : EReal))
include hX hS

/-- The states after each point. -/
theorem states_after : ∀ (n : ℕ) (hn : n < cfg0.N),
    (outsAt0 m c n hn).2.2.2 = states (feats m c) (given m c) (n * 128 + 128)
  | 0, hn => (state_A m c ⟨0, hn⟩ (show 0 % 32 = 0 from rfl) (show ¬0 % 32 = 31 by decide)).trans
      (newState_states m c hX ⟨0, hn⟩ _ (by rw [first_states m c hS]; simp only [Nat.zero_mul]))
  | n + 1, hn => by
    have ih : before m c ⟨n + 1, hn⟩ = states (feats m c) (given m c) ((n + 1) * 128) := by
      rw [Nat.succ_mul]
      exact states_after n (by omega)
    have hl : n + 1 < 32 := hn
    by_cases h1 : (n + 1) % 32 = 31
    · exact (state_C m c ⟨n + 1, hn⟩ (show ¬(n + 1) % 32 = 0 by omega) h1).trans (newState_states m c hX ⟨n + 1, hn⟩ _ ih)
    · exact (state_B m c ⟨n + 1, hn⟩ (show ¬(n + 1) % 32 = 0 by omega) h1).trans (newState_states m c hX ⟨n + 1, hn⟩ _ ih)

theorem before_states (t : Fin cfg0.N) (h0 : ¬t.val % 32 = 0) : before m c t = states (feats m c) (given m c) (t.val * 128) := by
  have := point_lt t
  have e := states_after m c hX hS (t.val - 1) (Nat.lt_of_le_of_lt (Nat.sub_le _ _) t.isLt)
  rw [show (t.val - 1) * 128 + 128 = t.val * 128 by omega] at e
  exact e

theorem forward_at (t : Fin cfg0.N) (b : Fin 8) (i : Fin 128) (x : Fin 256) :
    (outsAt0 m c t.val t.isLt).1 (ix3 b i x)
      = outs (feats m c) (given m c) 0 (ix3 b ⟨t.val * 128 + i, by have := point_lt t; omega⟩ x) := by
  have hl := point_lt t
  by_cases h0 : t.val % 32 = 0
  · rw [forward_A m c t h0 (by omega)]
    exact newOut_forward m c hX t _ (by rw [first_states m c hS, show t.val * 128 = 0 by omega]) b i x
  · by_cases h1 : t.val % 32 = 31
    · rw [forward_C m c t h0 h1]
      exact newOut_forward m c hX t _ (before_states m c hX hS t h0) b i x
    · rw [forward_B m c t h0 h1]
      exact newOut_forward m c hX t _ (before_states m c hX hS t h0) b i x

theorem backward_at (t : Fin cfg0.N) (b : Fin 8) (i : Fin 128) (x : Fin 256) :
    (outsAt0 m c t.val t.isLt).2.1 (ix3 b i x)
      = outs (feats m c) (given m c) 1 (ix3 b ⟨(31 - t.val) * 128 + i, by have := point_lt t; omega⟩ x) := by
  have hl := point_lt t
  by_cases h0 : t.val % 32 = 0
  · rw [backward_A m c t h0 (by omega)]
    exact newOut_backward m c hX t _ (by rw [first_states m c hS, show t.val * 128 = 0 by omega]) b i x
  · by_cases h1 : t.val % 32 = 31
    · rw [backward_C m c t h0 h1]
      exact newOut_backward m c hX t _ (before_states m c hX hS t h0) b i x
    · rw [backward_B m c t h0 h1]
      exact newOut_backward m c hX t _ (before_states m c hX hS t h0) b i x

theorem final_at (t : Fin cfg0.N) (h1 : t.val % 32 = 31) : (outsAt0 m c t.val t.isLt).2.2.1 = states (feats m c) (given m c) 4096 := by
  have hl := point_lt t
  rw [final_C m c t (by omega) h1, states_after m c hX hS, show t.val * 128 + 128 = 4096 by omega]

/-- The forward outputs after the run. -/
theorem array11 : (dats m 0 c).arrAt 11 cfg0.N = outs (feats m c) (given m c) 0 := by
  refine (dats m 0 c).arrAt_eq_of_covers 11 _ (by decide +kernel) fun t _ y => ?_
  have e := (idx_out t).1
  blk_simp
  rw [after0_11, eq_ix3 y]
  refine (forward_at m c hX hS t _ _ _).trans (congrArg (outs (feats m c) (given m c) 0) ?_)
  blk_ext [e]

/-- The backward outputs after the run. -/
theorem array12 : (dats m 0 c).arrAt 12 cfg0.N = outs (feats m c) (given m c) 1 := by
  refine (dats m 0 c).arrAt_eq_of_covers 12 _ (by decide +kernel) fun t _ y => ?_
  have e := (idx_out t).2.1
  blk_simp
  rw [after0_12, eq_ix3 y]
  refine (backward_at m c hX hS t _ _ _).trans (congrArg (outs (feats m c) (given m c) 1) ?_)
  blk_ext [e]

/-- The final states after the run. -/
theorem array13 : (dats m 0 c).arrAt 13 cfg0.N = states (feats m c) (given m c) 4096 := by
  refine (dats m 0 c).arrAt_eq_of_covers 13 _ (by decide +kernel) fun t hf y => ?_
  have e := (idx_out t).2.2
  blk_simp
  rw [after0_13, final_at m c hX hS t ((flush0_13 t).mp hf)]
  refine congrArg (states (feats m c) (given m c) 4096) ?_
  blk_ext [e]

end Run

end Cert.KernelIdeal.Ret

end
-- ==== Proof.RetRef.lean ====
/- The reference's retention: every trip of its loop advances the recurrence by 64 tokens, so its results are the
   recurrence's outputs and final states. -/
module

public import proofs.«01_k».proof.Proof.RetSpec
public import proofs.«01_k».proof.Proof.Gen.ReferenceIdeal.Step
public import Idealize.ShloMosaic.Lib.DynamicIndex
public import Idealize.ShloMosaic.Lib.WordCmp

@[expose] public section

set_option maxRecDepth 16384

noncomputable section

open Idealize.ShloMosaic Idealize.ShloMosaic.TcCoe Idealize.SL.Sem

namespace Cert.ReferenceIdeal.Ret

open Cert.ReferenceIdeal Cert.ReferenceIdeal.Step Cert.Retention

/-! ## The tables -/

/-- The reference's table of decay logarithms. -/
theorem decay_at (r : Fin 2) (h : Fin 4) : K_main_v40 (F := Ideal) (ix2 r h) = ((decay r h : ℝ) : EReal) := by
  pointwise [K_main_v40, K_main_v39, K_main_v38, K_main_v37, K_main_v36, K_main_v35, K_main_v34, K_main_v33, K_main_v32,
    K_main_v31, K_main_v30, K_main_v29, K_main_v28, K_main_v27, K_main_v26, K_main_v25, K_main_v24, K_main_v23, K_main_v22,
    K_main_v21, K_main_cst, K_main_cst_0, K_main_cst_1, K_main_cst_2]
  unfold decay
  by_cases hr : (r : ℕ) < 1
  · rw [dif_pos hr, if_pos (Fin.ext (by simpa using hr)), dec_eq _ (by omega)]
  · rw [dif_neg hr, if_neg (fun e => hr (by simp [e]))]
    rw [dec_eq _ (by omega)]
    rfl

/-- The reference's causal decay table of a chunk. -/
theorem causal_at (r : Fin 2) (h : Fin 4) (i j : Fin 64) : K_main_v56 (F := Ideal) (ix4 r h i j)
    = (((if (j : ℕ) ≤ i then Real.exp ((((i : ℕ) : ℝ) - (j : ℕ)) * decay r h) else 0 : ℝ)) : EReal) := by
  pointwise [K_main_v56, K_main_call4_v2, K_main_call4_v1, K_main_call4_v0, K_main_cst_5, K_main_v55, K_main_v54, K_main_v53,
    K_main_v52, K_main_v51, K_main_v50, K_main_v49, K_main_call3_v1, K_main_call3_v0, K_main_cst_4, K_main_v48, K_main_v47,
    K_main_cst_3, K_main_v46, K_main_v45, K_main_v44, K_main_v43, K_main_v42, K_main_v41, id, decay_at]
  rw [sitofp_ofNat _ (by omega), sitofp_ofNat _ (by omega), ← EReal.coe_sub]
  by_cases hij : (j : ℕ) ≤ i
  · have h0 : (0 : EReal) ≤ (((((i : ℕ) : ℝ) - (j : ℕ)) : ℝ) : EReal) := by
      rw [← EReal.coe_zero, EReal.coe_le_coe_iff, sub_nonneg]; exact_mod_cast hij
    rw [if_pos h0, if_pos h0, if_pos hij, ← EReal.coe_mul, Ideal.exp_coe]
  · have h0 : ¬ (0 : EReal) ≤ (((((i : ℕ) : ℝ) - (j : ℕ)) : ℝ) : EReal) := by
      rw [← EReal.coe_zero, EReal.coe_le_coe_iff, sub_nonneg]; exact_mod_cast hij
    rw [if_neg h0, if_neg hij, EReal.coe_zero]

/-- The decay of a chunk's queries against the state before the chunk. -/
theorem qdec_at (r : Fin 2) (h : Fin 4) (i : Fin 64) (j : Fin 1) : K_main_v65 (F := Ideal) (ix4 r h i j)
    = ((Real.exp ((((i : ℕ) : ℝ) + 1) * decay r h) : ℝ) : EReal) := by
  pointwise [K_main_v65, K_main_v64, K_main_v63, K_main_v62, K_main_v61, K_main_v60, K_main_v59, K_main_v58, K_main_v57,
    K_main_cst_6, K_main_v41, decay_at]
  rw [sitofp_ofNat _ (by omega), ← EReal.coe_one, ← EReal.coe_add, ← EReal.coe_mul, Ideal.exp_coe]

/-- The decay of a chunk's keys up to the chunk's end. -/
theorem kdec_at (r : Fin 2) (h : Fin 4) (i : Fin 64) (j : Fin 1) : K_main_v74 (F := Ideal) (ix4 r h i j)
    = ((Real.exp ((((64 : ℕ) : ℝ) - 1 - (i : ℕ)) * decay r h) : ℝ) : EReal) := by
  pointwise [K_main_v74, K_main_v73, K_main_v72, K_main_v71, K_main_v70, K_main_v69, K_main_v68, K_main_v67, K_main_v66,
    K_main_cst_7, K_main_v41, decay_at]
  rw [sitofp_ofNat _ (by omega), ofBits_63, ← EReal.coe_sub, ← EReal.coe_mul, Ideal.exp_coe]
  norm_num

/-- The decay of a whole chunk. -/
theorem cdec_at (r : Fin 2) (h : Fin 4) (i j : Fin 1) : K_main_v78 (F := Ideal) (ix4 r h i j)
    = ((Real.exp (((64 : ℕ) : ℝ) * decay r h) : ℝ) : EReal) := by
  pointwise [K_main_v78, K_main_v77, K_main_v76, K_main_v75, K_main_cst_8, decay_at]
  rw [ofBits_64, ← EReal.coe_mul, Ideal.exp_coe]
  norm_num

/-! ## The chunked queries, keys and values -/

section
variable (X : FVec Ideal S8x4096x5376 .f32)

/-- Splitting the sequence into chunks and bringing the chunk axis first. -/
theorem chunk_at (Y : FVec Ideal S2x8x4x4096x64 .f32) (n : Fin 64) (r : Fin 2) (b : Fin 8) (h : Fin 4) (i d : Fin 64) :
    transpose S64x2x8x4x64x64 [3, 0, 1, 2, 4, 5]
      (shapeCast S2x8x4x64x64x64 Y Gen.shapeCasts_S2x8x4x4096x64_S2x8x4x64x64x64)
      Gen.transposes_S2x8x4x64x64x64_S64x2x8x4x64x64_3_0_1_2_4_5 (ix6 n r b h i d)
      = Y (ix5 r b h ⟨n * 64 + i, by omega⟩ d) := by
  pointwise

/-- Heads split off the lanes: the array at a head's coordinate. -/
theorem heads_at (Y : FVec Ideal S8x4096x256 .f32) (b : Fin 8) (h : Fin 4) (t : Fin 4096) (d : Fin 64) :
    transpose S8x4x4096x64 [0, 2, 1, 3] (shapeCast S8x4096x4x64 Y Gen.shapeCasts_S8x4096x256_S8x4096x4x64)
      Gen.transposes_S8x4096x4x64_S8x4x4096x64_0_2_1_3 (ix4 b h t d) = Y (ix3 b t ⟨h * 64 + d, by omega⟩) := by
  pointwise

/-- A sequence and its reversal stacked: the token of a direction. -/
theorem both_at (Y : FVec Ideal S8x4x4096x64 .f32) (r : Fin 2) (b : Fin 8) (h : Fin 4) (n t : Fin 4096) (d : Fin 64)
    (ht : (t : ℕ) = tok r n) :
    concatenate S2x8x4x4096x64 0
      [⟨S1x8x4x4096x64, broadcastInDim S1x8x4x4096x64 ![1, 2, 3, 4] Gen.bcast_S8x4x4096x64_S1x8x4x4096x64_1_2_3_4 Y⟩,
        ⟨S1x8x4x4096x64, broadcastInDim S1x8x4x4096x64 ![1, 2, 3, 4] Gen.bcast_S8x4x4096x64_S1x8x4x4096x64_1_2_3_4
          (Host.reverse [2] Y)⟩]
      Gen.concatenates_S1x8x4x4096x64_S1x8x4x4096x64_S2x8x4x4096x64_d0 (ix5 r b h n d) = Y (ix4 b h t d) := by
  pointwise
  unfold tok at ht
  by_cases hr : (r : ℕ) < 1
  · rw [if_pos (Fin.ext (by simpa using hr))] at ht
    rw [dif_pos hr, Fin.ext ht]
  · rw [if_neg (fun e => hr (by simp [e]))] at ht
    rw [dif_neg hr]
    have e : n.rev = t := Fin.ext (by rw [Fin.val_rev]; omega)
    rw [← e]
    rfl

variable (hX : RealLanes X)
include hX

/-- The tokens of a chunk lie inside the sequence, in either direction. -/
theorem tok_lt (r : Fin 2) (n : ℕ) (hn : n < 4096) : tok r n < 4096 := by unfold tok; split <;> omega

/-- The chunked queries. -/
theorem q_at (n : Fin 64) (r : Fin 2) (b : Fin 8) (h : Fin 4) (i d : Fin 64) :
    A_main_v80 (F := Ideal) X (ix6 n r b h i d) = ((lane X 0 r b h (64 * n + i) d : ℝ) : EReal) := by
  have ht := tok_lt X hX r (n * 64 + i) (by omega)
  unfold A_main_v80 A_main_v79 A_main_v6 A_main_v5 A_main_v4 A_main_v3
  rw [chunk_at]
  refine (both_at (A_main_v2 (F := Ideal) X) r b h ⟨n * 64 + i, by omega⟩ ⟨_, ht⟩ d rfl).trans ?_
  unfold A_main_v2 A_main_v1
  rw [heads_at]
  pointwise [A_main_v0]
  rw [mul_comm 64 (n : ℕ)]
  exact lane_eq X hX 0 r b h _ d _ _ rfl (by simp; omega)

/-- The chunked keys. -/
theorem k_at (n : Fin 64) (r : Fin 2) (b : Fin 8) (h : Fin 4) (i d : Fin 64) :
    A_main_v82 (F := Ideal) X (ix6 n r b h i d) = ((lane X 1 r b h (64 * n + i) d : ℝ) : EReal) := by
  have ht := tok_lt X hX r (n * 64 + i) (by omega)
  unfold A_main_v82 A_main_v81 A_main_v13 A_main_v12 A_main_v11 A_main_v10
  rw [chunk_at]
  refine (both_at (A_main_v9 (F := Ideal) X) r b h ⟨n * 64 + i, by omega⟩ ⟨_, ht⟩ d rfl).trans ?_
  unfold A_main_v9 A_main_v8
  rw [heads_at]
  pointwise [A_main_v7]
  rw [mul_comm 64 (n : ℕ)]
  exact lane_eq X hX 1 r b h _ d _ _ rfl (by simp; omega)

/-- The chunked values. -/
theorem v_at (n : Fin 64) (r : Fin 2) (b : Fin 8) (h : Fin 4) (i d : Fin 64) :
    A_main_v84 (F := Ideal) X (ix6 n r b h i d) = ((lane X 2 r b h (64 * n + i) d : ℝ) : EReal) := by
  have ht := tok_lt X hX r (n * 64 + i) (by omega)
  unfold A_main_v84 A_main_v83 A_main_v20 A_main_v19 A_main_v18 A_main_v17
  rw [chunk_at]
  refine (both_at (A_main_v16 (F := Ideal) X) r b h ⟨n * 64 + i, by omega⟩ ⟨_, ht⟩ d rfl).trans ?_
  unfold A_main_v16 A_main_v15
  rw [heads_at]
  pointwise [A_main_v14]
  rw [mul_comm 64 (n : ℕ)]
  exact lane_eq X hX 2 r b h _ d _ _ rfl (by simp; omega)

end

/-! ## One trip -/

section
variable (s : State Ideal) (n : ℕ) (hn : n < 64)
include hn

theorem starts (j : Fin 6) : BitVec.toInt ((![(constantI S_ 32 (BitVec.ofNat 32 n) : (⟨S_, .i32⟩ : BufTy).Contents (Elt Ideal)),
      constantI S_ 32 0#32, constantI S_ 32 0#32, constantI S_ 32 0#32, constantI S_ 32 0#32, constantI S_ 32 0#32] :
        Fin 6 → (⟨S_, .i32⟩ : BufTy).Contents (Elt Ideal)) j (Shape.Idx.first Gen.h_S_))
    = ((![n, 0, 0, 0, 0, 0] : Fin 6 → ℕ) j : ℤ) := by
  fin_cases j
  · exact toInt_ofNat_of_lt (by omega)
  all_goals rfl

theorem fits : S64x2x8x4x64x64.Slices ![n, 0, 0, 0, 0, 0] S1x2x8x4x64x64 :=
  ⟨rfl, fun a => by fin_cases a <;> simp <;> omega⟩

/-- Chunk `n` of an array of chunks. -/
theorem chunk_read (Y : (⟨S64x2x8x4x64x64, .f32⟩ : BufTy).Contents (Elt Ideal)) (r : Fin 2) (b : Fin 8) (h : Fin 4) (i d : Fin 64) :
    shapeCast S2x8x4x64x64 (Host.dynamicSlice S1x2x8x4x64x64 Y (fun k => (((![(constantI S_ 32 (BitVec.ofNat 32 n) :
      (⟨S_, .i32⟩ : BufTy).Contents (Elt Ideal)), constantI S_ 32 0#32, constantI S_ 32 0#32, constantI S_ 32 0#32,
        constantI S_ 32 0#32, constantI S_ 32 0#32] : Fin 6 → (⟨S_, .i32⟩ : BufTy).Contents (Elt Ideal))) k
          (Shape.Idx.first Gen.h_S_)).toInt) Gen.sliceFits_S64x2x8x4x64x64_S1x2x8x4x64x64)
      Gen.shapeCasts_S1x2x8x4x64x64_S2x8x4x64x64 (ix5 r b h i d) = Y (ix6 ⟨n, hn⟩ r b h i d) := by
  rw [Host.dynamicSlice_eq_extractStridedSlice (off := ![n, 0, 0, 0, 0, 0]) (hoff := fits n hn) (hs := starts n hn)]
  pointwise
  blk_ext

theorem b6_at (r : Fin 2) (b : Fin 8) (h : Fin 4) (i d : Fin 64) :
    b6 n s (ix5 r b h i d) = s.main_v86_0 (ix6 ⟨n, hn⟩ r b h i d) := chunk_read n hn s.main_v86_0 r b h i d

theorem b13_at (r : Fin 2) (b : Fin 8) (h : Fin 4) (i d : Fin 64) :
    b13 n s (ix5 r b h i d) = s.main_v86_1 (ix6 ⟨n, hn⟩ r b h i d) := chunk_read n hn s.main_v86_1 r b h i d

theorem b20_at (r : Fin 2) (b : Fin 8) (h : Fin 4) (i d : Fin 64) :
    b20 n s (ix5 r b h i d) = s.main_v86_2 (ix6 ⟨n, hn⟩ r b h i d) := chunk_read n hn s.main_v86_2 r b h i d

/-- The trip writes its outputs into chunk `n` and leaves the other chunks. -/
theorem b45_at (n' : Fin 64) (r : Fin 2) (b : Fin 8) (h : Fin 4) (i d : Fin 64) :
    b45 n s (ix6 n' r b h i d) = if (n' : ℕ) = n then b30 n s (ix5 r b h i d) else s.main_v86_9 (ix6 n' r b h i d) := by
  unfold b45
  rw [Idealize.ShloMosaic.WordCmp.dynamicUpdateSlice_eq_update (k := ![n, 0, 0, 0, 0, 0]) (hk := fits n hn) (e := starts n hn)]
  pointwise [b39]
  by_cases e : (n' : ℕ) = n
  · rw [dif_pos ⟨by omega, by omega⟩, if_pos e]
  · rw [dif_neg (by omega), if_neg e]

/-- The outputs of a trip: the chunk's causal part and the part of the state before it. -/
theorem b30_at (r : Fin 2) (b : Fin 8) (h : Fin 4) (i e : Fin 64) :
    b30 n s (ix5 r b h i e) = (∑ j, (∑ d, b6 n s (ix5 r b h i d) * b13 n s (ix5 r b h j d)) * K_main_v56 (F := Ideal) (ix4 r h i j)
      * b20 n s (ix5 r b h j e)) + ∑ d, b6 n s (ix5 r b h i d) * K_main_v65 (F := Ideal) (ix4 r h i 0) * s.main_v86_8 (ix5 r b h d e) := by
  pointwise [b30, b29, b28, b27, b26, b25, b24, b23, b22, b21]

/-- The state after a trip. -/
theorem b38_at (r : Fin 2) (b : Fin 8) (h : Fin 4) (d e : Fin 64) :
    b38 n s (ix5 r b h d e) = K_main_v78 (F := Ideal) (ix4 r h 0 0) * s.main_v86_8 (ix5 r b h d e)
      + ∑ j, b13 n s (ix5 r b h j d) * K_main_v74 (F := Ideal) (ix4 r h j 0) * b20 n s (ix5 r b h j e) := by
  pointwise [b38, b37, b36, b35, b34, b33, b32, b31]

end

/-! ## The loop -/

section
variable (X : FVec Ideal S8x4096x5376 .f32) (S : FVec Ideal S2x8x4x64x64 .f32)

/-- What the loop's valuation is after `n` trips. -/
structure Inv (n : ℕ) (s : State Ideal) : Prop where
  q : s.main_v86_0 = A_main_v80 X
  k : s.main_v86_1 = A_main_v82 X
  v : s.main_v86_2 = A_main_v84 X
  st : ∀ r b h d e, s.main_v86_8 (ix5 r b h d e) = ((stateAt X S r b h (64 * n) d e : ℝ) : EReal)
  o : ∀ n' : Fin 64, (n' : ℕ) < n → ∀ r b h i e,
    s.main_v86_9 (ix6 n' r b h i e) = ((outAt X S r b h (64 * (n' : ℕ) + (i : Fin 64)) e : ℝ) : EReal)

variable {X S} (hX : RealLanes X) (hS : ∀ r b h d e, S (ix5 r b h d e) = ((start S r b h d e : ℝ) : EReal))
include hX

/-- One trip carries the recurrence over 64 tokens. -/
theorem Inv.advance {n : ℕ} {s : State Ideal} (hn : n < 64) (I : Inv X S n s) : Inv X S (n + 1) (step n s) := by
  have hq : ∀ r b h i d, b6 n s (ix5 r b h i d) = ((lane X 0 r b h (64 * n + (i : Fin 64)) d : ℝ) : EReal) := fun r b h i d => by
    rw [b6_at s n hn, I.q, q_at X hX]
  have hk : ∀ r b h i d, b13 n s (ix5 r b h i d) = ((lane X 1 r b h (64 * n + (i : Fin 64)) d : ℝ) : EReal) := fun r b h i d => by
    rw [b13_at s n hn, I.k, k_at X hX]
  have hv : ∀ r b h i d, b20 n s (ix5 r b h i d) = ((lane X 2 r b h (64 * n + (i : Fin 64)) d : ℝ) : EReal) := fun r b h i d => by
    rw [b20_at s n hn, I.v, v_at X hX]
  refine ⟨I.q, I.k, I.v, fun r b h d e => ?_, fun n' h' r b h i e => ?_⟩
  · rw [step_main_v86_8, b38_at s n hn, cdec_at, I.st]
    simp only [hk, hv, kdec_at, ← EReal.coe_mul]
    rw [sum_coe, ← EReal.coe_add, Nat.mul_succ]
    unfold stateAt
    rw [state_add]
  · rw [step_main_v86_9, b45_at s n hn]
    by_cases e' : (n' : ℕ) = n
    · rw [if_pos e', b30_at s n hn]
      simp only [hq, hk, hv, causal_at, qdec_at, I.st, ← EReal.coe_mul, sum_coe]
      rw [← EReal.coe_add, e']
      unfold outAt
      rw [out_add]
      rfl
    · rw [if_neg e']
      exact I.o n' (by omega) r b h i e

include hS

/-- Before the loop the state is the given one. -/
theorem Inv.first : Inv X S 0 (init S X) :=
  ⟨rfl, rfl, rfl, fun r b h d e => hS r b h d e, fun n' h' => absurd h' (Nat.not_lt_zero _)⟩

/-- The loop's state after all trips. -/
theorem Inv.last (it : ℕ → State Ideal) (h0 : it 0 = init S X) (hs : ∀ n, it (n + 1) = Cert.ReferenceIdeal.Step.step n (it n)) (n : ℕ) (hn : n ≤ 64) :
    Inv X S n (it n) := by
  induction n with
  | zero => rw [h0]; exact Inv.first hX hS
  | succ n ih => rw [hs]; exact (ih (by omega)).advance hX (by omega)

omit hX hS

/-- A trip's output, read where the results have it. -/
theorem Inv.out {s : State Ideal} (I : Inv X S 64 s) (r : Fin 2) (b : Fin 8) (p : Fin 4096) (c : Fin 256) :
    s.main_v86_9 (ix6 ⟨(p : ℕ) / 64, by omega⟩ r b ⟨(c : ℕ) / 64, by omega⟩ ⟨(p : ℕ) % 64, by omega⟩ ⟨(c : ℕ) % 64, by omega⟩)
      = ((outAt X S r b ⟨(c : ℕ) / 64, by omega⟩ p ⟨(c : ℕ) % 64, by omega⟩ : ℝ) : EReal) := by
  rw [I.o _ (Fin.isLt _)]
  exact congrArg (fun n => ((outAt X S r b ⟨(c : ℕ) / 64, by omega⟩ n ⟨(c : ℕ) % 64, by omega⟩ : ℝ) : EReal)) (Nat.div_add_mod (p : ℕ) 64)

/-- The forward outputs, read at an index. -/
theorem forward_at (s : State Ideal) (b : Fin 8) (t : Fin 4096) (c : Fin 256) : R_main_v101 s (ix3 b t c)
    = s.main_v86_9 (ix6 ⟨(t : ℕ) / 64, by omega⟩ 0 b ⟨(c : ℕ) / 64, by omega⟩ ⟨(t : ℕ) % 64, by omega⟩ ⟨(c : ℕ) % 64, by omega⟩) := by
  pointwise [R_main_v101]

/-- The backward outputs, read at an index. -/
theorem backward_at (s : State Ideal) (b : Fin 8) (t : Fin 4096) (c : Fin 256) : R_main_v106 s (ix3 b t c)
    = s.main_v86_9 (ix6 ⟨(t.rev : ℕ) / 64, by omega⟩ 1 b ⟨(c : ℕ) / 64, by omega⟩ ⟨(t.rev : ℕ) % 64, by omega⟩ ⟨(c : ℕ) % 64, by omega⟩) := by
  pointwise [R_main_v106]
  rfl

/-- The final states, read at an index. -/
theorem states_at (s : State Ideal) (r : Fin 2) (b : Fin 8) (t c : Fin 256) : R_main_v107 s (ix4 r b t c)
    = if (t : ℕ) / 64 = (c : ℕ) / 64 then
        s.main_v86_8 (ix5 r b ⟨(t : ℕ) / 64, by omega⟩ ⟨(t : ℕ) % 64, by omega⟩ ⟨(c : ℕ) % 64, by omega⟩) else 0 := by
  pointwise [R_main_v107]
  rw [select_eq _ _ (by omega) (by omega)]
  pointwise [id]

/-- The forward outputs are the recurrence's. -/
theorem forward_eq {s : State Ideal} (I : Inv X S 64 s) : R_main_v101 s = outs X S 0 :=
  ext3 fun b t c => (forward_at s b t c).trans (I.out 0 b t c)

/-- The backward outputs are the recurrence's, put back in the sequence's order. -/
theorem backward_eq {s : State Ideal} (I : Inv X S 64 s) : R_main_v106 s = outs X S 1 :=
  ext3 fun b t c => (backward_at s b t c).trans ((I.out 1 b t.rev c).trans (by
    have e : (t.rev : ℕ) = tok 1 t := by
      rw [Fin.val_rev, tok, if_neg (by decide)]
      omega
    rw [e]
    rfl))

/-- The final states are the recurrence's, each head's a diagonal block. -/
theorem states_eq {s : State Ideal} (I : Inv X S 64 s) : R_main_v107 s = states X S 4096 :=
  ext4 fun r b t c => (states_at s r b t c).trans (by rw [I.st]; rfl)

end

end Cert.ReferenceIdeal.Ret

end
-- ==== Proof.RetRun.lean ====
/- The reference's run, read through its loop: trip by trip the loop's valuation holds a state of the loop's step, and the
   results are read from the state after the last trip. -/
module

public import proofs.«01_k».proof.Proof.Gen.ReferenceIdeal.Run
public import proofs.«01_k».proof.Proof.RetRef

@[expose] public section

set_option maxRecDepth 65536

noncomputable section

open Idealize.ShloMosaic Idealize.ShloMosaic.TcCoe Idealize.SL.Sem Idealize.ShloMosaic.StableHlo

namespace Cert.ReferenceIdeal.Ret

open Cert.ReferenceIdeal Cert.ReferenceIdeal.Gen Cert.ReferenceIdeal.Value Cert.ReferenceIdeal.Step Cert.Retention

/-- A valuation whose loop buffers are the state `s` before trip `n`. -/
structure At (W : Valuation τ sig (Elt Ideal)) (s : State Ideal) (n : ℕ) : Prop where
  count : W (Proc.devRef .tc main_v86_7) = constantI S_ 32 (BitVec.ofNat 32 n)
  q : W (Proc.devRef .tc main_v86_0) = s.main_v86_0
  k : W (Proc.devRef .tc main_v86_1) = s.main_v86_1
  v : W (Proc.devRef .tc main_v86_2) = s.main_v86_2
  state : W (Proc.devRef .tc main_v86_8) = s.main_v86_8
  outs : W (Proc.devRef .tc main_v86_9) = s.main_v86_9
  causal : W (Proc.devRef .tc main_v86_3) = K_main_v56 (F := Ideal)
  qdec : W (Proc.devRef .tc main_v86_4) = K_main_v65 (F := Ideal)
  cdec : W (Proc.devRef .tc main_v86_5) = K_main_v78 (F := Ideal)
  kdec : W (Proc.devRef .tc main_v86_6) = K_main_v74 (F := Ideal)

namespace At

variable {W : Valuation τ sig (Elt Ideal)} {s : State Ideal} {n : ℕ} (h : At W s n)
include h

/-- The trip's queries. -/
theorem q_chunk : res_main_while0b_v108 W = b6 n s := by
  unfold res_main_while0b_v108
  rw [h.q, h.count]
  rfl

/-- The trip's keys. -/
theorem k_chunk : res_main_while0b_v109 W = b13 n s := by
  unfold res_main_while0b_v109
  rw [h.k, h.count]
  rfl

/-- The trip's values. -/
theorem v_chunk : res_main_while0b_v110 W = b20 n s := by
  unfold res_main_while0b_v110
  rw [h.v, h.count]
  rfl

/-- The trip's new state. -/
theorem new_state : Value.step_main_v86_8 W = b38 n s := by
  unfold Value.step_main_v86_8
  rw [h.k_chunk, h.v_chunk, h.cdec, h.state, h.kdec]
  rfl

/-- The trip's new outputs. -/
theorem new_outs : Value.step_main_v86_9 W = b45 n s := by
  unfold Value.step_main_v86_9
  rw [h.q_chunk, h.k_chunk, h.v_chunk, h.causal, h.qdec, h.state, h.outs, h.count]
  rfl

/-- The trip's counter. -/
theorem new_count : Value.step_main_v86_7 W = constantI S_ 32 (BitVec.ofNat 32 (n + 1)) := by
  unfold Value.step_main_v86_7
  rw [h.count, BitVec.ofNat_add]
  rfl

/-- A trip's valuation is at the step of the state. -/
theorem next : At (STEP W) (step n s) (n + 1) where
  count := (STEP_main_v86_7 W).trans h.new_count
  q := (STEP_main_v86_0 W).trans h.q
  k := (STEP_main_v86_1 W).trans h.k
  v := (STEP_main_v86_2 W).trans h.v
  state := (STEP_main_v86_8 W).trans h.new_state
  outs := (STEP_main_v86_9 W).trans h.new_outs
  causal := (STEP_main_v86_3 W).trans h.causal
  qdec := (STEP_main_v86_4 W).trans h.qdec
  cdec := (STEP_main_v86_5 W).trans h.cdec
  kdec := (STEP_main_v86_6 W).trans h.kdec

end At

variable (m : (ℓ : Loc nD τ sig) → Buf (Elt Ideal) ℓ) (c : Dev nD)

/-- The loop's state after `n` trips. -/
def after : ℕ → State Ideal
  | 0 => init (m ((c.tc : Thread nD τ).loc main_arg1)) (m ((c.tc : Thread nD τ).loc main_arg0))
  | n + 1 => step n (after n)

set_option maxHeartbeats 800000 in
/-- The operations before the loop leave its first state. -/
theorem at_entry : At (entryContents preI m c) (after m c 0) 0 := by
  constructor <;> (simp only [entryContents, afterL_cons, afterL_nil]; after_reads_simp) <;> rfl

/-- The loop's valuation after `n` trips. -/
theorem at_after (n : ℕ) : At (STEP^[n] (entryContents preI m c)) (after m c n) n := by
  induction n with
  | zero => exact at_entry m c
  | succ n ih => rw [Function.iterate_succ_apply']; exact ih.next

/-- The forward outputs of a valuation at the last state. -/
theorem out_forward {W : Valuation τ sig (Elt Ideal)} {s : State Ideal} {n : ℕ} (h : At W s n) : out_main_v101 W = R_main_v101 s := by
  unfold out_main_v101
  rw [h.outs]
  rfl

/-- The backward outputs of a valuation at the last state. -/
theorem out_backward {W : Valuation τ sig (Elt Ideal)} {s : State Ideal} {n : ℕ} (h : At W s n) : out_main_v106 W = R_main_v106 s := by
  unfold out_main_v106
  rw [h.outs]
  rfl

/-- The final states of a valuation at the last state. -/
theorem out_states {W : Valuation τ sig (Elt Ideal)} {s : State Ideal} {n : ℕ} (h : At W s n) : out_main_v107 W = R_main_v107 s := by
  unfold out_main_v107
  rw [h.state]
  rfl

/-- Over real lanes and a real start the reference's results are the recurrence's outputs and final states. -/
theorem run (ρ : Dev nD → PrngReg)
    (hX : ∀ c : Dev nD, RealLanes (m ((c.tc : Thread nD τ).loc main_arg0)))
    (hS : ∀ (c : Dev nD) r b h d e, m ((c.tc : Thread nD τ).loc main_arg1) (ix5 r b h d e)
      = ((start (m ((c.tc : Thread nD τ).loc main_arg1)) r b h d e : ℝ) : EReal)) :
    θ_run (defs (F := Ideal)) (onTc (τ := τ) (main (F := Ideal))) ⟨m, fun _ => 0, ρ⟩ fun r => ∀ c : Dev nD,
      r.2.mem ((c.tc : Thread nD τ).loc main_v101)
        = outs (m ((c.tc : Thread nD τ).loc main_arg0)) (m ((c.tc : Thread nD τ).loc main_arg1)) 0
      ∧ r.2.mem ((c.tc : Thread nD τ).loc main_v106)
        = outs (m ((c.tc : Thread nD τ).loc main_arg0)) (m ((c.tc : Thread nD τ).loc main_arg1)) 1
      ∧ r.2.mem ((c.tc : Thread nD τ).loc main_v107)
        = states (m ((c.tc : Thread nD τ).loc main_arg0)) (m ((c.tc : Thread nD τ).loc main_arg1)) 4096
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun _ h c => ?_) (Value.run m ρ)
  have a := at_after m c 64
  have I : Inv _ _ 64 (after m c 64) := Inv.last (hX c) (hS c) (after m c) rfl (fun _ => rfl) 64 le_rfl
  obtain ⟨h1, h2, h3, h4, h5⟩ := h c
  exact ⟨h1.trans ((out_forward a).trans (forward_eq I)), h2.trans ((out_backward a).trans (backward_eq I)),
    h3.trans ((out_states a).trans (states_eq I)), h4, h5⟩

end Cert.ReferenceIdeal.Ret

end
-- ==== Proof.RetPre.lean ====
/- What the precondition says of the argument arrays: the lanes the retention reads and the first states are real numbers. -/
module

public import proofs.«01_k».proof.Defs
public import proofs.«01_k».proof.Proof.Gen.Pre_finite
public import proofs.«01_k».proof.Proof.RetSpec
public import Idealize.ShloMosaic.Lib.ReduceAll

@[expose] public section

set_option maxRecDepth 16384

noncomputable section

open Idealize.ShloMosaic Idealize.ShloMosaic.TcCoe

namespace Cert.Retention

open Cert.Pre_finite

attribute [local instance] Cert.Pre_finite.Gen.facts

/-- The word of the infinity. -/
theorem ofBits_inf : Ideal.ofBits .f32 0x7F800000#32 = ⊤ := by
  simp [Ideal.ofBits, Ideal.ieee]

/-- An extended real of absolute value below infinity is a real number. -/
theorem real_of_abs (x : EReal) (h : FloatOps.cmpf (F := Ideal) (φ := .f32) .olt (FloatOps.absf (F := Ideal) (φ := .f32) x)
    (Ideal.ofBits .f32 0x7F800000#32) = 1#1) : x = ((EReal.toReal x : ℝ) : EReal) := by
  rw [ofBits_inf] at h
  have h' : max x (-x) < ⊤ := by
    by_contra hn
    have e : FloatOps.cmpf (F := Ideal) (φ := .f32) .olt (FloatOps.absf (F := Ideal) (φ := .f32) x) (⊤ : EReal) = 0#1 :=
      congrArg BitVec.ofBool (decide_eq_false hn)
    rw [e] at h
    exact absurd h (by decide)
  refine (EReal.coe_toReal ?_ ?_).symm
  · rintro rfl
    simp at h'
  · rintro rfl
    simp at h'

/-- Under the precondition the lanes and the first states are real numbers. -/
theorem pre_lanes (X : FVec Ideal S8x4096x5376 .f32) (S : FVec Ideal S2x8x4x64x64 .f32) (h : fn (F := Ideal) X S = fun _ => 1#1) :
    RealLanes X ∧ ∀ r b h d e, S (ix5 r b h d e) = ((start S r b h d e : ℝ) : EReal) := by
  have h0 := congrFun h ix0
  dsimp only [fn] at h0
  obtain ⟨h1, h2⟩ := IntOp.andi_eq_one.1 h0
  constructor
  · intro b t c hc hc'
    have e := Host.reduce_andi_all _ _ _ _ _ h1 (ix3 b t (⟨(c : ℕ) - 1024, by omega⟩ : Fin 768))
    have e' : (extractStridedSlice S8x4096x768 ![0, 0, 1024] X Facts.slices_S8x4096x5376_S8x4096x768_0_0_1024)
        (ix3 b t (⟨(c : ℕ) - 1024, by omega⟩ : Fin 768)) = X (ix3 b t c) := by
      pointwise
      exact congrArg (fun n => X (ix3 b t n)) (Fin.ext (by simp only; omega))
    refine real_of_abs _ ?_
    rw [← e']
    exact e
  · intro r b h d e
    exact real_of_abs _ (Host.reduce_andi_all _ _ _ _ _ h2 (ix5 r b h d e))

end Cert.Retention

end
-- ==== Proof.FfnSpec.lean ====
/- The feed-forward part as one formula at each token and lane. -/
module

public import Idealize.ShloMosaic.Lib.ValueIdx
public import Idealize.ShloMosaic.PureOps.Ideal.Laws
public import Idealize.ShloMosaic.Lib.Pointwise

@[expose] public section

noncomputable section

open Idealize.ShloMosaic

namespace Cert.FeedForward

/-- A row divided by the root of its mean square. -/
def normed (f : Fin 1024 → EReal) (d : Fin 1024) : EReal :=
  f d * Ideal.rsqrt (Ideal.div (∑ k, f k * f k) (Ideal.ofBits .f32 0x44800000#32) + Ideal.ofBits .f32 0x358637BD#32)

/-- The gated unit `a · 1/(1+e⁻ᵃ)`. -/
def swish (a : EReal) : EReal := a * Ideal.div 1 (1 + Ideal.exp (-a))

section
variable (X : FVec Ideal ⟨3, ![8, 4096, 1024]⟩ .f32) (M : FVec Ideal ⟨2, ![8, 6144]⟩ .f32) (G : FVec Ideal ⟨1, ![1024]⟩ .f32)
  (U : FVec Ideal ⟨2, ![1024, 5632]⟩ .f32) (W : FVec Ideal ⟨2, ![3, 2816]⟩ .f32) (C : FVec Ideal ⟨1, ![2816]⟩ .f32)
  (D : FVec Ideal ⟨2, ![2816, 1024]⟩ .f32) (H : FVec Ideal ⟨1, ![1024]⟩ .f32)

/-- The normalised and modulated token. -/
def hidden (b : Fin 8) (t : Fin 4096) (k : Fin 1024) : EReal :=
  normed (fun d => X (ix3 b t d)) k * G (ix1 k) * (1 + M (ix2 b ⟨4096 + k, by omega⟩)) + M (ix2 b ⟨3072 + k, by omega⟩)

/-- The tokens with one zero token before and one after: position `p` is token `p - 1`. -/
def padded (b : Fin 8) (p : ℕ) (k : Fin 1024) : EReal :=
  if h : 1 ≤ p ∧ p < 4097 then hidden X M G b ⟨p - 1, by omega⟩ k else 0

/-- The first half of the up-projection at a padded position. -/
def gateIn (b : Fin 8) (p : ℕ) (j : Fin 2816) : EReal := ∑ k, padded X M G b p k * U (ix2 k ⟨j, by omega⟩)

/-- The second half of the up-projection. -/
def valueIn (b : Fin 8) (t : Fin 4096) (j : Fin 2816) : EReal := ∑ k, hidden X M G b t k * U (ix2 k ⟨2816 + j, by omega⟩)

/-- The convolution over three neighbouring tokens. -/
def conv (b : Fin 8) (t : Fin 4096) (j : Fin 2816) : EReal :=
  gateIn X M G U b t j * W (ix2 0 j) + gateIn X M G U b (t + 1) j * W (ix2 1 j) + gateIn X M G U b (t + 2) j * W (ix2 2 j) + C (ix1 j)

/-- The hidden units. -/
def unit (b : Fin 8) (t : Fin 4096) (j : Fin 2816) : EReal := swish (conv X M G U W C b t j) * valueIn X M G U b t j

/-- The token after the gated residual. -/
def residual (b : Fin 8) (t : Fin 4096) (n : Fin 1024) : EReal :=
  X (ix3 b t n) + M (ix2 b ⟨5120 + n, by omega⟩) * ∑ j, unit X M G U W C b t j * D (ix2 j n)

/-- The result of a layer before the last. -/
def residuals : FVec Ideal ⟨3, ![8, 4096, 1024]⟩ .f32 := fun y => residual X M G U W C D (y 0) (y 1) (y 2)

/-- The last layer's result. -/
def result : FVec Ideal ⟨3, ![8, 4096, 1024]⟩ .f32 := fun y =>
  normed (fun n => residual X M G U W C D (y 0) (y 1) n) (y 2) * H (ix1 (y 2))

end

end Cert.FeedForward

end
-- ==== Proof.FfnBlock.lean ====
/- What one grid point of the feed-forward kernel computes, read at an index. -/
module

public import proofs.«01_k».proof.Proof.FfnSpec
public import proofs.«01_k».proof.Proof.Gen.Kernel2Ideal.Skeleton
public import Idealize.ShloMosaic.Lib.WordCmp

@[expose] public section

set_option maxRecDepth 16384

noncomputable section

open Idealize.ShloMosaic Idealize.ShloMosaic.TcCoe Idealize.SL.Sem

namespace Cert.Kernel2Ideal.Feed

open Cert.Kernel2Ideal Cert.Kernel2Ideal.Gen Cert.FeedForward

/-- The result's rows from the down-projection, the gate and the residual. -/
theorem out_at (Y : FVec Ideal S512x1024 .f32) (g : FVec Ideal S1x1024 .f32) (x : FVec Ideal S1x512x1024 .f32) (h : FVec Ideal S1x1024 .f32)
    (s : Fin 512) (n : Fin 1024) :
    k0_pay1 (F := Ideal) Y g x h (ix3 0 s n)
      = normed (fun n => x (ix3 0 s n) + g (ix2 0 n) * Y (ix2 s n)) n * h (ix2 0 n) := by
  pointwise [k0_pay1]
  rfl

/-- The gate's row of the modulation. -/
theorem gate_at (m : FVec Ideal S1x1x6144 .f32) (n : Fin 1024) :
    k0_pay17 (F := Ideal) (k0_pay2 m) (ix2 0 n) = m (ix3 0 0 ⟨5120 + n, by omega⟩) := by
  pointwise [k0_pay17, k0_pay2]

/-- The down-projection. -/
theorem down_at (A : FVec Ideal S512x2816 .bf16) (D : FVec Ideal S2816x1024 .bf16) (s : Fin 512) (n : Fin 1024) :
    k0_pay16 (F := Ideal) A D (ix2 s n) = ∑ j, A (ix2 s j) * D (ix2 j n) := by
  pointwise [k0_pay16]

/-- A row of a block with its neighbours. -/
def near (p : FVec Ideal S1x8x1024 .f32) (x : FVec Ideal S1x512x1024 .f32) (q : FVec Ideal S1x8x1024 .f32) (r : Fin 528) (k : Fin 1024) : EReal :=
  if h : (r : ℕ) < 8 then p (ix3 0 ⟨r, by omega⟩ k)
  else if h : (r : ℕ) - 8 < 512 then x (ix3 0 ⟨r - 8, by omega⟩ k) else q (ix3 0 ⟨r - 8 - 512, by omega⟩ k)

/-- The modulated rows of a block with its neighbours. -/
theorem rows_at (p : FVec Ideal S1x8x1024 .f32) (x : FVec Ideal S1x512x1024 .f32) (q : FVec Ideal S1x8x1024 .f32)
    (m : FVec Ideal S1x1x6144 .f32) (g : FVec Ideal S1x1024 .f32) (r : Fin 528) (k : Fin 1024) :
    k0_pay3 (F := Ideal) p x q m g (ix2 r k) = normed (near p x q r) k * g (ix2 0 k) * (1 + m (ix3 0 0 ⟨4096 + k, by omega⟩))
      + m (ix3 0 0 ⟨3072 + k, by omega⟩) := by
  pointwise [k0_pay3, k0_pay2]
  rfl

/-- A choice by a tested condition. -/
theorem select_bool (P : Prop) [Decidable P] (a b : EReal) :
    Scalar.select (BitVec.ofBool (decide P)) a b = if P then a else b := by
  by_cases h : P
  · rw [if_pos h, decide_eq_true h]; rfl
  · rw [if_neg h, decide_eq_false h]; rfl

/-- The kernel's hidden rows with the rows outside the sequence set to zero. -/
theorem kept_at (Y : FVec Ideal S528x1024 .f32) (i : grid0.Coords) (r : Fin 528) (k : Fin 1024) :
    k0_pay5 (F := Ideal) Y (iota .tc S528x1 32 [0] iota_S528x1_d0_w32) (k0_pay4 i)
      (Scalar.cmpi .slt (BitVec.ofNat 32 (i 1).val) 7#32) (Scalar.ofBits .f32 0x3F800000#32) (ix2 r k)
      = Y (ix2 r k) * (if (r : ℕ) < 8 then (if 0 < (i 1).val then 1 else 0)
        else if 520 ≤ (r : ℕ) then (if (i 1).val < 7 then 1 else 0) else 1) := by
  have hi : (i 1).val < 8 := (i 1).isLt
  pointwise [k0_pay5, k0_pay4]
  congr 1
  have e1 := WordCmp.cmpi_slt_ofNat (w := 32) (a := (r : ℕ)) (b := 8) (by omega) (by omega)
  have e2 := WordCmp.cmpi_sgt_ofNat (w := 32) (a := (i 1).val) (b := 0) (by omega) (by omega)
  have e3 := WordCmp.cmpi_sge_ofNat (w := 32) (a := (r : ℕ)) (b := 520) (by omega) (by omega)
  have e4 := WordCmp.cmpi_slt_ofNat (w := 32) (a := (i 1).val) (b := 7) (by omega) (by omega)
  show Scalar.select (IntOp.cmpi .slt (BitVec.ofNat 32 ↑r) (BitVec.ofNat 32 8))
      (Scalar.select (IntOp.cmpi .sgt (BitVec.ofNat 32 ↑(i 1)) (BitVec.ofNat 32 0)) (1 : EReal) 0)
      (Scalar.select (IntOp.cmpi .sge (BitVec.ofNat 32 ↑r) (BitVec.ofNat 32 520))
        (Scalar.select (IntOp.cmpi .slt (BitVec.ofNat 32 ↑(i 1)) (BitVec.ofNat 32 7)) 1 0) 1) = _
  rw [e1, e2, e3, e4, select_bool, select_bool, select_bool, select_bool]

/-- The hidden units of a block from its rows. -/
def unitOf (A : FVec Ideal S528x1024 .bf16) (B : FVec Ideal S512x1024 .bf16) (W : FVec Ideal S3x2816 .f32) (C : FVec Ideal S1x2816 .f32)
    (U : FVec Ideal S1024x5632 .bf16) (s : Fin 512) (j : Fin 2816) : EReal :=
  swish ((∑ k, A (ix2 ⟨7 + s, by omega⟩ k) * U (ix2 k ⟨j, by omega⟩)) * W (ix2 0 j)
    + (∑ k, A (ix2 ⟨8 + s, by omega⟩ k) * U (ix2 k ⟨j, by omega⟩)) * W (ix2 1 j)
    + (∑ k, A (ix2 ⟨9 + s, by omega⟩ k) * U (ix2 k ⟨j, by omega⟩)) * W (ix2 2 j) + C (ix2 0 j))
    * ∑ k, B (ix2 s k) * U (ix2 k ⟨2816 + j, by omega⟩)

section
variable (A : FVec Ideal S528x1024 .bf16) (B : FVec Ideal S512x1024 .bf16) (W : FVec Ideal S3x2816 .f32) (C : FVec Ideal S1x2816 .f32)
  (U : FVec Ideal S1024x5632 .bf16)

/-- The third column chunk. -/
theorem chunk2_at (P Q : FVec Ideal S1024x768 .bf16)
    (hP : ∀ k (j : Fin 768), P (ix2 k j) = U (ix2 k ⟨2048 + j, by omega⟩))
    (hQ : ∀ k (j : Fin 768), Q (ix2 k j) = U (ix2 k ⟨4864 + j, by omega⟩)) (s : Fin 512) (j : Fin 768) :
    k0_pay15 (F := Ideal) A B W (k0_pay8 C) P Q (ix2 s j) = unitOf A B W C U s ⟨2048 + j, by omega⟩ := by
  pointwise [k0_pay15, k0_pay8]
  simp only [hP, hQ, zero_sub]
  have e : (⟨2816 + ((⟨2048 + j, by omega⟩ : Fin 2816) : ℕ), by simp only; omega⟩ : Fin 5632) = ⟨4864 + j, by omega⟩ :=
    Fin.ext (by simp only; omega)
  unfold unitOf
  rw [e]
  rfl

/-- The second column chunk. -/
theorem chunk1_at (P Q : FVec Ideal S1024x1024 .bf16)
    (hP : ∀ k (j : Fin 1024), P (ix2 k j) = U (ix2 k ⟨1024 + j, by omega⟩))
    (hQ : ∀ k (j : Fin 1024), Q (ix2 k j) = U (ix2 k ⟨3840 + j, by omega⟩)) (s : Fin 512) (j : Fin 1024) :
    k0_pay14 (k0_pay13 (F := Ideal) A B W (k0_pay8 C) P Q) (ix2 s j) = unitOf A B W C U s ⟨1024 + j, by omega⟩ := by
  pointwise [k0_pay14, k0_pay13, k0_pay8]
  simp only [hP, hQ, zero_sub]
  have e : (⟨2816 + ((⟨1024 + j, by omega⟩ : Fin 2816) : ℕ), by simp only; omega⟩ : Fin 5632) = ⟨3840 + j, by omega⟩ :=
    Fin.ext (by simp only; omega)
  unfold unitOf
  rw [e]
  rfl

end

/-- The first column chunk. -/
theorem chunk0_at (Y : FVec Ideal S528x1024 .f32) (I : IVec S528x1 32) (a z : EReal) (v : BitVec 1) (W : FVec Ideal S3x2816 .f32)
    (C : FVec Ideal S1x2816 .f32) (U : FVec Ideal S1024x5632 .bf16) (P Q : FVec Ideal S1024x1024 .bf16)
    (hP : ∀ k (j : Fin 1024), P (ix2 k j) = U (ix2 k ⟨j, by omega⟩))
    (hQ : ∀ k (j : Fin 1024), Q (ix2 k j) = U (ix2 k ⟨2816 + j, by omega⟩)) (s : Fin 512) (j : Fin 1024) :
    k0_pay12 (F := Ideal) (k0_pay9 Y I a v z Q) (k0_pay10 Y I a v z W C P) (k0_pay11 Y I a v z W C P)
      (Scalar.ofBits .f32 0x3F800000#32) (ix2 s j)
      = unitOf (k0_pay6 Y I a v z) (k0_pay7 Y I a v z) W C U s ⟨j, by omega⟩ := by
  have e : ∀ s j, k0_pay10 (F := Ideal) Y I a v z W C P (ix2 s j) = (∑ k, k0_pay6 (F := Ideal) Y I a v z (ix2 ⟨7 + s, by omega⟩ k) * P (ix2 k j)) * W (ix2 0 ⟨j, by omega⟩)
      + (∑ k, k0_pay6 (F := Ideal) Y I a v z (ix2 ⟨8 + s, by omega⟩ k) * P (ix2 k j)) * W (ix2 1 ⟨j, by omega⟩)
      + (∑ k, k0_pay6 (F := Ideal) Y I a v z (ix2 ⟨9 + s, by omega⟩ k) * P (ix2 k j)) * W (ix2 2 ⟨j, by omega⟩) + C (ix2 0 ⟨j, by omega⟩) := by
    intro s j
    generalize hA : k0_pay6 (F := Ideal) Y I a v z = A
    unfold k0_pay10
    rw [hA]
    pointwise [k0_pay8]
  have e9 : k0_pay9 (F := Ideal) Y I a v z Q (ix2 s j) = ∑ k, k0_pay7 (F := Ideal) Y I a v z (ix2 s k) * Q (ix2 k j) := by
    generalize hB : k0_pay7 (F := Ideal) Y I a v z = B
    unfold k0_pay9
    rw [hB]
    pointwise
  have e11 : k0_pay11 (F := Ideal) Y I a v z W C P (ix2 s j) = Ideal.exp (0 - k0_pay10 (F := Ideal) Y I a v z W C P (ix2 s j)) := by
    generalize hB : k0_pay10 (F := Ideal) Y I a v z W C P = B
    unfold k0_pay11
    rw [hB]
    pointwise
  have e12 : ∀ (R S T : FVec Ideal S512x1024 .f32), k0_pay12 (F := Ideal) R S T (Scalar.ofBits .f32 0x3F800000#32) (ix2 s j)
      = S (ix2 s j) * Ideal.div 1 (1 + T (ix2 s j)) * R (ix2 s j) := by
    intro R S T
    pointwise [k0_pay12]
  rw [e12, e9, e11, e]
  simp only [hP, hQ, zero_sub]
  rfl

section
variable (X : FVec Ideal ⟨3, ![8, 4096, 1024]⟩ .f32) (M : FVec Ideal ⟨2, ![8, 6144]⟩ .f32) (G : FVec Ideal ⟨1, ![1024]⟩ .f32)
  (U : FVec Ideal ⟨2, ![1024, 5632]⟩ .f32) (V : FVec Ideal ⟨2, ![3, 2816]⟩ .f32) (C : FVec Ideal ⟨1, ![2816]⟩ .f32)

/-- The kept rows of a block are the padded sequence's positions. -/
theorem kept_padded (p : FVec Ideal S1x8x1024 .f32) (x : FVec Ideal S1x512x1024 .f32) (q : FVec Ideal S1x8x1024 .f32)
    (m : FVec Ideal S1x1x6144 .f32) (g : FVec Ideal S1x1024 .f32) (i : grid0.Coords) (b : Fin 8) (n : Fin 8) (hn : (i 1).val = n)
    (hp : 0 < (n : ℕ) → ∀ (r : Fin 8) (k : Fin 1024), p (ix3 0 r k) = X (ix3 b ⟨(n * 512 + r - 8 : ℕ), by omega⟩ k))
    (hx : ∀ (s : Fin 512) (k : Fin 1024), x (ix3 0 s k) = X (ix3 b ⟨n * 512 + s, by omega⟩ k))
    (hq : ∀ h : (n : ℕ) < 7, ∀ (r : Fin 8) (k : Fin 1024), q (ix3 0 r k) = X (ix3 b ⟨n * 512 + 512 + r, by omega⟩ k))
    (hm : ∀ l : Fin 6144, m (ix3 0 0 l) = M (ix2 b l)) (hg : ∀ k : Fin 1024, g (ix2 0 k) = G (ix1 k))
    (r : Fin 528) (h7 : 7 ≤ (r : ℕ)) (h520 : (r : ℕ) ≤ 520) (k : Fin 1024) :
    k0_pay5 (F := Ideal) (k0_pay3 p x q m g) (iota .tc S528x1 32 [0] iota_S528x1_d0_w32) (k0_pay4 i)
      (Scalar.cmpi .slt (BitVec.ofNat 32 (i 1).val) 7#32) (Scalar.ofBits .f32 0x3F800000#32) (ix2 r k)
      = padded X M G b (n * 512 + r - 7) k := by
  rw [kept_at, rows_at, hn, hg, hm, hm]
  unfold padded
  by_cases hin : 1 ≤ (n : ℕ) * 512 + r - 7 ∧ (n : ℕ) * 512 + r - 7 < 4097
  · rw [dif_pos hin]
    have ek : (if (r : ℕ) < 8 then (if 0 < (n : ℕ) then 1 else 0)
        else if 520 ≤ (r : ℕ) then (if (n : ℕ) < 7 then 1 else 0) else 1 : EReal) = 1 := by
      split_ifs <;> first | rfl | (exfalso; omega)
    have en : near p x q r = fun d => X (ix3 b ⟨(n * 512 + r - 7 : ℕ) - 1, by omega⟩ d) := by
      funext d
      unfold near
      split_ifs with h1 h2
      · rw [hp (by omega)]
        exact congrArg (fun z => X (ix3 b z d)) (Fin.ext (by simp only; omega))
      · rw [hx]
        exact congrArg (fun z => X (ix3 b z d)) (Fin.ext (by simp only; omega))
      · rw [hq (by omega)]
        exact congrArg (fun z => X (ix3 b z d)) (Fin.ext (by simp only; omega))
    rw [ek, en, mul_one]
    rfl
  · rw [dif_neg hin]
    have ek : (if (r : ℕ) < 8 then (if 0 < (n : ℕ) then 1 else 0)
        else if 520 ≤ (r : ℕ) then (if (n : ℕ) < 7 then 1 else 0) else 1 : EReal) = 0 := by
      split_ifs <;> first | rfl | (exfalso; omega)
    rw [ek, mul_zero]

/-- The hidden units of a block whose rows are the padded sequence's. -/
theorem unitOf_eq (Y : FVec Ideal S528x1024 .f32) (I : IVec S528x1 32) (a z : EReal) (v : BitVec 1) (W : FVec Ideal S3x2816 .f32)
    (c : FVec Ideal S1x2816 .f32) (u : FVec Ideal S1024x5632 .bf16) (b : Fin 8) (n : Fin 8)
    (hY : ∀ (r : Fin 528), 7 ≤ (r : ℕ) → (r : ℕ) ≤ 520 → ∀ k : Fin 1024,
      k0_pay5 (F := Ideal) Y I a v z (ix2 r k) = padded X M G b (n * 512 + r - 7) k)
    (hW : ∀ e j, W (ix2 e j) = V (ix2 e j)) (hc : ∀ j, c (ix2 0 j) = C (ix1 j)) (hu : ∀ k j, u (ix2 k j) = U (ix2 k j))
    (s : Fin 512) (j : Fin 2816) :
    unitOf (k0_pay6 (F := Ideal) Y I a v z) (k0_pay7 Y I a v z) W c u s j = unit X M G U V C b ⟨n * 512 + s, by omega⟩ j := by
  have e6 : ∀ (r : Fin 528), 7 ≤ (r : ℕ) → (r : ℕ) ≤ 520 → ∀ k : Fin 1024,
      k0_pay6 (F := Ideal) Y I a v z (ix2 r k) = padded X M G b (n * 512 + r - 7) k := fun r h1 h2 k => by
    rw [← hY r h1 h2 k]
    unfold k0_pay6
    rfl
  have e7 : ∀ k : Fin 1024, k0_pay7 (F := Ideal) Y I a v z (ix2 s k) = hidden X M G b ⟨n * 512 + s, by omega⟩ k := fun k => by
    have h := hY ⟨8 + s, by omega⟩ (by simp only; omega) (by simp only; omega) k
    generalize hB : k0_pay5 (F := Ideal) Y I a v z = B at h
    unfold k0_pay7
    rw [hB]
    pointwise
    rw [h]
    unfold padded
    rw [dif_pos (by simp only; omega)]
    exact congrArg (fun w => hidden X M G b w k) (Fin.ext (by simp only; omega))
  have eg : ∀ (d : ℕ) (hd : d < 3), (∑ k, k0_pay6 (F := Ideal) Y I a v z (ix2 ⟨7 + d + s, by omega⟩ k) * u (ix2 k ⟨j, by omega⟩))
      = gateIn X M G U b (n * 512 + s + d) j := fun d hd => by
    unfold gateIn
    refine Finset.sum_congr rfl fun k _ => ?_
    rw [e6 _ (by simp only; omega) (by simp only; omega), hu]
    exact congrArg (fun w => padded X M G b w k * _) (by simp only; omega)
  have ev : (∑ k, k0_pay7 (F := Ideal) Y I a v z (ix2 s k) * u (ix2 k ⟨2816 + j, by omega⟩))
      = valueIn X M G U b ⟨n * 512 + s, by omega⟩ j := by
    unfold valueIn
    refine Finset.sum_congr rfl fun k _ => ?_
    rw [e7, hu]
  unfold unitOf unit conv
  have e0 := eg 0 (by omega)
  have e1 := eg 1 (by omega)
  have e2 := eg 2 (by omega)
  rw [ev, hW, hW, hW, hc]
  exact congrArg (fun w => swish w * _) (by
    refine congrArg₂ (· + ·) (congrArg₂ (· + ·) (congrArg₂ (· + ·) ?_ ?_) ?_) rfl
    · exact congrArg (· * _) e0
    · exact congrArg (· * _) e1
    · exact congrArg (· * _) e2)

end

end Cert.Kernel2Ideal.Feed

end
-- ==== Proof.FfnStep.lean ====
/- What a grid point of the feed-forward kernel leaves in its output block. -/
module

public import proofs.«01_k».proof.Proof.FfnBlock
public import proofs.«01_k».proof.Proof.Gen.Kernel2Ideal.Value
public import Idealize.ShloMosaic.Lib.Pipeline.ReadBack
public import Idealize.ShloMosaic.Lib.Pipeline.ValueKit.Acc
public import Idealize.ShloMosaic.Lib.Pipeline.ValueKit.Tiles

@[expose] public section

set_option maxRecDepth 16384

noncomputable section

open Idealize.ShloMosaic Idealize.ShloMosaic.TcCoe Idealize.SL.Sem

namespace Cert.Kernel2Ideal.Feed

open Cert.Kernel2Ideal Cert.Kernel2Ideal.Gen Cert.FeedForward

variable (m : (ℓ : Loc nD τ sig) → Buf (Elt Ideal) ℓ)

/-- A load of the whole scratch reads what the stores left. -/
theorem load_all (v : View sig .tc .vmem S512x2816 .bf16) (inb) (L : List (View.Piece (Elt Ideal) S512x2816 .bf16)) :
    View.readCov (Val := Elt Ideal) v L (Rect.unit ![0, 0] ![512, 2816] inb).toLoadRect = View.canon L := by
  have h := View.readCov_eq_canon' v L (Rect.unit ![0, 0] ![512, 2816] inb).toLoadRect
  refine h.trans (funext fun j => congrArg (View.canon L) (funext fun a => Fin.ext ?_))
  fin_cases a
  · exact (Nat.zero_add _).trans (Nat.one_mul (j 0).val)
  · exact (Nat.zero_add _).trans (Nat.one_mul (j 1).val)

/-- The kept rows of a point's blocks. -/
def kept (c : Dev nD) (t : Fin cfg0.N) : FVec Ideal S528x1024 .f32 :=
  k0_pay5 (F := Ideal) (k0_pay3 (iblk m c 1 t) (iblk m c 0 t) (iblk m c 2 t) (iblk m c 3 t) (iblk m c 4 t))
    (iota .tc S528x1 32 [0] iota_S528x1_d0_w32) (k0_pay4 (grid0.coords t))
    (Scalar.cmpi .slt (BitVec.ofNat 32 (grid0.coords t 1).val) 7#32) (Scalar.ofBits .f32 0x3F800000#32)

/-- The hidden units of a point's blocks. -/
def units (c : Dev nD) (t : Fin cfg0.N) (s : Fin 512) (j : Fin 2816) : EReal :=
  unitOf (k0_pay6 (F := Ideal) (k0_pay3 (iblk m c 1 t) (iblk m c 0 t) (iblk m c 2 t) (iblk m c 3 t) (iblk m c 4 t))
      (iota .tc S528x1 32 [0] iota_S528x1_d0_w32) (k0_pay4 (grid0.coords t))
      (Scalar.cmpi .slt (BitVec.ofNat 32 (grid0.coords t 1).val) 7#32) (Scalar.ofBits .f32 0x3F800000#32))
    (k0_pay7 (F := Ideal) (k0_pay3 (iblk m c 1 t) (iblk m c 0 t) (iblk m c 2 t) (iblk m c 3 t) (iblk m c 4 t))
      (iota .tc S528x1 32 [0] iota_S528x1_d0_w32) (k0_pay4 (grid0.coords t))
      (Scalar.cmpi .slt (BitVec.ofNat 32 (grid0.coords t 1).val) 7#32) (Scalar.ofBits .f32 0x3F800000#32))
    (iblk m c 6 t) (iblk m c 7 t) (iblk m c 5 t) s j

/-- The result's rows from the hidden units. -/
def rowsOut (D : FVec Ideal S2816x1024 .bf16) (mm : FVec Ideal S1x1x6144 .f32) (x : FVec Ideal S1x512x1024 .f32)
    (h : FVec Ideal S1x1024 .f32) (u : Fin 512 → Fin 2816 → EReal) (s : Fin 512) (n : Fin 1024) : EReal :=
  normed (fun n => x (ix3 0 s n) + mm (ix3 0 0 ⟨5120 + n, by omega⟩) * ∑ j, u s j * D (ix2 j n)) n * h (ix2 0 n)

/-- The output block at an index, from the hidden units in the scratch. -/
theorem out_of (A : FVec Ideal S512x2816 .bf16) (D : FVec Ideal S2816x1024 .bf16) (mm : FVec Ideal S1x1x6144 .f32)
    (x : FVec Ideal S1x512x1024 .f32) (h : FVec Ideal S1x1024 .f32) (u : Fin 512 → Fin 2816 → EReal)
    (hA : ∀ y : S512x2816.Idx, A y = u (y 0) (y 1)) (s : Fin 512) (n : Fin 1024) :
    k0_pay1 (F := Ideal) (k0_pay16 A D) (k0_pay17 (k0_pay2 mm)) x h (ix3 0 s n) = rowsOut D mm x h u s n := by
  rw [out_at]
  simp only [gate_at, down_at, hA]
  rfl

/-- Three stores side by side hold the hidden units. -/
theorem canon_three (G : Fin 512 → Fin 2816 → EReal) (A : FVec Ideal S512x768 .bf16) (B C : FVec Ideal S512x1024 .bf16) (i1) (i2) (i3)
    (hA : ∀ (s : Fin 512) (j : Fin 768), A (ix2 s j) = G s ⟨2048 + j, by omega⟩)
    (hB : ∀ (s : Fin 512) (j : Fin 1024), B (ix2 s j) = G s ⟨1024 + j, by omega⟩)
    (hC : ∀ (s : Fin 512) (j : Fin 1024), C (ix2 s j) = G s ⟨j, by omega⟩) (y : S512x2816.Idx) :
    View.canon (Val := Elt Ideal) (s := S512x2816) (e := .bf16) [⟨Rect.unit ![0, 2048] ![512, 768] i1, A⟩, ⟨Rect.unit ![0, 1024] ![512, 1024] i2, B⟩,
      ⟨Rect.unit ![0, 0] ![512, 1024] i3, C⟩] y = G (y 0) (y 1) := by
  refine View.canon_apply_of_pieces (Val := Elt Ideal) (S := S512x2816) (e := .bf16) (fun y => G (y 0) (y 1)) _ ?_ y ?_
  · intro p hp
    simp only [List.mem_cons, List.not_mem_nil, or_false] at hp
    rcases hp with rfl | rfl | rfl
    · intro x
      refine (congrArg A (eq_ix2 x)).trans ((hA _ _).trans (congrArg₂ G (Fin.ext ?_) (Fin.ext ?_)))
      · exact ((Nat.zero_add _).trans (Nat.one_mul (x 0).val)).symm
      · exact (congrArg (_ + ·) (Nat.one_mul (x 1).val)).symm
    · intro x
      refine (congrArg B (eq_ix2 x)).trans ((hB _ _).trans (congrArg₂ G (Fin.ext ?_) (Fin.ext ?_)))
      · exact ((Nat.zero_add _).trans (Nat.one_mul (x 0).val)).symm
      · exact (congrArg (_ + ·) (Nat.one_mul (x 1).val)).symm
    · intro x
      refine (congrArg C (eq_ix2 x)).trans ((hC _ _).trans (congrArg₂ G (Fin.ext ?_) (Fin.ext ?_)))
      · exact ((Nat.zero_add _).trans (Nat.one_mul (x 0).val)).symm
      · exact ((Nat.zero_add _).trans (Nat.one_mul (x 1).val)).symm
  · have h0 : (y 0 : ℕ) < 512 := (y 0).isLt
    have h1 : (y 1 : ℕ) < 2816 := (y 1).isLt
    rcases (by omega : (y 1 : ℕ) < 1024 ∨ (1024 ≤ (y 1 : ℕ) ∧ (y 1 : ℕ) < 2048) ∨ 2048 ≤ (y 1 : ℕ)) with h | h | h
    · refine ⟨⟨Rect.unit ![0, 0] ![512, 1024] i3, C⟩, List.mem_cons_of_mem _ (List.mem_cons_of_mem _ (List.mem_cons_self ..)), ?_⟩
      refine (Rect.mem_set_unit (inb := i3)).mpr (Fin.forall_fin_two.mpr ⟨⟨Nat.zero_le _, ?_⟩, ⟨Nat.zero_le _, ?_⟩⟩)
      · show (y 0 : ℕ) < 0 + 512; omega
      · show (y 1 : ℕ) < 0 + 1024; omega
    · refine ⟨⟨Rect.unit ![0, 1024] ![512, 1024] i2, B⟩, List.mem_cons_of_mem _ (List.mem_cons_self ..), ?_⟩
      refine (Rect.mem_set_unit (inb := i2)).mpr (Fin.forall_fin_two.mpr ⟨⟨Nat.zero_le _, ?_⟩, ⟨h.1, ?_⟩⟩)
      · show (y 0 : ℕ) < 0 + 512; omega
      · show (y 1 : ℕ) < 1024 + 1024; omega
    · refine ⟨⟨Rect.unit ![0, 2048] ![512, 768] i1, A⟩, List.mem_cons_self .., ?_⟩
      refine (Rect.mem_set_unit (inb := i1)).mpr (Fin.forall_fin_two.mpr ⟨⟨Nat.zero_le _, ?_⟩, ⟨h, ?_⟩⟩)
      · show (y 0 : ℕ) < 0 + 512; omega
      · show (y 1 : ℕ) < 2048 + 768; omega

/-- A load of some columns. -/
theorem load_cols {w : ℕ} (B : FVec Ideal S1024x5632 .bf16) (o : ℕ) (inb) (k : Fin 1024) (j : Fin w) (h : o + j < 5632) :
    (View.ld (Val := Elt Ideal) (e' := .bf16) B (Rect.unit ![0, o] ![1024, w] inb) : FVec Ideal ⟨2, ![1024, w]⟩ .bf16) (ix2 k j)
      = B (ix2 k ⟨o + j, h⟩) := by
  refine congrArg B (funext fun a => Fin.ext ?_)
  fin_cases a
  · exact (Nat.zero_add _).trans (Nat.one_mul k.val)
  · exact congrArg (o + ·) (Nat.one_mul j.val)

/-- A load of the first columns. -/
theorem load_first (B : FVec Ideal S1024x5632 .bf16) (inb) (k : Fin 1024) (j : Fin 1024) :
    (View.ld (Val := Elt Ideal) (e' := .bf16) B (Rect.unit ![0, 0] ![1024, 1024] inb) : FVec Ideal ⟨2, ![1024, 1024]⟩ .bf16) (ix2 k j)
      = B (ix2 k ⟨j, by omega⟩) :=
  (load_cols B 0 inb k j (by omega)).trans (congrArg (fun z => B (ix2 k z)) (Fin.ext (Nat.zero_add _)))

/-- What a point leaves. -/
theorem step_at (c : Dev nD) (t : Fin cfg0.N) (s : Fin 512) (n : Fin 1024) :
    (outsAt0 m c t : FVec Ideal S1x512x1024 .f32) (ix3 0 s n)
      = rowsOut (iblk m c 8 t) (iblk m c 3 t) (iblk m c 0 t) (iblk m c 9 t) (units m c t) s n := by
  unfold outsAt0
  frame_out
  refine out_of _ _ _ _ _ (units m c t) ?_ s n
  intro y
  refine (congrFun (load_all _ _ _) y).trans ?_
  refine canon_three (units m c t) _ _ _ _ _ _ ?_ ?_ ?_ y
  · exact chunk2_at _ _ _ _ _ _ _ (fun k j => load_cols _ _ _ k j _) (fun k j => load_cols _ _ _ k j _)
  · exact chunk1_at _ _ _ _ _ _ _ (fun k j => load_cols _ _ _ k j _) (fun k j => load_cols _ _ _ k j _)
  · exact chunk0_at _ _ _ _ _ _ _ _ _ _ (fun k j => load_first _ _ k j)
      (fun k j => load_cols _ _ _ k j _)

end Cert.Kernel2Ideal.Feed

end
-- ==== Proof.FfnKernel.lean ====
/- The feed-forward kernel's result over the whole array. -/
module

public import proofs.«01_k».proof.Proof.FfnStep
public import Idealize.ShloMosaic.Lib.StableHlo.ReadAt
public import Idealize.ShloMosaic.Lib.Pipeline.Covers

@[expose] public section

set_option maxRecDepth 16384

noncomputable section

open Idealize.ShloMosaic Idealize.ShloMosaic.TcCoe Idealize.SL.Sem

namespace Cert.Kernel2Ideal.Feed

open Cert.Kernel2Ideal Cert.Kernel2Ideal.Gen Cert.FeedForward

variable (m : (ℓ : Loc nD τ sig) → Buf (Elt Ideal) ℓ)

/-- There are 64 grid points. -/
theorem point_lt (t : Fin cfg0.N) : t.val < 64 := t.isLt

/-- A point's batch and tile. -/
theorem coords_tile : ∀ t : Fin cfg0.N, (grid0.coords t 1).val = t.val % 8 :=
  (by decide +kernel : ∀ t : Fin grid0.N, _)

/-- Which block each window reads at a point. -/
theorem idx : ∀ t : Fin cfg0.N, win0_0.index t = ![t.val / 8, t.val % 8, 0] ∧ win0_1.index t = ![t.val / 8, t.val % 8 * 64 - 1, 0]
    ∧ win0_2.index t = ![t.val / 8, min (t.val % 8 * 64 + 64) 511, 0] ∧ win0_3.index t = ![t.val / 8, 0, 0] ∧ win0_4.index t = ![0, 0]
    ∧ win0_5.index t = ![0, 0] ∧ win0_6.index t = ![0, 0] ∧ win0_7.index t = ![0, 0] ∧ win0_8.index t = ![0, 0] ∧ win0_9.index t = ![0, 0]
    ∧ win0_10.index t = ![t.val / 8, t.val % 8, 0] :=
  (by decide +kernel : ∀ t : Fin grid0.N, _)

/-- The tokens. -/
abbrev argX (c : Dev nD) : FVec Ideal ⟨3, ![8, 4096, 1024]⟩ .f32 := m ((c : Thread nD τ).loc main_arg0)
/-- The modulation. -/
abbrev argM (c : Dev nD) : FVec Ideal ⟨2, ![8, 6144]⟩ .f32 := m ((c : Thread nD τ).loc main_arg1)
/-- The first norm's scale. -/
abbrev argG (c : Dev nD) : FVec Ideal ⟨1, ![1024]⟩ .f32 := m ((c : Thread nD τ).loc main_arg2)
/-- The up-projection. -/
abbrev argU (c : Dev nD) : FVec Ideal ⟨2, ![1024, 5632]⟩ .f32 := m ((c : Thread nD τ).loc main_arg3)
/-- The convolution's taps. -/
abbrev argW (c : Dev nD) : FVec Ideal ⟨2, ![3, 2816]⟩ .f32 := m ((c : Thread nD τ).loc main_arg4)
/-- The convolution's bias. -/
abbrev argC (c : Dev nD) : FVec Ideal ⟨1, ![2816]⟩ .f32 := m ((c : Thread nD τ).loc main_arg5)
/-- The down-projection. -/
abbrev argD (c : Dev nD) : FVec Ideal ⟨2, ![2816, 1024]⟩ .f32 := m ((c : Thread nD τ).loc main_arg6)
/-- The last norm's scale. -/
abbrev argH (c : Dev nD) : FVec Ideal ⟨1, ![1024]⟩ .f32 := m ((c : Thread nD τ).loc main_arg7)

/-! ## The blocks -/

section
variable (c : Dev nD) (t : Fin cfg0.N)

/-- The tile's own tokens. -/
theorem blk0 (s : Fin 512) (k : Fin 1024) : (iblk m c 0 t : FVec Ideal S1x512x1024 .f32) (ix3 0 s k)
    = argX m c (ix3 ⟨t.val / 8, by have := point_lt t; omega⟩ ⟨t.val % 8 * 512 + s, by omega⟩ k) := by
  have e := (idx t).1
  unfold argX
  rw [← V_main_arg0 m c]
  blk_ext [iblk, e]

/-- The eight tokens before the tile. -/
theorem blk1 (h0 : 0 < t.val % 8) (r : Fin 8) (k : Fin 1024) : (iblk m c 1 t : FVec Ideal S1x8x1024 .f32) (ix3 0 r k)
    = argX m c (ix3 ⟨t.val / 8, by have := point_lt t; omega⟩ ⟨t.val % 8 * 512 + r - 8, by omega⟩ k) := by
  have e := (idx t).2.1
  unfold argX
  rw [← V_main_arg0 m c]
  blk_ext [iblk, e]

/-- The eight tokens after the tile. -/
theorem blk2 (h7 : t.val % 8 < 7) (r : Fin 8) (k : Fin 1024) : (iblk m c 2 t : FVec Ideal S1x8x1024 .f32) (ix3 0 r k)
    = argX m c (ix3 ⟨t.val / 8, by have := point_lt t; omega⟩ ⟨t.val % 8 * 512 + 512 + r, by omega⟩ k) := by
  have e := (idx t).2.2.1
  rw [show min (t.val % 8 * 64 + 64) 511 = t.val % 8 * 64 + 64 by omega] at e
  unfold argX
  rw [← V_main_arg0 m c]
  blk_ext [iblk, e]

/-- The batch's modulation. -/
theorem blk3 (l : Fin 6144) : (iblk m c 3 t : FVec Ideal S1x1x6144 .f32) (ix3 0 0 l)
    = argM m c (ix2 ⟨t.val / 8, by have := point_lt t; omega⟩ l) := by
  have e := (idx t).2.2.2.1
  have h : (iblk m c 3 t : FVec Ideal S1x1x6144 .f32) (ix3 0 0 l)
      = (V m c main_v4 : FVec Ideal ⟨3, ![8, 1, 6144]⟩ .f32) (ix3 ⟨t.val / 8, by have := point_lt t; omega⟩ 0 l) := by
    blk_ext [iblk, e]
  rw [h]
  unfold V
  after_reads_at

/-- The first norm's scale, as a row. -/
theorem blk4 (k : Fin 1024) : (iblk m c 4 t : FVec Ideal S1x1024 .f32) (ix2 0 k) = argG m c (ix1 k) := by
  have e := (idx t).2.2.2.2.1
  have h : (iblk m c 4 t : FVec Ideal S1x1024 .f32) (ix2 0 k) = (V m c main_v0 : FVec Ideal ⟨2, ![1, 1024]⟩ .f32) (ix2 0 k) := by
    blk_ext [iblk, e]
  rw [h]
  unfold V
  after_reads_at

/-- The up-projection, whole. -/
theorem blk5 (k : Fin 1024) (j : Fin 5632) : (iblk m c 5 t : FVec Ideal S1024x5632 .bf16) (ix2 k j) = argU m c (ix2 k j) := by
  have e := (idx t).2.2.2.2.2.1
  have h : (iblk m c 5 t : FVec Ideal S1024x5632 .bf16) (ix2 k j) = (V m c main_v1 : FVec Ideal ⟨2, ![1024, 5632]⟩ .bf16) (ix2 k j) := by
    blk_ext [iblk, e]
  rw [h]
  unfold V
  after_reads_at

/-- The convolution's taps, whole. -/
theorem blk6 (r : Fin 3) (j : Fin 2816) : (iblk m c 6 t : FVec Ideal S3x2816 .f32) (ix2 r j) = argW m c (ix2 r j) := by
  have e := (idx t).2.2.2.2.2.2.1
  unfold argW
  rw [← V_main_arg4 m c]
  blk_ext [iblk, e]

/-- The convolution's bias, as a row. -/
theorem blk7 (j : Fin 2816) : (iblk m c 7 t : FVec Ideal S1x2816 .f32) (ix2 0 j) = argC m c (ix1 j) := by
  have e := (idx t).2.2.2.2.2.2.2.1
  have h : (iblk m c 7 t : FVec Ideal S1x2816 .f32) (ix2 0 j) = (V m c main_v2 : FVec Ideal ⟨2, ![1, 2816]⟩ .f32) (ix2 0 j) := by
    blk_ext [iblk, e]
  rw [h]
  unfold V
  after_reads_at

/-- The down-projection, whole. -/
theorem blk8 (j : Fin 2816) (n : Fin 1024) : (iblk m c 8 t : FVec Ideal S2816x1024 .bf16) (ix2 j n) = argD m c (ix2 j n) := by
  have e := (idx t).2.2.2.2.2.2.2.2.1
  have h : (iblk m c 8 t : FVec Ideal S2816x1024 .bf16) (ix2 j n) = (V m c main_v3 : FVec Ideal ⟨2, ![2816, 1024]⟩ .bf16) (ix2 j n) := by
    blk_ext [iblk, e]
  rw [h]
  unfold V
  after_reads_at

/-- The last norm's scale, as a row. -/
theorem blk9 (k : Fin 1024) : (iblk m c 9 t : FVec Ideal S1x1024 .f32) (ix2 0 k) = argH m c (ix1 k) := by
  have e := (idx t).2.2.2.2.2.2.2.2.2.1
  have h : (iblk m c 9 t : FVec Ideal S1x1024 .f32) (ix2 0 k) = (V m c main_v5 : FVec Ideal ⟨2, ![1, 1024]⟩ .f32) (ix2 0 k) := by
    blk_ext [iblk, e]
  rw [h]
  unfold V
  after_reads_at

/-- A point's hidden units are the sequence's. -/
theorem units_eq (s : Fin 512) (j : Fin 2816) : units m c t s j
    = unit (argX m c) (argM m c) (argG m c) (argU m c) (argW m c) (argC m c) ⟨t.val / 8, by have := point_lt t; omega⟩
      ⟨t.val % 8 * 512 + s, by omega⟩ j := by
  unfold units
  exact unitOf_eq (argX m c) (argM m c) (argG m c) (argU m c) (argW m c) (argC m c) _ _ _ _ _ _ _ _
    ⟨t.val / 8, by have := point_lt t; omega⟩ ⟨t.val % 8, Nat.mod_lt _ (by decide)⟩
    (kept_padded (argX m c) (argM m c) (argG m c) _ _ _ _ _ _ _ _ (coords_tile t) (fun h => blk1 m c t h) (blk0 m c t)
      (fun h => blk2 m c t h) (blk3 m c t) (blk4 m c t))
    (blk6 m c t) (blk7 m c t) (blk5 m c t) s j

/-- A point's output block is the result's. -/
theorem point_at (a : Fin 1) (s : Fin 512) (n : Fin 1024) : (outsAt0 m c t : FVec Ideal S1x512x1024 .f32) (ix3 a s n)
    = result (argX m c) (argM m c) (argG m c) (argU m c) (argW m c) (argC m c) (argD m c) (argH m c)
      (ix3 ⟨t.val / 8, by have := point_lt t; omega⟩ ⟨t.val % 8 * 512 + s, by omega⟩ n) := by
  rw [Subsingleton.elim a 0, step_at]
  unfold rowsOut
  simp only [blk0, blk3, blk8, blk9, units_eq]
  rfl

end

/-- The result after the run. -/
theorem array10 (c : Dev nD) : (dats m 0 c).arrAt 10 cfg0.N
    = result (argX m c) (argM m c) (argG m c) (argU m c) (argW m c) (argC m c) (argD m c) (argH m c) := by
  refine (dats m 0 c).arrAt_eq_of_covers 10 _ (by decide +kernel) fun t _ y => ?_
  have e := (idx t).2.2.2.2.2.2.2.2.2.2
  blk_simp
  rw [after0_10, eq_ix3 y]
  refine (point_at m c t _ _ _).trans (congrArg (result (argX m c) (argM m c) (argG m c) (argU m c) (argW m c) (argC m c) (argD m c) (argH m c)) ?_)
  blk_ext [e]

end Cert.Kernel2Ideal.Feed

end
-- ==== Proof.FfnRef.lean ====
/- The reference's feed-forward part is the formula. -/
module

public import proofs.«01_k».proof.Proof.FfnSpec
public import proofs.«01_k».proof.Proof.Gen.Reference2Ideal.Read
public import Idealize.ShloMosaic.Lib.KernelVsHost

@[expose] public section

set_option maxRecDepth 16384

noncomputable section

open Idealize.ShloMosaic Idealize.ShloMosaic.TcCoe Idealize.SL.Sem

namespace Cert.Reference2Ideal.Feed

open Cert.Reference2Ideal Cert.Reference2Ideal.Read Cert.FeedForward

variable (x0 : FVec Ideal S8x4096x1024 .f32) (x1 : FVec Ideal S8x6144 .f32) (x2 : FVec Ideal S1024 .f32) (x3 : FVec Ideal S1024x5632 .f32)
  (x4 : FVec Ideal S3x2816 .f32) (x5 : FVec Ideal S2816 .f32) (x6 : FVec Ideal S2816x1024 .f32) (x7 : FVec Ideal S1024 .f32)

/-- The reference's normalised and modulated row. -/
theorem hidden_at (b : Fin 8) (t : Fin 4096) (k : Fin 1024) :
    val_main_v30 (F := Ideal) x0 x1 x2 (ix3 b t k) = hidden x0 x1 x2 b t k := by
  pointwise [val_main_v30, val_main_v29, val_main_v28, val_main_v27, val_main_v26, val_main_v25, val_main_v24, val_main_v23, val_main_v22,
    val_main_v21, val_main_v20, val_main_v19, val_main_v18, val_main_v17, val_main_v16, val_main_v15, val_main_v14, val_main_v13,
    val_main_v12, val_main_v11, val_main_v10, val_main_v9, val_main_v8, val_main_v7, val_main_v6, val_main_v5, val_main_v4, val_main_v3,
    val_main_cst, val_main_cst_0, val_main_cst_1, val_main_cst_2]
  rfl

/-- The gate half of its up-projection. -/
theorem gate_at (b : Fin 8) (t : Fin 4096) (j : Fin 2816) :
    val_main_v32 (F := Ideal) x0 x1 x2 x3 (ix3 b t j) = ∑ k, hidden x0 x1 x2 b t k * x3 (ix2 k ⟨j, by omega⟩) := by
  pointwise [val_main_v32, val_main_v31]
  simp only [hidden_at]

/-- The value half of its up-projection. -/
theorem value_at (b : Fin 8) (t : Fin 4096) (j : Fin 2816) :
    val_main_v33 (F := Ideal) x0 x1 x2 x3 (ix3 b t j) = valueIn x0 x1 x2 x3 b t j := by
  pointwise [val_main_v33, val_main_v31]
  simp only [hidden_at]
  rfl

/-- The zero before and after the sequence. -/
theorem pad_at (b : Fin 8) (p : Fin 4098) (j : Fin 2816) :
    val_main_v34 (F := Ideal) x0 x1 x2 x3 (ix3 b p j) = gateIn x0 x1 x2 x3 b p j := by
  unfold gateIn padded
  by_cases h : 1 ≤ (p : ℕ) ∧ (p : ℕ) < 4097
  · simp only [dif_pos h]
    rw [← gate_at]
    unfold val_main_v34
    refine pad_apply_of_inside _ _ _ _ _ _ _ _ _ fun a => ?_
    fin_cases a
    · show (b : ℕ) = 0 + (b : ℕ) * 1; omega
    · show (p : ℕ) = 1 + ((p : ℕ) - 1) * 1; omega
    · show (j : ℕ) = 0 + (j : ℕ) * 1; omega
  · simp only [dif_neg h, zero_mul, Finset.sum_const_zero]
    unfold val_main_v34
    refine (pad_apply_of_not_inside _ _ _ _ _ _ _ _ (1 : Fin 3) fun hh => h ?_).trans ?_
    · have h1 : 1 ≤ (p : ℕ) := hh.1
      have h2 : ((p : ℕ) - 1) / 1 < 4096 := hh.2.2
      omega
    · pointwise [val_main_call0_v0, val_main_c]
      show (((0#32 : BitVec 32).toInt : ℝ) : EReal) = 0
      rw [BitVec.toInt_zero, Int.cast_zero, EReal.coe_zero]

/-- Its convolution along the sequence, with the gate's bias. -/
theorem conv_at (b : Fin 8) (t : Fin 4096) (j : Fin 2816) :
    val_main_v56 (F := Ideal) x0 x1 x2 x3 x4 x5 (ix3 b t j) = conv x0 x1 x2 x3 x4 x5 b t j := by
  pointwise [val_main_v56, val_main_v55, val_main_v54, val_main_v53, val_main_v52, val_main_v51, val_main_v50, val_main_v49, val_main_v48,
    val_main_v47, val_main_v46, val_main_v45, val_main_v44, val_main_v43, val_main_v42, val_main_v41, val_main_v40, val_main_v39,
    val_main_v38, val_main_v37, val_main_v36, val_main_v35]
  have e1 : val_main_v34 (F := Ideal) x0 x1 x2 x3 (ix3 b ⟨t, by omega⟩ j) = gateIn x0 x1 x2 x3 b t j := pad_at x0 x1 x2 x3 b _ j
  have e2 : val_main_v34 (F := Ideal) x0 x1 x2 x3 (ix3 b ⟨2 + t, by omega⟩ j) = gateIn x0 x1 x2 x3 b (t + 2) j :=
    (pad_at x0 x1 x2 x3 b _ j).trans (congrArg (fun p => gateIn x0 x1 x2 x3 b p j) (Nat.add_comm 2 (t : ℕ)))
  have e3 : val_main_v32 (F := Ideal) x0 x1 x2 x3 (ix3 b t j) = gateIn x0 x1 x2 x3 b (t + 1) j := by
    rw [gate_at]
    unfold gateIn padded
    simp only [dif_pos (show 1 ≤ (t : ℕ) + 1 ∧ (t : ℕ) + 1 < 4097 by omega)]
    rfl
  rw [e1, e2, e3]
  rfl

/-- Its hidden unit: the gated value. -/
theorem unit_at (b : Fin 8) (t : Fin 4096) (j : Fin 2816) :
    val_main_v58 (F := Ideal) x0 x1 x2 x3 x4 x5 (ix3 b t j) = unit x0 x1 x2 x3 x4 x5 b t j := by
  pointwise [val_main_v58, val_main_v57, val_main_call1_v5, val_main_call1_v4, val_main_call1_v3, val_main_call1_v2, val_main_call1_v1,
    val_main_call1_v0, val_main_call1_cst, val_main_call1_cst_0]
  simp only [conv_at, value_at]
  rfl

/-- Its down-projection added to the token. -/
theorem residual_at (b : Fin 8) (t : Fin 4096) (n : Fin 1024) :
    val_main_v62 (F := Ideal) x0 x1 x2 x3 x4 x5 x6 (ix3 b t n) = residual x0 x1 x2 x3 x4 x5 x6 b t n := by
  pointwise [val_main_v62, val_main_v61, val_main_v60, val_main_v59, val_main_v11, val_main_v5]
  simp only [unit_at]
  rfl

/-- Its result at an index. -/
theorem result_at (b : Fin 8) (t : Fin 4096) (n : Fin 1024) :
    val_main_v75 (F := Ideal) x0 x1 x2 x3 x4 x5 x6 x7 (ix3 b t n) = normed (fun n => residual x0 x1 x2 x3 x4 x5 x6 b t n) n * x7 (ix1 n) := by
  pointwise [val_main_v75, val_main_v74, val_main_v73, val_main_v72, val_main_v71, val_main_v70, val_main_v69, val_main_v68, val_main_v67,
    val_main_v66, val_main_v65, val_main_v64, val_main_v63, val_main_cst_3, val_main_cst_4, val_main_cst_5]
  simp only [residual_at]
  rfl

/-- The reference's result. -/
theorem result_eq : val_main_v75 (F := Ideal) x0 x1 x2 x3 x4 x5 x6 x7 = result x0 x1 x2 x3 x4 x5 x6 x7 := by
  funext y
  rw [eq_ix3 y]
  exact result_at x0 x1 x2 x3 x4 x5 x6 x7 (y 0) (y 1) (y 2)

end Cert.Reference2Ideal.Feed

end
-- ==== Proof.MergeSpec.lean ====
/- The merge of the four branches as one formula at each token and lane. -/
module

public import proofs.«01_k».proof.Proof.FfnSpec

@[expose] public section

noncomputable section

open Idealize.ShloMosaic

namespace Cert.Merge

open Cert.FeedForward (swish)

/-- Lane `d` of the head that lane `j` belongs to. -/
def mate (j : Fin 256) (d : Fin 64) : Fin 256 := ⟨j / 64 * 64 + d, by omega⟩

/-- The mean of a row over a lane's head. -/
def headMean (f : Fin 256 → EReal) (j : Fin 256) : EReal := Ideal.div (∑ d, f (mate j d)) (Ideal.ofBits .f32 0x42800000#32)

/-- A row divided, head by head, by the root of its mean square. -/
def scaled (f : Fin 256 → EReal) (j : Fin 256) : EReal :=
  f j * Ideal.rsqrt (headMean (fun k => f k * f k) j + Ideal.ofBits .f32 0x358637BD#32)

/-- A row less, head by head, its mean. -/
def centred (f : Fin 256 → EReal) (j : Fin 256) : EReal := f j - headMean f j

/-- The lanes of a head share their head. -/
theorem mate_mate (j : Fin 256) (d e : Fin 64) : mate (mate j d) e = mate j e := by
  apply Fin.ext
  show (j / 64 * 64 + d : ℕ) / 64 * 64 + e = j / 64 * 64 + e
  omega

/-- A head's mean is the same on its lanes. -/
theorem headMean_mate (f : Fin 256 → EReal) (j : Fin 256) (d : Fin 64) : headMean f (mate j d) = headMean f j := by
  unfold headMean
  simp only [mate_mate]

/-- A centred row scaled, with the mean written once. -/
theorem scaled_centred (f : Fin 256 → EReal) (j : Fin 256) : scaled (centred f) j
    = (f j - headMean f j) * Ideal.rsqrt (Ideal.div (∑ d, (f (mate j d) - headMean f j) * (f (mate j d) - headMean f j))
      (Ideal.ofBits .f32 0x42800000#32) + Ideal.ofBits .f32 0x358637BD#32) := by
  show (f j - headMean f j) * Ideal.rsqrt (Ideal.div (∑ d, (f (mate j d) - headMean f (mate j d)) * (f (mate j d) - headMean f (mate j d))) _ + _) = _
  simp only [headMean_mate]

/-- A sum over all lanes, masked to a lane's head, is the sum over that head. -/
theorem sum_head (f : Fin 256 → EReal) (j : Fin 256) :
    ∑ k : Fin 256, f k * (if (k : ℕ) / 64 = j / 64 then 1 else 0) = ∑ d, f (mate j d) := by
  simp only [mul_ite, mul_one, mul_zero]
  rw [← Finset.sum_filter]
  symm
  refine Finset.sum_nbij (mate j) ?_ ?_ ?_ ?_
  · intro d _
    rw [Finset.mem_filter]
    refine ⟨Finset.mem_univ _, ?_⟩
    show (j / 64 * 64 + d : ℕ) / 64 = j / 64
    omega
  · intro d _ e _ h
    have h' : (j / 64 * 64 + d : ℕ) = j / 64 * 64 + e := congrArg Fin.val h
    exact Fin.ext (by omega)
  · intro k hk
    have hk' : (k : ℕ) / 64 = j / 64 := (Finset.mem_filter.mp hk).2
    refine ⟨⟨k % 64, by omega⟩, Finset.mem_coe.mpr (Finset.mem_univ _), Fin.ext ?_⟩
    show (j / 64 * 64 + k % 64 : ℕ) = k
    omega
  · intro d _
    rfl

/-- The logistic function. -/
def logistic (a : EReal) : EReal := Ideal.div 1 (1 + Ideal.exp (-a))

/-- The first branch: normalised without centring, then gated. -/
def first (f g q : Fin 256 → EReal) (j : Fin 256) : EReal := scaled f j * g j * swish (q j)

/-- The second branch: centred, normalised, then gated. -/
def second (f g q : Fin 256 → EReal) (j : Fin 256) : EReal := scaled (centred f) j * g j * swish (q j)

/-- The third branch: centred and normalised, with a term added, times its gate. -/
def third (f g p q : Fin 256 → EReal) (j : Fin 256) : EReal := (scaled (centred f) j * g j + p j) * q j

/-- One branch's share: its projection times its gate from the hidden token. -/
def share (h : Fin 1024 → EReal) (o : Fin 256 → EReal) (W : Fin 1024 → Fin 1024 → EReal) (e : Fin 1024 → EReal)
    (P : Fin 256 → Fin 1024 → EReal) (n : Fin 1024) : EReal :=
  logistic (∑ k, h k * W k n + e n) * ∑ j, o j * P j n

/-- A share depends on its parts' values only. -/
theorem share_congr (h : Fin 1024 → EReal) {o o' : Fin 256 → EReal} {W W' : Fin 1024 → Fin 1024 → EReal} {e e' : Fin 1024 → EReal}
    {P P' : Fin 256 → Fin 1024 → EReal} (ho : ∀ j, o j = o' j) (hW : ∀ k n, W k n = W' k n) (he : ∀ n, e n = e' n)
    (hP : ∀ j n, P j n = P' j n) (n : Fin 1024) : share h o W e P n = share h o' W' e' P' n := by
  unfold share
  simp only [ho, hW, he, hP]

section
variable (X H : FVec Ideal ⟨3, ![8, 4096, 1024]⟩ .f32) (M : FVec Ideal ⟨2, ![8, 6144]⟩ .f32) (Q : FVec Ideal ⟨3, ![8, 4096, 5376]⟩ .f32)
  (A A' B B' C C' D : FVec Ideal ⟨3, ![8, 4096, 256]⟩ .f32) (G0 G1 G2 : FVec Ideal ⟨1, ![256]⟩ .f32)
  (W : FVec Ideal ⟨3, ![4, 1024, 1024]⟩ .f32) (E : FVec Ideal ⟨2, ![4, 1024]⟩ .f32) (P : FVec Ideal ⟨3, ![4, 256, 1024]⟩ .f32)
  (O : FVec Ideal ⟨2, ![1024, 1024]⟩ .f32)

/-- The first branch at a token. -/
def out0 (b : Fin 8) (t : Fin 4096) : Fin 256 → EReal :=
  first (fun j => A (ix3 b t j) + A' (ix3 b t j)) (fun j => G0 (ix1 j)) (fun j => Q (ix3 b t ⟨768 + j, by omega⟩))

/-- The second branch at a token. -/
def out1 (b : Fin 8) (t : Fin 4096) : Fin 256 → EReal :=
  second (fun j => B (ix3 b t j) + B' (ix3 b t j)) (fun j => G1 (ix1 j)) (fun j => Q (ix3 b t ⟨1792 + j, by omega⟩))

/-- The third branch at a token. -/
def out2 (b : Fin 8) (t : Fin 4096) : Fin 256 → EReal :=
  third (fun j => C (ix3 b t j) + C' (ix3 b t j)) (fun j => G2 (ix1 j)) (fun j => Q (ix3 b t ⟨3072 + j, by omega⟩))
    (fun j => Q (ix3 b t ⟨2816 + j, by omega⟩))

/-- The share of branch `r`, whose token is `o`. -/
def shareOf (r : Fin 4) (o : Fin 256 → EReal) (b : Fin 8) (t : Fin 4096) (n : Fin 1024) : EReal :=
  share (fun k => H (ix3 b t k)) o (fun k n => W (ix3 r k n)) (fun n => E (ix2 r n)) (fun j n => P (ix3 r j n)) n

/-- The gated sum of the branches. -/
def mixed (b : Fin 8) (t : Fin 4096) (n : Fin 1024) : EReal :=
  shareOf H W E P 0 (out0 Q A A' G0 b t) b t n + shareOf H W E P 1 (out1 Q B B' G1 b t) b t n
    + shareOf H W E P 2 (out2 Q C C' G2 b t) b t n + shareOf H W E P 3 (fun j => D (ix3 b t j)) b t n

/-- The token after the mixer's gated residual. -/
def result : FVec Ideal ⟨3, ![8, 4096, 1024]⟩ .f32 := fun y =>
  X (ix3 (y 0) (y 1) (y 2)) + M (ix2 (y 0) ⟨2048 + (y 2).val, by have := (y 2).isLt; exact Nat.lt_of_lt_of_le (Nat.add_lt_add_left this 2048) (by decide)⟩)
    * ∑ k, mixed H Q A A' B B' C C' D G0 G1 G2 W E P (y 0) (y 1) k * O (ix2 k (y 2))

end

end Cert.Merge

end
-- ==== Proof.MergeBlock.lean ====
/- What one grid point of the merge kernel computes, read at an index. -/
module

public import proofs.«01_k».proof.Proof.MergeSpec
public import proofs.«01_k».proof.Proof.RetSpec
public import proofs.«01_k».proof.Proof.Gen.Kernel3Ideal.Skeleton
public import Idealize.ShloMosaic.Lib.WordCmp

@[expose] public section

set_option maxRecDepth 16384

noncomputable section

open Idealize.ShloMosaic Idealize.ShloMosaic.TcCoe Idealize.SL.Sem

namespace Cert.Kernel3Ideal.Merge

open Cert.Kernel3Ideal Cert.Kernel3Ideal.Gen Cert.Merge Cert.FeedForward

/-! ## The matrix that marks lanes of one head -/

/-- The kernel's quotient of a lane by 64. -/
theorem lane_quotient (n : Fin 256) :
    Scalar.select
      (IntOp.andi
        (IntOp.cmpi CmpIPredicate.ne
          (IntOp.subi (BitVec.setWidth 32 (IntOp.cmpi CmpIPredicate.sgt (BitVec.ofNat 32 n) 0#32))
            (BitVec.setWidth 32 (IntOp.cmpi CmpIPredicate.slt (BitVec.ofNat 32 n) 0#32)))
          (Scalar.subi (Scalar.extui (Scalar.cmpi CmpIPredicate.sgt 64#32 0#32))
            (Scalar.extui (Scalar.cmpi CmpIPredicate.slt 64#32 0#32))))
        (IntOp.cmpi CmpIPredicate.ne (IntOp.remsi ArithUnit.vector (BitVec.ofNat 32 n) 64#32) 0#32))
      (IntOp.subi (IntOp.divsi ArithUnit.vector (BitVec.ofNat 32 n) 64#32) 1#32)
      (IntOp.divsi ArithUnit.vector (BitVec.ofNat 32 n) 64#32) = BitVec.ofNat 32 (n / 64) := by
  revert n
  decide +kernel

/-- A choice by equality of two small numbers. -/
theorem select_same (a b : ℕ) (ha : a < 4) (hb : b < 4) (x y : EReal) :
    Scalar.select (IntOp.cmpi .eq (BitVec.ofNat 32 a) (BitVec.ofNat 32 b)) x y = if a = b then x else y := by
  rw [WordCmp.cmpi_eq_ofNat (w := 32) (by omega) (by omega)]
  by_cases h : a = b
  · rw [if_pos h, decide_eq_true h]; rfl
  · rw [if_neg h, decide_eq_false h]; rfl

/-- The matrix is one where two lanes share a head, and zero elsewhere. -/
theorem heads_at (r j : Fin 256) : k0_pay7 (F := Ideal) k0_pay2 k0_pay3 k0_pay4 k0_pay5 k0_pay6 (ix2 r j)
    = if (r : ℕ) / 64 = j / 64 then 1 else 0 := by
  pointwise [k0_pay7, k0_pay2, k0_pay3, k0_pay4, k0_pay5, k0_pay6]
  rw [lane_quotient, lane_quotient, select_same _ _ (by omega) (by omega)]

/-- The kernel's factor is one sixty-fourth. -/
theorem ofBits_part : Ideal.ofBits .f32 0x3C800000#32 = (((1 / 64 : ℝ)) : EReal) := by
  simp [Ideal.ofBits, Ideal.ieee]
  norm_cast
  norm_num

/-- A masked sum times the factor is the head's mean. -/
theorem mean_eq (f : Fin 256 → EReal) (J : FVec Ideal S256x256 .bf16) (hJ : ∀ r j : Fin 256, J (ix2 r j) = if (r : ℕ) / 64 = j / 64 then 1 else 0)
    (j : Fin 256) : (∑ k, f k * J (ix2 k j)) * Ideal.ofBits .f32 0x3C800000#32 = headMean f j := by
  simp only [hJ]
  rw [sum_head]
  unfold headMean
  rw [ofBits_part, Cert.Retention.ofBits_64, Ideal.div_coe (by norm_num : (64 : ℝ) ≠ 0)]

/-! ## The branches -/

section
variable (J : FVec Ideal S256x256 .bf16) (hJ : ∀ r j : Fin 256, J (ix2 r j) = if (r : ℕ) / 64 = j / 64 then 1 else 0)
  (v : FVec Ideal S3x256 .f32) (x y p q : FVec Ideal S1x512x256 .f32) (s : Fin 512) (j : Fin 256)

/-- The first branch's rows. -/
theorem first_at : k0_pay9 (F := Ideal) k0_pay2 k0_pay3 k0_pay4 k0_pay5 k0_pay6 v x y q (ix2 s j)
    = first (fun k => x (ix3 0 s k) + y (ix3 0 s k)) (fun k => v (ix2 0 k)) (fun k => q (ix3 0 s k)) j := by
  pointwise [k0_pay9, k0_pay8]
  rw [mean_eq (fun k => (x (ix3 0 s k) + y (ix3 0 s k)) * (x (ix3 0 s k) + y (ix3 0 s k))) _ heads_at, zero_sub]
  rfl

include hJ in
/-- The second branch's rows. -/
theorem second_at : k0_pay10 (F := Ideal) J (k0_pay8 v) x y q (ix2 s j)
    = second (fun k => x (ix3 0 s k) + y (ix3 0 s k)) (fun k => v (ix2 1 k)) (fun k => q (ix3 0 s k)) j := by
  pointwise [k0_pay10, k0_pay8]
  simp only [mean_eq (fun k => x (ix3 0 s k) + y (ix3 0 s k)) J hJ, zero_sub]
  have e := mean_eq (fun k => centred (fun k => x (ix3 0 s k) + y (ix3 0 s k)) k * centred (fun k => x (ix3 0 s k) + y (ix3 0 s k)) k) J hJ j
  dsimp only [centred] at e
  rw [e]
  rfl

include hJ in
/-- The third branch's rows. -/
theorem third_at : k0_pay13 (F := Ideal) J (k0_pay8 v) (k0_pay11 x) (k0_pay12 y) p q (ix2 s j)
    = third (fun k => x (ix3 0 s k) + y (ix3 0 s k)) (fun k => v (ix2 2 k)) (fun k => p (ix3 0 s k)) (fun k => q (ix3 0 s k)) j := by
  pointwise [k0_pay13, k0_pay8, k0_pay11, k0_pay12]
  simp only [mean_eq (fun k => x (ix3 0 s k) + y (ix3 0 s k)) J hJ]
  have e := mean_eq (fun k => centred (fun k => x (ix3 0 s k) + y (ix3 0 s k)) k * centred (fun k => x (ix3 0 s k) + y (ix3 0 s k)) k) J hJ j
  dsimp only [centred] at e
  rw [e]
  rfl

end

/-! ## Their gated sum -/

/-- One branch's share of a row, from the blocks. -/
def part (h : FVec Ideal S1x512x1024 .bf16) (o : Fin 256 → EReal) (W : FVec Ideal S1x1024x1024 .bf16) (e : FVec Ideal S1x1x1024 .f32)
    (P : FVec Ideal S1x256x1024 .bf16) (s : Fin 512) (n : Fin 1024) : EReal :=
  share (fun k => h (ix3 0 s k)) o (fun k n => W (ix3 0 k n)) (fun n => e (ix3 0 0 n)) (fun j n => P (ix3 0 j n)) n

/-- The sum of the four shares. -/
theorem mixed_at (o0 o1 o2 : FVec Ideal S512x256 .f32) (d : FVec Ideal S1x512x256 .f32) (h : FVec Ideal S1x512x1024 .bf16)
    (W0 W1 W2 W3 : FVec Ideal S1x1024x1024 .bf16) (e0 e1 e2 e3 : FVec Ideal S1x1x1024 .f32) (P0 P1 P2 P3 : FVec Ideal S1x256x1024 .bf16)
    (s : Fin 512) (n : Fin 1024) :
    k0_pay19 (F := Ideal) o2 (k0_pay14 d) (k0_pay15 h)
      (k0_pay17 o0 o1 (k0_pay15 h) (k0_pay16 h W0 e0) (Scalar.ofBits .f32 0x00000000#32) P0 W1 e1 P1) (k0_pay18 (k0_pay15 h) W2) e2 P2 W3 e3 P3
      (ix2 s n)
      = part h (fun j => o0 (ix2 s j)) W0 e0 P0 s n + part h (fun j => o1 (ix2 s j)) W1 e1 P1 s n
        + part h (fun j => o2 (ix2 s j)) W2 e2 P2 s n + part h (fun j => d (ix3 0 s j)) W3 e3 P3 s n := by
  pointwise [k0_pay19, k0_pay14, k0_pay15, k0_pay16, k0_pay17, k0_pay18]
  simp only [zero_sub]
  rfl

/-- The result's rows from the sum. -/
theorem out_at (z : FVec Ideal S512x1024 .f32) (w : FVec Ideal S1024x1024 .bf16) (m : FVec Ideal S1x1x6144 .f32)
    (x : FVec Ideal S1x512x1024 .f32) (s : Fin 512) (n : Fin 1024) :
    k0_pay1 (F := Ideal) z w m x (ix3 0 s n)
      = x (ix3 0 s n) + m (ix3 0 0 ⟨2048 + n, by omega⟩) * ∑ k, z (ix2 s k) * w (ix2 k n) := by
  pointwise [k0_pay1]

end Cert.Kernel3Ideal.Merge

end
-- ==== Proof.MergeStep.lean ====
/- What a grid point of the merge kernel leaves in its output block. -/
module

public import proofs.«01_k».proof.Proof.MergeBlock
public import proofs.«01_k».proof.Proof.Gen.Kernel3Ideal.Value
public import Idealize.ShloMosaic.Lib.Pipeline.ReadBack
public import Idealize.ShloMosaic.Lib.Pipeline.ValueKit.Acc
public import Idealize.ShloMosaic.Lib.Pipeline.ValueKit.Tiles

@[expose] public section

set_option maxRecDepth 16384

noncomputable section

open Idealize.ShloMosaic Idealize.ShloMosaic.TcCoe Idealize.SL.Sem

namespace Cert.Kernel3Ideal.Merge

open Cert.Kernel3Ideal Cert.Kernel3Ideal.Gen Cert.Merge Cert.FeedForward

/-- A load of one branch's slice of a stack. -/
theorem load_branch {a b : ℕ} {e : EltTy} (B : (⟨3, ![4, a, b]⟩ : Shape).Idx → Elt Ideal e) (o : ℕ) (ho : o < 4) (inb) (k : Fin a) (n : Fin b) :
    (View.ld (Val := Elt Ideal) (e' := e) B (Rect.unit (s := ⟨3, ![4, a, b]⟩) ![o, 0, 0] ![1, a, b] inb) : (⟨3, ![1, a, b]⟩ : Shape).Idx → Elt Ideal e) (ix3 0 k n)
      = B (ix3 ⟨o, ho⟩ k n) := by
  refine congrArg B (funext fun z => Fin.ext ?_)
  fin_cases z
  · exact Nat.add_zero o
  · exact (Nat.zero_add _).trans (Nat.one_mul k.val)
  · exact (Nat.zero_add _).trans (Nat.one_mul n.val)

variable (x0 : FVec Ideal S1x512x1024 .f32) (x1 : FVec Ideal S1x512x1024 .bf16) (x2 : FVec Ideal S1x1x6144 .f32)
  (x3 x4 x5 x6 x7 x8 x9 x10 x11 x12 x13 : FVec Ideal S1x512x256 .f32) (x14 : FVec Ideal S3x256 .f32) (x15 : FVec Ideal S4x1024x1024 .bf16)
  (x16 : FVec Ideal S4x1x1024 .f32) (x17 : FVec Ideal S4x256x1024 .bf16) (x18 : FVec Ideal S1024x1024 .bf16)

/-- One branch's share of a block's row, from the stacks of weights. -/
def blockShare (r : Fin 4) (o : Fin 256 → EReal) (s : Fin 512) (n : Fin 1024) : EReal :=
  share (fun k => x1 (ix3 0 s k)) o (fun k n => x15 (ix3 r k n)) (fun n => x16 (ix3 r 0 n)) (fun j n => x17 (ix3 r j n)) n

/-- The gated sum of a block's row. -/
def blockMixed (s : Fin 512) (n : Fin 1024) : EReal :=
  blockShare x1 x15 x16 x17 0 (first (fun k => x7 (ix3 0 s k) + x8 (ix3 0 s k)) (fun k => x14 (ix2 0 k)) (fun k => x3 (ix3 0 s k))) s n
    + blockShare x1 x15 x16 x17 1 (second (fun k => x9 (ix3 0 s k) + x10 (ix3 0 s k)) (fun k => x14 (ix2 1 k)) (fun k => x4 (ix3 0 s k))) s n
    + blockShare x1 x15 x16 x17 2 (third (fun k => x11 (ix3 0 s k) + x12 (ix3 0 s k)) (fun k => x14 (ix2 2 k)) (fun k => x6 (ix3 0 s k))
        (fun k => x5 (ix3 0 s k))) s n
    + blockShare x1 x15 x16 x17 3 (fun k => x13 (ix3 0 s k)) s n

/-- A block's row after the residual. -/
def rowsOut (s : Fin 512) (n : Fin 1024) : EReal :=
  x0 (ix3 0 s n) + x2 (ix3 0 0 ⟨2048 + n, by omega⟩)
    * ∑ k, blockMixed x1 x3 x4 x5 x6 x7 x8 x9 x10 x11 x12 x13 x14 x15 x16 x17 s k * x18 (ix2 k n)

/-- What a point leaves. -/
theorem step_at (s : Fin 512) (n : Fin 1024) :
    (out0_19 (F := Ideal) x0 x1 x2 x3 x4 x5 x6 x7 x8 x9 x10 x11 x12 x13 x14 x15 x16 x17 x18 : FVec Ideal S1x512x1024 .f32) (ix3 0 s n)
      = rowsOut x0 x1 x2 x3 x4 x5 x6 x7 x8 x9 x10 x11 x12 x13 x14 x15 x16 x17 x18 s n := by
  unfold_out out0_19
  frame_out
  refine (out_at _ _ _ _ s n).trans ?_
  unfold rowsOut
  refine congrArg (fun z => x0 (ix3 0 s n) + x2 (ix3 0 0 ⟨2048 + n, by omega⟩) * z) (Finset.sum_congr rfl fun k _ => ?_)
  refine congrArg (· * x18 (ix2 k n)) ?_
  refine (mixed_at _ _ _ _ _ _ _ _ _ _ _ _ _ _ _ _ _ s k).trans ?_
  unfold blockMixed
  refine congrArg₂ (· + ·) (congrArg₂ (· + ·) (congrArg₂ (· + ·) ?_ ?_) ?_) ?_
  · refine share_congr _ (fun j => first_at _ _ _ _ s j) (fun k n => load_branch _ 0 (by omega) _ k n) (fun n => load_branch _ 0 (by omega) _ 0 n)
      (fun j n => load_branch _ 0 (by omega) _ j n) k
  · refine share_congr _ (fun j => second_at _ heads_at _ _ _ _ s j) (fun k n => load_branch _ 1 (by omega) _ k n)
      (fun n => load_branch _ 1 (by omega) _ 0 n) (fun j n => load_branch _ 1 (by omega) _ j n) k
  · refine share_congr _ (fun j => third_at _ heads_at _ _ _ _ _ s j) (fun k n => load_branch _ 2 (by omega) _ k n)
      (fun n => load_branch _ 2 (by omega) _ 0 n) (fun j n => load_branch _ 2 (by omega) _ j n) k
  · refine share_congr _ (fun j => rfl) (fun k n => load_branch _ 3 (by omega) _ k n) (fun n => load_branch _ 3 (by omega) _ 0 n)
      (fun j n => load_branch _ 3 (by omega) _ j n) k

end Cert.Kernel3Ideal.Merge

end
-- ==== Proof.MergeKernel.lean ====
/- The merge kernel's result over the whole array. -/
module

public import proofs.«01_k».proof.Proof.MergeStep
public import Idealize.ShloMosaic.Lib.StableHlo.ReadAt
public import Idealize.ShloMosaic.Lib.Pipeline.Covers

@[expose] public section

set_option maxRecDepth 16384

noncomputable section

open Idealize.ShloMosaic Idealize.ShloMosaic.TcCoe Idealize.SL.Sem

namespace Cert.Kernel3Ideal.Merge

open Cert.Kernel3Ideal Cert.Kernel3Ideal.Gen Cert.Merge

variable (m : (ℓ : Loc nD τ sig) → Buf (Elt Ideal) ℓ)

/-- There are 64 points. -/
theorem point_lt (t : Fin cfg0.N) : t.val < 64 := t.isLt

/-- Which block each window reads at a point. -/
theorem idx : ∀ t : Fin cfg0.N, win0_0.index t = ![t.val / 8, t.val % 8, 0]
    ∧ win0_1.index t = ![t.val / 8, t.val % 8, 0]
    ∧ win0_2.index t = ![t.val / 8, 0, 0]
    ∧ win0_3.index t = ![t.val / 8, t.val % 8, 3]
    ∧ win0_4.index t = ![t.val / 8, t.val % 8, 7]
    ∧ win0_5.index t = ![t.val / 8, t.val % 8, 11]
    ∧ win0_6.index t = ![t.val / 8, t.val % 8, 12]
    ∧ win0_7.index t = ![t.val / 8, t.val % 8, 0]
    ∧ win0_8.index t = ![t.val / 8, t.val % 8, 0]
    ∧ win0_9.index t = ![t.val / 8, t.val % 8, 0]
    ∧ win0_10.index t = ![t.val / 8, t.val % 8, 0]
    ∧ win0_11.index t = ![t.val / 8, t.val % 8, 0]
    ∧ win0_12.index t = ![t.val / 8, t.val % 8, 0]
    ∧ win0_13.index t = ![t.val / 8, t.val % 8, 0]
    ∧ win0_14.index t = ![0, 0]
    ∧ win0_15.index t = ![0, 0, 0]
    ∧ win0_16.index t = ![0, 0, 0]
    ∧ win0_17.index t = ![0, 0, 0]
    ∧ win0_18.index t = ![0, 0]
    ∧ win0_19.index t = ![t.val / 8, t.val % 8, 0] :=
  (by decide +kernel : ∀ t : Fin grid0.N, _)

/-! ## The arguments -/

/-- The tokens. -/
abbrev argX (c : Dev nD) : FVec Ideal ⟨3, ![8, 4096, 1024]⟩ .f32 := m ((c : Thread nD τ).loc main_arg0)

/-- The hidden tokens. -/
abbrev argH (c : Dev nD) : FVec Ideal ⟨3, ![8, 4096, 1024]⟩ .f32 := m ((c : Thread nD τ).loc main_arg1)

/-- The modulation. -/
abbrev argM (c : Dev nD) : FVec Ideal ⟨2, ![8, 6144]⟩ .f32 := m ((c : Thread nD τ).loc main_arg2)

/-- The features. -/
abbrev argQ (c : Dev nD) : FVec Ideal ⟨3, ![8, 4096, 5376]⟩ .f32 := m ((c : Thread nD τ).loc main_arg3)

/-- The first branch's forward part. -/
abbrev argA (c : Dev nD) : FVec Ideal ⟨3, ![8, 4096, 256]⟩ .f32 := m ((c : Thread nD τ).loc main_arg4)

/-- Its backward part. -/
abbrev argA' (c : Dev nD) : FVec Ideal ⟨3, ![8, 4096, 256]⟩ .f32 := m ((c : Thread nD τ).loc main_arg5)

/-- The second branch's forward part. -/
abbrev argB (c : Dev nD) : FVec Ideal ⟨3, ![8, 4096, 256]⟩ .f32 := m ((c : Thread nD τ).loc main_arg6)

/-- Its backward part. -/
abbrev argB' (c : Dev nD) : FVec Ideal ⟨3, ![8, 4096, 256]⟩ .f32 := m ((c : Thread nD τ).loc main_arg7)

/-- The third branch's forward part. -/
abbrev argC (c : Dev nD) : FVec Ideal ⟨3, ![8, 4096, 256]⟩ .f32 := m ((c : Thread nD τ).loc main_arg8)

/-- Its backward part. -/
abbrev argC' (c : Dev nD) : FVec Ideal ⟨3, ![8, 4096, 256]⟩ .f32 := m ((c : Thread nD τ).loc main_arg9)

/-- The fourth branch. -/
abbrev argD (c : Dev nD) : FVec Ideal ⟨3, ![8, 4096, 256]⟩ .f32 := m ((c : Thread nD τ).loc main_arg10)

/-- The first branch's scale. -/
abbrev argG0 (c : Dev nD) : FVec Ideal ⟨1, ![256]⟩ .f32 := m ((c : Thread nD τ).loc main_arg11)

/-- The second branch's scale. -/
abbrev argG1 (c : Dev nD) : FVec Ideal ⟨1, ![256]⟩ .f32 := m ((c : Thread nD τ).loc main_arg12)

/-- The third branch's scale. -/
abbrev argG2 (c : Dev nD) : FVec Ideal ⟨1, ![256]⟩ .f32 := m ((c : Thread nD τ).loc main_arg13)

/-- The gates' weights. -/
abbrev argW (c : Dev nD) : FVec Ideal ⟨3, ![4, 1024, 1024]⟩ .f32 := m ((c : Thread nD τ).loc main_arg14)

/-- The gates' offsets. -/
abbrev argE (c : Dev nD) : FVec Ideal ⟨2, ![4, 1024]⟩ .f32 := m ((c : Thread nD τ).loc main_arg15)

/-- The branches' projections. -/
abbrev argP (c : Dev nD) : FVec Ideal ⟨3, ![4, 256, 1024]⟩ .f32 := m ((c : Thread nD τ).loc main_arg16)

/-- The output projection. -/
abbrev argO (c : Dev nD) : FVec Ideal ⟨2, ![1024, 1024]⟩ .f32 := m ((c : Thread nD τ).loc main_arg17)

/-! ## The blocks -/

section
variable (c : Dev nD) (t : Fin cfg0.N)

/-- The block of window 0. -/
theorem blk0 (s : Fin 512) (k : Fin 1024) : (iblk m c 0 t : FVec Ideal S1x512x1024 .f32) (ix3 0 s k)
    = argX m c (ix3 ⟨t.val / 8, by have := point_lt t; omega⟩ ⟨t.val % 8 * 512 + s, by omega⟩ k) := by
  have e := (idx t).1
  unfold argX
  rw [← V_main_arg0 m c]
  blk_ext [iblk, e]

/-- The block of window 1. -/
theorem blk1 (s : Fin 512) (k : Fin 1024) : (iblk m c 1 t : FVec Ideal S1x512x1024 .bf16) (ix3 0 s k)
    = argH m c (ix3 ⟨t.val / 8, by have := point_lt t; omega⟩ ⟨t.val % 8 * 512 + s, by omega⟩ k) := by
  have e := (idx t).2.1
  have h : (iblk m c 1 t : FVec Ideal S1x512x1024 .bf16) (ix3 0 s k) = (V m c main_v8 : FVec Ideal ⟨3, ![8, 4096, 1024]⟩ .bf16)
    (ix3 ⟨t.val / 8, by have := point_lt t; omega⟩ ⟨t.val % 8 * 512 + s, by omega⟩ k) := by
    blk_ext [iblk, e]
  rw [h]
  unfold V
  after_reads_at

/-- The block of window 2. -/
theorem blk2 (l : Fin 6144) : (iblk m c 2 t : FVec Ideal S1x1x6144 .f32) (ix3 0 0 l)
    = argM m c (ix2 ⟨t.val / 8, by have := point_lt t; omega⟩ l) := by
  have e := (idx t).2.2.1
  have h : (iblk m c 2 t : FVec Ideal S1x1x6144 .f32) (ix3 0 0 l) = (V m c main_v9 : FVec Ideal ⟨3, ![8, 1, 6144]⟩ .f32)
    (ix3 ⟨t.val / 8, by have := point_lt t; omega⟩ 0 l) := by
    blk_ext [iblk, e]
  rw [h]
  unfold V
  after_reads_at

/-- The block of window 3. -/
theorem blk3 (s : Fin 512) (j : Fin 256) : (iblk m c 3 t : FVec Ideal S1x512x256 .f32) (ix3 0 s j)
    = argQ m c (ix3 ⟨t.val / 8, by have := point_lt t; omega⟩ ⟨t.val % 8 * 512 + s, by omega⟩ ⟨768 + j, by omega⟩) := by
  have e := (idx t).2.2.2.1
  unfold argQ
  rw [← V_main_arg3 m c]
  blk_ext [iblk, e]

/-- The block of window 4. -/
theorem blk4 (s : Fin 512) (j : Fin 256) : (iblk m c 4 t : FVec Ideal S1x512x256 .f32) (ix3 0 s j)
    = argQ m c (ix3 ⟨t.val / 8, by have := point_lt t; omega⟩ ⟨t.val % 8 * 512 + s, by omega⟩ ⟨1792 + j, by omega⟩) := by
  have e := (idx t).2.2.2.2.1
  unfold argQ
  rw [← V_main_arg3 m c]
  blk_ext [iblk, e]

/-- The block of window 5. -/
theorem blk5 (s : Fin 512) (j : Fin 256) : (iblk m c 5 t : FVec Ideal S1x512x256 .f32) (ix3 0 s j)
    = argQ m c (ix3 ⟨t.val / 8, by have := point_lt t; omega⟩ ⟨t.val % 8 * 512 + s, by omega⟩ ⟨2816 + j, by omega⟩) := by
  have e := (idx t).2.2.2.2.2.1
  unfold argQ
  rw [← V_main_arg3 m c]
  blk_ext [iblk, e]

/-- The block of window 6. -/
theorem blk6 (s : Fin 512) (j : Fin 256) : (iblk m c 6 t : FVec Ideal S1x512x256 .f32) (ix3 0 s j)
    = argQ m c (ix3 ⟨t.val / 8, by have := point_lt t; omega⟩ ⟨t.val % 8 * 512 + s, by omega⟩ ⟨3072 + j, by omega⟩) := by
  have e := (idx t).2.2.2.2.2.2.1
  unfold argQ
  rw [← V_main_arg3 m c]
  blk_ext [iblk, e]

/-- The block of window 7. -/
theorem blk7 (s : Fin 512) (j : Fin 256) : (iblk m c 7 t : FVec Ideal S1x512x256 .f32) (ix3 0 s j)
    = argA m c (ix3 ⟨t.val / 8, by have := point_lt t; omega⟩ ⟨t.val % 8 * 512 + s, by omega⟩ j) := by
  have e := (idx t).2.2.2.2.2.2.2.1
  unfold argA
  rw [← V_main_arg4 m c]
  blk_ext [iblk, e]

/-- The block of window 8. -/
theorem blk8 (s : Fin 512) (j : Fin 256) : (iblk m c 8 t : FVec Ideal S1x512x256 .f32) (ix3 0 s j)
    = argA' m c (ix3 ⟨t.val / 8, by have := point_lt t; omega⟩ ⟨t.val % 8 * 512 + s, by omega⟩ j) := by
  have e := (idx t).2.2.2.2.2.2.2.2.1
  unfold argA'
  rw [← V_main_arg5 m c]
  blk_ext [iblk, e]

/-- The block of window 9. -/
theorem blk9 (s : Fin 512) (j : Fin 256) : (iblk m c 9 t : FVec Ideal S1x512x256 .f32) (ix3 0 s j)
    = argB m c (ix3 ⟨t.val / 8, by have := point_lt t; omega⟩ ⟨t.val % 8 * 512 + s, by omega⟩ j) := by
  have e := (idx t).2.2.2.2.2.2.2.2.2.1
  unfold argB
  rw [← V_main_arg6 m c]
  blk_ext [iblk, e]

/-- The block of window 10. -/
theorem blk10 (s : Fin 512) (j : Fin 256) : (iblk m c 10 t : FVec Ideal S1x512x256 .f32) (ix3 0 s j)
    = argB' m c (ix3 ⟨t.val / 8, by have := point_lt t; omega⟩ ⟨t.val % 8 * 512 + s, by omega⟩ j) := by
  have e := (idx t).2.2.2.2.2.2.2.2.2.2.1
  unfold argB'
  rw [← V_main_arg7 m c]
  blk_ext [iblk, e]

/-- The block of window 11. -/
theorem blk11 (s : Fin 512) (j : Fin 256) : (iblk m c 11 t : FVec Ideal S1x512x256 .f32) (ix3 0 s j)
    = argC m c (ix3 ⟨t.val / 8, by have := point_lt t; omega⟩ ⟨t.val % 8 * 512 + s, by omega⟩ j) := by
  have e := (idx t).2.2.2.2.2.2.2.2.2.2.2.1
  unfold argC
  rw [← V_main_arg8 m c]
  blk_ext [iblk, e]

/-- The block of window 12. -/
theorem blk12 (s : Fin 512) (j : Fin 256) : (iblk m c 12 t : FVec Ideal S1x512x256 .f32) (ix3 0 s j)
    = argC' m c (ix3 ⟨t.val / 8, by have := point_lt t; omega⟩ ⟨t.val % 8 * 512 + s, by omega⟩ j) := by
  have e := (idx t).2.2.2.2.2.2.2.2.2.2.2.2.1
  unfold argC'
  rw [← V_main_arg9 m c]
  blk_ext [iblk, e]

/-- The block of window 13. -/
theorem blk13 (s : Fin 512) (j : Fin 256) : (iblk m c 13 t : FVec Ideal S1x512x256 .f32) (ix3 0 s j)
    = argD m c (ix3 ⟨t.val / 8, by have := point_lt t; omega⟩ ⟨t.val % 8 * 512 + s, by omega⟩ j) := by
  have e := (idx t).2.2.2.2.2.2.2.2.2.2.2.2.2.1
  unfold argD
  rw [← V_main_arg10 m c]
  blk_ext [iblk, e]

/-- Row 0 of the scales. -/
theorem blk14_0 (j : Fin 256) : (iblk m c 14 t : FVec Ideal S3x256 .f32) (ix2 0 j) = argG0 m c (ix1 j) := by
  have e := (idx t).2.2.2.2.2.2.2.2.2.2.2.2.2.2.1
  have h : (iblk m c 14 t : FVec Ideal S3x256 .f32) (ix2 0 j) = (V m c main_v3 : FVec Ideal ⟨2, ![3, 256]⟩ .f32) (ix2 0 j) := by
    blk_ext [iblk, e]
  rw [h]
  unfold V
  after_reads_at
  after_reads_at

/-- Row 1 of the scales. -/
theorem blk14_1 (j : Fin 256) : (iblk m c 14 t : FVec Ideal S3x256 .f32) (ix2 1 j) = argG1 m c (ix1 j) := by
  have e := (idx t).2.2.2.2.2.2.2.2.2.2.2.2.2.2.1
  have h : (iblk m c 14 t : FVec Ideal S3x256 .f32) (ix2 1 j) = (V m c main_v3 : FVec Ideal ⟨2, ![3, 256]⟩ .f32) (ix2 1 j) := by
    blk_ext [iblk, e]
  rw [h]
  unfold V
  after_reads_at
  after_reads_at

/-- Row 2 of the scales. -/
theorem blk14_2 (j : Fin 256) : (iblk m c 14 t : FVec Ideal S3x256 .f32) (ix2 2 j) = argG2 m c (ix1 j) := by
  have e := (idx t).2.2.2.2.2.2.2.2.2.2.2.2.2.2.1
  have h : (iblk m c 14 t : FVec Ideal S3x256 .f32) (ix2 2 j) = (V m c main_v3 : FVec Ideal ⟨2, ![3, 256]⟩ .f32) (ix2 2 j) := by
    blk_ext [iblk, e]
  rw [h]
  unfold V
  after_reads_at
  after_reads_at

/-- The block of window 15. -/
theorem blk15 (r : Fin 4) (k n : Fin 1024) : (iblk m c 15 t : FVec Ideal S4x1024x1024 .bf16) (ix3 r k n)
    = argW m c (ix3 r k n) := by
  have e := (idx t).2.2.2.2.2.2.2.2.2.2.2.2.2.2.2.1
  have h : (iblk m c 15 t : FVec Ideal S4x1024x1024 .bf16) (ix3 r k n) = (V m c main_v4 : FVec Ideal ⟨3, ![4, 1024, 1024]⟩ .bf16) (ix3 r k n) := by
    blk_ext [iblk, e]
  rw [h]
  unfold V
  after_reads_at

/-- The block of window 16. -/
theorem blk16 (r : Fin 4) (n : Fin 1024) : (iblk m c 16 t : FVec Ideal S4x1x1024 .f32) (ix3 r 0 n)
    = argE m c (ix2 r n) := by
  have e := (idx t).2.2.2.2.2.2.2.2.2.2.2.2.2.2.2.2.1
  have h : (iblk m c 16 t : FVec Ideal S4x1x1024 .f32) (ix3 r 0 n) = (V m c main_v5 : FVec Ideal ⟨3, ![4, 1, 1024]⟩ .f32) (ix3 r 0 n) := by
    blk_ext [iblk, e]
  rw [h]
  unfold V
  after_reads_at

/-- The block of window 17. -/
theorem blk17 (r : Fin 4) (j : Fin 256) (n : Fin 1024) : (iblk m c 17 t : FVec Ideal S4x256x1024 .bf16) (ix3 r j n)
    = argP m c (ix3 r j n) := by
  have e := (idx t).2.2.2.2.2.2.2.2.2.2.2.2.2.2.2.2.2.1
  have h : (iblk m c 17 t : FVec Ideal S4x256x1024 .bf16) (ix3 r j n) = (V m c main_v6 : FVec Ideal ⟨3, ![4, 256, 1024]⟩ .bf16) (ix3 r j n) := by
    blk_ext [iblk, e]
  rw [h]
  unfold V
  after_reads_at

/-- The block of window 18. -/
theorem blk18 (k n : Fin 1024) : (iblk m c 18 t : FVec Ideal S1024x1024 .bf16) (ix2 k n)
    = argO m c (ix2 k n) := by
  have e := (idx t).2.2.2.2.2.2.2.2.2.2.2.2.2.2.2.2.2.2.1
  have h : (iblk m c 18 t : FVec Ideal S1024x1024 .bf16) (ix2 k n) = (V m c main_v7 : FVec Ideal ⟨2, ![1024, 1024]⟩ .bf16) (ix2 k n) := by
    blk_ext [iblk, e]
  rw [h]
  unfold V
  after_reads_at

/-- A point's output block is the result's. -/
theorem point_at (a : Fin 1) (s : Fin 512) (n : Fin 1024) :
    (out0_19 (F := Ideal) (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) (iblk m c 13 t) (iblk m c 14 t) (iblk m c 15 t)
      (iblk m c 16 t) (iblk m c 17 t) (iblk m c 18 t) : FVec Ideal S1x512x1024 .f32) (ix3 a s n)
      = result (argX m c) (argH m c) (argM m c) (argQ m c) (argA m c) (argA' m c) (argB m c) (argB' m c) (argC m c) (argC' m c) (argD m c)
      (argG0 m c) (argG1 m c) (argG2 m c) (argW m c) (argE m c) (argP m c) (argO m c)
        (ix3 ⟨t.val / 8, by have := point_lt t; omega⟩ ⟨t.val % 8 * 512 + s, by omega⟩ n) := by
  rw [Subsingleton.elim a 0]
  refine (step_at _ _ _ _ _ _ _ _ _ _ _ _ _ _ _ _ _ _ _ s n).trans ?_
  unfold rowsOut blockMixed blockShare
  simp only [blk0, blk1, blk2, blk3, blk4, blk5, blk6, blk7, blk8, blk9, blk10, blk11, blk12, blk13, blk14_0, blk14_1, blk14_2, blk15, blk16, blk17,
    blk18]
  rfl

end

/-- The result after the run. -/
theorem array19 (c : Dev nD) : (dats m 0 c).arrAt 19 cfg0.N
    = result (argX m c) (argH m c) (argM m c) (argQ m c) (argA m c) (argA' m c) (argB m c) (argB' m c) (argC m c) (argC' m c) (argD m c)
      (argG0 m c) (argG1 m c) (argG2 m c) (argW m c) (argE m c) (argP m c) (argO m c) := by
  refine (dats m 0 c).arrAt_eq_of_covers 19 _ (by decide +kernel) fun t _ y => ?_
  have e := (idx t).2.2.2.2.2.2.2.2.2.2.2.2.2.2.2.2.2.2.2
  blk_simp
  rw [after0_19, eq_ix3 y]
  refine (point_at m c t _ _ _).trans (congrArg (result (argX m c) (argH m c) (argM m c) (argQ m c) (argA m c) (argA' m c) (argB m c) (argB' m c)
    (argC m c) (argC' m c) (argD m c) (argG0 m c) (argG1 m c) (argG2 m c) (argW m c) (argE m c) (argP m c) (argO m c)) ?_)
  blk_ext [e]

end Cert.Kernel3Ideal.Merge

end
-- ==== Proof.MergeRef.lean ====
/- The reference's merge is the formula. -/
module

public import proofs.«01_k».proof.Proof.MergeSpec
public import proofs.«01_k».proof.Proof.Gen.Reference3Ideal.Read

@[expose] public section

set_option maxRecDepth 16384

noncomputable section

open Idealize.ShloMosaic Idealize.ShloMosaic.TcCoe Idealize.SL.Sem

namespace Cert.Reference3Ideal.Merge

open Cert.Reference3Ideal Cert.Reference3Ideal.Read Cert.Merge

variable (x0 x1 : FVec Ideal S8x4096x1024 .f32) (x2 : FVec Ideal S8x6144 .f32) (x3 : FVec Ideal S8x4096x5376 .f32)
  (x4 x5 x6 x7 x8 x9 x10 : FVec Ideal S8x4096x256 .f32) (x11 x12 x13 : FVec Ideal S256 .f32)
  (x14 : FVec Ideal S4x1024x1024 .f32) (x15 : FVec Ideal S4x1024 .f32) (x16 : FVec Ideal S4x256x1024 .f32) (x17 : FVec Ideal S1024x1024 .f32)

/-- The first branch's lanes. -/
theorem first_at (b : Fin 8) (t : Fin 4096) (j : Fin 256) :
    val_main_v33 (F := Ideal) x3 x4 x5 x11 (ix3 b t j) = out0 x3 x4 x5 x11 b t j := by
  pointwise [
    val_main_v33, val_main_v32, val_main_v31, val_main_v30, val_main_v29, val_main_v28, val_main_v27, val_main_v26, val_main_v25,
    val_main_v24, val_main_v23, val_main_v22, val_main_v21, val_main_v20, val_main_v19, val_main_v18, val_main_v17, val_main_v16,
    val_main_call0_v5, val_main_call0_v4, val_main_call0_cst_0, val_main_call0_v3, val_main_call0_v2, val_main_call0_cst,
    val_main_call0_v1, val_main_call0_v0, val_main_v12, val_main_cst, val_main_cst_0, val_main_cst_1]
  rfl

/-- The second branch's lanes. -/
theorem second_at (b : Fin 8) (t : Fin 4096) (j : Fin 256) :
    val_main_v57 (F := Ideal) x3 x6 x7 x12 (ix3 b t j) = out1 x3 x6 x7 x12 b t j := by
  pointwise [
    val_main_v57, val_main_v56, val_main_v55, val_main_v54, val_main_v53, val_main_v52, val_main_v51, val_main_v50, val_main_v49,
    val_main_v48, val_main_v47, val_main_v46, val_main_v45, val_main_v44, val_main_v43, val_main_v42, val_main_v41, val_main_v40,
    val_main_v39, val_main_v38, val_main_v37, val_main_v36, val_main_v35, val_main_v34, val_main_call1_v5, val_main_call1_v4,
    val_main_call1_cst_0, val_main_call1_v3, val_main_call1_v2, val_main_call1_cst, val_main_call1_v1, val_main_call1_v0,
    val_main_v13, val_main_cst_2, val_main_cst_3, val_main_cst_4, val_main_cst_5, val_main_cst_6]
  unfold out1 second
  rw [scaled_centred]
  rfl

/-- The third branch's lanes. -/
theorem third_at (b : Fin 8) (t : Fin 4096) (j : Fin 256) :
    val_main_v81 (F := Ideal) x3 x8 x9 x13 (ix3 b t j) = out2 x3 x8 x9 x13 b t j := by
  pointwise [
    val_main_v81, val_main_v80, val_main_v79, val_main_v78, val_main_v77, val_main_v76, val_main_v75, val_main_v74, val_main_v73,
    val_main_v72, val_main_v71, val_main_v70, val_main_v69, val_main_v68, val_main_v67, val_main_v66, val_main_v65, val_main_v64,
    val_main_v63, val_main_v62, val_main_v61, val_main_v60, val_main_v59, val_main_v58, val_main_v14, val_main_v15,
    val_main_cst_7, val_main_cst_8, val_main_cst_9, val_main_cst_10, val_main_cst_11]
  unfold out2 third
  rw [scaled_centred]
  rfl

/-- The first branch's share. -/
theorem share0_at (b : Fin 8) (t : Fin 4096) (n : Fin 1024) :
    val_main_v99 (F := Ideal) x1 x3 x4 x5 x11 x14 x15 x16 (ix3 b t n) = shareOf x1 x14 x15 x16 0 (out0 x3 x4 x5 x11 b t) b t n := by
  pointwise [
    val_main_v99, val_main_v98, val_main_v97, val_main_v96, val_main_v95, val_main_v94, val_main_v93, val_main_v92, val_main_v91,
    val_main_v90, val_main_v89, val_main_v88, val_main_v87, val_main_v86, val_main_v85, val_main_v84, val_main_v83, val_main_v82,
    val_main_cst_12, val_main_cst_13]
  simp only [first_at]
  rfl

/-- The second branch's share. -/
theorem share1_at (b : Fin 8) (t : Fin 4096) (n : Fin 1024) :
    val_main_v119 (F := Ideal) x1 x3 x6 x7 x12 x14 x15 x16 (ix3 b t n) = shareOf x1 x14 x15 x16 1 (out1 x3 x6 x7 x12 b t) b t n := by
  pointwise [
    val_main_v119, val_main_v118, val_main_v117, val_main_v116, val_main_v115, val_main_v114, val_main_v113, val_main_v112,
    val_main_v111, val_main_v110, val_main_v109, val_main_v108, val_main_v107, val_main_v106, val_main_v105, val_main_v104,
    val_main_v103, val_main_v102, val_main_cst_15, val_main_cst_16]
  simp only [second_at]
  rfl

/-- The third branch's share. -/
theorem share2_at (b : Fin 8) (t : Fin 4096) (n : Fin 1024) :
    val_main_v138 (F := Ideal) x1 x3 x8 x9 x13 x14 x15 x16 (ix3 b t n) = shareOf x1 x14 x15 x16 2 (out2 x3 x8 x9 x13 b t) b t n := by
  pointwise [
    val_main_v138, val_main_v137, val_main_v136, val_main_v135, val_main_v134, val_main_v133, val_main_v132, val_main_v131,
    val_main_v130, val_main_v129, val_main_v128, val_main_v127, val_main_v126, val_main_v125, val_main_v124, val_main_v123,
    val_main_v122, val_main_v121, val_main_cst_17, val_main_cst_18]
  simp only [third_at]
  rfl

/-- The fourth branch's share. -/
theorem share3_at (b : Fin 8) (t : Fin 4096) (n : Fin 1024) :
    val_main_v157 (F := Ideal) x1 x10 x14 x15 x16 (ix3 b t n) = shareOf x1 x14 x15 x16 3 (fun j => x10 (ix3 b t j)) b t n := by
  pointwise [
    val_main_v157, val_main_v156, val_main_v155, val_main_v154, val_main_v153, val_main_v152, val_main_v151, val_main_v150,
    val_main_v149, val_main_v148, val_main_v147, val_main_v146, val_main_v145, val_main_v144, val_main_v143, val_main_v142,
    val_main_v141, val_main_v140, val_main_cst_19, val_main_cst_20]
  rfl

/-- The sum of the shares. -/
theorem mixed_at (b : Fin 8) (t : Fin 4096) (n : Fin 1024) :
    val_main_v158 (F := Ideal) x1 x3 x4 x5 x6 x7 x8 x9 x10 x11 x12 x13 x14 x15 x16 (ix3 b t n)
      = mixed x1 x3 x4 x5 x6 x7 x8 x9 x10 x11 x12 x13 x14 x15 x16 b t n := by
  pointwise [val_main_v158, val_main_v139, val_main_v120, val_main_v101, val_main_v100, val_main_cst_14]
  simp only [share0_at, share1_at, share2_at, share3_at, zero_add]
  rfl

/-- The token after the residual. -/
theorem result_at (b : Fin 8) (t : Fin 4096) (n : Fin 1024) :
    val_main_v162 (F := Ideal) x0 x1 x2 x3 x4 x5 x6 x7 x8 x9 x10 x11 x12 x13 x14 x15 x16 x17 (ix3 b t n)
      = result x0 x1 x2 x3 x4 x5 x6 x7 x8 x9 x10 x11 x12 x13 x14 x15 x16 x17 (ix3 b t n) := by
  pointwise [val_main_v162, val_main_v161, val_main_v160, val_main_v159, val_main_v8, val_main_v2]
  simp only [mixed_at]
  rfl

/-- The reference's result. -/
theorem result_eq : val_main_v162 (F := Ideal) x0 x1 x2 x3 x4 x5 x6 x7 x8 x9 x10 x11 x12 x13 x14 x15 x16 x17
    = result x0 x1 x2 x3 x4 x5 x6 x7 x8 x9 x10 x11 x12 x13 x14 x15 x16 x17 := by
  funext y
  rw [eq_ix3 y]
  exact result_at x0 x1 x2 x3 x4 x5 x6 x7 x8 x9 x10 x11 x12 x13 x14 x15 x16 x17 (y 0) (y 1) (y 2)

end Cert.Reference3Ideal.Merge

end
-- ==== Proof.ModSpec.lean ====
/- The modulation as one formula. -/
module

public import proofs.«01_k».proof.Proof.FfnSpec

@[expose] public section

noncomputable section

open Idealize.ShloMosaic

namespace Cert.Modulation

/-- The conditioning rows: the batch's vectors, the context's, zeros. -/
def rows (C : FVec Ideal ⟨2, ![8, 1024]⟩ .f32) (K : FVec Ideal ⟨1, ![1024]⟩ .f32) (r : Fin 16) (k : Fin 1024) : EReal :=
  if h : (r : ℕ) < 8 then C (ix2 ⟨r, h⟩ k) else if (r : ℕ) - 8 < 1 then K (ix1 k) else 0

/-- Each layer's modulation of each row. -/
def result (C : FVec Ideal ⟨2, ![8, 1024]⟩ .f32) (K : FVec Ideal ⟨1, ![1024]⟩ .f32) (W : FVec Ideal ⟨3, ![2, 1024, 6144]⟩ .f32)
    (B : FVec Ideal ⟨2, ![2, 6144]⟩ .f32) : FVec Ideal ⟨3, ![2, 16, 6144]⟩ .f32 := fun y =>
  ∑ k, FeedForward.swish (rows C K (y 1) k) * W (ix3 (y 0) k (y 2)) + B (ix2 (y 0) (y 2))

end Cert.Modulation

end
-- ==== Proof.ModKernel.lean ====
/- The modulation kernel's result is the formula. -/
module

public import proofs.«01_k».proof.Proof.ModSpec
public import proofs.«01_k».proof.Proof.Gen.Kernel4Ideal.Value
public import Idealize.ShloMosaic.Lib.StableHlo.ReadAt
public import Idealize.ShloMosaic.Lib.Pipeline.Covers
public import Idealize.ShloMosaic.Lib.Pipeline.ReadBack
public import Idealize.ShloMosaic.Lib.Pipeline.ValueKit.Acc
public import Idealize.ShloMosaic.Lib.Pipeline.ValueKit.Tiles

@[expose] public section

set_option maxRecDepth 16384

noncomputable section

open Idealize.ShloMosaic Idealize.ShloMosaic.TcCoe Idealize.SL.Sem

namespace Cert.Kernel4Ideal.Mod

open Cert.Kernel4Ideal Cert.Kernel4Ideal.Gen Cert.Modulation

variable (m : (ℓ : Loc nD τ sig) → Buf (Elt Ideal) ℓ)

/-- There are 8 grid points. -/
theorem point_lt (t : Fin cfg0.N) : t.val < 8 := t.isLt

/-- Which block each window reads at a point. -/
theorem idx : ∀ t : Fin cfg0.N, win0_0.index t = ![0, 0] ∧ win0_1.index t = ![t.val / 4, 0, t.val % 4]
    ∧ win0_2.index t = ![t.val / 4, 0, t.val % 4] ∧ win0_3.index t = ![t.val / 4, 0, t.val % 4] :=
  (by decide +kernel : ∀ t : Fin grid0.N, _)

/-- The batch's conditioning vectors. -/
abbrev argC (c : Dev nD) : FVec Ideal ⟨2, ![8, 1024]⟩ .f32 := m ((c : Thread nD τ).loc main_arg0)
/-- The context's conditioning vector. -/
abbrev argK (c : Dev nD) : FVec Ideal ⟨1, ![1024]⟩ .f32 := m ((c : Thread nD τ).loc main_arg1)
/-- The weights. -/
abbrev argW (c : Dev nD) : FVec Ideal ⟨3, ![2, 1024, 6144]⟩ .f32 := m ((c : Thread nD τ).loc main_arg2)
/-- The biases. -/
abbrev argB (c : Dev nD) : FVec Ideal ⟨2, ![2, 6144]⟩ .f32 := m ((c : Thread nD τ).loc main_arg3)

/-- The body at an index. -/
theorem body_at (v : FVec Ideal S16x1024 .f32) (w : FVec Ideal S1x1024x1536 .f32) (b : FVec Ideal S1x1x1536 .f32) (r : Fin 16) (n : Fin 1536) :
    k0_pay1 (F := Ideal) v w b (ix3 0 r n) = ∑ k, FeedForward.swish (v (ix2 r k)) * w (ix3 0 k n) + b (ix3 0 0 n) := by
  pointwise [k0_pay1]
  simp only [zero_sub]
  rfl

section
variable (c : Dev nD) (t : Fin cfg0.N)

/-- The conditioning rows, whole. -/
theorem blk0 (r : Fin 16) (k : Fin 1024) : (iblk m c 0 t : FVec Ideal S16x1024 .f32) (ix2 r k) = rows (argC m c) (argK m c) r k := by
  have e := (idx t).1
  have h : (iblk m c 0 t : FVec Ideal S16x1024 .f32) (ix2 r k) = (V m c main_v2 : FVec Ideal ⟨2, ![16, 1024]⟩ .f32) (ix2 r k) := by
    blk_ext [iblk, e]
  rw [h]
  unfold V
  after_reads_at
  after_reads_at
  rfl

/-- A column block of a layer's weights. -/
theorem blk1 (k : Fin 1024) (n : Fin 1536) : (iblk m c 1 t : FVec Ideal S1x1024x1536 .f32) (ix3 0 k n)
    = argW m c (ix3 ⟨t.val / 4, by have := point_lt t; omega⟩ k ⟨t.val % 4 * 1536 + n, by omega⟩) := by
  have e := (idx t).2.1
  have h : (iblk m c 1 t : FVec Ideal S1x1024x1536 .f32) (ix3 0 k n)
      = (V m c main_arg2 : FVec Ideal ⟨3, ![2, 1024, 6144]⟩ .f32) (ix3 ⟨t.val / 4, by have := point_lt t; omega⟩ k ⟨t.val % 4 * 1536 + n, by omega⟩) := by
    blk_ext [iblk, e]
  rw [h]
  unfold V
  after_reads_at

/-- A column block of a layer's biases. -/
theorem blk2 (n : Fin 1536) : (iblk m c 2 t : FVec Ideal S1x1x1536 .f32) (ix3 0 0 n)
    = argB m c (ix2 ⟨t.val / 4, by have := point_lt t; omega⟩ ⟨t.val % 4 * 1536 + n, by omega⟩) := by
  have e := (idx t).2.2.1
  have h : (iblk m c 2 t : FVec Ideal S1x1x1536 .f32) (ix3 0 0 n)
      = (V m c main_v3 : FVec Ideal ⟨3, ![2, 1, 6144]⟩ .f32) (ix3 ⟨t.val / 4, by have := point_lt t; omega⟩ 0 ⟨t.val % 4 * 1536 + n, by omega⟩) := by
    blk_ext [iblk, e]
  rw [h]
  unfold V
  after_reads_at

/-- A point's output block is the result's. -/
theorem point_at (a : Fin 1) (r : Fin 16) (n : Fin 1536) :
    (out0_3 (iblk m c 0 t) (iblk m c 1 t) (iblk m c 2 t) : FVec Ideal S1x16x1536 .f32) (ix3 a r n)
      = result (argC m c) (argK m c) (argW m c) (argB m c)
        (ix3 ⟨t.val / 4, by have := point_lt t; omega⟩ r ⟨t.val % 4 * 1536 + n, by omega⟩) := by
  rw [Subsingleton.elim a 0]
  unfold out0_3
  frame_out
  rw [body_at]
  simp only [blk0, blk1, blk2]
  rfl

end

/-- The result after the run. -/
theorem array3 (c : Dev nD) : (dats m 0 c).arrAt 3 cfg0.N = result (argC m c) (argK m c) (argW m c) (argB m c) := by
  refine (dats m 0 c).arrAt_eq_of_covers 3 _ (by decide +kernel) fun t _ y => ?_
  have e := (idx t).2.2.2
  blk_simp
  rw [after0_3, eq_ix3 y]
  refine (point_at m c t _ _ _).trans (congrArg (result (argC m c) (argK m c) (argW m c) (argB m c)) ?_)
  blk_ext [e]

end Cert.Kernel4Ideal.Mod

end
-- ==== Proof.ModRef.lean ====
/- The reference's modulation is the formula. -/
module

public import proofs.«01_k».proof.Proof.ModSpec
public import proofs.«01_k».proof.Proof.Gen.Reference4Ideal.Read

@[expose] public section

set_option maxRecDepth 16384

noncomputable section

open Idealize.ShloMosaic Idealize.ShloMosaic.TcCoe Idealize.SL.Sem

namespace Cert.Reference4Ideal.Mod

open Cert.Reference4Ideal Cert.Reference4Ideal.Gen Cert.Reference4Ideal.Read Cert.Modulation

variable (x0 : FVec Ideal ⟨2, ![8, 1024]⟩ .f32) (x1 : FVec Ideal ⟨1, ![1024]⟩ .f32) (x2 : FVec Ideal ⟨3, ![2, 1024, 6144]⟩ .f32)
  (x3 : FVec Ideal ⟨2, ![2, 6144]⟩ .f32)

/-- The conditioning rows. -/
theorem rows_at (r : Fin 16) (k : Fin 1024) : val_main_v2 (F := Ideal) x0 x1 (ix2 r k) = rows x0 x1 r k := by
  pointwise [val_main_v2, val_main_v1, val_main_v0, val_main_cst]
  rfl

/-- The reference's result at an index. -/
theorem result_at (l : Fin 2) (r : Fin 16) (n : Fin 6144) : val_main_v8 (F := Ideal) x0 x1 x2 x3 (ix3 l r n) = result x0 x1 x2 x3 (ix3 l r n) := by
  pointwise [val_main_v8, val_main_v7, val_main_v6, val_main_v5, val_main_v4, val_main_v3, val_main_call0_v5, val_main_call0_v4,
    val_main_call0_v3, val_main_call0_v2, val_main_call0_v1, val_main_call0_v0, val_main_call0_cst, val_main_call0_cst_0]
  simp only [rows_at, mul_comm (x2 _)]
  rfl

/-- The reference's result. -/
theorem result_eq : val_main_v8 (F := Ideal) x0 x1 x2 x3 = result x0 x1 x2 x3 := by
  funext y
  rw [eq_ix3 y]
  exact result_at x0 x1 x2 x3 (y 0) (y 1) (y 2)

end Cert.Reference4Ideal.Mod

end
-- ==== Proof.FfnMidBlock.lean ====
/- What one grid point of the feed-forward kernel without the final norm computes, read at an index. -/
module

public import proofs.«01_k».proof.Proof.FfnSpec
public import proofs.«01_k».proof.Proof.Gen.Kernel5Ideal.Skeleton
public import Idealize.ShloMosaic.Lib.WordCmp

@[expose] public section

set_option maxRecDepth 16384

noncomputable section

open Idealize.ShloMosaic Idealize.ShloMosaic.TcCoe Idealize.SL.Sem

namespace Cert.Kernel5Ideal.Feed

open Cert.Kernel5Ideal Cert.Kernel5Ideal.Gen Cert.FeedForward

/-- The result's rows from the down-projection, the gate and the residual. -/
theorem out_at (Y : FVec Ideal S512x1024 .f32) (g : FVec Ideal S1x1024 .f32) (x : FVec Ideal S1x512x1024 .f32)
    (s : Fin 512) (n : Fin 1024) :
    k0_pay1 (F := Ideal) Y g x (ix3 0 s n) = x (ix3 0 s n) + g (ix2 0 n) * Y (ix2 s n) := by
  pointwise [k0_pay1]

/-- The gate's row of the modulation. -/
theorem gate_at (m : FVec Ideal S1x1x6144 .f32) (n : Fin 1024) :
    k0_pay17 (F := Ideal) (k0_pay2 m) (ix2 0 n) = m (ix3 0 0 ⟨5120 + n, by omega⟩) := by
  pointwise [k0_pay17, k0_pay2]

/-- The down-projection. -/
theorem down_at (A : FVec Ideal S512x2816 .bf16) (D : FVec Ideal S2816x1024 .bf16) (s : Fin 512) (n : Fin 1024) :
    k0_pay16 (F := Ideal) A D (ix2 s n) = ∑ j, A (ix2 s j) * D (ix2 j n) := by
  pointwise [k0_pay16]

/-- A row of a block with its neighbours. -/
def near (p : FVec Ideal S1x8x1024 .f32) (x : FVec Ideal S1x512x1024 .f32) (q : FVec Ideal S1x8x1024 .f32) (r : Fin 528) (k : Fin 1024) : EReal :=
  if h : (r : ℕ) < 8 then p (ix3 0 ⟨r, by omega⟩ k)
  else if h : (r : ℕ) - 8 < 512 then x (ix3 0 ⟨r - 8, by omega⟩ k) else q (ix3 0 ⟨r - 8 - 512, by omega⟩ k)

/-- The modulated rows of a block with its neighbours. -/
theorem rows_at (p : FVec Ideal S1x8x1024 .f32) (x : FVec Ideal S1x512x1024 .f32) (q : FVec Ideal S1x8x1024 .f32)
    (m : FVec Ideal S1x1x6144 .f32) (g : FVec Ideal S1x1024 .f32) (r : Fin 528) (k : Fin 1024) :
    k0_pay3 (F := Ideal) p x q m g (ix2 r k) = normed (near p x q r) k * g (ix2 0 k) * (1 + m (ix3 0 0 ⟨4096 + k, by omega⟩))
      + m (ix3 0 0 ⟨3072 + k, by omega⟩) := by
  pointwise [k0_pay3, k0_pay2]
  rfl

/-- A choice by a tested condition. -/
theorem select_bool (P : Prop) [Decidable P] (a b : EReal) :
    Scalar.select (BitVec.ofBool (decide P)) a b = if P then a else b := by
  by_cases h : P
  · rw [if_pos h, decide_eq_true h]; rfl
  · rw [if_neg h, decide_eq_false h]; rfl

/-- The kernel's hidden rows with the rows outside the sequence set to zero. -/
theorem kept_at (Y : FVec Ideal S528x1024 .f32) (i : grid0.Coords) (r : Fin 528) (k : Fin 1024) :
    k0_pay5 (F := Ideal) Y (iota .tc S528x1 32 [0] iota_S528x1_d0_w32) (k0_pay4 i)
      (Scalar.cmpi .slt (BitVec.ofNat 32 (i 1).val) 7#32) (Scalar.ofBits .f32 0x3F800000#32) (ix2 r k)
      = Y (ix2 r k) * (if (r : ℕ) < 8 then (if 0 < (i 1).val then 1 else 0)
        else if 520 ≤ (r : ℕ) then (if (i 1).val < 7 then 1 else 0) else 1) := by
  have hi : (i 1).val < 8 := (i 1).isLt
  pointwise [k0_pay5, k0_pay4]
  congr 1
  have e1 := WordCmp.cmpi_slt_ofNat (w := 32) (a := (r : ℕ)) (b := 8) (by omega) (by omega)
  have e2 := WordCmp.cmpi_sgt_ofNat (w := 32) (a := (i 1).val) (b := 0) (by omega) (by omega)
  have e3 := WordCmp.cmpi_sge_ofNat (w := 32) (a := (r : ℕ)) (b := 520) (by omega) (by omega)
  have e4 := WordCmp.cmpi_slt_ofNat (w := 32) (a := (i 1).val) (b := 7) (by omega) (by omega)
  show Scalar.select (IntOp.cmpi .slt (BitVec.ofNat 32 ↑r) (BitVec.ofNat 32 8))
      (Scalar.select (IntOp.cmpi .sgt (BitVec.ofNat 32 ↑(i 1)) (BitVec.ofNat 32 0)) (1 : EReal) 0)
      (Scalar.select (IntOp.cmpi .sge (BitVec.ofNat 32 ↑r) (BitVec.ofNat 32 520))
        (Scalar.select (IntOp.cmpi .slt (BitVec.ofNat 32 ↑(i 1)) (BitVec.ofNat 32 7)) 1 0) 1) = _
  rw [e1, e2, e3, e4, select_bool, select_bool, select_bool, select_bool]

/-- The hidden units of a block from its rows. -/
def unitOf (A : FVec Ideal S528x1024 .bf16) (B : FVec Ideal S512x1024 .bf16) (W : FVec Ideal S3x2816 .f32) (C : FVec Ideal S1x2816 .f32)
    (U : FVec Ideal S1024x5632 .bf16) (s : Fin 512) (j : Fin 2816) : EReal :=
  swish ((∑ k, A (ix2 ⟨7 + s, by omega⟩ k) * U (ix2 k ⟨j, by omega⟩)) * W (ix2 0 j)
    + (∑ k, A (ix2 ⟨8 + s, by omega⟩ k) * U (ix2 k ⟨j, by omega⟩)) * W (ix2 1 j)
    + (∑ k, A (ix2 ⟨9 + s, by omega⟩ k) * U (ix2 k ⟨j, by omega⟩)) * W (ix2 2 j) + C (ix2 0 j))
    * ∑ k, B (ix2 s k) * U (ix2 k ⟨2816 + j, by omega⟩)

section
variable (A : FVec Ideal S528x1024 .bf16) (B : FVec Ideal S512x1024 .bf16) (W : FVec Ideal S3x2816 .f32) (C : FVec Ideal S1x2816 .f32)
  (U : FVec Ideal S1024x5632 .bf16)

/-- The third column chunk. -/
theorem chunk2_at (P Q : FVec Ideal S1024x768 .bf16)
    (hP : ∀ k (j : Fin 768), P (ix2 k j) = U (ix2 k ⟨2048 + j, by omega⟩))
    (hQ : ∀ k (j : Fin 768), Q (ix2 k j) = U (ix2 k ⟨4864 + j, by omega⟩)) (s : Fin 512) (j : Fin 768) :
    k0_pay15 (F := Ideal) A B W (k0_pay8 C) P Q (ix2 s j) = unitOf A B W C U s ⟨2048 + j, by omega⟩ := by
  pointwise [k0_pay15, k0_pay8]
  simp only [hP, hQ, zero_sub]
  have e : (⟨2816 + ((⟨2048 + j, by omega⟩ : Fin 2816) : ℕ), by simp only; omega⟩ : Fin 5632) = ⟨4864 + j, by omega⟩ :=
    Fin.ext (by simp only; omega)
  unfold unitOf
  rw [e]
  rfl

/-- The second column chunk. -/
theorem chunk1_at (P Q : FVec Ideal S1024x1024 .bf16)
    (hP : ∀ k (j : Fin 1024), P (ix2 k j) = U (ix2 k ⟨1024 + j, by omega⟩))
    (hQ : ∀ k (j : Fin 1024), Q (ix2 k j) = U (ix2 k ⟨3840 + j, by omega⟩)) (s : Fin 512) (j : Fin 1024) :
    k0_pay14 (k0_pay13 (F := Ideal) A B W (k0_pay8 C) P Q) (ix2 s j) = unitOf A B W C U s ⟨1024 + j, by omega⟩ := by
  pointwise [k0_pay14, k0_pay13, k0_pay8]
  simp only [hP, hQ, zero_sub]
  have e : (⟨2816 + ((⟨1024 + j, by omega⟩ : Fin 2816) : ℕ), by simp only; omega⟩ : Fin 5632) = ⟨3840 + j, by omega⟩ :=
    Fin.ext (by simp only; omega)
  unfold unitOf
  rw [e]
  rfl

end

/-- The first column chunk. -/
theorem chunk0_at (Y : FVec Ideal S528x1024 .f32) (I : IVec S528x1 32) (a z : EReal) (v : BitVec 1) (W : FVec Ideal S3x2816 .f32)
    (C : FVec Ideal S1x2816 .f32) (U : FVec Ideal S1024x5632 .bf16) (P Q : FVec Ideal S1024x1024 .bf16)
    (hP : ∀ k (j : Fin 1024), P (ix2 k j) = U (ix2 k ⟨j, by omega⟩))
    (hQ : ∀ k (j : Fin 1024), Q (ix2 k j) = U (ix2 k ⟨2816 + j, by omega⟩)) (s : Fin 512) (j : Fin 1024) :
    k0_pay12 (F := Ideal) (k0_pay9 Y I a v z Q) (k0_pay10 Y I a v z W C P) (k0_pay11 Y I a v z W C P)
      (Scalar.ofBits .f32 0x3F800000#32) (ix2 s j)
      = unitOf (k0_pay6 Y I a v z) (k0_pay7 Y I a v z) W C U s ⟨j, by omega⟩ := by
  have e : ∀ s j, k0_pay10 (F := Ideal) Y I a v z W C P (ix2 s j) = (∑ k, k0_pay6 (F := Ideal) Y I a v z (ix2 ⟨7 + s, by omega⟩ k) * P (ix2 k j)) * W (ix2 0 ⟨j, by omega⟩)
      + (∑ k, k0_pay6 (F := Ideal) Y I a v z (ix2 ⟨8 + s, by omega⟩ k) * P (ix2 k j)) * W (ix2 1 ⟨j, by omega⟩)
      + (∑ k, k0_pay6 (F := Ideal) Y I a v z (ix2 ⟨9 + s, by omega⟩ k) * P (ix2 k j)) * W (ix2 2 ⟨j, by omega⟩) + C (ix2 0 ⟨j, by omega⟩) := by
    intro s j
    generalize hA : k0_pay6 (F := Ideal) Y I a v z = A
    unfold k0_pay10
    rw [hA]
    pointwise [k0_pay8]
  have e9 : k0_pay9 (F := Ideal) Y I a v z Q (ix2 s j) = ∑ k, k0_pay7 (F := Ideal) Y I a v z (ix2 s k) * Q (ix2 k j) := by
    generalize hB : k0_pay7 (F := Ideal) Y I a v z = B
    unfold k0_pay9
    rw [hB]
    pointwise
  have e11 : k0_pay11 (F := Ideal) Y I a v z W C P (ix2 s j) = Ideal.exp (0 - k0_pay10 (F := Ideal) Y I a v z W C P (ix2 s j)) := by
    generalize hB : k0_pay10 (F := Ideal) Y I a v z W C P = B
    unfold k0_pay11
    rw [hB]
    pointwise
  have e12 : ∀ (R S T : FVec Ideal S512x1024 .f32), k0_pay12 (F := Ideal) R S T (Scalar.ofBits .f32 0x3F800000#32) (ix2 s j)
      = S (ix2 s j) * Ideal.div 1 (1 + T (ix2 s j)) * R (ix2 s j) := by
    intro R S T
    pointwise [k0_pay12]
  rw [e12, e9, e11, e]
  simp only [hP, hQ, zero_sub]
  rfl

section
variable (X : FVec Ideal ⟨3, ![8, 4096, 1024]⟩ .f32) (M : FVec Ideal ⟨2, ![8, 6144]⟩ .f32) (G : FVec Ideal ⟨1, ![1024]⟩ .f32)
  (U : FVec Ideal ⟨2, ![1024, 5632]⟩ .f32) (V : FVec Ideal ⟨2, ![3, 2816]⟩ .f32) (C : FVec Ideal ⟨1, ![2816]⟩ .f32)

/-- The kept rows of a block are the padded sequence's positions. -/
theorem kept_padded (p : FVec Ideal S1x8x1024 .f32) (x : FVec Ideal S1x512x1024 .f32) (q : FVec Ideal S1x8x1024 .f32)
    (m : FVec Ideal S1x1x6144 .f32) (g : FVec Ideal S1x1024 .f32) (i : grid0.Coords) (b : Fin 8) (n : Fin 8) (hn : (i 1).val = n)
    (hp : 0 < (n : ℕ) → ∀ (r : Fin 8) (k : Fin 1024), p (ix3 0 r k) = X (ix3 b ⟨(n * 512 + r - 8 : ℕ), by omega⟩ k))
    (hx : ∀ (s : Fin 512) (k : Fin 1024), x (ix3 0 s k) = X (ix3 b ⟨n * 512 + s, by omega⟩ k))
    (hq : ∀ h : (n : ℕ) < 7, ∀ (r : Fin 8) (k : Fin 1024), q (ix3 0 r k) = X (ix3 b ⟨n * 512 + 512 + r, by omega⟩ k))
    (hm : ∀ l : Fin 6144, m (ix3 0 0 l) = M (ix2 b l)) (hg : ∀ k : Fin 1024, g (ix2 0 k) = G (ix1 k))
    (r : Fin 528) (h7 : 7 ≤ (r : ℕ)) (h520 : (r : ℕ) ≤ 520) (k : Fin 1024) :
    k0_pay5 (F := Ideal) (k0_pay3 p x q m g) (iota .tc S528x1 32 [0] iota_S528x1_d0_w32) (k0_pay4 i)
      (Scalar.cmpi .slt (BitVec.ofNat 32 (i 1).val) 7#32) (Scalar.ofBits .f32 0x3F800000#32) (ix2 r k)
      = padded X M G b (n * 512 + r - 7) k := by
  rw [kept_at, rows_at, hn, hg, hm, hm]
  unfold padded
  by_cases hin : 1 ≤ (n : ℕ) * 512 + r - 7 ∧ (n : ℕ) * 512 + r - 7 < 4097
  · rw [dif_pos hin]
    have ek : (if (r : ℕ) < 8 then (if 0 < (n : ℕ) then 1 else 0)
        else if 520 ≤ (r : ℕ) then (if (n : ℕ) < 7 then 1 else 0) else 1 : EReal) = 1 := by
      split_ifs <;> first | rfl | (exfalso; omega)
    have en : near p x q r = fun d => X (ix3 b ⟨(n * 512 + r - 7 : ℕ) - 1, by omega⟩ d) := by
      funext d
      unfold near
      split_ifs with h1 h2
      · rw [hp (by omega)]
        exact congrArg (fun z => X (ix3 b z d)) (Fin.ext (by simp only; omega))
      · rw [hx]
        exact congrArg (fun z => X (ix3 b z d)) (Fin.ext (by simp only; omega))
      · rw [hq (by omega)]
        exact congrArg (fun z => X (ix3 b z d)) (Fin.ext (by simp only; omega))
    rw [ek, en, mul_one]
    rfl
  · rw [dif_neg hin]
    have ek : (if (r : ℕ) < 8 then (if 0 < (n : ℕ) then 1 else 0)
        else if 520 ≤ (r : ℕ) then (if (n : ℕ) < 7 then 1 else 0) else 1 : EReal) = 0 := by
      split_ifs <;> first | rfl | (exfalso; omega)
    rw [ek, mul_zero]

/-- The hidden units of a block whose rows are the padded sequence's. -/
theorem unitOf_eq (Y : FVec Ideal S528x1024 .f32) (I : IVec S528x1 32) (a z : EReal) (v : BitVec 1) (W : FVec Ideal S3x2816 .f32)
    (c : FVec Ideal S1x2816 .f32) (u : FVec Ideal S1024x5632 .bf16) (b : Fin 8) (n : Fin 8)
    (hY : ∀ (r : Fin 528), 7 ≤ (r : ℕ) → (r : ℕ) ≤ 520 → ∀ k : Fin 1024,
      k0_pay5 (F := Ideal) Y I a v z (ix2 r k) = padded X M G b (n * 512 + r - 7) k)
    (hW : ∀ e j, W (ix2 e j) = V (ix2 e j)) (hc : ∀ j, c (ix2 0 j) = C (ix1 j)) (hu : ∀ k j, u (ix2 k j) = U (ix2 k j))
    (s : Fin 512) (j : Fin 2816) :
    unitOf (k0_pay6 (F := Ideal) Y I a v z) (k0_pay7 Y I a v z) W c u s j = unit X M G U V C b ⟨n * 512 + s, by omega⟩ j := by
  have e6 : ∀ (r : Fin 528), 7 ≤ (r : ℕ) → (r : ℕ) ≤ 520 → ∀ k : Fin 1024,
      k0_pay6 (F := Ideal) Y I a v z (ix2 r k) = padded X M G b (n * 512 + r - 7) k := fun r h1 h2 k => by
    rw [← hY r h1 h2 k]
    unfold k0_pay6
    rfl
  have e7 : ∀ k : Fin 1024, k0_pay7 (F := Ideal) Y I a v z (ix2 s k) = hidden X M G b ⟨n * 512 + s, by omega⟩ k := fun k => by
    have h := hY ⟨8 + s, by omega⟩ (by simp only; omega) (by simp only; omega) k
    generalize hB : k0_pay5 (F := Ideal) Y I a v z = B at h
    unfold k0_pay7
    rw [hB]
    pointwise
    rw [h]
    unfold padded
    rw [dif_pos (by simp only; omega)]
    exact congrArg (fun w => hidden X M G b w k) (Fin.ext (by simp only; omega))
  have eg : ∀ (d : ℕ) (hd : d < 3), (∑ k, k0_pay6 (F := Ideal) Y I a v z (ix2 ⟨7 + d + s, by omega⟩ k) * u (ix2 k ⟨j, by omega⟩))
      = gateIn X M G U b (n * 512 + s + d) j := fun d hd => by
    unfold gateIn
    refine Finset.sum_congr rfl fun k _ => ?_
    rw [e6 _ (by simp only; omega) (by simp only; omega), hu]
    exact congrArg (fun w => padded X M G b w k * _) (by simp only; omega)
  have ev : (∑ k, k0_pay7 (F := Ideal) Y I a v z (ix2 s k) * u (ix2 k ⟨2816 + j, by omega⟩))
      = valueIn X M G U b ⟨n * 512 + s, by omega⟩ j := by
    unfold valueIn
    refine Finset.sum_congr rfl fun k _ => ?_
    rw [e7, hu]
  unfold unitOf unit conv
  have e0 := eg 0 (by omega)
  have e1 := eg 1 (by omega)
  have e2 := eg 2 (by omega)
  rw [ev, hW, hW, hW, hc]
  exact congrArg (fun w => swish w * _) (by
    refine congrArg₂ (· + ·) (congrArg₂ (· + ·) (congrArg₂ (· + ·) ?_ ?_) ?_) rfl
    · exact congrArg (· * _) e0
    · exact congrArg (· * _) e1
    · exact congrArg (· * _) e2)

end

end Cert.Kernel5Ideal.Feed

end
-- ==== Proof.FfnMidStep.lean ====
/- What a grid point of the feed-forward kernel without the final norm leaves in its output block. -/
module

public import proofs.«01_k».proof.Proof.FfnMidBlock
public import proofs.«01_k».proof.Proof.Gen.Kernel5Ideal.Value
public import Idealize.ShloMosaic.Lib.Pipeline.ReadBack
public import Idealize.ShloMosaic.Lib.Pipeline.ValueKit.Acc
public import Idealize.ShloMosaic.Lib.Pipeline.ValueKit.Tiles

@[expose] public section

set_option maxRecDepth 16384

noncomputable section

open Idealize.ShloMosaic Idealize.ShloMosaic.TcCoe Idealize.SL.Sem

namespace Cert.Kernel5Ideal.Feed

open Cert.Kernel5Ideal Cert.Kernel5Ideal.Gen Cert.FeedForward

variable (m : (ℓ : Loc nD τ sig) → Buf (Elt Ideal) ℓ)

/-- A load of the whole scratch reads what the stores left. -/
theorem load_all (v : View sig .tc .vmem S512x2816 .bf16) (inb) (L : List (View.Piece (Elt Ideal) S512x2816 .bf16)) :
    View.readCov (Val := Elt Ideal) v L (Rect.unit ![0, 0] ![512, 2816] inb).toLoadRect = View.canon L := by
  have h := View.readCov_eq_canon' v L (Rect.unit ![0, 0] ![512, 2816] inb).toLoadRect
  refine h.trans (funext fun j => congrArg (View.canon L) (funext fun a => Fin.ext ?_))
  fin_cases a
  · exact (Nat.zero_add _).trans (Nat.one_mul (j 0).val)
  · exact (Nat.zero_add _).trans (Nat.one_mul (j 1).val)

/-- The kept rows of a point's blocks. -/
def kept (c : Dev nD) (t : Fin cfg0.N) : FVec Ideal S528x1024 .f32 :=
  k0_pay5 (F := Ideal) (k0_pay3 (iblk m c 1 t) (iblk m c 0 t) (iblk m c 2 t) (iblk m c 3 t) (iblk m c 4 t))
    (iota .tc S528x1 32 [0] iota_S528x1_d0_w32) (k0_pay4 (grid0.coords t))
    (Scalar.cmpi .slt (BitVec.ofNat 32 (grid0.coords t 1).val) 7#32) (Scalar.ofBits .f32 0x3F800000#32)

/-- The hidden units of a point's blocks. -/
def units (c : Dev nD) (t : Fin cfg0.N) (s : Fin 512) (j : Fin 2816) : EReal :=
  unitOf (k0_pay6 (F := Ideal) (k0_pay3 (iblk m c 1 t) (iblk m c 0 t) (iblk m c 2 t) (iblk m c 3 t) (iblk m c 4 t))
      (iota .tc S528x1 32 [0] iota_S528x1_d0_w32) (k0_pay4 (grid0.coords t))
      (Scalar.cmpi .slt (BitVec.ofNat 32 (grid0.coords t 1).val) 7#32) (Scalar.ofBits .f32 0x3F800000#32))
    (k0_pay7 (F := Ideal) (k0_pay3 (iblk m c 1 t) (iblk m c 0 t) (iblk m c 2 t) (iblk m c 3 t) (iblk m c 4 t))
      (iota .tc S528x1 32 [0] iota_S528x1_d0_w32) (k0_pay4 (grid0.coords t))
      (Scalar.cmpi .slt (BitVec.ofNat 32 (grid0.coords t 1).val) 7#32) (Scalar.ofBits .f32 0x3F800000#32))
    (iblk m c 6 t) (iblk m c 7 t) (iblk m c 5 t) s j

/-- The result's rows from the hidden units. -/
def rowsOut (D : FVec Ideal S2816x1024 .bf16) (mm : FVec Ideal S1x1x6144 .f32) (x : FVec Ideal S1x512x1024 .f32)
    (u : Fin 512 → Fin 2816 → EReal) (s : Fin 512) (n : Fin 1024) : EReal :=
  x (ix3 0 s n) + mm (ix3 0 0 ⟨5120 + n, by omega⟩) * ∑ j, u s j * D (ix2 j n)

/-- The output block at an index, from the hidden units in the scratch. -/
theorem out_of (A : FVec Ideal S512x2816 .bf16) (D : FVec Ideal S2816x1024 .bf16) (mm : FVec Ideal S1x1x6144 .f32)
    (x : FVec Ideal S1x512x1024 .f32) (u : Fin 512 → Fin 2816 → EReal)
    (hA : ∀ y : S512x2816.Idx, A y = u (y 0) (y 1)) (s : Fin 512) (n : Fin 1024) :
    k0_pay1 (F := Ideal) (k0_pay16 A D) (k0_pay17 (k0_pay2 mm)) x (ix3 0 s n) = rowsOut D mm x u s n := by
  rw [out_at]
  simp only [gate_at, down_at, hA]
  rfl

/-- Three stores side by side hold the hidden units. -/
theorem canon_three (G : Fin 512 → Fin 2816 → EReal) (A : FVec Ideal S512x768 .bf16) (B C : FVec Ideal S512x1024 .bf16) (i1) (i2) (i3)
    (hA : ∀ (s : Fin 512) (j : Fin 768), A (ix2 s j) = G s ⟨2048 + j, by omega⟩)
    (hB : ∀ (s : Fin 512) (j : Fin 1024), B (ix2 s j) = G s ⟨1024 + j, by omega⟩)
    (hC : ∀ (s : Fin 512) (j : Fin 1024), C (ix2 s j) = G s ⟨j, by omega⟩) (y : S512x2816.Idx) :
    View.canon (Val := Elt Ideal) (s := S512x2816) (e := .bf16) [⟨Rect.unit ![0, 2048] ![512, 768] i1, A⟩, ⟨Rect.unit ![0, 1024] ![512, 1024] i2, B⟩,
      ⟨Rect.unit ![0, 0] ![512, 1024] i3, C⟩] y = G (y 0) (y 1) := by
  refine View.canon_apply_of_pieces (Val := Elt Ideal) (S := S512x2816) (e := .bf16) (fun y => G (y 0) (y 1)) _ ?_ y ?_
  · intro p hp
    simp only [List.mem_cons, List.not_mem_nil, or_false] at hp
    rcases hp with rfl | rfl | rfl
    · intro x
      refine (congrArg A (eq_ix2 x)).trans ((hA _ _).trans (congrArg₂ G (Fin.ext ?_) (Fin.ext ?_)))
      · exact ((Nat.zero_add _).trans (Nat.one_mul (x 0).val)).symm
      · exact (congrArg (_ + ·) (Nat.one_mul (x 1).val)).symm
    · intro x
      refine (congrArg B (eq_ix2 x)).trans ((hB _ _).trans (congrArg₂ G (Fin.ext ?_) (Fin.ext ?_)))
      · exact ((Nat.zero_add _).trans (Nat.one_mul (x 0).val)).symm
      · exact (congrArg (_ + ·) (Nat.one_mul (x 1).val)).symm
    · intro x
      refine (congrArg C (eq_ix2 x)).trans ((hC _ _).trans (congrArg₂ G (Fin.ext ?_) (Fin.ext ?_)))
      · exact ((Nat.zero_add _).trans (Nat.one_mul (x 0).val)).symm
      · exact ((Nat.zero_add _).trans (Nat.one_mul (x 1).val)).symm
  · have h0 : (y 0 : ℕ) < 512 := (y 0).isLt
    have h1 : (y 1 : ℕ) < 2816 := (y 1).isLt
    rcases (by omega : (y 1 : ℕ) < 1024 ∨ (1024 ≤ (y 1 : ℕ) ∧ (y 1 : ℕ) < 2048) ∨ 2048 ≤ (y 1 : ℕ)) with h | h | h
    · refine ⟨⟨Rect.unit ![0, 0] ![512, 1024] i3, C⟩, List.mem_cons_of_mem _ (List.mem_cons_of_mem _ (List.mem_cons_self ..)), ?_⟩
      refine (Rect.mem_set_unit (inb := i3)).mpr (Fin.forall_fin_two.mpr ⟨⟨Nat.zero_le _, ?_⟩, ⟨Nat.zero_le _, ?_⟩⟩)
      · show (y 0 : ℕ) < 0 + 512; omega
      · show (y 1 : ℕ) < 0 + 1024; omega
    · refine ⟨⟨Rect.unit ![0, 1024] ![512, 1024] i2, B⟩, List.mem_cons_of_mem _ (List.mem_cons_self ..), ?_⟩
      refine (Rect.mem_set_unit (inb := i2)).mpr (Fin.forall_fin_two.mpr ⟨⟨Nat.zero_le _, ?_⟩, ⟨h.1, ?_⟩⟩)
      · show (y 0 : ℕ) < 0 + 512; omega
      · show (y 1 : ℕ) < 1024 + 1024; omega
    · refine ⟨⟨Rect.unit ![0, 2048] ![512, 768] i1, A⟩, List.mem_cons_self .., ?_⟩
      refine (Rect.mem_set_unit (inb := i1)).mpr (Fin.forall_fin_two.mpr ⟨⟨Nat.zero_le _, ?_⟩, ⟨h, ?_⟩⟩)
      · show (y 0 : ℕ) < 0 + 512; omega
      · show (y 1 : ℕ) < 2048 + 768; omega

/-- A load of some columns. -/
theorem load_cols {w : ℕ} (B : FVec Ideal S1024x5632 .bf16) (o : ℕ) (inb) (k : Fin 1024) (j : Fin w) (h : o + j < 5632) :
    (View.ld (Val := Elt Ideal) (e' := .bf16) B (Rect.unit ![0, o] ![1024, w] inb) : FVec Ideal ⟨2, ![1024, w]⟩ .bf16) (ix2 k j)
      = B (ix2 k ⟨o + j, h⟩) := by
  refine congrArg B (funext fun a => Fin.ext ?_)
  fin_cases a
  · exact (Nat.zero_add _).trans (Nat.one_mul k.val)
  · exact congrArg (o + ·) (Nat.one_mul j.val)

/-- A load of the first columns. -/
theorem load_first (B : FVec Ideal S1024x5632 .bf16) (inb) (k : Fin 1024) (j : Fin 1024) :
    (View.ld (Val := Elt Ideal) (e' := .bf16) B (Rect.unit ![0, 0] ![1024, 1024] inb) : FVec Ideal ⟨2, ![1024, 1024]⟩ .bf16) (ix2 k j)
      = B (ix2 k ⟨j, by omega⟩) :=
  (load_cols B 0 inb k j (by omega)).trans (congrArg (fun z => B (ix2 k z)) (Fin.ext (Nat.zero_add _)))

/-- What a point leaves. -/
theorem step_at (c : Dev nD) (t : Fin cfg0.N) (s : Fin 512) (n : Fin 1024) :
    (outsAt0 m c t : FVec Ideal S1x512x1024 .f32) (ix3 0 s n)
      = rowsOut (iblk m c 8 t) (iblk m c 3 t) (iblk m c 0 t) (units m c t) s n := by
  unfold outsAt0
  frame_out
  refine out_of _ _ _ _ (units m c t) ?_ s n
  intro y
  refine (congrFun (load_all _ _ _) y).trans ?_
  refine canon_three (units m c t) _ _ _ _ _ _ ?_ ?_ ?_ y
  · exact chunk2_at _ _ _ _ _ _ _ (fun k j => load_cols _ _ _ k j _) (fun k j => load_cols _ _ _ k j _)
  · exact chunk1_at _ _ _ _ _ _ _ (fun k j => load_cols _ _ _ k j _) (fun k j => load_cols _ _ _ k j _)
  · exact chunk0_at _ _ _ _ _ _ _ _ _ _ (fun k j => load_first _ _ k j)
      (fun k j => load_cols _ _ _ k j _)

end Cert.Kernel5Ideal.Feed

end
-- ==== Proof.FfnMidKernel.lean ====
/- The result of the feed-forward kernel without the final norm over the whole array. -/
module

public import proofs.«01_k».proof.Proof.FfnMidStep
public import Idealize.ShloMosaic.Lib.StableHlo.ReadAt
public import Idealize.ShloMosaic.Lib.Pipeline.Covers

@[expose] public section

set_option maxRecDepth 16384

noncomputable section

open Idealize.ShloMosaic Idealize.ShloMosaic.TcCoe Idealize.SL.Sem

namespace Cert.Kernel5Ideal.Feed

open Cert.Kernel5Ideal Cert.Kernel5Ideal.Gen Cert.FeedForward

variable (m : (ℓ : Loc nD τ sig) → Buf (Elt Ideal) ℓ)

/-- There are 64 grid points. -/
theorem point_lt (t : Fin cfg0.N) : t.val < 64 := t.isLt

/-- A point's batch and tile. -/
theorem coords_tile : ∀ t : Fin cfg0.N, (grid0.coords t 1).val = t.val % 8 :=
  (by decide +kernel : ∀ t : Fin grid0.N, _)

/-- Which block each window reads at a point. -/
theorem idx : ∀ t : Fin cfg0.N, win0_0.index t = ![t.val / 8, t.val % 8, 0] ∧ win0_1.index t = ![t.val / 8, t.val % 8 * 64 - 1, 0]
    ∧ win0_2.index t = ![t.val / 8, min (t.val % 8 * 64 + 64) 511, 0] ∧ win0_3.index t = ![t.val / 8, 0, 0] ∧ win0_4.index t = ![0, 0]
    ∧ win0_5.index t = ![0, 0] ∧ win0_6.index t = ![0, 0] ∧ win0_7.index t = ![0, 0] ∧ win0_8.index t = ![0, 0] ∧ win0_9.index t = ![0, 0]
    ∧ win0_10.index t = ![t.val / 8, t.val % 8, 0] :=
  (by decide +kernel : ∀ t : Fin grid0.N, _)

/-- The tokens. -/
abbrev argX (c : Dev nD) : FVec Ideal ⟨3, ![8, 4096, 1024]⟩ .f32 := m ((c : Thread nD τ).loc main_arg0)
/-- The modulation. -/
abbrev argM (c : Dev nD) : FVec Ideal ⟨2, ![8, 6144]⟩ .f32 := m ((c : Thread nD τ).loc main_arg1)
/-- The first norm's scale. -/
abbrev argG (c : Dev nD) : FVec Ideal ⟨1, ![1024]⟩ .f32 := m ((c : Thread nD τ).loc main_arg2)
/-- The up-projection. -/
abbrev argU (c : Dev nD) : FVec Ideal ⟨2, ![1024, 5632]⟩ .f32 := m ((c : Thread nD τ).loc main_arg3)
/-- The convolution's taps. -/
abbrev argW (c : Dev nD) : FVec Ideal ⟨2, ![3, 2816]⟩ .f32 := m ((c : Thread nD τ).loc main_arg4)
/-- The convolution's bias. -/
abbrev argC (c : Dev nD) : FVec Ideal ⟨1, ![2816]⟩ .f32 := m ((c : Thread nD τ).loc main_arg5)
/-- The down-projection. -/
abbrev argD (c : Dev nD) : FVec Ideal ⟨2, ![2816, 1024]⟩ .f32 := m ((c : Thread nD τ).loc main_arg6)

/-! ## The blocks -/

section
variable (c : Dev nD) (t : Fin cfg0.N)

/-- The tile's own tokens. -/
theorem blk0 (s : Fin 512) (k : Fin 1024) : (iblk m c 0 t : FVec Ideal S1x512x1024 .f32) (ix3 0 s k)
    = argX m c (ix3 ⟨t.val / 8, by have := point_lt t; omega⟩ ⟨t.val % 8 * 512 + s, by omega⟩ k) := by
  have e := (idx t).1
  unfold argX
  rw [← V_main_arg0 m c]
  blk_ext [iblk, e]

/-- The eight tokens before the tile. -/
theorem blk1 (h0 : 0 < t.val % 8) (r : Fin 8) (k : Fin 1024) : (iblk m c 1 t : FVec Ideal S1x8x1024 .f32) (ix3 0 r k)
    = argX m c (ix3 ⟨t.val / 8, by have := point_lt t; omega⟩ ⟨t.val % 8 * 512 + r - 8, by omega⟩ k) := by
  have e := (idx t).2.1
  unfold argX
  rw [← V_main_arg0 m c]
  blk_ext [iblk, e]

/-- The eight tokens after the tile. -/
theorem blk2 (h7 : t.val % 8 < 7) (r : Fin 8) (k : Fin 1024) : (iblk m c 2 t : FVec Ideal S1x8x1024 .f32) (ix3 0 r k)
    = argX m c (ix3 ⟨t.val / 8, by have := point_lt t; omega⟩ ⟨t.val % 8 * 512 + 512 + r, by omega⟩ k) := by
  have e := (idx t).2.2.1
  rw [show min (t.val % 8 * 64 + 64) 511 = t.val % 8 * 64 + 64 by omega] at e
  unfold argX
  rw [← V_main_arg0 m c]
  blk_ext [iblk, e]

/-- The batch's modulation. -/
theorem blk3 (l : Fin 6144) : (iblk m c 3 t : FVec Ideal S1x1x6144 .f32) (ix3 0 0 l)
    = argM m c (ix2 ⟨t.val / 8, by have := point_lt t; omega⟩ l) := by
  have e := (idx t).2.2.2.1
  have h : (iblk m c 3 t : FVec Ideal S1x1x6144 .f32) (ix3 0 0 l)
      = (V m c main_v4 : FVec Ideal ⟨3, ![8, 1, 6144]⟩ .f32) (ix3 ⟨t.val / 8, by have := point_lt t; omega⟩ 0 l) := by
    blk_ext [iblk, e]
  rw [h]
  unfold V
  after_reads_at

/-- The first norm's scale, as a row. -/
theorem blk4 (k : Fin 1024) : (iblk m c 4 t : FVec Ideal S1x1024 .f32) (ix2 0 k) = argG m c (ix1 k) := by
  have e := (idx t).2.2.2.2.1
  have h : (iblk m c 4 t : FVec Ideal S1x1024 .f32) (ix2 0 k) = (V m c main_v0 : FVec Ideal ⟨2, ![1, 1024]⟩ .f32) (ix2 0 k) := by
    blk_ext [iblk, e]
  rw [h]
  unfold V
  after_reads_at

/-- The up-projection, whole. -/
theorem blk5 (k : Fin 1024) (j : Fin 5632) : (iblk m c 5 t : FVec Ideal S1024x5632 .bf16) (ix2 k j) = argU m c (ix2 k j) := by
  have e := (idx t).2.2.2.2.2.1
  have h : (iblk m c 5 t : FVec Ideal S1024x5632 .bf16) (ix2 k j) = (V m c main_v1 : FVec Ideal ⟨2, ![1024, 5632]⟩ .bf16) (ix2 k j) := by
    blk_ext [iblk, e]
  rw [h]
  unfold V
  after_reads_at

/-- The convolution's taps, whole. -/
theorem blk6 (r : Fin 3) (j : Fin 2816) : (iblk m c 6 t : FVec Ideal S3x2816 .f32) (ix2 r j) = argW m c (ix2 r j) := by
  have e := (idx t).2.2.2.2.2.2.1
  unfold argW
  rw [← V_main_arg4 m c]
  blk_ext [iblk, e]

/-- The convolution's bias, as a row. -/
theorem blk7 (j : Fin 2816) : (iblk m c 7 t : FVec Ideal S1x2816 .f32) (ix2 0 j) = argC m c (ix1 j) := by
  have e := (idx t).2.2.2.2.2.2.2.1
  have h : (iblk m c 7 t : FVec Ideal S1x2816 .f32) (ix2 0 j) = (V m c main_v2 : FVec Ideal ⟨2, ![1, 2816]⟩ .f32) (ix2 0 j) := by
    blk_ext [iblk, e]
  rw [h]
  unfold V
  after_reads_at

/-- The down-projection, whole. -/
theorem blk8 (j : Fin 2816) (n : Fin 1024) : (iblk m c 8 t : FVec Ideal S2816x1024 .bf16) (ix2 j n) = argD m c (ix2 j n) := by
  have e := (idx t).2.2.2.2.2.2.2.2.1
  have h : (iblk m c 8 t : FVec Ideal S2816x1024 .bf16) (ix2 j n) = (V m c main_v3 : FVec Ideal ⟨2, ![2816, 1024]⟩ .bf16) (ix2 j n) := by
    blk_ext [iblk, e]
  rw [h]
  unfold V
  after_reads_at

/-- A point's hidden units are the sequence's. -/
theorem units_eq (s : Fin 512) (j : Fin 2816) : units m c t s j
    = unit (argX m c) (argM m c) (argG m c) (argU m c) (argW m c) (argC m c) ⟨t.val / 8, by have := point_lt t; omega⟩
      ⟨t.val % 8 * 512 + s, by omega⟩ j := by
  unfold units
  exact unitOf_eq (argX m c) (argM m c) (argG m c) (argU m c) (argW m c) (argC m c) _ _ _ _ _ _ _ _
    ⟨t.val / 8, by have := point_lt t; omega⟩ ⟨t.val % 8, Nat.mod_lt _ (by decide)⟩
    (kept_padded (argX m c) (argM m c) (argG m c) _ _ _ _ _ _ _ _ (coords_tile t) (fun h => blk1 m c t h) (blk0 m c t)
      (fun h => blk2 m c t h) (blk3 m c t) (blk4 m c t))
    (blk6 m c t) (blk7 m c t) (blk5 m c t) s j

/-- A point's output block is the result's. -/
theorem point_at (a : Fin 1) (s : Fin 512) (n : Fin 1024) : (outsAt0 m c t : FVec Ideal S1x512x1024 .f32) (ix3 a s n)
    = residuals (argX m c) (argM m c) (argG m c) (argU m c) (argW m c) (argC m c) (argD m c)
      (ix3 ⟨t.val / 8, by have := point_lt t; omega⟩ ⟨t.val % 8 * 512 + s, by omega⟩ n) := by
  rw [Subsingleton.elim a 0, step_at]
  unfold rowsOut
  simp only [blk0, blk3, blk8, units_eq]
  rfl

end

/-- The result after the run. -/
theorem array10 (c : Dev nD) : (dats m 0 c).arrAt 10 cfg0.N
    = residuals (argX m c) (argM m c) (argG m c) (argU m c) (argW m c) (argC m c) (argD m c) := by
  refine (dats m 0 c).arrAt_eq_of_covers 10 _ (by decide +kernel) fun t _ y => ?_
  have e := (idx t).2.2.2.2.2.2.2.2.2.2
  blk_simp
  rw [after0_10, eq_ix3 y]
  refine (point_at m c t _ _ _).trans (congrArg (residuals (argX m c) (argM m c) (argG m c) (argU m c) (argW m c) (argC m c) (argD m c)) ?_)
  blk_ext [e]

end Cert.Kernel5Ideal.Feed

end
-- ==== Proof.FfnMidRef.lean ====
/- The reference's feed-forward part without the final norm is the formula. -/
module

public import proofs.«01_k».proof.Proof.FfnSpec
public import proofs.«01_k».proof.Proof.Gen.Reference5Ideal.Read
public import Idealize.ShloMosaic.Lib.KernelVsHost

@[expose] public section

set_option maxRecDepth 16384

noncomputable section

open Idealize.ShloMosaic Idealize.ShloMosaic.TcCoe Idealize.SL.Sem

namespace Cert.Reference5Ideal.Feed

open Cert.Reference5Ideal Cert.Reference5Ideal.Read Cert.FeedForward

variable (x0 : FVec Ideal S8x4096x1024 .f32) (x1 : FVec Ideal S8x6144 .f32) (x2 : FVec Ideal S1024 .f32) (x3 : FVec Ideal S1024x5632 .f32)
  (x4 : FVec Ideal S3x2816 .f32) (x5 : FVec Ideal S2816 .f32) (x6 : FVec Ideal S2816x1024 .f32) (x7 : FVec Ideal S1024 .f32)

/-- The reference's normalised and modulated row. -/
theorem hidden_at (b : Fin 8) (t : Fin 4096) (k : Fin 1024) :
    val_main_v30 (F := Ideal) x0 x1 x2 (ix3 b t k) = hidden x0 x1 x2 b t k := by
  pointwise [val_main_v30, val_main_v29, val_main_v28, val_main_v27, val_main_v26, val_main_v25, val_main_v24, val_main_v23, val_main_v22,
    val_main_v21, val_main_v20, val_main_v19, val_main_v18, val_main_v17, val_main_v16, val_main_v15, val_main_v14, val_main_v13,
    val_main_v12, val_main_v11, val_main_v10, val_main_v9, val_main_v8, val_main_v7, val_main_v6, val_main_v5, val_main_v4, val_main_v3,
    val_main_cst, val_main_cst_0, val_main_cst_1, val_main_cst_2]
  rfl

/-- The gate half of its up-projection. -/
theorem gate_at (b : Fin 8) (t : Fin 4096) (j : Fin 2816) :
    val_main_v32 (F := Ideal) x0 x1 x2 x3 (ix3 b t j) = ∑ k, hidden x0 x1 x2 b t k * x3 (ix2 k ⟨j, by omega⟩) := by
  pointwise [val_main_v32, val_main_v31]
  simp only [hidden_at]

/-- The value half of its up-projection. -/
theorem value_at (b : Fin 8) (t : Fin 4096) (j : Fin 2816) :
    val_main_v33 (F := Ideal) x0 x1 x2 x3 (ix3 b t j) = valueIn x0 x1 x2 x3 b t j := by
  pointwise [val_main_v33, val_main_v31]
  simp only [hidden_at]
  rfl

/-- The zero before and after the sequence. -/
theorem pad_at (b : Fin 8) (p : Fin 4098) (j : Fin 2816) :
    val_main_v34 (F := Ideal) x0 x1 x2 x3 (ix3 b p j) = gateIn x0 x1 x2 x3 b p j := by
  unfold gateIn padded
  by_cases h : 1 ≤ (p : ℕ) ∧ (p : ℕ) < 4097
  · simp only [dif_pos h]
    rw [← gate_at]
    unfold val_main_v34
    refine pad_apply_of_inside _ _ _ _ _ _ _ _ _ fun a => ?_
    fin_cases a
    · show (b : ℕ) = 0 + (b : ℕ) * 1; omega
    · show (p : ℕ) = 1 + ((p : ℕ) - 1) * 1; omega
    · show (j : ℕ) = 0 + (j : ℕ) * 1; omega
  · simp only [dif_neg h, zero_mul, Finset.sum_const_zero]
    unfold val_main_v34
    refine (pad_apply_of_not_inside _ _ _ _ _ _ _ _ (1 : Fin 3) fun hh => h ?_).trans ?_
    · have h1 : 1 ≤ (p : ℕ) := hh.1
      have h2 : ((p : ℕ) - 1) / 1 < 4096 := hh.2.2
      omega
    · pointwise [val_main_call0_v0, val_main_c]
      show (((0#32 : BitVec 32).toInt : ℝ) : EReal) = 0
      rw [BitVec.toInt_zero, Int.cast_zero, EReal.coe_zero]

/-- Its convolution along the sequence, with the gate's bias. -/
theorem conv_at (b : Fin 8) (t : Fin 4096) (j : Fin 2816) :
    val_main_v56 (F := Ideal) x0 x1 x2 x3 x4 x5 (ix3 b t j) = conv x0 x1 x2 x3 x4 x5 b t j := by
  pointwise [val_main_v56, val_main_v55, val_main_v54, val_main_v53, val_main_v52, val_main_v51, val_main_v50, val_main_v49, val_main_v48,
    val_main_v47, val_main_v46, val_main_v45, val_main_v44, val_main_v43, val_main_v42, val_main_v41, val_main_v40, val_main_v39,
    val_main_v38, val_main_v37, val_main_v36, val_main_v35]
  have e1 : val_main_v34 (F := Ideal) x0 x1 x2 x3 (ix3 b ⟨t, by omega⟩ j) = gateIn x0 x1 x2 x3 b t j := pad_at x0 x1 x2 x3 b _ j
  have e2 : val_main_v34 (F := Ideal) x0 x1 x2 x3 (ix3 b ⟨2 + t, by omega⟩ j) = gateIn x0 x1 x2 x3 b (t + 2) j :=
    (pad_at x0 x1 x2 x3 b _ j).trans (congrArg (fun p => gateIn x0 x1 x2 x3 b p j) (Nat.add_comm 2 (t : ℕ)))
  have e3 : val_main_v32 (F := Ideal) x0 x1 x2 x3 (ix3 b t j) = gateIn x0 x1 x2 x3 b (t + 1) j := by
    rw [gate_at]
    unfold gateIn padded
    simp only [dif_pos (show 1 ≤ (t : ℕ) + 1 ∧ (t : ℕ) + 1 < 4097 by omega)]
    rfl
  rw [e1, e2, e3]
  rfl

/-- Its hidden unit: the gated value. -/
theorem unit_at (b : Fin 8) (t : Fin 4096) (j : Fin 2816) :
    val_main_v58 (F := Ideal) x0 x1 x2 x3 x4 x5 (ix3 b t j) = unit x0 x1 x2 x3 x4 x5 b t j := by
  pointwise [val_main_v58, val_main_v57, val_main_call1_v5, val_main_call1_v4, val_main_call1_v3, val_main_call1_v2, val_main_call1_v1,
    val_main_call1_v0, val_main_call1_cst, val_main_call1_cst_0]
  simp only [conv_at, value_at]
  rfl

/-- Its down-projection added to the token. -/
theorem residual_at (b : Fin 8) (t : Fin 4096) (n : Fin 1024) :
    val_main_v62 (F := Ideal) x0 x1 x2 x3 x4 x5 x6 (ix3 b t n) = residual x0 x1 x2 x3 x4 x5 x6 b t n := by
  pointwise [val_main_v62, val_main_v61, val_main_v60, val_main_v59, val_main_v11, val_main_v5]
  simp only [unit_at]
  rfl

/-- The reference's result. -/
theorem result_eq : val_main_v62 (F := Ideal) x0 x1 x2 x3 x4 x5 x6 = residuals x0 x1 x2 x3 x4 x5 x6 := by
  funext y
  rw [eq_ix3 y]
  exact residual_at x0 x1 x2 x3 x4 x5 x6 (y 0) (y 1) (y 2)

end Cert.Reference5Ideal.Feed

end
-- ==== Proof.PreSpec.lean ====
/- The input projections with their rotary and convolution steps as one formula at each token and lane. -/
module

public import proofs.«01_k».proof.Proof.FfnSpec
public import proofs.«01_k».proof.Proof.MergeSpec

@[expose] public section

noncomputable section

open Idealize.ShloMosaic

namespace Cert.Projections

open Cert.FeedForward Cert.Merge

/-! ## Rotation -/

/-- The frequency of one of sixteen lanes. -/
def freq (f : ℕ) : EReal :=
  Ideal.pow (Ideal.ofBits .f32 0x461C4000#32) (Ideal.div (-(FloatOps.sitofp (F := Ideal) .f32 (BitVec.ofNat 32 f))) (Ideal.ofBits .f32 0x41800000#32))

/-- The angle of a token at one of thirty-two lanes: the row's angle, then the column's. -/
def angle (t f : ℕ) : EReal :=
  if f < 16 then FloatOps.sitofp (F := Ideal) .f32 (BitVec.ofNat 32 (t / 64)) * freq f
  else FloatOps.sitofp (F := Ideal) .f32 (BitVec.ofNat 32 (t % 64)) * freq (f - 16)

/-- A row rotated, head by head: the two halves of a head are the two coordinates. -/
def rotated (f : Fin 256 → EReal) (t : ℕ) (j : Fin 256) : EReal :=
  if h : (j : ℕ) % 64 < 32 then
    f j * Ideal.cos (angle t (j % 64)) - f ⟨j + 32, by omega⟩ * Ideal.sin (angle t (j % 64))
  else f ⟨j - 32, by omega⟩ * Ideal.sin (angle t (j % 64 - 32)) + f j * Ideal.cos (angle t (j % 64 - 32))

/-- A row divided, head by head, by the root of its sum of squares. -/
def unitised (f : Fin 256 → EReal) (j : Fin 256) : EReal :=
  f j * Ideal.rsqrt ((∑ d, f (mate j d) * f (mate j d)) + Ideal.ofBits .f32 0x358637BD#32)

section
variable (X : FVec Ideal ⟨3, ![8, 4096, 1024]⟩ .f32) (M : FVec Ideal ⟨2, ![8, 6144]⟩ .f32) (G : FVec Ideal ⟨1, ![1024]⟩ .f32)
  (U : FVec Ideal ⟨2, ![1024, 3072]⟩ .f32) (W : FVec Ideal ⟨2, ![3, 768]⟩ .f32) (K : FVec Ideal ⟨1, ![256]⟩ .f32)

/-- The normalised and modulated token. -/
def token (b : Fin 8) (t : Fin 4096) (k : Fin 1024) : EReal :=
  normed (fun d => X (ix3 b t d)) k * G (ix1 k) * (1 + M (ix2 b ⟨1024 + k, by omega⟩)) + M (ix2 b ⟨k, by omega⟩)

/-- The tokens with one zero token before and one after: position `p` is token `p - 1`. -/
def framed (b : Fin 8) (p : ℕ) (k : Fin 1024) : EReal :=
  if h : 1 ≤ p ∧ p < 4097 then token X M G b ⟨p - 1, by omega⟩ k else 0

/-- The projection of a token. -/
def proj (b : Fin 8) (t : Fin 4096) (n : Fin 3072) : EReal := ∑ k, token X M G b t k * U (ix2 k n)

/-- The convolved columns of the projection at a padded position. -/
def wide (b : Fin 8) (p : ℕ) (j : Fin 768) : EReal := ∑ k, framed X M G b p k * U (ix2 k ⟨2048 + j, by omega⟩)

/-- The convolution over three neighbouring tokens. -/
def mixed (b : Fin 8) (t : Fin 4096) (j : Fin 768) : EReal :=
  wide X M G U b t j * W (ix2 0 j) + wide X M G U b (t + 1) j * W (ix2 1 j) + wide X M G U b (t + 2) j * W (ix2 2 j)

/-- One of the four projections of the first branch, or the gates and values of the second. -/
def plain (o : ℕ) (ho : o + 256 ≤ 3072) (b : Fin 8) (t : Fin 4096) (j : Fin 256) : EReal := proj X M G U b t ⟨o + j, by omega⟩

/-- The lanes of the features, 256 at a time. -/
def lane (w : Fin 11) (b : Fin 8) (t : Fin 4096) (j : Fin 256) : EReal :=
  match w with
  | 0 => plain X M G U 0 (by decide) b t j * Ideal.ofBits .f32 0x3E000000#32
  | 1 => plain X M G U 256 (by decide) b t j
  | 2 => plain X M G U 512 (by decide) b t j
  | 3 => plain X M G U 768 (by decide) b t j
  | 4 => rotated (plain X M G U 1024 (by decide) b t) t j
  | 5 => rotated (fun j => plain X M G U 1280 (by decide) b t j * Ideal.ofBits .f32 0x3E000000#32) t j
  | 6 => plain X M G U 1536 (by decide) b t j
  | 7 => plain X M G U 1792 (by decide) b t j
  | 8 => mixed X M G U W b t ⟨j, by omega⟩
  | 9 => mixed X M G U W b t ⟨512 + j, by omega⟩
  | 10 => unitised (fun j => mixed X M G U W b t ⟨256 + j, by omega⟩ * K (ix1 j)) j

/-- The features. -/
def features : FVec Ideal ⟨3, ![8, 4096, 2816]⟩ .f32 := fun y =>
  have h : (y 2 : ℕ) < 2816 := (y 2).isLt
  lane X M G U W K ⟨y 2 / 256, by omega⟩ (y 0) (y 1) ⟨y 2 % 256, by omega⟩

/-- The hidden tokens. -/
def tokens : FVec Ideal ⟨3, ![8, 4096, 1024]⟩ .bf16 := fun y => token X M G (y 0) (y 1) (y 2)

/-- The features at a lane of a part. -/
theorem features_at (b : Fin 8) (t : Fin 4096) (w : Fin 11) (j : Fin 256) :
    features X M G U W K (ix3 b t ⟨w * 256 + j, by omega⟩) = lane X M G U W K w b t j := by
  have e1 : (⟨(w * 256 + j : ℕ) / 256, by omega⟩ : Fin 11) = w := Fin.ext (by simp only; omega)
  have e2 : (⟨(w * 256 + j : ℕ) % 256, by omega⟩ : Fin 256) = j := Fin.ext (by simp only; omega)
  show lane X M G U W K ⟨(w * 256 + j : ℕ) / 256, _⟩ b t ⟨(w * 256 + j : ℕ) % 256, _⟩ = _
  rw [e1, e2]

end

end Cert.Projections

end
-- ==== Proof.PreBlock.lean ====
/- What one grid point of the projections' kernel computes, read at an index. -/
module

public import proofs.«01_k».proof.Proof.PreSpec
public import proofs.«01_k».proof.Proof.Gen.Kernel6Ideal.Skeleton
public import Idealize.ShloMosaic.Lib.WordCmp

@[expose] public section

set_option maxRecDepth 16384

noncomputable section

open Idealize.ShloMosaic Idealize.ShloMosaic.TcCoe Idealize.SL.Sem

namespace Cert.Kernel6Ideal.Pre

open Cert.Kernel6Ideal Cert.Kernel6Ideal.Gen Cert.FeedForward Cert.Merge Cert.Projections

/-- A row of a block with its neighbours. -/
def near (p : FVec Ideal S1x8x1024 .f32) (x : FVec Ideal S1x512x1024 .f32) (q : FVec Ideal S1x8x1024 .f32) (r : Fin 528) (k : Fin 1024) : EReal :=
  if h : (r : ℕ) < 8 then p (ix3 0 ⟨r, by omega⟩ k)
  else if h : (r : ℕ) - 8 < 512 then x (ix3 0 ⟨r - 8, by omega⟩ k) else q (ix3 0 ⟨r - 8 - 512, by omega⟩ k)

/-- The modulated rows of a block with its neighbours. -/
theorem rows_at (p : FVec Ideal S1x8x1024 .f32) (x : FVec Ideal S1x512x1024 .f32) (q : FVec Ideal S1x8x1024 .f32)
    (m : FVec Ideal S1x1x6144 .f32) (g : FVec Ideal S1x1024 .f32) (r : Fin 528) (k : Fin 1024) :
    k0_pay2 (F := Ideal) p x q m g (ix2 r k) = normed (near p x q r) k * g (ix2 0 k) * (1 + m (ix3 0 0 ⟨1024 + k, by omega⟩))
      + m (ix3 0 0 ⟨k, by omega⟩) := by
  pointwise [k0_pay2]
  rfl

/-- A choice by a tested condition. -/
theorem select_bool (P : Prop) [Decidable P] (a b : EReal) :
    Scalar.select (BitVec.ofBool (decide P)) a b = if P then a else b := by
  by_cases h : P
  · rw [if_pos h, decide_eq_true h]; rfl
  · rw [if_neg h, decide_eq_false h]; rfl

/-- The kernel's hidden rows with the rows outside the sequence set to zero. -/
theorem kept_at (Y : FVec Ideal S528x1024 .f32) (i : grid0.Coords) (r : Fin 528) (k : Fin 1024) :
    k0_pay4 (F := Ideal) Y (iota .tc S528x1 32 [0] iota_S528x1_d0_w32) (k0_pay3 i)
      (Scalar.cmpi .slt (BitVec.ofNat 32 (i 1).val) 7#32) (Scalar.ofBits .f32 0x3F800000#32) (ix2 r k)
      = Y (ix2 r k) * (if (r : ℕ) < 8 then (if 0 < (i 1).val then 1 else 0)
        else if 520 ≤ (r : ℕ) then (if (i 1).val < 7 then 1 else 0) else 1) := by
  have hi : (i 1).val < 8 := (i 1).isLt
  pointwise [k0_pay4, k0_pay3]
  congr 1
  have e1 := WordCmp.cmpi_slt_ofNat (w := 32) (a := (r : ℕ)) (b := 8) (by omega) (by omega)
  have e2 := WordCmp.cmpi_sgt_ofNat (w := 32) (a := (i 1).val) (b := 0) (by omega) (by omega)
  have e3 := WordCmp.cmpi_sge_ofNat (w := 32) (a := (r : ℕ)) (b := 520) (by omega) (by omega)
  have e4 := WordCmp.cmpi_slt_ofNat (w := 32) (a := (i 1).val) (b := 7) (by omega) (by omega)
  show Scalar.select (IntOp.cmpi .slt (BitVec.ofNat 32 ↑r) (BitVec.ofNat 32 8))
      (Scalar.select (IntOp.cmpi .sgt (BitVec.ofNat 32 ↑(i 1)) (BitVec.ofNat 32 0)) (1 : EReal) 0)
      (Scalar.select (IntOp.cmpi .sge (BitVec.ofNat 32 ↑r) (BitVec.ofNat 32 520))
        (Scalar.select (IntOp.cmpi .slt (BitVec.ofNat 32 ↑(i 1)) (BitVec.ofNat 32 7)) 1 0) 1) = _
  rw [e1, e2, e3, e4, select_bool, select_bool, select_bool, select_bool]

section
variable (X : FVec Ideal ⟨3, ![8, 4096, 1024]⟩ .f32) (M : FVec Ideal ⟨2, ![8, 6144]⟩ .f32) (G : FVec Ideal ⟨1, ![1024]⟩ .f32)

/-- The kept rows of a block are the padded sequence's positions. -/
theorem kept_framed (p : FVec Ideal S1x8x1024 .f32) (x : FVec Ideal S1x512x1024 .f32) (q : FVec Ideal S1x8x1024 .f32)
    (m : FVec Ideal S1x1x6144 .f32) (g : FVec Ideal S1x1024 .f32) (i : grid0.Coords) (b : Fin 8) (n : Fin 8) (hn : (i 1).val = n)
    (hp : 0 < (n : ℕ) → ∀ (r : Fin 8) (k : Fin 1024), p (ix3 0 r k) = X (ix3 b ⟨(n * 512 + r - 8 : ℕ), by omega⟩ k))
    (hx : ∀ (s : Fin 512) (k : Fin 1024), x (ix3 0 s k) = X (ix3 b ⟨n * 512 + s, by omega⟩ k))
    (hq : ∀ h : (n : ℕ) < 7, ∀ (r : Fin 8) (k : Fin 1024), q (ix3 0 r k) = X (ix3 b ⟨n * 512 + 512 + r, by omega⟩ k))
    (hm : ∀ l : Fin 6144, m (ix3 0 0 l) = M (ix2 b l)) (hg : ∀ k : Fin 1024, g (ix2 0 k) = G (ix1 k))
    (r : Fin 528) (h7 : 7 ≤ (r : ℕ)) (h520 : (r : ℕ) ≤ 520) (k : Fin 1024) :
    k0_pay4 (F := Ideal) (k0_pay2 p x q m g) (iota .tc S528x1 32 [0] iota_S528x1_d0_w32) (k0_pay3 i)
      (Scalar.cmpi .slt (BitVec.ofNat 32 (i 1).val) 7#32) (Scalar.ofBits .f32 0x3F800000#32) (ix2 r k)
      = framed X M G b (n * 512 + r - 7) k := by
  rw [kept_at, rows_at, hn, hg, hm, hm]
  unfold framed
  by_cases hin : 1 ≤ (n : ℕ) * 512 + r - 7 ∧ (n : ℕ) * 512 + r - 7 < 4097
  · rw [dif_pos hin]
    have ek : (if (r : ℕ) < 8 then (if 0 < (n : ℕ) then 1 else 0)
        else if 520 ≤ (r : ℕ) then (if (n : ℕ) < 7 then 1 else 0) else 1 : EReal) = 1 := by
      split_ifs <;> first | rfl | (exfalso; omega)
    have en : near p x q r = fun d => X (ix3 b ⟨(n * 512 + r - 7 : ℕ) - 1, by omega⟩ d) := by
      funext d
      unfold near
      split_ifs with h1 h2
      · rw [hp (by omega)]
        exact congrArg (fun z => X (ix3 b z d)) (Fin.ext (by simp only; omega))
      · rw [hx]
        exact congrArg (fun z => X (ix3 b z d)) (Fin.ext (by simp only; omega))
      · rw [hq (by omega)]
        exact congrArg (fun z => X (ix3 b z d)) (Fin.ext (by simp only; omega))
    rw [ek, en, mul_one]
    rfl
  · rw [dif_neg hin]
    have ek : (if (r : ℕ) < 8 then (if 0 < (n : ℕ) then 1 else 0)
        else if 520 ≤ (r : ℕ) then (if (n : ℕ) < 7 then 1 else 0) else 1 : EReal) = 0 := by
      split_ifs <;> first | rfl | (exfalso; omega)
    rw [ek, mul_zero]

end

/-! ## The projections of a block -/

section
variable (B : FVec Ideal S512x1024 .bf16) (P : FVec Ideal S1024x1024 .bf16) (s : Fin 512) (j : Fin 256)

/-- One column of a block's projection. -/
def col (n : Fin 1024) : EReal := ∑ k, B (ix2 s k) * P (ix2 k n)

theorem pay39_at (n : Fin 1024) : k0_pay39 (F := Ideal) B P (ix2 s n) = col B P s n := by
  pointwise [k0_pay39]
  rfl

theorem pay25_at : k0_pay25 (F := Ideal) B P (ix3 0 s j) = col B P s ⟨j, by omega⟩ * Ideal.ofBits .f32 0x3E000000#32 := by
  pointwise [k0_pay25, k0_pay24]
  rfl

theorem pay26_at : k0_pay26 (F := Ideal) B P (ix3 0 s j) = col B P s ⟨256 + j, by omega⟩ := by
  pointwise [k0_pay26, k0_pay24]
  rfl

theorem pay27_at : k0_pay27 (F := Ideal) B P (ix3 0 s j) = col B P s ⟨512 + j, by omega⟩ := by
  pointwise [k0_pay27, k0_pay24]
  rfl

theorem pay28_at : k0_pay28 (F := Ideal) B P (ix3 0 s j) = col B P s ⟨768 + j, by omega⟩ := by
  pointwise [k0_pay28, k0_pay24]
  rfl

theorem pay77_at : k0_pay77 (F := Ideal) (k0_pay39 B P) (ix3 0 s j) = col B P s ⟨512 + j, by omega⟩ := by
  rw [← pay39_at]
  generalize k0_pay39 (F := Ideal) B P = R
  pointwise [k0_pay77]

theorem pay78_at : k0_pay78 (F := Ideal) (k0_pay39 B P) (ix3 0 s j) = col B P s ⟨768 + j, by omega⟩ := by
  rw [← pay39_at]
  generalize k0_pay39 (F := Ideal) B P = R
  pointwise [k0_pay78]

end

/-! ## The convolution -/

section
variable (V : FVec Ideal S3x768 .f32) (a b c : FVec Ideal S512x256 .f32) (s : Fin 512) (j : Fin 256)

theorem pay50_at : k0_pay50 (F := Ideal) (k0_pay40 V a b c) (ix3 0 s j) = a (ix2 s j) * V (ix2 0 ⟨j, by omega⟩)
    + b (ix2 s j) * V (ix2 1 ⟨j, by omega⟩) + c (ix2 s j) * V (ix2 2 ⟨j, by omega⟩) := by
  pointwise [k0_pay50, k0_pay40]

theorem pay41_at : k0_pay41 (F := Ideal) V a b c (ix2 s j) = a (ix2 s j) * V (ix2 0 ⟨256 + j, by omega⟩)
    + b (ix2 s j) * V (ix2 1 ⟨256 + j, by omega⟩) + c (ix2 s j) * V (ix2 2 ⟨256 + j, by omega⟩) := by
  pointwise [k0_pay41]

theorem pay51_at : k0_pay51 (F := Ideal) (k0_pay45 (k0_pay42 V) (k0_pay43 V a) b (k0_pay44 V) c) (ix3 0 s j)
    = a (ix2 s j) * V (ix2 0 ⟨512 + j, by omega⟩)
      + b (ix2 s j) * V (ix2 1 ⟨512 + j, by omega⟩) + c (ix2 s j) * V (ix2 2 ⟨512 + j, by omega⟩) := by
  pointwise [k0_pay51, k0_pay45, k0_pay44, k0_pay43, k0_pay42]

end

/-- The kernel's quotient of a lane by 64. -/
theorem lane_quotient (n : Fin 256) :
    Scalar.select
      (IntOp.andi
        (IntOp.cmpi CmpIPredicate.ne
          (IntOp.subi (BitVec.setWidth 32 (IntOp.cmpi CmpIPredicate.sgt (BitVec.ofNat 32 n) 0#32))
            (BitVec.setWidth 32 (IntOp.cmpi CmpIPredicate.slt (BitVec.ofNat 32 n) 0#32)))
          (Scalar.subi (Scalar.extui (Scalar.cmpi CmpIPredicate.sgt 64#32 0#32))
            (Scalar.extui (Scalar.cmpi CmpIPredicate.slt 64#32 0#32))))
        (IntOp.cmpi CmpIPredicate.ne (IntOp.remsi ArithUnit.vector (BitVec.ofNat 32 n) 64#32) 0#32))
      (IntOp.subi (IntOp.divsi ArithUnit.vector (BitVec.ofNat 32 n) 64#32) 1#32)
      (IntOp.divsi ArithUnit.vector (BitVec.ofNat 32 n) 64#32) = BitVec.ofNat 32 (n / 64) := by
  revert n
  decide +kernel

/-- A choice by equality of two small numbers. -/
theorem select_same (a b : ℕ) (ha : a < 4) (hb : b < 4) (x y : EReal) :
    Scalar.select (IntOp.cmpi .eq (BitVec.ofNat 32 a) (BitVec.ofNat 32 b)) x y = if a = b then x else y := by
  rw [WordCmp.cmpi_eq_ofNat (w := 32) (by omega) (by omega)]
  by_cases h : a = b
  · rw [if_pos h, decide_eq_true h]; rfl
  · rw [if_neg h, decide_eq_false h]; rfl

/-- The matrix is one where two lanes share a head, and zero elsewhere. -/
theorem heads_at (r j : Fin 256) :
    k0_pay49 (F := Ideal) k0_pay46 (iota .tc S256x256 32 [1] iota_S256x256_d1_w32) 64#32 k0_pay47 k0_pay48
      (Scalar.extui (Scalar.cmpi .sgt 64#32 0#32)) (Scalar.extui (Scalar.cmpi .slt 64#32 0#32)) (ix2 r j)
    = if (r : ℕ) / 64 = j / 64 then 1 else 0 := by
  pointwise [k0_pay49, k0_pay46, k0_pay47, k0_pay48]
  rw [lane_quotient, lane_quotient, select_same _ _ (by omega) (by omega)]

/-- The keys, scaled and divided head by head. -/
theorem pay52_at (v : FVec Ideal S16x256 .f32) (R : FVec Ideal S512x256 .f32) (s : Fin 512) (j : Fin 256) :
    k0_pay52 (F := Ideal) (k0_pay17 (k0_pay10 v)) R k0_pay46 (iota .tc S256x256 32 [1] iota_S256x256_d1_w32) 64#32 k0_pay47 k0_pay48
      (Scalar.extui (Scalar.cmpi .sgt 64#32 0#32)) (Scalar.extui (Scalar.cmpi .slt 64#32 0#32)) (ix3 0 s j)
    = unitised (fun j => R (ix2 s j) * v (ix2 6 j)) j := by
  have h := fun r j => heads_at r j
  generalize hJ : k0_pay49 (F := Ideal) k0_pay46 (iota .tc S256x256 32 [1] iota_S256x256_d1_w32) 64#32 k0_pay47 k0_pay48
      (Scalar.extui (Scalar.cmpi .sgt 64#32 0#32)) (Scalar.extui (Scalar.cmpi .slt 64#32 0#32)) = J at h
  unfold k0_pay52
  rw [hJ]
  pointwise [k0_pay17, k0_pay10]
  unfold unitised
  simp only [h]
  rw [sum_head (fun k => R (ix2 s k) * v (ix2 6 k) * (R (ix2 s k) * v (ix2 6 k)))]

/-! ## The rotation -/

/-- The kernel's test of a lane's place in its head. -/
theorem lane_low (j : Fin 256) :
      (IntOp.cmpi CmpIPredicate.slt
        (Scalar.select
          (IntOp.andi
            (IntOp.xori
              (IntOp.cmpi CmpIPredicate.slt
                (IntOp.remsi ArithUnit.vector (BitVec.ofNat 32 j)
                  (Scalar.select (Scalar.cmpi CmpIPredicate.eq 64#32 0#32) 1#32 64#32))
                0#32)
              (Scalar.cmpi CmpIPredicate.slt (Scalar.select (Scalar.cmpi CmpIPredicate.eq 64#32 0#32) 1#32 64#32) 0#32))
            (IntOp.cmpi CmpIPredicate.ne
              (IntOp.remsi ArithUnit.vector (BitVec.ofNat 32 j)
                (Scalar.select (Scalar.cmpi CmpIPredicate.eq 64#32 0#32) 1#32 64#32))
              0#32))
          (IntOp.addi
            (IntOp.remsi ArithUnit.vector (BitVec.ofNat 32 j)
              (Scalar.select (Scalar.cmpi CmpIPredicate.eq 64#32 0#32) 1#32 64#32))
            (Scalar.select (Scalar.cmpi CmpIPredicate.eq 64#32 0#32) 1#32 64#32))
          (IntOp.remsi ArithUnit.vector (BitVec.ofNat 32 j)
            (Scalar.select (Scalar.cmpi CmpIPredicate.eq 64#32 0#32) 1#32 64#32)))
        32#32) = BitVec.ofBool (decide ((j : ℕ) % 64 < 32)) := by
  revert j
  decide +kernel

/-- The mask of the lower halves of the heads. -/
theorem low_at (s : Fin 512) (j : Fin 256) (a b : EReal) :
    Scalar.select (k0_pay72 (ix2 s j)) a b = if (j : ℕ) % 64 < 32 then a else b := by
  pointwise [k0_pay72]
  rw [lane_low, select_bool]

/-- A row rotated as the kernel does it. -/
theorem pay76_at (R C S : FVec Ideal S512x256 .f32) (s : Fin 512) (j : Fin 256) :
    k0_pay76 (F := Ideal) R (k0_pay70 C) (k0_pay71 S) k0_pay72 (ix3 0 s j)
      = R (ix2 s j) * C (ix2 s j)
        + (if (j : ℕ) % 64 < 32 then R (ix2 s ⟨(j + 256 - 224) % 256, by omega⟩) else R (ix2 s ⟨(j + 256 - 32) % 256, by omega⟩)) * S (ix2 s j) := by
  have h := low_at s j
  generalize k0_pay72 = L at h
  pointwise [k0_pay76, k0_pay70, k0_pay71]
  rw [h]

theorem pay75_at (R : FVec Ideal S512x1024 .f32) (C S : FVec Ideal S512x256 .f32) (s : Fin 512) (j : Fin 256) :
    k0_pay75 (F := Ideal) (k0_pay68 R) (k0_pay70 C) (k0_pay71 S) k0_pay72 (k0_pay73 R) (k0_pay74 R) (ix3 0 s j)
      = k0_pay76 (F := Ideal) (k0_pay68 R) (k0_pay70 C) (k0_pay71 S) k0_pay72 (ix3 0 s j) := by
  unfold k0_pay75 k0_pay76 k0_pay73 k0_pay74
  rfl

/-- The rotation, from the tables' entries. -/
theorem rotated_of (f : Fin 256 → EReal) (t : ℕ) (j : Fin 256) (C S : EReal)
    (hC : C = Ideal.cos (angle t (j % 64 % 32)))
    (hS : S = if (j : ℕ) % 64 < 32 then -Ideal.sin (angle t (j % 64 % 32)) else Ideal.sin (angle t (j % 64 % 32))) :
    f j * C + (if (j : ℕ) % 64 < 32 then f ⟨(j + 256 - 224) % 256, by omega⟩ else f ⟨(j + 256 - 32) % 256, by omega⟩) * S = rotated f t j := by
  subst hC hS
  unfold rotated
  by_cases h : (j : ℕ) % 64 < 32
  · rw [if_pos h, if_pos h, dif_pos h, show (j : ℕ) % 64 % 32 = j % 64 by omega, mul_neg, ← sub_eq_add_neg]
    exact congrArg (fun z => f j * _ - f z * _) (Fin.ext (by simp only; omega))
  · rw [if_neg h, if_neg h, dif_neg h, show (j : ℕ) % 64 % 32 = j % 64 - 32 by omega, add_comm]
    exact congrArg (fun z => f z * _ + f j * _) (Fin.ext (by simp only; omega))

end Cert.Kernel6Ideal.Pre

end
-- ==== Proof.PreStep.lean ====
/- What a grid point of the projections' kernel leaves in its output blocks. -/
module

public import proofs.«01_k».proof.Proof.PreBlock
public import proofs.«01_k».proof.Proof.Gen.Kernel6Ideal.Frame
public import Idealize.ShloMosaic.Lib.Pipeline.ReadBack
public import Idealize.ShloMosaic.Lib.Pipeline.ValueKit.Acc
public import Idealize.ShloMosaic.Lib.Pipeline.ValueKit.Tiles

@[expose] public section

set_option maxRecDepth 16384

noncomputable section

open Idealize.ShloMosaic Idealize.ShloMosaic.TcCoe Idealize.SL.Sem

namespace Cert.Kernel6Ideal.Pre

open Cert.Kernel6Ideal Cert.Kernel6Ideal.Gen Cert.FeedForward Cert.Merge Cert.Projections

variable (m : (ℓ : Loc nD τ sig) → Buf (Elt Ideal) ℓ)

/-- A part of the features, where it lies. -/
theorem part_at (A : FVec Ideal S1x512x256 .f32) (L : Fin 11 → Fin 512 → Fin 256 → EReal) (k : Fin 11)
    (hA : ∀ s j, A (ix3 0 s j) = L k s j) (s : Fin 512) (w : Fin 11) (j : Fin 256) (o : ℕ) (ho : o = k * 256) :
    View.TileAt (Val := Elt Ideal) (S := S1x512x5376) (e := .f32) (ix3 0 s ⟨w * 256 + j, by omega⟩) ![0, 0, o] ![1, 512, 256] A (L w s j) := by
  intro x hx
  have h1 : (s : ℕ) = 0 + x 1 := hx 1
  have h2 : (w * 256 + j : ℕ) = o + x 2 := hx 2
  have l2 : (x 2 : ℕ) < 256 := (x 2).isLt
  have e : w = k := Fin.ext (by omega)
  subst e
  rw [← hA]
  refine congrArg A (funext fun a => Fin.ext ?_)
  fin_cases a
  · exact Nat.lt_one_iff.mp (x 0).isLt
  · show (x 1 : ℕ) = s; omega
  · show (x 2 : ℕ) = j; omega

/-- Another part does not lie there. -/
theorem part_off (A : FVec Ideal S1x512x256 .f32) (s : Fin 512) (w : Fin 11) (j : Fin 256) (v : EReal) (o : ℕ) (ho : 2816 ≤ o) :
    View.TileAt (Val := Elt Ideal) (S := S1x512x5376) (e := .f32) (ix3 0 s ⟨w * 256 + j, by omega⟩) ![0, 0, o] ![1, 512, 256] A v := by
  intro x hx
  have h2 : (w * 256 + j : ℕ) = o + x 2 := hx 2
  omega

/-- The stores of the parts, read back: the first eleven parts. -/
theorem canon_parts (L : Fin 11 → Fin 512 → Fin 256 → EReal)
    (A0 A1 A2 A3 A4 A5 A6 A7 A8 A9 A10 B0 B1 B2 B3 B4 B5 B6 B7 B8 B9 : FVec Ideal S1x512x256 .f32)
    (i0 i1 i2 i3 i4 i5 i6 i7 i8 i9 i10 k0 k1 k2 k3 k4 k5 k6 k7 k8 k9)
    (h0 : ∀ s j, A0 (ix3 0 s j) = L 0 s j) (h1 : ∀ s j, A1 (ix3 0 s j) = L 1 s j) (h2 : ∀ s j, A2 (ix3 0 s j) = L 2 s j)
    (h3 : ∀ s j, A3 (ix3 0 s j) = L 3 s j) (h4 : ∀ s j, A4 (ix3 0 s j) = L 4 s j) (h5 : ∀ s j, A5 (ix3 0 s j) = L 5 s j)
    (h6 : ∀ s j, A6 (ix3 0 s j) = L 6 s j) (h7 : ∀ s j, A7 (ix3 0 s j) = L 7 s j) (h8 : ∀ s j, A8 (ix3 0 s j) = L 8 s j)
    (h9 : ∀ s j, A9 (ix3 0 s j) = L 9 s j) (h10 : ∀ s j, A10 (ix3 0 s j) = L 10 s j) (s : Fin 512) (w : Fin 11) (j : Fin 256) :
    View.canon (Val := Elt Ideal) (s := S1x512x5376) (e := .f32)
      [⟨Rect.unit ![0, 0, 1792] ![1, 512, 256] i7, A7⟩, ⟨Rect.unit ![0, 0, 1536] ![1, 512, 256] i6, A6⟩,
       ⟨Rect.unit ![0, 0, 1280] ![1, 512, 256] i5, A5⟩, ⟨Rect.unit ![0, 0, 1024] ![1, 512, 256] i4, A4⟩,
       ⟨Rect.unit ![0, 0, 3072] ![1, 512, 256] k0, B0⟩, ⟨Rect.unit ![0, 0, 5120] ![1, 512, 256] k1, B1⟩,
       ⟨Rect.unit ![0, 0, 4608] ![1, 512, 256] k2, B2⟩, ⟨Rect.unit ![0, 0, 4096] ![1, 512, 256] k3, B3⟩,
       ⟨Rect.unit ![0, 0, 4864] ![1, 512, 256] k4, B4⟩, ⟨Rect.unit ![0, 0, 4352] ![1, 512, 256] k5, B5⟩,
       ⟨Rect.unit ![0, 0, 3840] ![1, 512, 256] k6, B6⟩, ⟨Rect.unit ![0, 0, 2560] ![1, 512, 256] i10, A10⟩,
       ⟨Rect.unit ![0, 0, 2304] ![1, 512, 256] i9, A9⟩, ⟨Rect.unit ![0, 0, 2048] ![1, 512, 256] i8, A8⟩,
       ⟨Rect.unit ![0, 0, 3584] ![1, 512, 256] k7, B7⟩, ⟨Rect.unit ![0, 0, 3328] ![1, 512, 256] k8, B8⟩,
       ⟨Rect.unit ![0, 0, 2816] ![1, 512, 256] k9, B9⟩, ⟨Rect.unit ![0, 0, 768] ![1, 512, 256] i3, A3⟩,
       ⟨Rect.unit ![0, 0, 512] ![1, 512, 256] i2, A2⟩, ⟨Rect.unit ![0, 0, 256] ![1, 512, 256] i1, A1⟩,
       ⟨Rect.unit ![0, 0, 0] ![1, 512, 256] i0, A0⟩] (ix3 0 s ⟨w * 256 + j, by omega⟩) = L w s j := by
  refine View.canon_eq_of_allAt _ _ _ (View.cover_of_tiled _ ![1, 512, 256] rfl _) ?_
  refine View.allAt_cons_unit _ _ _ _ _ (part_at A7 L 7 h7 s w j _ rfl) ?_
  refine View.allAt_cons_unit _ _ _ _ _ (part_at A6 L 6 h6 s w j _ rfl) ?_
  refine View.allAt_cons_unit _ _ _ _ _ (part_at A5 L 5 h5 s w j _ rfl) ?_
  refine View.allAt_cons_unit _ _ _ _ _ (part_at A4 L 4 h4 s w j _ rfl) ?_
  refine View.allAt_cons_unit _ _ _ _ _ (part_off B0 s w j _ _ (by decide)) ?_
  refine View.allAt_cons_unit _ _ _ _ _ (part_off B1 s w j _ _ (by decide)) ?_
  refine View.allAt_cons_unit _ _ _ _ _ (part_off B2 s w j _ _ (by decide)) ?_
  refine View.allAt_cons_unit _ _ _ _ _ (part_off B3 s w j _ _ (by decide)) ?_
  refine View.allAt_cons_unit _ _ _ _ _ (part_off B4 s w j _ _ (by decide)) ?_
  refine View.allAt_cons_unit _ _ _ _ _ (part_off B5 s w j _ _ (by decide)) ?_
  refine View.allAt_cons_unit _ _ _ _ _ (part_off B6 s w j _ _ (by decide)) ?_
  refine View.allAt_cons_unit _ _ _ _ _ (part_at A10 L 10 h10 s w j _ rfl) ?_
  refine View.allAt_cons_unit _ _ _ _ _ (part_at A9 L 9 h9 s w j _ rfl) ?_
  refine View.allAt_cons_unit _ _ _ _ _ (part_at A8 L 8 h8 s w j _ rfl) ?_
  refine View.allAt_cons_unit _ _ _ _ _ (part_off B7 s w j _ _ (by decide)) ?_
  refine View.allAt_cons_unit _ _ _ _ _ (part_off B8 s w j _ _ (by decide)) ?_
  refine View.allAt_cons_unit _ _ _ _ _ (part_off B9 s w j _ _ (by decide)) ?_
  refine View.allAt_cons_unit _ _ _ _ _ (part_at A3 L 3 h3 s w j _ rfl) ?_
  refine View.allAt_cons_unit _ _ _ _ _ (part_at A2 L 2 h2 s w j _ rfl) ?_
  refine View.allAt_cons_unit _ _ _ _ _ (part_at A1 L 1 h1 s w j _ rfl) ?_
  refine View.allAt_cons_unit _ _ _ _ _ (part_at A0 L 0 h0 s w j _ rfl) ?_
  exact View.allAt_nil _ _

/-- A load of rows and columns of what one store of the whole scratch left. -/
theorem load_part (v : View sig .tc .vmem S528x768 .f32) (A : FVec Ideal S528x768 .f32) (i0) (o p : ℕ) (inb) (s : Fin 512) (j : Fin 256)
    (h : o + s < 528) (h' : p + j < 768) :
    View.readCov (Val := Elt Ideal) (s := S528x768) (e := .f32) v [⟨Rect.unit (s := S528x768) ![0, 0] ![528, 768] i0, A⟩]
      (Rect.unit (s := S528x768) ![o, p] ![512, 256] inb).toLoadRect (ix2 s j) = A (ix2 ⟨o + s, h⟩ ⟨p + j, h'⟩) := by
  have e := View.readCov_eq_canon' (Val := Elt Ideal) (s := S528x768) (e := .f32) v [⟨Rect.unit (s := S528x768) ![0, 0] ![528, 768] i0, A⟩]
    (Rect.unit (s := S528x768) ![o, p] ![512, 256] inb).toLoadRect
  refine (congrFun e (ix2 s j)).trans ?_
  refine (congrFun (View.canon_cons_unit_lit (Val := Elt Ideal) (S := S528x768) (e := .f32) i0 A [] (by decide)) _).trans ?_
  refine congrArg A (funext fun a => Fin.ext ?_)
  fin_cases a
  · exact congrArg (o + ·) (Nat.one_mul s.val)
  · exact congrArg (p + ·) (Nat.one_mul j.val)

/-- A load of some columns. -/
theorem load_cols {w : ℕ} (B : FVec Ideal S1024x3072 .bf16) (o : ℕ) (inb) (k : Fin 1024) (j : Fin w) (h : o + j < 3072) :
    (View.ld (Val := Elt Ideal) (e' := .bf16) B (Rect.unit ![0, o] ![1024, w] inb) : FVec Ideal ⟨2, ![1024, w]⟩ .bf16) (ix2 k j)
      = B (ix2 k ⟨o + j, h⟩) := by
  refine congrArg B (funext fun a => Fin.ext ?_)
  fin_cases a
  · exact (Nat.zero_add _).trans (Nat.one_mul k.val)
  · exact congrArg (o + ·) (Nat.one_mul j.val)

section
variable (X : FVec Ideal ⟨3, ![8, 4096, 1024]⟩ .f32) (M : FVec Ideal ⟨2, ![8, 6144]⟩ .f32) (G : FVec Ideal ⟨1, ![1024]⟩ .f32)
  (U : FVec Ideal ⟨2, ![1024, 3072]⟩ .f32) (W : FVec Ideal ⟨2, ![3, 768]⟩ .f32) (K : FVec Ideal ⟨1, ![256]⟩ .f32) (b n : Fin 8)

/-- A tile's token. -/
abbrev spot (n : Fin 8) (s : Fin 512) : Fin 4096 := ⟨n * 512 + s, by omega⟩

section
variable (Y : FVec Ideal S528x1024 .f32) (i0 : IVec S528x1 32) (f0 : EReal) (c0 : BitVec 1) (f1 : EReal)

theorem pay6_at (s : Fin 512) (k : Fin 1024) : k0_pay6 (F := Ideal) Y i0 f0 c0 f1 (ix2 s k) = k0_pay4 (F := Ideal) Y i0 f0 c0 f1 (ix2 ⟨8 + s, by omega⟩ k) := by
  unfold k0_pay6
  generalize k0_pay4 (F := Ideal) Y i0 f0 c0 f1 = A
  pointwise []

theorem pay7_at (s : Fin 512) (k : Fin 1024) : k0_pay7 (F := Ideal) Y i0 f0 c0 f1 (ix3 0 s k) = k0_pay6 (F := Ideal) Y i0 f0 c0 f1 (ix2 s k) := by
  unfold k0_pay7
  generalize k0_pay6 (F := Ideal) Y i0 f0 c0 f1 = A
  pointwise []

theorem pay9_at (P : FVec Ideal S1024x768 .bf16) (r : Fin 528) (j : Fin 768) : k0_pay9 (F := Ideal) Y i0 f0 c0 f1 P (ix2 r j)
    = ∑ k, k0_pay4 (F := Ideal) Y i0 f0 c0 f1 (ix2 r k) * P (ix2 k j) := by
  unfold k0_pay9 k0_pay5
  generalize k0_pay4 (F := Ideal) Y i0 f0 c0 f1 = A
  pointwise []
  try rfl

/-- The tile's rows are its tokens. -/
theorem pay6_token (hK : ∀ r : Fin 528, 7 ≤ (r : ℕ) → (r : ℕ) ≤ 520 → ∀ k, k0_pay4 (F := Ideal) Y i0 f0 c0 f1 (ix2 r k) = framed X M G b (n * 512 + r - 7) k)
    (s : Fin 512) (k : Fin 1024) : k0_pay6 (F := Ideal) Y i0 f0 c0 f1 (ix2 s k) = token X M G b (spot n s) k := by
  rw [pay6_at, hK _ (by simp only; omega) (by simp only; omega)]
  unfold framed
  rw [dif_pos (by simp only; omega)]
  exact congrArg (fun z => token X M G b z k) (Fin.ext (by simp only; omega))

/-- The scratch's rows are the convolved columns' projection. -/
theorem pay9_wide (hK : ∀ r : Fin 528, 7 ≤ (r : ℕ) → (r : ℕ) ≤ 520 → ∀ k, k0_pay4 (F := Ideal) Y i0 f0 c0 f1 (ix2 r k) = framed X M G b (n * 512 + r - 7) k)
    (P : FVec Ideal S1024x768 .bf16) (hP : ∀ k (j : Fin 768), P (ix2 k j) = U (ix2 k ⟨2048 + j, by omega⟩))
    (r : Fin 528) (h7 : 7 ≤ (r : ℕ)) (h520 : (r : ℕ) ≤ 520) (j : Fin 768) :
    k0_pay9 (F := Ideal) Y i0 f0 c0 f1 P (ix2 r j) = wide X M G U b (n * 512 + r - 7) j := by
  rw [pay9_at]
  unfold wide
  simp only [hP, hK r h7 h520]

end

/-- A column of a tile's projection. -/
theorem col_eq (B : FVec Ideal S512x1024 .bf16) (hB : ∀ s k, B (ix2 s k) = token X M G b (spot n s) k)
    (P : FVec Ideal S1024x1024 .bf16) (o : ℕ) (ho : o + 1024 ≤ 3072) (hP : ∀ k (j : Fin 1024), P (ix2 k j) = U (ix2 k ⟨o + j, by omega⟩))
    (s : Fin 512) (j : Fin 1024) (z : Fin 3072) (hz : (z : ℕ) = o + j) : col B P s j = proj X M G U b (spot n s) z := by
  unfold col proj
  simp only [hB, hP]
  exact congrArg (fun z => ∑ k, token X M G b (spot n s) k * U (ix2 k z)) (Fin.ext hz.symm)

/-- A tile's row, rotated. -/
theorem turned (R C S : FVec Ideal S512x256 .f32) (f : Fin 256 → EReal) (t : ℕ) (s : Fin 512) (j : Fin 256) (hR : ∀ j, R (ix2 s j) = f j)
    (hC : C (ix2 s j) = Ideal.cos (angle t (j % 64 % 32)))
    (hS : S (ix2 s j) = if (j : ℕ) % 64 < 32 then -Ideal.sin (angle t (j % 64 % 32)) else Ideal.sin (angle t (j % 64 % 32))) :
    k0_pay76 (F := Ideal) R (k0_pay70 C) (k0_pay71 S) k0_pay72 (ix3 0 s j) = rotated f t j := by
  rw [pay76_at, hR, hR, hR]
  exact rotated_of f t j _ _ hC hS

theorem pay68_at (R : FVec Ideal S512x1024 .f32) (s : Fin 512) (j : Fin 256) : k0_pay68 (F := Ideal) R (ix2 s j) = R (ix2 s ⟨j, by omega⟩) := by
  pointwise [k0_pay68]

theorem pay69_at (R : FVec Ideal S512x1024 .f32) (s : Fin 512) (j : Fin 256) : k0_pay69 (F := Ideal) R (ix2 s j)
    = R (ix2 s ⟨256 + j, by omega⟩) * Ideal.ofBits .f32 0x3E000000#32 := by
  pointwise [k0_pay69]

/-- A row of the scratch, loaded. -/
theorem load_wide (v : View sig .tc .vmem S528x768 .f32) (A : FVec Ideal S528x768 .f32)
    (hA : ∀ r : Fin 528, 7 ≤ (r : ℕ) → (r : ℕ) ≤ 520 → ∀ j, A (ix2 r j) = wide X M G U b (n * 512 + r - 7) j)
    (i0) (o p : ℕ) (inb) (s : Fin 512) (j : Fin 256) (ho : 7 ≤ o) (ho' : o ≤ 9) (q : ℕ) (hq : q = n * 512 + s + (o - 7)) (z : Fin 768) (hz : (z : ℕ) = p + j) :
    View.readCov (Val := Elt Ideal) (s := S528x768) (e := .f32) v [⟨Rect.unit (s := S528x768) ![0, 0] ![528, 768] i0, A⟩]
      (Rect.unit (s := S528x768) ![o, p] ![512, 256] inb).toLoadRect (ix2 s j) = wide X M G U b q z := by
  rw [load_part v A i0 o p inb s j (by omega) (by omega), hA _ (by simp only; omega) (by simp only; omega)]
  exact congrArg₂ (wide X M G U b) (by simp only; omega) (Fin.ext hz.symm)

/-- Three rows weighted by the taps make a mixed column. -/
theorem mix_eq (V : FVec Ideal S3x768 .f32) (hW : ∀ r j, V (ix2 r j) = W (ix2 r j)) (t : Fin 4096) (z : Fin 768) (p q r : EReal)
    (hp : p = wide X M G U b t z) (hq : q = wide X M G U b (t + 1) z) (hr : r = wide X M G U b (t + 2) z) :
    p * V (ix2 0 z) + q * V (ix2 1 z) + r * V (ix2 2 z) = mixed X M G U W b t z := by
  rw [hp, hq, hr, hW, hW, hW]
  rfl

/-- The keys of the mixed branch, at unit length by head. -/
theorem unit_eq (R : FVec Ideal S512x256 .f32) (v : FVec Ideal S16x256 .f32) (t : Fin 4096) (s : Fin 512) (j : Fin 256)
    (hR : ∀ j : Fin 256, R (ix2 s j) = mixed X M G U W b t ⟨256 + j, by omega⟩) (hv : ∀ j, v (ix2 6 j) = K (ix1 j)) :
    unitised (fun j => R (ix2 s j) * v (ix2 6 j)) j = lane X M G U W K 10 b t j := by
  simp only [hR, hv]
  rfl

/-- What a point leaves of the hidden rows. -/
theorem step_tokens (c : Dev nD) (t : Fin cfg0.N)
    (hK : ∀ r : Fin 528, 7 ≤ (r : ℕ) → (r : ℕ) ≤ 520 → ∀ k, k0_pay4 (F := Ideal)
      (k0_pay2 (iblk m c 1 t) (iblk m c 0 t) (iblk m c 2 t) (iblk m c 3 t) (iblk m c 4 t))
      (iota .tc S528x1 32 [0] iota_S528x1_d0_w32) (k0_pay3 (grid0.coords t))
      (Scalar.cmpi .slt (BitVec.ofNat 32 (grid0.coords t 1).val) 7#32) (Scalar.ofBits .f32 0x3F800000#32) (ix2 r k)
        = framed X M G b (n * 512 + r - 7) k)
    (s : Fin 512) (k : Fin 1024) :
    ((outsAt0 m c t).2.1 : FVec Ideal S1x512x1024 .bf16) (ix3 0 s k) = token X M G b (spot n s) k := by
  unfold outsAt0
  dsimp only
  frame_out
  exact (pay7_at _ _ _ _ _ s k).trans (pay6_token X M G b n _ _ _ _ _ hK s k)

/-- What a point leaves of the features. -/
theorem step_features (c : Dev nD) (t : Fin cfg0.N)
    (hK : ∀ r : Fin 528, 7 ≤ (r : ℕ) → (r : ℕ) ≤ 520 → ∀ k, k0_pay4 (F := Ideal)
      (k0_pay2 (iblk m c 1 t) (iblk m c 0 t) (iblk m c 2 t) (iblk m c 3 t) (iblk m c 4 t))
      (iota .tc S528x1 32 [0] iota_S528x1_d0_w32) (k0_pay3 (grid0.coords t))
      (Scalar.cmpi .slt (BitVec.ofNat 32 (grid0.coords t 1).val) 7#32) (Scalar.ofBits .f32 0x3F800000#32) (ix2 r k)
        = framed X M G b (n * 512 + r - 7) k)
    (hU : ∀ k j, (iblk m c 5 t : FVec Ideal S1024x3072 .bf16) (ix2 k j) = U (ix2 k j))
    (hW : ∀ r j, (iblk m c 9 t : FVec Ideal S3x768 .f32) (ix2 r j) = W (ix2 r j))
    (hv : ∀ j, (iblk m c 8 t : FVec Ideal S16x256 .f32) (ix2 6 j) = K (ix1 j))
    (hC : ∀ s j, (iblk m c 11 t : FVec Ideal S512x256 .f32) (ix2 s j) = Ideal.cos (angle (spot n s) (j % 64 % 32)))
    (hS : ∀ s j, (iblk m c 12 t : FVec Ideal S512x256 .f32) (ix2 s j)
      = if (j : ℕ) % 64 < 32 then -Ideal.sin (angle (spot n s) (j % 64 % 32)) else Ideal.sin (angle (spot n s) (j % 64 % 32)))
    (s : Fin 512) (w : Fin 11) (j : Fin 256) :
    ((outsAt0 m c t).1 : FVec Ideal S1x512x5376 .f32) (ix3 0 s ⟨w * 256 + j, by omega⟩) = lane X M G U W K w b (spot n s) j := by
  unfold outsAt0
  dsimp only
  frame_out
  have hB := pay6_token X M G b n _ _ _ _ _ hK
  have hA := pay9_wide X M G U b n _ _ _ _ _ hK _ (fun k j => (load_cols (iblk m c 5 t) 2048 inb_S1024x3072_S1024x768_0_2048 k j (by omega)).trans (hU _ _))
  have hP := fun k j => (load_cols (iblk m c 5 t) 0 inb_S1024x3072_S1024x1024_0_0 k j (by omega)).trans (hU _ _)
  have hQ := fun k j => (load_cols (iblk m c 5 t) 1024 inb_S1024x3072_S1024x1024_0_1024 k j (by omega)).trans (hU _ _)
  refine canon_parts (fun w s j => lane X M G U W K w b (spot n s) j) _ _ _ _ _ _ _ _ _ _ _ _ _ _ _ _ _ _ _ _ _ _ _ _ _ _ _ _ _ _ _ _ _ _ _ _ _ _ _ _ _ _ ?_ ?_ ?_ ?_ ?_ ?_ ?_ ?_ ?_ ?_ ?_ s w j
  · intro s j
    refine (pay25_at _ _ s j).trans ?_
    rw [col_eq X M G U b n _ hB _ 0 (by decide) hP s _ ⟨0 + j, by omega⟩ rfl]
    rfl
  · intro s j
    refine (pay26_at _ _ s j).trans ?_
    exact col_eq X M G U b n _ hB _ 0 (by decide) hP s _ ⟨256 + j, by omega⟩ (by simp only; omega)
  · intro s j
    refine (pay27_at _ _ s j).trans ?_
    exact col_eq X M G U b n _ hB _ 0 (by decide) hP s _ ⟨512 + j, by omega⟩ (by simp only; omega)
  · intro s j
    refine (pay28_at _ _ s j).trans ?_
    exact col_eq X M G U b n _ hB _ 0 (by decide) hP s _ ⟨768 + j, by omega⟩ (by simp only; omega)
  · intro s j
    refine (pay75_at _ _ _ s j).trans ?_
    refine turned _ _ _ (plain X M G U 1024 (by decide) b (spot n s)) _ s j (fun j => ?_) (hC s j) (hS s j)
    refine (pay68_at _ s j).trans ((pay39_at _ _ s _).trans ?_)
    exact col_eq X M G U b n _ hB _ 1024 (by decide) hQ s _ ⟨1024 + j, by omega⟩ rfl
  · intro s j
    refine turned _ _ _ (fun j => plain X M G U 1280 (by decide) b (spot n s) j * Ideal.ofBits .f32 0x3E000000#32) _ s j (fun j => ?_) (hC s j) (hS s j)
    refine (pay69_at _ s j).trans (congrArg (· * _) ((pay39_at _ _ s _).trans ?_))
    exact col_eq X M G U b n _ hB _ 1024 (by decide) hQ s _ ⟨1280 + j, by omega⟩ (by simp only; omega)
  · intro s j
    refine (pay77_at _ _ s j).trans ?_
    exact col_eq X M G U b n _ hB _ 1024 (by decide) hQ s _ ⟨1536 + j, by omega⟩ (by simp only; omega)
  · intro s j
    refine (pay78_at _ _ s j).trans ?_
    exact col_eq X M G U b n _ hB _ 1024 (by decide) hQ s _ ⟨1792 + j, by omega⟩ (by simp only; omega)
  · intro s j
    exact (pay50_at _ _ _ _ s j).trans (mix_eq X M G U W b _ hW (spot n s) ⟨j, by omega⟩ _ _ _
      (load_wide X M G U b n _ _ hA _ 7 0 _ s j (by decide) (by decide) _ rfl _ (by simp only; omega))
      (load_wide X M G U b n _ _ hA _ 8 0 _ s j (by decide) (by decide) _ rfl _ (by simp only; omega))
      (load_wide X M G U b n _ _ hA _ 9 0 _ s j (by decide) (by decide) _ rfl _ (by simp only; omega)))
  · intro s j
    exact (pay51_at _ _ _ _ s j).trans (mix_eq X M G U W b _ hW (spot n s) ⟨512 + j, by omega⟩ _ _ _
      (load_wide X M G U b n _ _ hA _ 7 512 _ s j (by decide) (by decide) _ rfl _ rfl)
      (load_wide X M G U b n _ _ hA _ 8 512 _ s j (by decide) (by decide) _ rfl _ rfl)
      (load_wide X M G U b n _ _ hA _ 9 512 _ s j (by decide) (by decide) _ rfl _ rfl))
  · intro s j
    refine (pay52_at _ _ s j).trans (unit_eq X M G U W K b _ _ (spot n s) s j (fun j => ?_) hv)
    exact (pay41_at _ _ _ _ s j).trans (mix_eq X M G U W b _ hW (spot n s) ⟨256 + j, by omega⟩ _ _ _
      (load_wide X M G U b n _ _ hA _ 7 256 _ s j (by decide) (by decide) _ rfl _ rfl)
      (load_wide X M G U b n _ _ hA _ 8 256 _ s j (by decide) (by decide) _ rfl _ rfl)
      (load_wide X M G U b n _ _ hA _ 9 256 _ s j (by decide) (by decide) _ rfl _ rfl))

end

end Cert.Kernel6Ideal.Pre

end
-- ==== Proof.PreKernel.lean ====
/- The results of the input projections' kernel over the whole arrays. -/
module

public import proofs.«01_k».proof.Proof.PreStep
public import Idealize.ShloMosaic.Lib.StableHlo.ReadAt
public import Idealize.ShloMosaic.Lib.Pipeline.Covers

@[expose] public section

set_option maxRecDepth 16384

noncomputable section

open Idealize.ShloMosaic Idealize.ShloMosaic.TcCoe Idealize.SL.Sem

namespace Cert.Kernel6Ideal.Pre

open Cert.Kernel6Ideal Cert.Kernel6Ideal.Gen Cert.Projections

variable (m : (ℓ : Loc nD τ sig) → Buf (Elt Ideal) ℓ)

/-- There are 64 grid points. -/
theorem point_lt (t : Fin cfg0.N) : t.val < 64 := t.isLt

/-- A point's batch and tile. -/
theorem coords_tile : ∀ t : Fin cfg0.N, (grid0.coords t 1).val = t.val % 8 :=
  (by decide +kernel : ∀ t : Fin grid0.N, _)

/-- Which block each window reads at a point. -/
theorem idx : ∀ t : Fin cfg0.N, win0_0.index t = ![t.val / 8, t.val % 8, 0] ∧ win0_1.index t = ![t.val / 8, t.val % 8 * 64 - 1, 0]
    ∧ win0_2.index t = ![t.val / 8, min (t.val % 8 * 64 + 64) 511, 0] ∧ win0_3.index t = ![t.val / 8, 0, 0] ∧ win0_4.index t = ![0, 0]
    ∧ win0_5.index t = ![0, 0] ∧ win0_8.index t = ![0, 0] ∧ win0_9.index t = ![0, 0]
    ∧ win0_11.index t = ![t.val % 8, 0] ∧ win0_12.index t = ![t.val % 8, 0]
    ∧ win0_13.index t = ![t.val / 8, t.val % 8, 0] ∧ win0_14.index t = ![t.val / 8, t.val % 8, 0] :=
  (by decide +kernel : ∀ t : Fin grid0.N, _)

/-- The tokens. -/
abbrev argX (c : Dev nD) : FVec Ideal ⟨3, ![8, 4096, 1024]⟩ .f32 := m ((c : Thread nD τ).loc main_arg0)
/-- The modulation. -/
abbrev argM (c : Dev nD) : FVec Ideal ⟨2, ![8, 6144]⟩ .f32 := m ((c : Thread nD τ).loc main_arg1)
/-- The norm's scale. -/
abbrev argG (c : Dev nD) : FVec Ideal ⟨1, ![1024]⟩ .f32 := m ((c : Thread nD τ).loc main_arg2)
/-- The projections' weights. -/
abbrev argU (c : Dev nD) : FVec Ideal ⟨2, ![1024, 3072]⟩ .f32 := m ((c : Thread nD τ).loc main_arg3)
/-- The convolution's taps. -/
abbrev argW (c : Dev nD) : FVec Ideal ⟨2, ![3, 768]⟩ .f32 := m ((c : Thread nD τ).loc main_arg7)
/-- The keys' scale. -/
abbrev argK (c : Dev nD) : FVec Ideal ⟨1, ![256]⟩ .f32 := m ((c : Thread nD τ).loc main_arg17)

/-- The angle at the row's lanes. -/
theorem turn_lo (t f g : ℕ) (h : f < 16) (hg : g = f) : FloatOps.sitofp (F := Ideal) FTy.f32 (BitVec.ofNat 32 (t / 64)) *
    Ideal.pow (Ideal.ofBits FTy.f32 0x461C4000#32)
      (Ideal.div (-FloatOps.sitofp (F := Ideal) FTy.f32 (BitVec.ofNat 32 f)) (Ideal.ofBits FTy.f32 0x41800000#32)) = angle t g := by
  subst hg
  unfold angle
  rw [if_pos h]
  rfl

/-- The angle at the column's lanes. -/
theorem turn_hi (t f g k : ℕ) (h : ¬f < 16) (hg : g = f) (hk : k = f - 16) : FloatOps.sitofp (F := Ideal) FTy.f32 (BitVec.ofNat 32 (t % 64)) *
    Ideal.pow (Ideal.ofBits FTy.f32 0x461C4000#32)
      (Ideal.div (-FloatOps.sitofp (F := Ideal) FTy.f32 (BitVec.ofNat 32 k)) (Ideal.ofBits FTy.f32 0x41800000#32)) = angle t g := by
  subst hg hk
  unfold angle
  rw [if_neg h]
  rfl

/-- The host's table of cosines. -/
theorem cos_at (c : Dev nD) (t : Fin 4096) (j : Fin 256) : (V m c main_v137 : FVec Ideal ⟨2, ![4096, 256]⟩ .f32) (ix2 t j)
    = Ideal.cos (angle t (j % 64 % 32)) := by
  unfold V
  after_reads_at
  have hj : (j : ℕ) % 64 < 64 := Nat.mod_lt _ (by decide)
  by_cases h : (j : ℕ) % 64 < 32
  · rw [dif_pos h]
    after_reads_at
    by_cases h' : (j : ℕ) % 64 < 16
    · rw [dif_pos h']
      after_reads_at
      exact congrArg Ideal.cos (turn_lo _ _ _ h' (by omega))
    · rw [dif_neg h']
      after_reads_at
      exact congrArg Ideal.cos (turn_hi _ _ _ _ h' (by omega) (by omega))
  · rw [dif_neg h]
    after_reads_at
    by_cases h' : (j : ℕ) % 64 - 32 < 16
    · rw [dif_pos h']
      after_reads_at
      exact congrArg Ideal.cos (turn_lo _ _ _ h' (by omega))
    · rw [dif_neg h']
      after_reads_at
      exact congrArg Ideal.cos (turn_hi _ _ _ _ h' (by omega) (by omega))

/-- The host's table of signed sines. -/
theorem sin_at (c : Dev nD) (t : Fin 4096) (j : Fin 256) : (V m c main_v140 : FVec Ideal ⟨2, ![4096, 256]⟩ .f32) (ix2 t j)
    = if (j : ℕ) % 64 < 32 then -Ideal.sin (angle t (j % 64 % 32)) else Ideal.sin (angle t (j % 64 % 32)) := by
  unfold V
  after_reads_at
  have hj : (j : ℕ) % 64 < 64 := Nat.mod_lt _ (by decide)
  by_cases h : (j : ℕ) % 64 < 32
  · rw [if_pos h]
    rw [dif_pos h]
    after_reads_at
    by_cases h' : (j : ℕ) % 64 < 16
    · rw [dif_pos h']
      after_reads_at
      exact congrArg (fun x => -Ideal.sin x) (turn_lo _ _ _ h' (by omega))
    · rw [dif_neg h']
      after_reads_at
      exact congrArg (fun x => -Ideal.sin x) (turn_hi _ _ _ _ h' (by omega) (by omega))
  · rw [if_neg h]
    rw [dif_neg h]
    after_reads_at
    by_cases h' : (j : ℕ) % 64 - 32 < 16
    · rw [dif_pos h']
      after_reads_at
      exact congrArg Ideal.sin (turn_lo _ _ _ h' (by omega))
    · rw [dif_neg h']
      after_reads_at
      exact congrArg Ideal.sin (turn_hi _ _ _ _ h' (by omega) (by omega))

/-! ## The blocks -/

section
variable (c : Dev nD) (t : Fin cfg0.N)

/-- The tile's own tokens. -/
theorem blk0 (s : Fin 512) (k : Fin 1024) : (iblk m c 0 t : FVec Ideal S1x512x1024 .f32) (ix3 0 s k)
    = argX m c (ix3 ⟨t.val / 8, by have := point_lt t; omega⟩ ⟨t.val % 8 * 512 + s, by omega⟩ k) := by
  have e := (idx t).1
  unfold argX
  rw [← V_main_arg0 m c]
  blk_ext [iblk, e]

/-- The eight tokens before the tile. -/
theorem blk1 (h0 : 0 < t.val % 8) (r : Fin 8) (k : Fin 1024) : (iblk m c 1 t : FVec Ideal S1x8x1024 .f32) (ix3 0 r k)
    = argX m c (ix3 ⟨t.val / 8, by have := point_lt t; omega⟩ ⟨t.val % 8 * 512 + r - 8, by omega⟩ k) := by
  have e := (idx t).2.1
  unfold argX
  rw [← V_main_arg0 m c]
  blk_ext [iblk, e]

/-- The eight tokens after the tile. -/
theorem blk2 (h7 : t.val % 8 < 7) (r : Fin 8) (k : Fin 1024) : (iblk m c 2 t : FVec Ideal S1x8x1024 .f32) (ix3 0 r k)
    = argX m c (ix3 ⟨t.val / 8, by have := point_lt t; omega⟩ ⟨t.val % 8 * 512 + 512 + r, by omega⟩ k) := by
  have e := (idx t).2.2.1
  rw [show min (t.val % 8 * 64 + 64) 511 = t.val % 8 * 64 + 64 by omega] at e
  unfold argX
  rw [← V_main_arg0 m c]
  blk_ext [iblk, e]

/-- The batch's modulation. -/
theorem blk3 (l : Fin 6144) : (iblk m c 3 t : FVec Ideal S1x1x6144 .f32) (ix3 0 0 l)
    = argM m c (ix2 ⟨t.val / 8, by have := point_lt t; omega⟩ l) := by
  have e := (idx t).2.2.2.1
  have h : (iblk m c 3 t : FVec Ideal S1x1x6144 .f32) (ix3 0 0 l)
      = (V m c main_v105 : FVec Ideal ⟨3, ![8, 1, 6144]⟩ .f32) (ix3 ⟨t.val / 8, by have := point_lt t; omega⟩ 0 l) := by
    blk_ext [iblk, e]
  rw [h]
  unfold V
  after_reads_at

/-- The first norm's scale, as a row. -/
theorem blk4 (k : Fin 1024) : (iblk m c 4 t : FVec Ideal S1x1024 .f32) (ix2 0 k) = argG m c (ix1 k) := by
  have e := (idx t).2.2.2.2.1
  have h : (iblk m c 4 t : FVec Ideal S1x1024 .f32) (ix2 0 k) = (V m c main_v101 : FVec Ideal ⟨2, ![1, 1024]⟩ .f32) (ix2 0 k) := by
    blk_ext [iblk, e]
  rw [h]
  unfold V
  after_reads_at

/-- The projections' weights, whole. -/
theorem blk5 (k : Fin 1024) (j : Fin 3072) : (iblk m c 5 t : FVec Ideal S1024x3072 .bf16) (ix2 k j) = argU m c (ix2 k j) := by
  have e := (idx t).2.2.2.2.2.1
  have h : (iblk m c 5 t : FVec Ideal S1024x3072 .bf16) (ix2 k j) = (V m c main_v102 : FVec Ideal ⟨2, ![1024, 3072]⟩ .bf16) (ix2 k j) := by
    blk_ext [iblk, e]
  rw [h]
  unfold V
  after_reads_at

/-- The keys' scale, one of the rows of small vectors. -/
theorem blk8 (j : Fin 256) : (iblk m c 8 t : FVec Ideal S16x256 .f32) (ix2 6 j) = argK m c (ix1 j) := by
  have e := (idx t).2.2.2.2.2.2.1
  have h : (iblk m c 8 t : FVec Ideal S16x256 .f32) (ix2 6 j) = (V m c main_v100 : FVec Ideal ⟨2, ![16, 256]⟩ .f32) (ix2 6 j) := by
    blk_ext [iblk, e]
  rw [h]
  unfold V
  after_reads_at
  after_reads_at

/-- The convolution's taps, whole. -/
theorem blk9 (r : Fin 3) (j : Fin 768) : (iblk m c 9 t : FVec Ideal S3x768 .f32) (ix2 r j) = argW m c (ix2 r j) := by
  have e := (idx t).2.2.2.2.2.2.2.1
  unfold argW
  rw [← V_main_arg7 m c]
  blk_ext [iblk, e]

/-- The tile's cosines. -/
theorem blk11 (s : Fin 512) (j : Fin 256) : (iblk m c 11 t : FVec Ideal S512x256 .f32) (ix2 s j)
    = Ideal.cos (angle (t.val % 8 * 512 + s) (j % 64 % 32)) := by
  have e := (idx t).2.2.2.2.2.2.2.2.1
  have h : (iblk m c 11 t : FVec Ideal S512x256 .f32) (ix2 s j)
      = (V m c main_v137 : FVec Ideal ⟨2, ![4096, 256]⟩ .f32) (ix2 ⟨t.val % 8 * 512 + s, by omega⟩ j) := by
    blk_ext [iblk, e]
  exact h.trans (cos_at m c _ j)

/-- The tile's signed sines. -/
theorem blk12 (s : Fin 512) (j : Fin 256) : (iblk m c 12 t : FVec Ideal S512x256 .f32) (ix2 s j)
    = if (j : ℕ) % 64 < 32 then -Ideal.sin (angle (t.val % 8 * 512 + s) (j % 64 % 32)) else Ideal.sin (angle (t.val % 8 * 512 + s) (j % 64 % 32)) := by
  have e := (idx t).2.2.2.2.2.2.2.2.2.1
  have h : (iblk m c 12 t : FVec Ideal S512x256 .f32) (ix2 s j)
      = (V m c main_v140 : FVec Ideal ⟨2, ![4096, 256]⟩ .f32) (ix2 ⟨t.val % 8 * 512 + s, by omega⟩ j) := by
    blk_ext [iblk, e]
  exact h.trans (sin_at m c _ j)

/-- A point's rows, its neighbours' last and first included, are the sequence's. -/
theorem kept_eq (r : Fin 528) (h7 : 7 ≤ (r : ℕ)) (h520 : (r : ℕ) ≤ 520) (k : Fin 1024) : k0_pay4 (F := Ideal)
      (k0_pay2 (iblk m c 1 t) (iblk m c 0 t) (iblk m c 2 t) (iblk m c 3 t) (iblk m c 4 t))
      (iota .tc S528x1 32 [0] iota_S528x1_d0_w32) (k0_pay3 (grid0.coords t))
      (Scalar.cmpi .slt (BitVec.ofNat 32 (grid0.coords t 1).val) 7#32) (Scalar.ofBits .f32 0x3F800000#32) (ix2 r k)
    = framed (argX m c) (argM m c) (argG m c) ⟨t.val / 8, by have := point_lt t; omega⟩ ((⟨t.val % 8, Nat.mod_lt _ (by decide)⟩ : Fin 8) * 512 + r - 7) k :=
  kept_framed (argX m c) (argM m c) (argG m c) _ _ _ _ _ _ ⟨t.val / 8, by have := point_lt t; omega⟩ ⟨t.val % 8, Nat.mod_lt _ (by decide)⟩
    (coords_tile t) (fun h => blk1 m c t h) (blk0 m c t) (fun h => blk2 m c t h) (blk3 m c t) (blk4 m c t) r h7 h520 k

/-- A point's block of the hidden rows. -/
theorem tokens_at (a : Fin 1) (s : Fin 512) (k : Fin 1024) : ((outsAt0 m c t).2.1 : FVec Ideal S1x512x1024 .bf16) (ix3 a s k)
    = tokens (argX m c) (argM m c) (argG m c) (ix3 ⟨t.val / 8, by have := point_lt t; omega⟩ ⟨t.val % 8 * 512 + s, by omega⟩ k) := by
  rw [Subsingleton.elim a 0]
  exact step_tokens m (argX m c) (argM m c) (argG m c) ⟨t.val / 8, by have := point_lt t; omega⟩ ⟨t.val % 8, Nat.mod_lt _ (by decide)⟩ c t
    (kept_eq m c t) s k

/-- A point's block of the features, in the lanes read back. -/
theorem lanes_at (a : Fin 1) (s : Fin 512) (w : Fin 11) (j : Fin 256) :
    ((outsAt0 m c t).1 : FVec Ideal S1x512x5376 .f32) (ix3 a s ⟨w * 256 + j, by omega⟩)
    = features (argX m c) (argM m c) (argG m c) (argU m c) (argW m c) (argK m c)
      (ix3 ⟨t.val / 8, by have := point_lt t; omega⟩ ⟨t.val % 8 * 512 + s, by omega⟩ ⟨w * 256 + j, by omega⟩) := by
  rw [Subsingleton.elim a 0]
  exact (step_features m (argX m c) (argM m c) (argG m c) (argU m c) (argW m c) (argK m c) ⟨t.val / 8, by have := point_lt t; omega⟩
    ⟨t.val % 8, Nat.mod_lt _ (by decide)⟩ c t (kept_eq m c t) (blk5 m c t) (blk9 m c t) (blk8 m c t) (blk11 m c t) (blk12 m c t) s w j).trans
    (features_at _ _ _ _ _ _ _ _ w j).symm

end

/-- The hidden rows after the run. -/
theorem array14 (c : Dev nD) : (dats m 0 c).arrAt 14 cfg0.N = tokens (argX m c) (argM m c) (argG m c) := by
  refine (dats m 0 c).arrAt_eq_of_covers 14 _ (by decide +kernel) fun t _ y => ?_
  have e := (idx t).2.2.2.2.2.2.2.2.2.2.2
  blk_simp
  rw [after0_14, eq_ix3 y]
  refine (tokens_at m c t _ _ _).trans (congrArg (tokens (argX m c) (argM m c) (argG m c)) ?_)
  blk_ext [e]

/-- The whole array of features as the points leave it. -/
def blocks (c : Dev nD) : FVec Ideal ⟨3, ![8, 4096, 5376]⟩ .f32 := fun y =>
  have h0 : (y 0 : ℕ) < 8 := (y 0).isLt
  have h1 : (y 1 : ℕ) < 4096 := (y 1).isLt
  ((outsAt0 m c ⟨y 0 * 8 + y 1 / 512, by show _ < 64; omega⟩).1 : FVec Ideal S1x512x5376 .f32)
    (ix3 0 ⟨y 1 % 512, Nat.mod_lt _ (by decide)⟩ ⟨y 2, (y 2).isLt⟩)

theorem blocks_at (c : Dev nD) (t : Fin cfg0.N) (a : Fin 1) (s : Fin 512) (j : Fin 5376) :
    blocks m c (ix3 ⟨t.val / 8, by have := point_lt t; omega⟩ ⟨t.val % 8 * 512 + s, by omega⟩ j)
      = ((outsAt0 m c t).1 : FVec Ideal S1x512x5376 .f32) (ix3 a s j) := by
  rw [Subsingleton.elim a 0]
  have e : ∀ (t' : Fin cfg0.N) (s' : Fin 512), t' = t → s' = s → ((outsAt0 m c t').1 : FVec Ideal S1x512x5376 .f32) (ix3 0 s' j)
      = ((outsAt0 m c t).1 : FVec Ideal S1x512x5376 .f32) (ix3 0 s j) := by
    rintro _ _ rfl rfl; rfl
  exact e _ _ (Fin.ext (by show t.val / 8 * 8 + (t.val % 8 * 512 + s) / 512 = t.val; omega))
    (Fin.ext (by show (t.val % 8 * 512 + s) % 512 = (s : ℕ); omega))

/-- The features' array after the run. -/
theorem array13 (c : Dev nD) : (dats m 0 c).arrAt 13 cfg0.N = blocks m c := by
  refine (dats m 0 c).arrAt_eq_of_covers 13 _ (by decide +kernel) fun t _ y => ?_
  have e := (idx t).2.2.2.2.2.2.2.2.2.2.1
  blk_simp
  rw [after0_13, eq_ix3 y]
  refine (blocks_at m c t _ _ _).symm.trans (congrArg (blocks m c) ?_)
  blk_ext [e]

/-- The lanes read back are the features. -/
theorem blocks_features (c : Dev nD) (b : Fin 8) (t : Fin 4096) (w : Fin 11) (j : Fin 256) :
    blocks m c (ix3 b t ⟨w * 256 + j, by omega⟩)
    = features (argX m c) (argM m c) (argG m c) (argU m c) (argW m c) (argK m c) (ix3 b t ⟨w * 256 + j, by omega⟩) := by
  refine (lanes_at m c _ 0 _ w j).trans (congrArg (features (argX m c) (argM m c) (argG m c) (argU m c) (argW m c) (argK m c)) ?_)
  refine congrArg₂ (fun b t => ix3 b t _) (Fin.ext ?_) (Fin.ext ?_)
  · show ((b : ℕ) * 8 + t / 512) / 8 = b; omega
  · show ((b : ℕ) * 8 + t / 512) % 8 * 512 + t % 512 = t; omega

end Cert.Kernel6Ideal.Pre

end
-- ==== Proof.PreRun.lean ====
/- The run of the input projections' kernel: the features' lanes and the hidden rows. -/
module

public import proofs.«01_k».proof.Proof.PreKernel
public import Idealize.ShloMosaic.Lib.StableHlo.ReadAt

@[expose] public section

set_option maxRecDepth 16384

noncomputable section

open Idealize.ShloMosaic Idealize.ShloMosaic.TcCoe Idealize.SL.Sem

namespace Cert.Kernel6Ideal.Pre

open Cert.Kernel6Ideal Cert.Kernel6Ideal.Gen Cert.Projections

variable (m : (ℓ : Loc nD τ sig) → Buf (Elt Ideal) ℓ)

/-- A column of the features, by its lane. -/
theorem blocks_col (c : Dev nD) (b : Fin 8) (t : Fin 4096) (n : Fin 2816) :
    blocks m c (ix3 b t ⟨n, by omega⟩) = features (argX m c) (argM m c) (argG m c) (argU m c) (argW m c) (argK m c) (ix3 b t n) := by
  have e : ∀ (n' : Fin 2816) (h : (n' : ℕ) = n), blocks m c (ix3 b t ⟨n', by omega⟩)
      = features (argX m c) (argM m c) (argG m c) (argU m c) (argW m c) (argK m c) (ix3 b t n') →
      blocks m c (ix3 b t ⟨n, by omega⟩) = features (argX m c) (argM m c) (argG m c) (argU m c) (argW m c) (argK m c) (ix3 b t n) := by
    intro n' h hh
    obtain rfl : n' = n := Fin.ext h
    exact hh
  exact e ⟨n / 256 * 256 + n % 256, by omega⟩ (by show (n : ℕ) / 256 * 256 + n % 256 = n; omega)
    (blocks_features m c b t ⟨n / 256, by omega⟩ ⟨n % 256, by omega⟩)

/-- The lanes the host takes from the features. -/
theorem tail_eq (c : Dev nD) : (Pipeline.afterTail₀ cfgs (dats m) 0 (V0 m) [hostOps1] c main_v143 : FVec Ideal ⟨3, ![8, 4096, 2816]⟩ .f32)
    = features (argX m c) (argM m c) (argG m c) (argU m c) (argW m c) (argK m c) := by
  have h : Pipeline.withArrays cfg0.spec c (V0 m c) (fun w => (dats m 0 c).arrAt w cfg0.N) (Proc.devRef .tc main_v142_0) = blocks m c :=
    (Pipeline.withArrays_arr_shared cfg0.spec c (V0 m c) (fun w => (dats m 0 c).arrAt w cfg0.N)
      ((dats m 0 c).arrAt_sharedIn (by decide) (V0 m c) (A_eq m c) cfg0.N) 13).trans (array13 m c)
  have g : ∀ W : Valuation τ sig (Elt Ideal), W (Proc.devRef .tc main_v142_0) = blocks m c →
      (StableHlo.after hostOps1 W (Proc.devRef .tc main_v143) : FVec Ideal ⟨3, ![8, 4096, 2816]⟩ .f32)
        = features (argX m c) (argM m c) (argG m c) (argU m c) (argW m c) (argK m c) := by
    intro W hW
    have h1 : (StableHlo.after hostOps1 W (Proc.devRef .tc main_v143) : FVec Ideal ⟨3, ![8, 4096, 2816]⟩ .f32)
        = extractStridedSlice S8x4096x2816 ![0, 0, 0] (W (Proc.devRef .tc main_v142_0)) slices_S8x4096x5376_S8x4096x2816_0_0_0 := by
      dsimp only [hostOps1]
      after_results
    rw [h1, hW]
    have h2 : ∀ (b : Fin 8) (t : Fin 4096) (n : Fin 2816),
        extractStridedSlice S8x4096x2816 ![0, 0, 0] (blocks m c) slices_S8x4096x5376_S8x4096x2816_0_0_0 (ix3 b t n)
          = features (argX m c) (argM m c) (argG m c) (argU m c) (argW m c) (argK m c) (ix3 b t n) := by
      intro b t n
      refine Eq.trans ?_ (blocks_col m c b t n)
      generalize blocks m c = B
      pointwise []
    funext y
    exact (congrArg _ (eq_ix3 y)).trans ((h2 _ _ _).trans (congrArg _ (eq_ix3 y).symm))
  exact g _ h

/-- The run: the features' lanes, the hidden rows, and every argument kept. -/
theorem run (ρ : Dev nD → PrngReg) : θ_run (defs (F := Ideal)) (onTc (τ := τ) (main (F := Ideal))) ⟨m, fun _ => 0, ρ⟩ (fun r => ∀ c : Dev nD,
      r.2.mem ((c.tc : Thread nD τ).loc main_v143) = features (argX m c) (argM m c) (argG m c) (argU m c) (argW m c) (argK m c)
      ∧ r.2.mem ((c.tc : Thread nD τ).loc main_v142_1) = tokens (argX m c) (argM m c) (argG m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun _ h c =>
      ⟨((h.1 c).2 main_v143 (Pipeline.mem_restRefs_of main_v143 (by decide) (by decide))).trans (tail_eq m c),
        ((h.1 c).1 14).trans (array14 m c), h.2 c⟩)
    (θ_run_and (run_main m ρ) (unchanged m ρ))

end Cert.Kernel6Ideal.Pre

end
-- ==== Proof.PreRef.lean ====
/- The reference's input projections are the formula. -/
module

public import proofs.«01_k».proof.Proof.PreSpec
public import proofs.«01_k».proof.Proof.Gen.Reference6Ideal.Read
public import Idealize.ShloMosaic.Lib.KernelVsHost

@[expose] public section

set_option maxRecDepth 16384

noncomputable section

open Idealize.ShloMosaic Idealize.ShloMosaic.TcCoe Idealize.SL.Sem

namespace Cert.Reference6Ideal.Pre

open Cert.Reference6Ideal Cert.Reference6Ideal.Read Cert.FeedForward Cert.Merge Cert.Projections

variable (x0 : FVec Ideal S8x4096x1024 .f32) (x1 : FVec Ideal S8x6144 .f32) (x2 : FVec Ideal S1024 .f32) (x3 : FVec Ideal S1024x3072 .f32)
  (x7 : FVec Ideal S3x768 .f32) (x17 : FVec Ideal S256 .f32)

/-- The reference's normalised and modulated row. -/
theorem token_at (b : Fin 8) (t : Fin 4096) (k : Fin 1024) :
    val_main_v30 (F := Ideal) x0 x1 x2 (ix3 b t k) = token x0 x1 x2 b t k := by
  pointwise [val_main_v30, val_main_v29, val_main_v28, val_main_v27, val_main_v26, val_main_v25, val_main_v24, val_main_v23, val_main_v22,
    val_main_v21, val_main_v20, val_main_v19, val_main_v18, val_main_v17, val_main_v16, val_main_v15, val_main_v14, val_main_v13,
    val_main_v12, val_main_v7, val_main_v6, val_main_v1, val_main_v0,
    val_main_cst, val_main_cst_0, val_main_cst_1, val_main_cst_2]
  rfl

/-- Its projection. -/
theorem proj_at (b : Fin 8) (t : Fin 4096) (n : Fin 3072) :
    val_main_v31 (F := Ideal) x0 x1 x2 x3 (ix3 b t n) = proj x0 x1 x2 x3 b t n := by
  pointwise [val_main_v31]
  simp only [token_at]
  rfl

/-- The three convolved parts side by side. -/
theorem joined_at (b : Fin 8) (t : Fin 4096) (j : Fin 768) :
    val_main_v110 (F := Ideal) x0 x1 x2 x3 (ix3 b t j) = proj x0 x1 x2 x3 b t ⟨2048 + j, by omega⟩ := by
  pointwise [val_main_v110, val_main_v40, val_main_v41, val_main_v42]
  rw [← proj_at]
  split_ifs
  all_goals exact congrArg (fun z => val_main_v31 (F := Ideal) x0 x1 x2 x3 (ix3 b t z)) (Fin.ext (by first | rfl | (simp only; omega)))

/-- The zero before and after the sequence. -/
theorem pad_at (b : Fin 8) (p : Fin 4098) (j : Fin 768) :
    val_main_v111 (F := Ideal) x0 x1 x2 x3 (ix3 b p j) = wide x0 x1 x2 x3 b p j := by
  unfold wide framed
  by_cases h : 1 ≤ (p : ℕ) ∧ (p : ℕ) < 4097
  · simp only [dif_pos h]
    refine Eq.trans ?_ (joined_at x0 x1 x2 x3 b ⟨(p : ℕ) - 1, by omega⟩ j)
    unfold val_main_v111
    refine pad_apply_of_inside _ _ _ _ _ _ _ _ _ fun a => ?_
    fin_cases a
    · show (b : ℕ) = 0 + (b : ℕ) * 1; omega
    · show (p : ℕ) = 1 + ((p : ℕ) - 1) * 1; omega
    · show (j : ℕ) = 0 + (j : ℕ) * 1; omega
  · simp only [dif_neg h, zero_mul, Finset.sum_const_zero]
    unfold val_main_v111
    refine (pad_apply_of_not_inside _ _ _ _ _ _ _ _ (1 : Fin 3) fun hh => h ?_).trans ?_
    · have h1 : 1 ≤ (p : ℕ) := hh.1
      have h2 : ((p : ℕ) - 1) / 1 < 4096 := hh.2.2
      omega
    · pointwise [val_main_call0_v0, val_main_c]
      show (((0#32 : BitVec 32).toInt : ℝ) : EReal) = 0
      rw [BitVec.toInt_zero, Int.cast_zero, EReal.coe_zero]

/-- Its convolution along the sequence. -/
theorem mixed_at (b : Fin 8) (t : Fin 4096) (j : Fin 768) :
    val_main_v130 (F := Ideal) x0 x1 x2 x3 x7 (ix3 b t j) = mixed x0 x1 x2 x3 x7 b t j := by
  pointwise [val_main_v130, val_main_v129, val_main_v128, val_main_v127, val_main_v126, val_main_v125, val_main_v124, val_main_v123,
    val_main_v122, val_main_v121, val_main_v120, val_main_v119, val_main_v118, val_main_v117, val_main_v116, val_main_v115,
    val_main_v114, val_main_v113, val_main_v112]
  have e1 : val_main_v111 (F := Ideal) x0 x1 x2 x3 (ix3 b ⟨t, by omega⟩ j) = wide x0 x1 x2 x3 b t j := pad_at x0 x1 x2 x3 b _ j
  have e2 : val_main_v111 (F := Ideal) x0 x1 x2 x3 (ix3 b ⟨2 + t, by omega⟩ j) = wide x0 x1 x2 x3 b (t + 2) j :=
    (pad_at x0 x1 x2 x3 b _ j).trans (congrArg (fun p => wide x0 x1 x2 x3 b p j) (Nat.add_comm 2 (t : ℕ)))
  have e3 : val_main_v110 (F := Ideal) x0 x1 x2 x3 (ix3 b t j) = wide x0 x1 x2 x3 b (t + 1) j := by
    rw [joined_at]
    unfold wide framed
    simp only [dif_pos (show 1 ≤ (t : ℕ) + 1 ∧ (t : ℕ) + 1 < 4097 by omega)]
    rfl
  rw [e1, e2, e3]
  rfl

/-- Its angles. -/
theorem angle_at (t : Fin 4096) (f : Fin 32) : val_main_v67 (F := Ideal) (ix2 t f) = angle t f := by
  pointwise [val_main_v67, val_main_v66, val_main_v65, val_main_v64, val_main_v63, val_main_v62, val_main_v61, val_main_v60,
    val_main_v59, val_main_v58, val_main_v57, val_main_v56, val_main_v55, val_main_v54, val_main_v53, val_main_v52, val_main_v51,
    val_main_v50, val_main_v49, val_main_v48, val_main_v47, val_main_v46, val_main_v45, val_main_v44, val_main_cst_3, val_main_cst_4]
  unfold angle freq
  split_ifs <;> rfl

end Cert.Reference6Ideal.Pre

end
-- ==== Proof.PreLanes.lean ====
/- The reference's features, lane by lane. -/
module

public import proofs.«01_k».proof.Proof.PreRef
public import Idealize.ShloMosaic.Lib.KernelVsHost

@[expose] public section

set_option maxRecDepth 16384

noncomputable section

open Idealize.ShloMosaic Idealize.ShloMosaic.TcCoe Idealize.SL.Sem

namespace Cert.Reference6Ideal.Pre

open Cert.Reference6Ideal Cert.Reference6Ideal.Read Cert.FeedForward Cert.Merge Cert.Projections

variable (x0 : FVec Ideal S8x4096x1024 .f32) (x1 : FVec Ideal S8x6144 .f32) (x2 : FVec Ideal S1024 .f32) (x3 : FVec Ideal S1024x3072 .f32)
  (x7 : FVec Ideal S3x768 .f32) (x17 : FVec Ideal S256 .f32)

/-- The rotation of 256 columns, with the places in a head written out. -/
theorem turn_eq (g : Fin 3072 → EReal) (o : ℕ) (ho : o + 256 ≤ 3072) (t : ℕ) (j : Fin 256) :
    (if h : (j : ℕ) % 64 < 32 then
      g ⟨o + j, by omega⟩ * Ideal.cos (angle t (j % 64)) - g ⟨o + (j / 64 * 64 + (32 + j % 64)), by omega⟩ * Ideal.sin (angle t (j % 64))
    else g ⟨o + (j / 64 * 64 + (j % 64 - 32)), by omega⟩ * Ideal.sin (angle t (j % 64 - 32))
      + g ⟨o + (j / 64 * 64 + (32 + (j % 64 - 32))), by omega⟩ * Ideal.cos (angle t (j % 64 - 32)))
    = rotated (fun j => g ⟨o + j, by omega⟩) t j := by
  unfold rotated
  by_cases h : (j : ℕ) % 64 < 32
  · have e1 : (⟨o + (j / 64 * 64 + (32 + j % 64)), by omega⟩ : Fin 3072) = ⟨o + (j + 32), by omega⟩ := Fin.ext (by simp only; omega)
    rw [dif_pos h, dif_pos h, e1]
  · have e2 : (⟨o + (j / 64 * 64 + (j % 64 - 32)), by omega⟩ : Fin 3072) = ⟨o + (j - 32), by omega⟩ := Fin.ext (by simp only; omega)
    have e3 : (⟨o + (j / 64 * 64 + (32 + (j % 64 - 32))), by omega⟩ : Fin 3072) = ⟨o + j, by omega⟩ := Fin.ext (by simp only; omega)
    rw [dif_neg h, dif_neg h, e2, e3]

/-- Its first rotated part. -/
theorem first_at (b : Fin 8) (t : Fin 4096) (j : Fin 256) :
    val_main_v149 (F := Ideal) x0 x1 x2 x3 (ix3 b t j) = rotated (plain x0 x1 x2 x3 1024 (by decide) b t) t j := by
  pointwise [val_main_v149, val_main_v148, val_main_v88, val_main_v87, val_main_v86, val_main_v85, val_main_v84, val_main_v83,
    val_main_v82, val_main_v81, val_main_v80, val_main_v79, val_main_v78, val_main_v77, val_main_v76, val_main_v75, val_main_v74,
    val_main_v73, val_main_v72, val_main_v71, val_main_v70, val_main_v69, val_main_v68, val_main_v36]
  simp only [proj_at, angle_at]
  exact turn_eq (proj x0 x1 x2 x3 b t) 1024 (by decide) t j

/-- Its second rotated part. -/
theorem second_at (b : Fin 8) (t : Fin 4096) (j : Fin 256) :
    val_main_v151 (F := Ideal) x0 x1 x2 x3 (ix3 b t j)
      = rotated (fun j => plain x0 x1 x2 x3 1280 (by decide) b t j * Ideal.ofBits .f32 0x3E000000#32) t j := by
  pointwise [val_main_v151, val_main_v150, val_main_v109, val_main_v108, val_main_v107, val_main_v106, val_main_v105, val_main_v104,
    val_main_v103, val_main_v102, val_main_v101, val_main_v100, val_main_v99, val_main_v98, val_main_v97, val_main_v96, val_main_v95,
    val_main_v94, val_main_v93, val_main_v92, val_main_v91, val_main_v90, val_main_v89, val_main_v69, val_main_v68, val_main_v37, val_main_cst_5]
  simp only [proj_at, angle_at]
  exact turn_eq (fun n => proj x0 x1 x2 x3 b t n * Ideal.ofBits .f32 0x3E000000#32) 1280 (by decide) t j

/-- A part of a row, from the place in it. -/
theorem pick (L : Fin 11 → Fin 256 → EReal) (k : Fin 11) (kk : ℕ) (hk : (k : ℕ) = kk) (n : Fin 2816) (i : ℕ) (hi : i < 256) (h : (n : ℕ) = kk * 256 + i) :
    L k ⟨i, hi⟩ = L ⟨n / 256, by omega⟩ ⟨n % 256, by omega⟩ := by
  have e1 : (⟨n / 256, by omega⟩ : Fin 11) = k := Fin.ext (by simp only; omega)
  have e2 : (⟨n % 256, by omega⟩ : Fin 256) = ⟨i, hi⟩ := Fin.ext (by simp only; omega)
  rw [e1, e2]

/-- Eleven parts side by side. -/
theorem side_at (P0 P1 P2 P3 P4 P5 P6 P7 P8 P9 P10 : FVec Ideal S8x4096x256 .f32) (h) (b : Fin 8) (t : Fin 4096) (n : Fin 2816)
    (L : Fin 11 → Fin 256 → EReal) (h0 : ∀ j, P0 (ix3 b t j) = L 0 j) (h1 : ∀ j, P1 (ix3 b t j) = L 1 j)
    (h2 : ∀ j, P2 (ix3 b t j) = L 2 j) (h3 : ∀ j, P3 (ix3 b t j) = L 3 j) (h4 : ∀ j, P4 (ix3 b t j) = L 4 j)
    (h5 : ∀ j, P5 (ix3 b t j) = L 5 j) (h6 : ∀ j, P6 (ix3 b t j) = L 6 j) (h7 : ∀ j, P7 (ix3 b t j) = L 7 j)
    (h8 : ∀ j, P8 (ix3 b t j) = L 8 j) (h9 : ∀ j, P9 (ix3 b t j) = L 9 j) (h10 : ∀ j, P10 (ix3 b t j) = L 10 j) (v : EReal)
    (hv : v = L ⟨n / 256, by omega⟩ ⟨n % 256, by omega⟩) :
    concatenate S8x4096x2816 2 [⟨S8x4096x256, (P0 : (⟨S8x4096x256, .f32⟩ : BufTy).Contents (Elt Ideal))⟩, ⟨S8x4096x256, P1⟩, ⟨S8x4096x256, P2⟩, ⟨S8x4096x256, P3⟩, ⟨S8x4096x256, P4⟩, ⟨S8x4096x256, P5⟩,
      ⟨S8x4096x256, P6⟩, ⟨S8x4096x256, P7⟩, ⟨S8x4096x256, P8⟩, ⟨S8x4096x256, P9⟩, ⟨S8x4096x256, P10⟩] h (ix3 b t n)
    = v := by
  pointwise []
  rw [hv]
  clear hv
  have hn := n.isLt
  by_cases c0 : (n : ℕ) < 256
  · rw [dif_pos c0, h0]
    exact pick L 0 0 rfl n _ _ (by omega)
  rw [dif_neg c0]
  by_cases c1 : (n : ℕ) - 256 < 256
  · rw [dif_pos c1, h1]
    exact pick L 1 1 rfl n _ _ (by omega)
  rw [dif_neg c1]
  by_cases c2 : (n : ℕ) - 256 - 256 < 256
  · rw [dif_pos c2, h2]
    exact pick L 2 2 rfl n _ _ (by omega)
  rw [dif_neg c2]
  by_cases c3 : (n : ℕ) - 256 - 256 - 256 < 256
  · rw [dif_pos c3, h3]
    exact pick L 3 3 rfl n _ _ (by omega)
  rw [dif_neg c3]
  by_cases c4 : (n : ℕ) - 256 - 256 - 256 - 256 < 256
  · rw [dif_pos c4, h4]
    exact pick L 4 4 rfl n _ _ (by omega)
  rw [dif_neg c4]
  by_cases c5 : (n : ℕ) - 256 - 256 - 256 - 256 - 256 < 256
  · rw [dif_pos c5, h5]
    exact pick L 5 5 rfl n _ _ (by omega)
  rw [dif_neg c5]
  by_cases c6 : (n : ℕ) - 256 - 256 - 256 - 256 - 256 - 256 < 256
  · rw [dif_pos c6, h6]
    exact pick L 6 6 rfl n _ _ (by omega)
  rw [dif_neg c6]
  by_cases c7 : (n : ℕ) - 256 - 256 - 256 - 256 - 256 - 256 - 256 < 256
  · rw [dif_pos c7, h7]
    exact pick L 7 7 rfl n _ _ (by omega)
  rw [dif_neg c7]
  by_cases c8 : (n : ℕ) - 256 - 256 - 256 - 256 - 256 - 256 - 256 - 256 < 256
  · rw [dif_pos c8, h8]
    exact pick L 8 8 rfl n _ _ (by omega)
  rw [dif_neg c8]
  by_cases c9 : (n : ℕ) - 256 - 256 - 256 - 256 - 256 - 256 - 256 - 256 - 256 < 256
  · rw [dif_pos c9, h9]
    exact pick L 9 9 rfl n _ _ (by omega)
  rw [dif_neg c9]
  rw [h10]
  exact pick L 10 10 rfl n _ _ (by omega)

/-- A scaled row divided by its root, with the places in a head written out. -/
theorem unit_eq (f : Fin 256 → EReal) (j : Fin 256) :
    f ⟨j / 64 * 64 + j % 64, by omega⟩ * Ideal.rsqrt ((∑ d : Fin 64, f ⟨j / 64 * 64 + d, by omega⟩ * f ⟨j / 64 * 64 + d, by omega⟩) + Ideal.ofBits .f32 0x358637BD#32)
      = unitised f j := by
  have e : (⟨(j / 64 : ℕ) * 64 + j % 64, by omega⟩ : Fin 256) = j := Fin.ext (by simp only; omega)
  rw [e]
  rfl

/-- The keys scaled. -/
theorem scaled_at (b : Fin 8) (t : Fin 4096) (j : Fin 256) : val_main_v136 (F := Ideal) x0 x1 x2 x3 x7 x17 (ix3 b t j)
    = mixed x0 x1 x2 x3 x7 b t ⟨256 + j, by omega⟩ * x17 (ix1 j) := by
  pointwise [val_main_v136, val_main_v135, val_main_v134, val_main_v132]
  simp only [mixed_at]

/-- The keys by heads. -/
theorem split_at (b : Fin 8) (t : Fin 4096) (h : Fin 4) (d : Fin 64) : val_main_v137 (F := Ideal) x0 x1 x2 x3 x7 x17 (ix4 b t h d)
    = val_main_v136 (F := Ideal) x0 x1 x2 x3 x7 x17 (ix3 b t ⟨h * 64 + d, by omega⟩) := by
  pointwise [val_main_v137]

/-- The sum of squares of a head's keys. -/
theorem square_at (b : Fin 8) (t : Fin 4096) (h : Fin 4) : val_main_v139 (F := Ideal) x0 x1 x2 x3 x7 x17 (ix3 b t h)
    = ∑ d, val_main_v137 (F := Ideal) x0 x1 x2 x3 x7 x17 (ix4 b t h d) * val_main_v137 (F := Ideal) x0 x1 x2 x3 x7 x17 (ix4 b t h d) := by
  rw [val_main_v139_apply, val_main_cst_6_apply, show FloatOps.ofBits (F := Ideal) .f32 0x00000000#32 = (0 : EReal) from Ideal.ofBits_zero .f32, zero_add]
  refine Finset.sum_congr rfl fun d _ => ?_
  have e : idx_main_v139 (ix3 b t h) d = ix4 b t h d := by
    funext a
    match a with
    | ⟨0, _⟩ => rfl
    | ⟨1, _⟩ => rfl
    | ⟨2, _⟩ => rfl
    | ⟨3, _⟩ => rfl
  rw [val_main_v138_apply, e]
  generalize val_main_v137 (F := Ideal) x0 x1 x2 x3 x7 x17 (ix4 b t h d) = y
  rfl

/-- The keys divided. -/
theorem divided_at (b : Fin 8) (t : Fin 4096) (h : Fin 4) (d : Fin 64) : val_main_v145 (F := Ideal) x0 x1 x2 x3 x7 x17 (ix4 b t h d)
    = val_main_v137 (F := Ideal) x0 x1 x2 x3 x7 x17 (ix4 b t h d)
      * Ideal.rsqrt (val_main_v139 (F := Ideal) x0 x1 x2 x3 x7 x17 (ix3 b t h) + Ideal.ofBits .f32 0x358637BD#32) := by
  have e : idx_main_v140 (idx_main_v144 (ix4 b t h d)) = ix3 b t h := by
    funext a
    match a with
    | ⟨0, _⟩ => rfl
    | ⟨1, _⟩ => rfl
    | ⟨2, _⟩ => rfl
  rw [val_main_v145_apply, val_main_v144_apply, val_main_v143_apply, val_main_v142_apply, val_main_v141_apply, val_main_v140_apply,
    val_main_cst_7_apply, e]
  generalize val_main_v137 (F := Ideal) x0 x1 x2 x3 x7 x17 (ix4 b t h d) = y
  generalize val_main_v139 (F := Ideal) x0 x1 x2 x3 x7 x17 (ix3 b t h) = z
  rfl

/-- The keys by lanes. -/
theorem joined_heads (b : Fin 8) (t : Fin 4096) (j : Fin 256) : val_main_v152 (F := Ideal) x0 x1 x2 x3 x7 x17 (ix3 b t j)
    = val_main_v145 (F := Ideal) x0 x1 x2 x3 x7 x17 (ix4 b t ⟨j / 64, by omega⟩ ⟨j % 64, by omega⟩) := by
  pointwise [val_main_v152]

/-- Its normalised keys. -/
theorem unit_at (b : Fin 8) (t : Fin 4096) (j : Fin 256) :
    val_main_v152 (F := Ideal) x0 x1 x2 x3 x7 x17 (ix3 b t j)
      = unitised (fun j => mixed x0 x1 x2 x3 x7 b t ⟨256 + j, by omega⟩ * x17 (ix1 j)) j := by
  rw [joined_heads, divided_at, square_at]
  simp only [split_at, scaled_at]
  exact unit_eq (fun j => mixed x0 x1 x2 x3 x7 b t ⟨256 + j, by omega⟩ * x17 (ix1 j)) j

/-- Its features. -/
theorem lanes_at (b : Fin 8) (t : Fin 4096) (n : Fin 2816) :
    val_main_v153 (F := Ideal) x0 x1 x2 x3 x7 x17 (ix3 b t n) = features x0 x1 x2 x3 x7 x17 (ix3 b t n) := by
  unfold val_main_v153
  refine side_at _ _ _ _ _ _ _ _ _ _ _ _ b t n (fun w j => lane x0 x1 x2 x3 x7 x17 w b t j) ?_ ?_ ?_ ?_ ?_ ?_ ?_ ?_ ?_ ?_ ?_ _ rfl
  · intro j
    pointwise [val_main_v147, val_main_v146, val_main_cst_8, val_main_v32]
    simp only [proj_at]
    exact congrArg (fun z => proj x0 x1 x2 x3 b t z * Ideal.ofBits .f32 0x3E000000#32) (Fin.ext (Nat.zero_add _).symm)
  · intro j
    pointwise [val_main_v33]
    simp only [proj_at]
    rfl
  · intro j
    pointwise [val_main_v34]
    simp only [proj_at]
    rfl
  · intro j
    pointwise [val_main_v35]
    simp only [proj_at]
    rfl
  · exact first_at x0 x1 x2 x3 b t
  · exact second_at x0 x1 x2 x3 b t
  · intro j
    pointwise [val_main_v38]
    simp only [proj_at]
    rfl
  · intro j
    pointwise [val_main_v39]
    simp only [proj_at]
    rfl
  · intro j
    pointwise [val_main_v131]
    simp only [mixed_at]
    rfl
  · intro j
    pointwise [val_main_v133]
    simp only [mixed_at]
    rfl
  · exact unit_at x0 x1 x2 x3 x7 x17 b t

/-- Its features, whole. -/
theorem result_features : val_main_v153 (F := Ideal) x0 x1 x2 x3 x7 x17 = features x0 x1 x2 x3 x7 x17 := by
  funext y
  exact (congrArg _ (eq_ix3 y)).trans ((lanes_at x0 x1 x2 x3 x7 x17 _ _ _).trans (congrArg _ (eq_ix3 y).symm))

/-- Its hidden tokens. -/
theorem result_tokens : val_main_v154 (F := Ideal) x0 x1 x2 = tokens x0 x1 x2 := by
  have h : ∀ (b : Fin 8) (t : Fin 4096) (k : Fin 1024), val_main_v154 (F := Ideal) x0 x1 x2 (ix3 b t k) = tokens x0 x1 x2 (ix3 b t k) := by
    intro b t k
    pointwise [val_main_v154]
    rw [token_at]
    rfl
  funext y
  exact (congrArg _ (eq_ix3 y)).trans ((h _ _ _).trans (congrArg _ (eq_ix3 y).symm))

end Cert.Reference6Ideal.Pre

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Step
public import proofs.«01_k».proof.Proof.Gen.Pre_finite
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.RetKernel
public import proofs.«01_k».proof.Proof.RetRun
public import proofs.«01_k».proof.Proof.RetPre
public import proofs.«01_k».proof.Proof.FfnKernel
public import proofs.«01_k».proof.Proof.FfnRef
public import proofs.«01_k».proof.Proof.MergeKernel
public import proofs.«01_k».proof.Proof.MergeRef
public import proofs.«01_k».proof.Proof.ModKernel
public import proofs.«01_k».proof.Proof.ModRef
public import proofs.«01_k».proof.Proof.FfnMidKernel
public import proofs.«01_k».proof.Proof.FfnMidRef
public import proofs.«01_k».proof.Proof.PreRun
public import proofs.«01_k».proof.Proof.PreLanes
public import Idealize.ShloMosaic.Adequacy
public import Idealize.ShloMosaic.Init

@[expose] public section

noncomputable section

namespace Cert.Proof

open Idealize.ShloMosaic Idealize.SL.Sem Cert.Kernel

/-- The reference runs and keeps its arguments, from any memory. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
        ∧ r.2.sem = fun _ => 0) :=
  (θ_run Cert.ReferenceIdeal.defs _ _).mono (fun r h => ⟨fun c => ⟨(h c).2.2.2.1, (h c).2.2.2.2⟩,
    sem_eq_zero_of_no_sems (by decide) r.2⟩) (Cert.ReferenceIdeal.Value.run m g)

attribute [local instance] Cert.Kernel.Gen.facts Cert.KernelIdeal.Gen.facts Cert.ReferenceIdeal.Gen.facts Cert.Pre_finite.Gen.facts
  Cert.Kernel2.Gen.facts Cert.Kernel2Ideal.Gen.facts Cert.Reference2Ideal.Gen.facts
  Cert.Kernel3.Gen.facts Cert.Kernel3Ideal.Gen.facts Cert.Reference3Ideal.Gen.facts
  Cert.Kernel4.Gen.facts Cert.Kernel4Ideal.Gen.facts Cert.Reference4Ideal.Gen.facts
  Cert.Kernel5.Gen.facts Cert.Kernel5Ideal.Gen.facts Cert.Reference5Ideal.Gen.facts
  Cert.Kernel6.Gen.facts Cert.Kernel6Ideal.Gen.facts Cert.Reference6Ideal.Gen.facts

/-- The kernel and the reference give the same outputs and final states where the lanes and the given states are finite. -/
theorem retention : algebraic_KernelIdeal_ReferenceIdeal_pre_finite := by
  intro m g m' g' hpre hargs
  have hp := fun c => Cert.Retention.pre_lanes _ _ (hpre c)
  have hK := fun c => Cert.KernelIdeal.Ret.array11 m c (hp c).1 (hp c).2
  refine ⟨fun c => Cert.Retention.outs (Cert.KernelIdeal.Ret.feats m c) (Cert.KernelIdeal.Ret.given m c) 0,
    fun c => Cert.Retention.outs (Cert.KernelIdeal.Ret.feats m c) (Cert.KernelIdeal.Ret.given m c) 1,
    fun c => Cert.Retention.states (Cert.KernelIdeal.Ret.feats m c) (Cert.KernelIdeal.Ret.given m c) 4096, ?_, ?_⟩
  · refine (θ_run Cert.KernelIdeal.defs _ _).mono (fun r h c => ?_) (Cert.KernelIdeal.Value.run_blocks m g)
    obtain ⟨h1, h2, h3, h4, h5⟩ := h c
    exact ⟨h1.trans (Cert.KernelIdeal.Ret.array11 m c (hp c).1 (hp c).2), h2.trans (Cert.KernelIdeal.Ret.array12 m c (hp c).1 (hp c).2),
      h3.trans (Cert.KernelIdeal.Ret.array13 m c (hp c).1 (hp c).2), h4, h5⟩
  · have e0 : ∀ c : Dev Cert.KernelIdeal.nD, _ := fun c => (hargs c).1
    have e1 : ∀ c : Dev Cert.KernelIdeal.nD, _ := fun c => (hargs c).2
    refine (θ_run Cert.ReferenceIdeal.defs _ _).mono (fun r h c => ?_) (Cert.ReferenceIdeal.Ret.run m' g'
      (fun c => by rw [e0 c]; exact (hp c).1) (fun c r b h d e => by rw [e1 c]; exact (hp c).2 r b h d e))
    obtain ⟨h1, h2, h3, h4, h5⟩ := h c
    rw [e0 c, e1 c] at h1 h2 h3
    exact ⟨h1, h2, h3, h4, h5⟩

/-- The feed-forward reference runs and keeps its arguments, from any memory. -/
theorem reference2_frame : quiescent_Reference2Ideal := fun m g _ =>
  (θ_run Cert.Reference2Ideal.defs _ _).mono (fun r h => ⟨fun c => (h c).2, sem_eq_zero_of_no_sems (by decide) r.2⟩)
    (Cert.Reference2Ideal.Value.run m g)

/-- The feed-forward kernel and its reference give the same token from any arguments. -/
theorem feedForward : algebraic_Kernel2Ideal_Reference2Ideal := by
  intro m g m' g' _ hargs
  refine ⟨fun c => Cert.FeedForward.result (Cert.Kernel2Ideal.Feed.argX m c) (Cert.Kernel2Ideal.Feed.argM m c) (Cert.Kernel2Ideal.Feed.argG m c) (Cert.Kernel2Ideal.Feed.argU m c) (Cert.Kernel2Ideal.Feed.argW m c) (Cert.Kernel2Ideal.Feed.argC m c) (Cert.Kernel2Ideal.Feed.argD m c) (Cert.Kernel2Ideal.Feed.argH m c), ?_, ?_⟩
  · exact (θ_run Cert.Kernel2Ideal.defs _ _).mono (fun r h c => ⟨(h c).1.trans (Cert.Kernel2Ideal.Feed.array10 m c), (h c).2⟩)
      (Cert.Kernel2Ideal.Value.run_blocks m g)
  · refine (θ_run Cert.Reference2Ideal.defs _ _).mono (fun r h c => ⟨((h c).1.trans (Cert.Reference2Ideal.Read.val_main_v75_eq m' c)).trans
      ((Cert.Reference2Ideal.Feed.result_eq (m' (c.tc.loc Cert.Reference2Ideal.main_arg0)) (m' (c.tc.loc Cert.Reference2Ideal.main_arg1)) (m' (c.tc.loc Cert.Reference2Ideal.main_arg2)) (m' (c.tc.loc Cert.Reference2Ideal.main_arg3)) (m' (c.tc.loc Cert.Reference2Ideal.main_arg4)) (m' (c.tc.loc Cert.Reference2Ideal.main_arg5)) (m' (c.tc.loc Cert.Reference2Ideal.main_arg6)) (m' (c.tc.loc Cert.Reference2Ideal.main_arg7))).trans ?_), (h c).2⟩) (Cert.Reference2Ideal.Value.run m' g')
    obtain ⟨e0, e1, e2, e3, e4, e5, e6, e7⟩ := hargs c
    rw [e0, e1, e2, e3, e4, e5, e6, e7]

/-- The merge reference runs and keeps its arguments, from any memory. -/
theorem reference3_frame : quiescent_Reference3Ideal := fun m g _ =>
  (θ_run Cert.Reference3Ideal.defs _ _).mono (fun r h => ⟨fun c => (h c).2, sem_eq_zero_of_no_sems (by decide) r.2⟩)
    (Cert.Reference3Ideal.Value.run m g)

/-- The merge kernel and its reference give the same token from any arguments. -/
theorem merge : algebraic_Kernel3Ideal_Reference3Ideal := by
  intro m g m' g' _ hargs
  refine ⟨fun c => Cert.Merge.result (Cert.Kernel3Ideal.Merge.argX m c) (Cert.Kernel3Ideal.Merge.argH m c) (Cert.Kernel3Ideal.Merge.argM m c) (Cert.Kernel3Ideal.Merge.argQ m c) (Cert.Kernel3Ideal.Merge.argA m c) (Cert.Kernel3Ideal.Merge.argA' m c) (Cert.Kernel3Ideal.Merge.argB m c) (Cert.Kernel3Ideal.Merge.argB' m c) (Cert.Kernel3Ideal.Merge.argC m c) (Cert.Kernel3Ideal.Merge.argC' m c) (Cert.Kernel3Ideal.Merge.argD m c) (Cert.Kernel3Ideal.Merge.argG0 m c) (Cert.Kernel3Ideal.Merge.argG1 m c) (Cert.Kernel3Ideal.Merge.argG2 m c) (Cert.Kernel3Ideal.Merge.argW m c) (Cert.Kernel3Ideal.Merge.argE m c) (Cert.Kernel3Ideal.Merge.argP m c) (Cert.Kernel3Ideal.Merge.argO m c), ?_, ?_⟩
  · exact (θ_run Cert.Kernel3Ideal.defs _ _).mono (fun r h c => ⟨(h c).1.trans (Cert.Kernel3Ideal.Merge.array19 m c), (h c).2⟩)
      (Cert.Kernel3Ideal.Value.run_blocks m g)
  · refine (θ_run Cert.Reference3Ideal.defs _ _).mono (fun r h c => ⟨((h c).1.trans (Cert.Reference3Ideal.Read.val_main_v162_eq (StableHlo.launchContents m' c))).trans
      ((Cert.Reference3Ideal.Merge.result_eq (m' (c.tc.loc Cert.Reference3Ideal.main_arg0)) (m' (c.tc.loc Cert.Reference3Ideal.main_arg1)) (m' (c.tc.loc Cert.Reference3Ideal.main_arg2)) (m' (c.tc.loc Cert.Reference3Ideal.main_arg3)) (m' (c.tc.loc Cert.Reference3Ideal.main_arg4)) (m' (c.tc.loc Cert.Reference3Ideal.main_arg5)) (m' (c.tc.loc Cert.Reference3Ideal.main_arg6)) (m' (c.tc.loc Cert.Reference3Ideal.main_arg7)) (m' (c.tc.loc Cert.Reference3Ideal.main_arg8)) (m' (c.tc.loc Cert.Reference3Ideal.main_arg9)) (m' (c.tc.loc Cert.Reference3Ideal.main_arg10)) (m' (c.tc.loc Cert.Reference3Ideal.main_arg11)) (m' (c.tc.loc Cert.Reference3Ideal.main_arg12)) (m' (c.tc.loc Cert.Reference3Ideal.main_arg13)) (m' (c.tc.loc Cert.Reference3Ideal.main_arg14)) (m' (c.tc.loc Cert.Reference3Ideal.main_arg15)) (m' (c.tc.loc Cert.Reference3Ideal.main_arg16)) (m' (c.tc.loc Cert.Reference3Ideal.main_arg17))).trans ?_), (h c).2⟩) (Cert.Reference3Ideal.Value.run m' g')
    obtain ⟨e0, e1, e2, e3, e4, e5, e6, e7, e8, e9, e10, e11, e12, e13, e14, e15, e16, e17⟩ := hargs c
    rw [e0, e1, e2, e3, e4, e5, e6, e7, e8, e9, e10, e11, e12, e13, e14, e15, e16, e17]

/-- The modulation reference runs and keeps its arguments, from any memory. -/
theorem reference4_frame : quiescent_Reference4Ideal := fun m g _ =>
  (θ_run Cert.Reference4Ideal.defs _ _).mono (fun r h => ⟨fun c => (h c).2, sem_eq_zero_of_no_sems (by decide) r.2⟩)
    (Cert.Reference4Ideal.Value.run m g)

/-- The modulation kernel and its reference give the same rows from any arguments. -/
theorem modulation : algebraic_Kernel4Ideal_Reference4Ideal := by
  intro m g m' g' _ hargs
  refine ⟨fun c => Cert.Modulation.result (Cert.Kernel4Ideal.Mod.argC m c) (Cert.Kernel4Ideal.Mod.argK m c) (Cert.Kernel4Ideal.Mod.argW m c) (Cert.Kernel4Ideal.Mod.argB m c), ?_, ?_⟩
  · exact (θ_run Cert.Kernel4Ideal.defs _ _).mono (fun r h c => ⟨(h c).1.trans (Cert.Kernel4Ideal.Mod.array3 m c), (h c).2⟩)
      (Cert.Kernel4Ideal.Value.run_blocks m g)
  · refine (θ_run Cert.Reference4Ideal.defs _ _).mono (fun r h c => ⟨((h c).1.trans (Cert.Reference4Ideal.Read.val_main_v8_eq (m' (c.tc.loc Cert.Reference4Ideal.main_arg0)) (m' (c.tc.loc Cert.Reference4Ideal.main_arg1)) (m' (c.tc.loc Cert.Reference4Ideal.main_arg2)) (m' (c.tc.loc Cert.Reference4Ideal.main_arg3)))).trans
      ((Cert.Reference4Ideal.Mod.result_eq (m' (c.tc.loc Cert.Reference4Ideal.main_arg0)) (m' (c.tc.loc Cert.Reference4Ideal.main_arg1)) (m' (c.tc.loc Cert.Reference4Ideal.main_arg2)) (m' (c.tc.loc Cert.Reference4Ideal.main_arg3))).trans ?_), (h c).2⟩) (Cert.Reference4Ideal.Value.run m' g')
    obtain ⟨e0, e1, e2, e3⟩ := hargs c
    rw [e0, e1, e2, e3]

/-- The reference of the feed-forward part without the final norm runs and keeps its arguments, from any memory. -/
theorem reference5_frame : quiescent_Reference5Ideal := fun m g _ =>
  (θ_run Cert.Reference5Ideal.defs _ _).mono (fun r h => ⟨fun c => (h c).2, sem_eq_zero_of_no_sems (by decide) r.2⟩)
    (Cert.Reference5Ideal.Value.run m g)

/-- The feed-forward kernel without the final norm and its reference give the same token from any arguments. -/
theorem feedForwardMid : algebraic_Kernel5Ideal_Reference5Ideal := by
  intro m g m' g' _ hargs
  refine ⟨fun c => Cert.FeedForward.residuals (Cert.Kernel5Ideal.Feed.argX m c) (Cert.Kernel5Ideal.Feed.argM m c) (Cert.Kernel5Ideal.Feed.argG m c) (Cert.Kernel5Ideal.Feed.argU m c) (Cert.Kernel5Ideal.Feed.argW m c) (Cert.Kernel5Ideal.Feed.argC m c) (Cert.Kernel5Ideal.Feed.argD m c), ?_, ?_⟩
  · exact (θ_run Cert.Kernel5Ideal.defs _ _).mono (fun r h c => ⟨(h c).1.trans (Cert.Kernel5Ideal.Feed.array10 m c), (h c).2⟩)
      (Cert.Kernel5Ideal.Value.run_blocks m g)
  · refine (θ_run Cert.Reference5Ideal.defs _ _).mono (fun r h c => ⟨((h c).1.trans (Cert.Reference5Ideal.Read.val_main_v62_eq m' c)).trans
      ((Cert.Reference5Ideal.Feed.result_eq (m' (c.tc.loc Cert.Reference5Ideal.main_arg0)) (m' (c.tc.loc Cert.Reference5Ideal.main_arg1)) (m' (c.tc.loc Cert.Reference5Ideal.main_arg2)) (m' (c.tc.loc Cert.Reference5Ideal.main_arg3)) (m' (c.tc.loc Cert.Reference5Ideal.main_arg4)) (m' (c.tc.loc Cert.Reference5Ideal.main_arg5)) (m' (c.tc.loc Cert.Reference5Ideal.main_arg6))).trans ?_), (h c).2⟩) (Cert.Reference5Ideal.Value.run m' g')
    obtain ⟨e0, e1, e2, e3, e4, e5, e6, _⟩ := hargs c
    rw [e0, e1, e2, e3, e4, e5, e6]

/-- The reference of the input projections runs and keeps its arguments, from any memory. -/
theorem reference6_frame : quiescent_Reference6Ideal := fun m g _ =>
  (θ_run Cert.Reference6Ideal.defs _ _).mono (fun r h => ⟨fun c => (h c).2.2, sem_eq_zero_of_no_sems (by decide) r.2⟩)
    (Cert.Reference6Ideal.Value.run m g)

/-- The input projections' kernel and its reference give the same lanes and hidden rows from any arguments. -/
theorem inputProjections : algebraic_Kernel6Ideal_Reference6Ideal := by
  intro m g m' g' _ hargs
  refine ⟨fun c => Cert.Projections.features (Cert.Kernel6Ideal.Pre.argX m c) (Cert.Kernel6Ideal.Pre.argM m c) (Cert.Kernel6Ideal.Pre.argG m c) (Cert.Kernel6Ideal.Pre.argU m c) (Cert.Kernel6Ideal.Pre.argW m c) (Cert.Kernel6Ideal.Pre.argK m c),
    fun c => Cert.Projections.tokens (Cert.Kernel6Ideal.Pre.argX m c) (Cert.Kernel6Ideal.Pre.argM m c) (Cert.Kernel6Ideal.Pre.argG m c), Cert.Kernel6Ideal.Pre.run m g, ?_⟩
  refine (θ_run Cert.Reference6Ideal.defs _ _).mono (fun r h c =>
    ⟨((h c).1.trans (Cert.Reference6Ideal.Read.val_main_v153_eq (StableHlo.launchContents m' c))).trans
      ((Cert.Reference6Ideal.Pre.result_features (m' (c.tc.loc Cert.Reference6Ideal.main_arg0)) (m' (c.tc.loc Cert.Reference6Ideal.main_arg1)) (m' (c.tc.loc Cert.Reference6Ideal.main_arg2)) (m' (c.tc.loc Cert.Reference6Ideal.main_arg3)) (m' (c.tc.loc Cert.Reference6Ideal.main_arg7)) (m' (c.tc.loc Cert.Reference6Ideal.main_arg17))).trans ?_),
    ((h c).2.1.trans (Cert.Reference6Ideal.Read.val_main_v154_eq (StableHlo.launchContents m' c))).trans
      ((Cert.Reference6Ideal.Pre.result_tokens (m' (c.tc.loc Cert.Reference6Ideal.main_arg0)) (m' (c.tc.loc Cert.Reference6Ideal.main_arg1)) (m' (c.tc.loc Cert.Reference6Ideal.main_arg2))).trans ?_), (h c).2.2⟩) (Cert.Reference6Ideal.Value.run m' g')
  · obtain ⟨e0, e1, e2, e3, _, _, _, e7, _, _, _, _, _, _, _, _, _, e17, _⟩ := hargs c
    rw [e0, e1, e2, e3, e7, e17]
  · obtain ⟨e0, e1, e2, _⟩ := hargs c
    rw [e0, e1, e2]

/-- Every claim of the certificate. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts, Cert.Pre_finite.Gen.facts,
  fun m g _ => Cert.Kernel.Gen.frame m g, fun m g _ => Cert.KernelIdeal.Gen.frame m g, fun m g _ => Cert.KernelIdeal.Gen.frame m g,
  fun m g _ => reference_frame m g, fun m g _ => reference_frame m g,
  fun m g _ => Cert.Kernel2.Gen.frame m g, fun m g _ => Cert.Kernel2Ideal.Gen.frame m g, reference2_frame,
  fun m g _ => Cert.Kernel3.Gen.frame m g, fun m g _ => Cert.Kernel3Ideal.Gen.frame m g, reference3_frame,
  fun m g _ => Cert.Kernel4.Gen.frame m g, fun m g _ => Cert.Kernel4Ideal.Gen.frame m g, reference4_frame,
  fun m g _ => Cert.Kernel5.Gen.frame m g, fun m g _ => Cert.Kernel5Ideal.Gen.frame m g, reference5_frame,
  fun m g _ => Cert.Kernel6.Gen.frame m g, fun m g _ => Cert.Kernel6Ideal.Gen.frame m g, reference6_frame,
  trivial, retention, trivial, feedForward, trivial, merge, trivial, modulation, trivial, feedForwardMid,
  trivial, inputProjections⟩

end Cert.Proof

end
